-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v27_0)) (v1 : (c : Dev Cert.Kernel4Ideal.nD) → Buf (Elt Ideal) ((c.tc : Thread Cert.Kernel4Ideal.nD Cert.Kernel4Ideal.τ).loc Cert.Kernel4Ideal.main_v27_1)) (v2 : (c : Dev Cert.Kernel4Ideal.nD) → Buf (Elt Ideal) ((c.tc : Thread Cert.Kernel4Ideal.nD Cert.Kernel4Ideal.τ).loc Cert.Kernel4Ideal.main_v27_2)) (v3 : (c : Dev Cert.Kernel4Ideal.nD) → Buf (Elt Ideal) ((c.tc : Thread Cert.Kernel4Ideal.nD Cert.Kernel4Ideal.τ).loc Cert.Kernel4Ideal.main_v27_3)) (v4 : (c : Dev Cert.Kernel4Ideal.nD) → Buf (Elt Ideal) ((c.tc : Thread Cert.Kernel4Ideal.nD Cert.Kernel4Ideal.τ).loc Cert.Kernel4Ideal.main_v27_4)) (v5 : (c : Dev Cert.Kernel4Ideal.nD) → Buf (Elt Ideal) ((c.tc : Thread Cert.Kernel4Ideal.nD Cert.Kernel4Ideal.τ).loc Cert.Kernel4Ideal.main_v27_5)) (v6 : (c : Dev Cert.Kernel4Ideal.nD) → Buf (Elt Ideal) ((c.tc : Thread Cert.Kernel4Ideal.nD Cert.Kernel4Ideal.τ).loc Cert.Kernel4Ideal.main_v27_6)) (v7 : (c : Dev Cert.Kernel4Ideal.nD) → Buf (Elt Ideal) ((c.tc : Thread Cert.Kernel4Ideal.nD Cert.Kernel4Ideal.τ).loc Cert.Kernel4Ideal.main_v27_7)) (v8 : (c : Dev Cert.Kernel4Ideal.nD) → Buf (Elt Ideal) ((c.tc : Thread Cert.Kernel4Ideal.nD Cert.Kernel4Ideal.τ).loc Cert.Kernel4Ideal.main_v27_8)) (v9 : (c : Dev Cert.Kernel4Ideal.nD) → Buf (Elt Ideal) ((c.tc : Thread Cert.Kernel4Ideal.nD Cert.Kernel4Ideal.τ).loc Cert.Kernel4Ideal.main_v27_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27_0) = v0 c
          ∧ r.2.mem ((c.tc : Thread Cert.Kernel4Ideal.nD Cert.Kernel4Ideal.τ).loc Cert.Kernel4Ideal.main_v27_1) = v1 c
          ∧ r.2.mem ((c.tc : Thread Cert.Kernel4Ideal.nD Cert.Kernel4Ideal.τ).loc Cert.Kernel4Ideal.main_v27_2) = v2 c
          ∧ r.2.mem ((c.tc : Thread Cert.Kernel4Ideal.nD Cert.Kernel4Ideal.τ).loc Cert.Kernel4Ideal.main_v27_3) = v3 c
          ∧ r.2.mem ((c.tc : Thread Cert.Kernel4Ideal.nD Cert.Kernel4Ideal.τ).loc Cert.Kernel4Ideal.main_v27_4) = v4 c
          ∧ r.2.mem ((c.tc : Thread Cert.Kernel4Ideal.nD Cert.Kernel4Ideal.τ).loc Cert.Kernel4Ideal.main_v27_5) = v5 c
          ∧ r.2.mem ((c.tc : Thread Cert.Kernel4Ideal.nD Cert.Kernel4Ideal.τ).loc Cert.Kernel4Ideal.main_v27_6) = v6 c
          ∧ r.2.mem ((c.tc : Thread Cert.Kernel4Ideal.nD Cert.Kernel4Ideal.τ).loc Cert.Kernel4Ideal.main_v27_7) = v7 c
          ∧ r.2.mem ((c.tc : Thread Cert.Kernel4Ideal.nD Cert.Kernel4Ideal.τ).loc Cert.Kernel4Ideal.main_v27_8) = v8 c
          ∧ r.2.mem ((c.tc : Thread Cert.Kernel4Ideal.nD Cert.Kernel4Ideal.τ).loc Cert.Kernel4Ideal.main_v27_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_v34) = v3 c
          ∧ r.2.mem ((c.tc : Thread Cert.Reference4Ideal.nD Cert.Reference4Ideal.τ).loc Cert.Reference4Ideal.main_v35) = v4 c
          ∧ r.2.mem ((c.tc : Thread Cert.Reference4Ideal.nD Cert.Reference4Ideal.τ).loc Cert.Reference4Ideal.main_v37) = v5 c
          ∧ r.2.mem ((c.tc : Thread Cert.Reference4Ideal.nD Cert.Reference4Ideal.τ).loc Cert.Reference4Ideal.main_v39) = v6 c
          ∧ r.2.mem ((c.tc : Thread Cert.Reference4Ideal.nD Cert.Reference4Ideal.τ).loc Cert.Reference4Ideal.main_v41) = v7 c
          ∧ r.2.mem ((c.tc : Thread Cert.Reference4Ideal.nD Cert.Reference4Ideal.τ).loc Cert.Reference4Ideal.main_v42) = v8 c
          ∧ r.2.mem ((c.tc : Thread Cert.Reference4Ideal.nD Cert.Reference4Ideal.τ).loc Cert.Reference4Ideal.main_v43) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v74_0)) (v1 : (c : Dev Cert.Kernel5Ideal.nD) → Buf (Elt Ideal) ((c.tc : Thread Cert.Kernel5Ideal.nD Cert.Kernel5Ideal.τ).loc Cert.Kernel5Ideal.main_v74_1)) (v2 : (c : Dev Cert.Kernel5Ideal.nD) → Buf (Elt Ideal) ((c.tc : Thread Cert.Kernel5Ideal.nD Cert.Kernel5Ideal.τ).loc Cert.Kernel5Ideal.main_v74_2)) (v3 : (c : Dev Cert.Kernel5Ideal.nD) → Buf (Elt Ideal) ((c.tc : Thread Cert.Kernel5Ideal.nD Cert.Kernel5Ideal.τ).loc Cert.Kernel5Ideal.main_v74_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v74_0) = v0 c
          ∧ r.2.mem ((c.tc : Thread Cert.Kernel5Ideal.nD Cert.Kernel5Ideal.τ).loc Cert.Kernel5Ideal.main_v74_1) = v1 c
          ∧ r.2.mem ((c.tc : Thread Cert.Kernel5Ideal.nD Cert.Kernel5Ideal.τ).loc Cert.Kernel5Ideal.main_v74_2) = v2 c
          ∧ r.2.mem ((c.tc : Thread Cert.Kernel5Ideal.nD Cert.Kernel5Ideal.τ).loc Cert.Kernel5Ideal.main_v74_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v118) = v0 c
          ∧ r.2.mem ((c.tc : Thread Cert.Reference5Ideal.nD Cert.Reference5Ideal.τ).loc Cert.Reference5Ideal.main_v121) = v1 c
          ∧ r.2.mem ((c.tc : Thread Cert.Reference5Ideal.nD Cert.Reference5Ideal.τ).loc Cert.Reference5Ideal.main_v123) = v2 c
          ∧ r.2.mem ((c.tc : Thread Cert.Reference5Ideal.nD Cert.Reference5Ideal.τ).loc Cert.Reference5Ideal.main_v124) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v94) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S8x4096x2048 : Shape := ⟨3, ![8, 4096, 2048]⟩
abbrev S8x4096x1024 : Shape := ⟨3, ![8, 4096, 1024]⟩
abbrev S_ : Shape := ⟨0, ![]⟩

class Facts : Prop where
  bitsLt_bf16_f32 : FTy.bits .bf16 < FTy.bits .f32
  bcast_S_S8x4096x2048 : S_.BroadcastsInDim S8x4096x2048 (![] : Fin 0 → Fin S8x4096x2048.rank)

variable [Facts]

def fn {F : FTy → Type} [FloatOps F] (main_arg0 : FVec F S8x4096x2048 .bf16) (main_arg1 : FVec F S8x4096x2048 .bf16) (main_arg2 : FVec F S8x4096x1024 .bf16) : IVec S8x4096x2048 1 × IVec S8x4096x2048 1 × IVec S8x4096x2048 1 × IVec S8x4096x2048 1 :=
  let main_v0 : FVec F S8x4096x2048 .f32 := (extf .f32 · bitsLt_bf16_f32) main_arg0
  let main_v1 : FVec F S8x4096x2048 .f32 := (extf .f32 · bitsLt_bf16_f32) main_arg1
  let main_cst : FVec F S_ .f32 := constant S_ .f32 0xFF800000#32
  let main_v2 : FVec F S8x4096x2048 .f32 := broadcastInDim S8x4096x2048 ![] bcast_S_S8x4096x2048 main_cst
  let main_v3 : IVec S8x4096x2048 1 := cmpf .ogt main_v0 main_v2
  let main_cst_0 : FVec F S_ .f32 := constant S_ .f32 0x7F800000#32
  let main_v4 : FVec F S8x4096x2048 .f32 := broadcastInDim S8x4096x2048 ![] bcast_S_S8x4096x2048 main_cst_0
  let main_v5 : IVec S8x4096x2048 1 := cmpf .olt main_v0 main_v4
  let main_cst_1 : FVec F S_ .f32 := constant S_ .f32 0xFF800000#32
  let main_v6 : FVec F S8x4096x2048 .f32 := broadcastInDim S8x4096x2048 ![] bcast_S_S8x4096x2048 main_cst_1
  let main_v7 : IVec S8x4096x2048 1 := cmpf .ogt main_v1 main_v6
  let main_cst_2 : FVec F S_ .f32 := constant S_ .f32 0x7F800000#32
  let main_v8 : FVec F S8x4096x2048 .f32 := broadcastInDim S8x4096x2048 ![] bcast_S_S8x4096x2048 main_cst_2
  let main_v9 : IVec S8x4096x2048 1 := cmpf .olt main_v1 main_v8
  (main_v3, main_v5, main_v7, main_v9)
-- ==== Pre_finite5.lean ====
abbrev S32768x1024 : Shape := ⟨2, ![32768, 1024]⟩
abbrev S1x1024 : Shape := ⟨2, ![1, 1024]⟩
abbrev S1x1024x1696 : Shape := ⟨3, ![1, 1024, 1696]⟩
abbrev S1x384 : Shape := ⟨2, ![1, 384]⟩
abbrev S1x384x1536 : Shape := ⟨3, ![1, 384, 1536]⟩
abbrev S1x256 : Shape := ⟨2, ![1, 256]⟩
abbrev S1x256x2048 : Shape := ⟨3, ![1, 256, 2048]⟩
abbrev S_ : Shape := ⟨0, ![]⟩

class Facts : Prop where
  bcast_S_S1x1024 : S_.BroadcastsInDim S1x1024 (![] : Fin 0 → Fin S1x1024.rank)
  bcast_S_S1x1024x1696 : S_.BroadcastsInDim S1x1024x1696 (![] : Fin 0 → Fin S1x1024x1696.rank)
  bcast_S_S1x384 : S_.BroadcastsInDim S1x384 (![] : Fin 0 → Fin S1x384.rank)
  bcast_S_S1x384x1536 : S_.BroadcastsInDim S1x384x1536 (![] : Fin 0 → Fin S1x384x1536.rank)

variable [Facts]

def fn {F : FTy → Type} [FloatOps F] (main_arg0 : FVec F S32768x1024 .f32) (main_arg1 : FVec F S1x1024 .f32) (main_arg2 : FVec F S1x1024x1696 .f32) (main_arg3 : FVec F S1x384 .f32) (main_arg4 : FVec F S1x384x1536 .f32) (main_arg5 : FVec F S1x256 .f32) (main_arg6 : FVec F S1x256x2048 .f32) : IVec S1x1024 1 × IVec S1x1024 1 × IVec S1x1024x1696 1 × IVec S1x1024x1696 1 × IVec S1x384 1 × IVec S1x384 1 × IVec S1x384x1536 1 × IVec S1x384x1536 1 :=
  let main_cst : FVec F S_ .f32 := constant S_ .f32 0xFF800000#32
  let main_v0 : FVec F S1x1024 .f32 := broadcastInDim S1x1024 ![] bcast_S_S1x1024 main_cst
  let main_v1 : IVec S1x1024 1 := cmpf .ogt main_arg1 main_v0
  let main_cst_0 : FVec F S_ .f32 := constant S_ .f32 0x7F800000#32
  let main_v2 : FVec F S1x1024 .f32 := broadcastInDim S1x1024 ![] bcast_S_S1x1024 main_cst_0
  let main_v3 : IVec S1x1024 1 := cmpf .olt main_arg1 main_v2
  let main_cst_1 : FVec F S_ .f32 := constant S_ .f32 0xFF800000#32
  let main_v4 : FVec F S1x1024x1696 .f32 := broadcastInDim S1x1024x1696 ![] bcast_S_S1x1024x1696 main_cst_1
  let main_v5 : IVec S1x1024x1696 1 := cmpf .ogt main_arg2 main_v4
  let main_cst_2 : FVec F S_ .f32 := constant S_ .f32 0x7F800000#32
  let main_v6 : FVec F S1x1024x1696 .f32 := broadcastInDim S1x1024x1696 ![] bcast_S_S1x1024x1696 main_cst_2
  let main_v7 : IVec S1x1024x1696 1 := cmpf .olt main_arg2 main_v6
  let main_cst_3 : FVec F S_ .f32 := constant S_ .f32 0xFF800000#32
  let main_v8 : FVec F S1x384 .f32 := broadcastInDim S1x384 ![] bcast_S_S1x384 main_cst_3
  let main_v9 : IVec S1x384 1 := cmpf .ogt main_arg3 main_v8
  let main_cst_4 : FVec F S_ .f32 := constant S_ .f32 0x7F800000#32
  let main_v10 : FVec F S1x384 .f32 := broadcastInDim S1x384 ![] bcast_S_S1x384 main_cst_4
  let main_v11 : IVec S1x384 1 := cmpf .olt main_arg3 main_v10
  let main_cst_5 : FVec F S_ .f32 := constant S_ .f32 0xFF800000#32
  let main_v12 : FVec F S1x384x1536 .f32 := broadcastInDim S1x384x1536 ![] bcast_S_S1x384x1536 main_cst_5
  let main_v13 : IVec S1x384x1536 1 := cmpf .ogt main_arg4 main_v12
  let main_cst_6 : FVec F S_ .f32 := constant S_ .f32 0x7F800000#32
  let main_v14 : FVec F S1x384x1536 .f32 := broadcastInDim S1x384x1536 ![] bcast_S_S1x384x1536 main_cst_6
  let main_v15 : IVec S1x384x1536 1 := cmpf .olt main_arg4 main_v14
  (main_v1, main_v3, main_v5, main_v7, main_v9, main_v11, main_v13, main_v15)
-- ==== Pre_finite6.lean ====
abbrev S4 : Shape := ⟨1, ![4]⟩
abbrev S8x4096x512 : Shape := ⟨3, ![8, 4096, 512]⟩
abbrev S4x2x256x256 : Shape := ⟨4, ![4, 2, 256, 256]⟩
abbrev S1x64 : Shape := ⟨2, ![1, 64]⟩
abbrev S1x128 : Shape := ⟨2, ![1, 128]⟩
abbrev S256 : Shape := ⟨1, ![256]⟩
abbrev S1x256 : Shape := ⟨2, ![1, 256]⟩
abbrev S_ : Shape := ⟨0, ![]⟩
abbrev S256x1 : Shape := ⟨2, ![256, 1]⟩
abbrev S256x256 : Shape := ⟨2, ![256, 256]⟩
abbrev S4x1x256x256 : Shape := ⟨4, ![4, 1, 256, 256]⟩
abbrev S4x256x256 : Shape := ⟨3, ![4, 256, 256]⟩
abbrev S1x256x256 : Shape := ⟨3, ![1, 256, 256]⟩

class Facts : Prop where
  bitsLt_bf16_f32 : FTy.bits .bf16 < FTy.bits .f32
  bcast_S256_S1x256_1 : S256.BroadcastsInDim S1x256 (![1] : Fin 1 → Fin S1x256.rank)
  bcast_S_S1x256 : S_.BroadcastsInDim S1x256 (![] : Fin 0 → Fin S1x256.rank)
  bcast_S256_S256x1_0 : S256.BroadcastsInDim S256x1 (![0] : Fin 1 → Fin S256x1.rank)
  bcast_S_S256x1 : S_.BroadcastsInDim S256x1 (![] : Fin 0 → Fin S256x1.rank)
  bcast_S1x256_S256x256_0_1 : S1x256.BroadcastsInDim S256x256 (![0, 1] : Fin 2 → Fin S256x256.rank)
  bcast_S256x1_S256x256_0_1 : S256x1.BroadcastsInDim S256x256 (![0, 1] : Fin 2 → Fin S256x256.rank)
  bcast_S_S8x4096x512 : S_.BroadcastsInDim S8x4096x512 (![] : Fin 0 → Fin S8x4096x512.rank)
  slices_S4x2x256x256_S4x1x256x256_0_0_0_0 : S4x2x256x256.Slices ![0, 0, 0, 0] S4x1x256x256
  shapeCasts_S4x1x256x256_S4x256x256 : S4x1x256x256.ShapeCasts S4x256x256
  bcast_S_S4x256x256 : S_.BroadcastsInDim S4x256x256 (![] : Fin 0 → Fin S4x256x256.rank)
  bcast_S256x256_S1x256x256_1_2 : S256x256.BroadcastsInDim S1x256x256 (![1, 2] : Fin 2 → Fin S1x256x256.rank)
  bcast_S1x256x256_S4x256x256_0_1_2 : S1x256x256.BroadcastsInDim S4x256x256 (![0, 1, 2] : Fin 3 → Fin S4x256x256.rank)
  bcast_S_S1x64 : S_.BroadcastsInDim S1x64 (![] : Fin 0 → Fin S1x64.rank)

variable [Facts]

def fn_where {F : FTy → Type} [FloatOps F] (arg0 : IVec S1x256 1) (arg1 : IVec S1x256 32) (arg2 : IVec S1x256 32) : IVec S1x256 32 :=
  let v0 : IVec S1x256 32 := select arg0 arg1 arg2
  v0

def fn_floor_divide {F : FTy → Type} [FloatOps F] (arg0 : IVec S1x256 32) (arg1 : IVec S_ 32) : IVec S1x256 32 :=
  let v0 : IVec S_ 32 := id arg1
  let v1 : IVec S1x256 32 := broadcastInDim S1x256 ![] bcast_S_S1x256 v0
  let v2 : IVec S1x256 32 := Host.divsi arg0 v1
  let v3 : IVec S1x256 32 := signi arg0
  let v4 : IVec S_ 32 := signi v0
  let v5 : IVec S1x256 32 := broadcastInDim S1x256 ![] bcast_S_S1x256 v4
  let v6 : IVec S1x256 1 := cmpi .ne v3 v5
  let v7 : IVec S1x256 32 := broadcastInDim S1x256 ![] bcast_S_S1x256 v0
  let v8 : IVec S1x256 32 := Host.remsi arg0 v7
  let c : IVec S_ 32 := constantI S_ 32 0#32
  let v9 : IVec S1x256 32 := broadcastInDim S1x256 ![] bcast_S_S1x256 c
  let v10 : IVec S1x256 1 := cmpi .ne v8 v9
  let v11 : IVec S1x256 1 := andi v6 v10
  let c_0 : IVec S_ 32 := constantI S_ 32 1#32
  let v12 : IVec S1x256 32 := broadcastInDim S1x256 ![] bcast_S_S1x256 c_0
  let v13 : IVec S1x256 32 := subi v2 v12
  let v14 : IVec S1x256 32 := fn_where (F := F) v11 v13 v2
  v14

def fn_where_1 {F : FTy → Type} [FloatOps F] (arg0 : IVec S256x1 1) (arg1 : IVec S256x1 32) (arg2 : IVec S256x1 32) : IVec S256x1 32 :=
  let v0 : IVec S256x1 32 := select arg0 arg1 arg2
  v0

def fn_floor_divide_0 {F : FTy → Type} [FloatOps F] (arg0 : IVec S256x1 32) (arg1 : IVec S_ 32) : IVec S256x1 32 :=
  let v0 : IVec S_ 32 := id arg1
  let v1 : IVec S256x1 32 := broadcastInDim S256x1 ![] bcast_S_S256x1 v0
  let v2 : IVec S256x1 32 := Host.divsi arg0 v1
  let v3 : IVec S256x1 32 := signi arg0
  let v4 : IVec S_ 32 := signi v0
  let v5 : IVec S256x1 32 := broadcastInDim S256x1 ![] bcast_S_S256x1 v4
  let v6 : IVec S256x1 1 := cmpi .ne v3 v5
  let v7 : IVec S256x1 32 := broadcastInDim S256x1 ![] bcast_S_S256x1 v0
  let v8 : IVec S256x1 32 := Host.remsi arg0 v7
  let c : IVec S_ 32 := constantI S_ 32 0#32
  let v9 : IVec S256x1 32 := broadcastInDim S256x1 ![] bcast_S_S256x1 c
  let v10 : IVec S256x1 1 := cmpi .ne v8 v9
  let v11 : IVec S256x1 1 := andi v6 v10
  let c_0 : IVec S_ 32 := constantI S_ 32 1#32
  let v12 : IVec S256x1 32 := broadcastInDim S256x1 ![] bcast_S_S256x1 c_0
  let v13 : IVec S256x1 32 := subi v2 v12
  let v14 : IVec S256x1 32 := fn_where_1 (F := F) v11 v13 v2
  v14

def fn_part2 {F : FTy → Type} [FloatOps F] (main_arg8 : FVec F S1x64 .f32) (main_v10 : IVec S8x4096x512 1) (main_v12 : IVec S8x4096x512 1) (main_v19 : IVec S4x256x256 1) (main_v21 : IVec S1x64 1) (main_v23 : IVec S1x64 1) (main_v25 : IVec S1x64 1) (main_v27 : IVec S1x64 1) (main_v29 : IVec S1x64 1) (main_v31 : IVec S1x64 1) (main_v33 : IVec S1x64 1) (main_v34 : FVec F S1x64 .f32) : IVec S8x4096x512 1 × IVec S8x4096x512 1 × IVec S4x256x256 1 × IVec S1x64 1 × IVec S1x64 1 × IVec S1x64 1 × IVec S1x64 1 × IVec S1x64 1 × IVec S1x64 1 × IVec S1x64 1 × IVec S1x64 1 :=
  let main_v35 : IVec S1x64 1 := cmpf .olt main_arg8 main_v34
  (main_v10, main_v12, main_v19, main_v21, main_v23, main_v25, main_v27, main_v29, main_v31, main_v33, main_v35)

def fn_part1 {F : FTy → Type} [FloatOps F] (main_arg5 : FVec F S1x64 .f32) (main_arg6 : FVec F S1x64 .f32) (main_arg7 : FVec F S1x64 .f32) (main_arg8 : FVec F S1x64 .f32) (main_v10 : IVec S8x4096x512 1) (main_v12 : IVec S8x4096x512 1) (main_v16 : IVec S4x256x256 1) (main_v18 : IVec S4x256x256 1) : IVec S8x4096x512 1 × IVec S8x4096x512 1 × IVec S4x256x256 1 × IVec S1x64 1 × IVec S1x64 1 × IVec S1x64 1 × IVec S1x64 1 × IVec S1x64 1 × IVec S1x64 1 × IVec S1x64 1 × IVec S1x64 1 :=
  let main_v19 : IVec S4x256x256 1 := ori main_v18 main_v16
  let main_cst_3 : FVec F S_ .f32 := constant S_ .f32 0xFF800000#32
  let main_v20 : FVec F S1x64 .f32 := broadcastInDim S1x64 ![] bcast_S_S1x64 main_cst_3
  let main_v21 : IVec S1x64 1 := cmpf .ogt main_arg5 main_v20
  let main_cst_4 : FVec F S_ .f32 := constant S_ .f32 0x7F800000#32
  let main_v22 : FVec F S1x64 .f32 := broadcastInDim S1x64 ![] bcast_S_S1x64 main_cst_4
  let main_v23 : IVec S1x64 1 := cmpf .olt main_arg5 main_v22
  let main_cst_5 : FVec F S_ .f32 := constant S_ .f32 0xFF800000#32
  let main_v24 : FVec F S1x64 .f32 := broadcastInDim S1x64 ![] bcast_S_S1x64 main_cst_5
  let main_v25 : IVec S1x64 1 := cmpf .ogt main_arg6 main_v24
  let main_cst_6 : FVec F S_ .f32 := constant S_ .f32 0x7F800000#32
  let main_v26 : FVec F S1x64 .f32 := broadcastInDim S1x64 ![] bcast_S_S1x64 main_cst_6
  let main_v27 : IVec S1x64 1 := cmpf .olt main_arg6 main_v26
  let main_cst_7 : FVec F S_ .f32 := constant S_ .f32 0xFF800000#32
  let main_v28 : FVec F S1x64 .f32 := broadcastInDim S1x64 ![] bcast_S_S1x64 main_cst_7
  let main_v29 : IVec S1x64 1 := cmpf .ogt main_arg7 main_v28
  let main_cst_8 : FVec F S_ .f32 := constant S_ .f32 0x7F800000#32
  let main_v30 : FVec F S1x64 .f32 := broadcastInDim S1x64 ![] bcast_S_S1x64 main_cst_8
  let main_v31 : IVec S1x64 1 := cmpf .olt main_arg7 main_v30
  let main_cst_9 : FVec F S_ .f32 := constant S_ .f32 0xFF800000#32
  let main_v32 : FVec F S1x64 .f32 := broadcastInDim S1x64 ![] bcast_S_S1x64 main_cst_9
  let main_v33 : IVec S1x64 1 := cmpf .ogt main_arg8 main_v32
  let main_cst_10 : FVec F S_ .f32 := constant S_ .f32 0x7F800000#32
  let main_v34 : FVec F S1x64 .f32 := broadcastInDim S1x64 ![] bcast_S_S1x64 main_cst_10
  fn_part2 (F := F) main_arg8 main_v10 main_v12 main_v19 main_v21 main_v23 main_v25 main_v27 main_v29 main_v31 main_v33 main_v34

def fn {F : FTy → Type} [FloatOps F] (main_arg0 : FVec F S4 .f32) (main_arg1 : FVec F S8x4096x512 .bf16) (main_arg2 : FVec F S8x4096x512 .bf16) (main_arg3 : FVec F S8x4096x512 .bf16) (main_arg4 : FVec F S4x2x256x256 .f32) (main_arg5 : FVec F S1x64 .f32) (main_arg6 : FVec F S1x64 .f32) (main_arg7 : FVec F S1x64 .f32) (main_arg8 : FVec F S1x64 .f32) (main_arg9 : FVec F S1x128 .f32) : IVec S8x4096x512 1 × IVec S8x4096x512 1 × IVec S4x256x256 1 × IVec S1x64 1 × IVec S1x64 1 × IVec S1x64 1 × IVec S1x64 1 × IVec S1x64 1 × IVec S1x64 1 × IVec S1x64 1 × IVec S1x64 1 :=
  let main_v0 : FVec F S8x4096x512 .f32 := (extf .f32 · bitsLt_bf16_f32) main_arg3
  let main_v1 : IVec S256 32 := iotaInDim S256 32 0
  let main_v2 : IVec S1x256 32 := broadcastInDim S1x256 ![1] bcast_S256_S1x256_1 main_v1
  let main_c : IVec S_ 32 := constantI S_ 32 64#32
  let main_v3 : IVec S1x256 32 := fn_floor_divide (F := F) main_v2 main_c
  let main_v4 : IVec S256x1 32 := broadcastInDim S256x1 ![0] bcast_S256_S256x1_0 main_v1
  let main_c_0 : IVec S_ 32 := constantI S_ 32 64#32
  let main_v5 : IVec S256x1 32 := fn_floor_divide_0 (F := F) main_v4 main_c_0
  let main_v6 : IVec S256x256 32 := broadcastInDim S256x256 ![0, 1] bcast_S1x256_S256x256_0_1 main_v3
  let main_v7 : IVec S256x256 32 := broadcastInDim S256x256 ![0, 1] bcast_S256x1_S256x256_0_1 main_v5
  let main_v8 : IVec S256x256 1 := cmpi .sle main_v6 main_v7
  let main_cst : FVec F S_ .f32 := constant S_ .f32 0xFF800000#32
  let main_v9 : FVec F S8x4096x512 .f32 := broadcastInDim S8x4096x512 ![] bcast_S_S8x4096x512 main_cst
  let main_v10 : IVec S8x4096x512 1 := cmpf .ogt main_v0 main_v9
  let main_cst_1 : FVec F S_ .f32 := constant S_ .f32 0x7F800000#32
  let main_v11 : FVec F S8x4096x512 .f32 := broadcastInDim S8x4096x512 ![] bcast_S_S8x4096x512 main_cst_1
  let main_v12 : IVec S8x4096x512 1 := cmpf .olt main_v0 main_v11
  let main_v13 : FVec F S4x1x256x256 .f32 := (extractStridedSlice S4x1x256x256 ![0, 0, 0, 0] · slices_S4x2x256x256_S4x1x256x256_0_0_0_0) main_arg4
  let main_v14 : FVec F S4x256x256 .f32 := shapeCast S4x256x256 main_v13 shapeCasts_S4x1x256x256_S4x256x256
  let main_cst_2 : FVec F S_ .f32 := constant S_ .f32 0xFF800000#32
  let main_v15 : FVec F S4x256x256 .f32 := broadcastInDim S4x256x256 ![] bcast_S_S4x256x256 main_cst_2
  let main_v16 : IVec S4x256x256 1 := cmpf .oeq main_v14 main_v15
  let main_v17 : IVec S1x256x256 1 := broadcastInDim S1x256x256 ![1, 2] bcast_S256x256_S1x256x256_1_2 main_v8
  let main_v18 : IVec S4x256x256 1 := broadcastInDim S4x256x256 ![0, 1, 2] bcast_S1x256x256_S4x256x256_0_1_2 main_v17
  fn_part1 (F := F) main_arg5 main_arg6 main_arg7 main_arg8 main_v10 main_v12 main_v16 main_v18
-- ==== Kernel.lean ====
abbrev S8x4096x2048 : Shape := ⟨3, ![8, 4096, 2048]⟩
abbrev S8x4096x1024 : Shape := ⟨3, ![8, 4096, 1024]⟩
abbrev S1x256x256 : Shape := ⟨3, ![1, 256, 256]⟩
abbrev S1x4096x256 : Shape := ⟨3, ![1, 4096, 256]⟩
abbrev S1x4096x128 : Shape := ⟨3, ![1, 4096, 128]⟩
abbrev S1x256x128 : Shape := ⟨3, ![1, 256, 128]⟩
abbrev S2x256x1 : Shape := ⟨3, ![2, 256, 1]⟩
abbrev S2x256x128 : Shape := ⟨3, ![2, 256, 128]⟩
abbrev S1x128 : Shape := ⟨2, ![1, 128]⟩
abbrev S256x256 : Shape := ⟨2, ![256, 256]⟩
abbrev S256x128 : Shape := ⟨2, ![256, 128]⟩
abbrev S1x256x1 : Shape := ⟨3, ![1, 256, 1]⟩
abbrev S256x1 : Shape := ⟨2, ![256, 1]⟩
abbrev S256 : Shape := ⟨1, ![256]⟩

abbrev nBuf : Space → Nat
  | .hbm => 4
  | .vmem => 11
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .bf16⟩
  | .hbm, ⟨2, _⟩ => ⟨S8x4096x1024, .bf16⟩
  | .hbm, ⟨3, _⟩ => ⟨S8x4096x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S2x256x1, .f32⟩
  | .local _ .vmem, ⟨9, _⟩ => ⟨S2x256x1, .f32⟩
  | .local _ .vmem, ⟨10, _⟩ => ⟨S2x256x128, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 16], ![false, false, false]⟩

@[reducible] def k0_t1_loop (i : grid0.Coords) : Scf.Loop 32 :=
  let c0_i32_11 : BitVec 32 := 0#32
  let arg2 : BitVec 32 := BitVec.ofNat 32 (i 2).val
  let v22 : BitVec 32 := Scalar.subi arg2 c0_i32_11
  let c1_i32 : BitVec 32 := 1#32
  let v24 : BitVec 32 := Scalar.divsi v22 c1_i32
  let v25 : BitVec 32 := Scalar.muli v24 c1_i32
  let v26 : BitVec 32 := Scalar.addi c0_i32_11 v25
  let c1_i32_12 : BitVec 32 := 1#32
  ⟨c0_i32_11, v26, c1_i32_12⟩
def k0_mult1 (i : grid0.Coords) (k0_t1 : Fin (k0_t1_loop i).trips) : BitVec 32 :=
  let c0_i32_11 : BitVec 32 := 0#32
  let c1_i32_12 : BitVec 32 := 1#32
  let arg10 : BitVec 32 := Scf.iv c0_i32_11 c1_i32_12 k0_t1
  let c256_i32_91 : BitVec 32 := 256#32
  let v143 : BitVec 32 := Scalar.muli arg10 c256_i32_91
  v143
def k0_off1 (i : grid0.Coords) (k0_t1 : Fin (k0_t1_loop i).trips) : Fin 3 → Nat :=
  let c0_92 : Index := 0#32
  let c0_i32_11 : BitVec 32 := 0#32
  let c1_i32_12 : BitVec 32 := 1#32
  let arg10 : BitVec 32 := Scf.iv c0_i32_11 c1_i32_12 k0_t1
  let c256_i32_91 : BitVec 32 := 256#32
  let v143 : BitVec 32 := Scalar.muli arg10 c256_i32_91
  let v144 : BitVec 32 := v143
  let v145 : Index := Scalar.indexCast v144
  let c0_93 : Index := 0#32
  ![0, v145.toNat, 0]
def k0_off2 (i : grid0.Coords) (k0_t1 : Fin (k0_t1_loop i).trips) : Fin 3 → Nat :=
  let c0_97 : Index := 0#32
  let c0_i32_11 : BitVec 32 := 0#32
  let c1_i32_12 : BitVec 32 := 1#32
  let arg10 : BitVec 32 := Scf.iv c0_i32_11 c1_i32_12 k0_t1
  let c256_i32_91 : BitVec 32 := 256#32
  let v143 : BitVec 32 := Scalar.muli arg10 c256_i32_91
  let v144 : BitVec 32 := v143
  let v150 : Index := Scalar.indexCast v144
  let c0_98 : Index := 0#32
  ![0, v150.toNat, 0]
def k0_off3 (i : grid0.Coords) (k0_t1 : Fin (k0_t1_loop i).trips) : Fin 3 → Nat :=
  let c0_127 : Index := 0#32
  let c0_i32_11 : BitVec 32 := 0#32
  let c1_i32_12 : BitVec 32 := 1#32
  let arg10 : BitVec 32 := Scf.iv c0_i32_11 c1_i32_12 k0_t1
  let c256_i32_91 : BitVec 32 := 256#32
  let v143 : BitVec 32 := Scalar.muli arg10 c256_i32_91
  let v144 : BitVec 32 := v143
  let v194 : Index := Scalar.indexCast v144
  let c128_128 : Index := 128#32
  ![0, v194.toNat, 128]
@[reducible] def k0_t2_loop (i : grid0.Coords) : Scf.Loop 32 :=
  let c0_i32_11 : BitVec 32 := 0#32
  let arg2 : BitVec 32 := BitVec.ofNat 32 (i 2).val
  let v22 : BitVec 32 := Scalar.subi arg2 c0_i32_11
  let c1_i32 : BitVec 32 := 1#32
  let v24 : BitVec 32 := Scalar.divsi v22 c1_i32
  let v25 : BitVec 32 := Scalar.muli v24 c1_i32
  let v26 : BitVec 32 := Scalar.addi c0_i32_11 v25
  let v23 : BitVec 32 := Scalar.addi c0_i32_11 v22
  let c1_i32_13 : BitVec 32 := 1#32
  ⟨v26, v23, c1_i32_13⟩
def k0_mult2 (i : grid0.Coords) (k0_t2 : Fin (k0_t2_loop i).trips) : BitVec 32 :=
  let c0_i32_11 : BitVec 32 := 0#32
  let arg2 : BitVec 32 := BitVec.ofNat 32 (i 2).val
  let v22 : BitVec 32 := Scalar.subi arg2 c0_i32_11
  let c1_i32 : BitVec 32 := 1#32
  let v24 : BitVec 32 := Scalar.divsi v22 c1_i32
  let v25 : BitVec 32 := Scalar.muli v24 c1_i32
  let v26 : BitVec 32 := Scalar.addi c0_i32_11 v25
  let c1_i32_13 : BitVec 32 := 1#32
  let arg10 : BitVec 32 := Scf.iv v26 c1_i32_13 k0_t2
  let c256_i32_91 : BitVec 32 := 256#32
  let v143 : BitVec 32 := Scalar.muli arg10 c256_i32_91
  v143
def k0_off4 (i : grid0.Coords) (k0_t2 : Fin (k0_t2_loop i).trips) : Fin 3 → Nat :=
  let c0_92 : Index := 0#32
  let c0_i32_11 : BitVec 32 := 0#32
  let arg2 : BitVec 32 := BitVec.ofNat 32 (i 2).val
  let v22 : BitVec 32 := Scalar.subi arg2 c0_i32_11
  let c1_i32 : BitVec 32 := 1#32
  let v24 : BitVec 32 := Scalar.divsi v22 c1_i32
  let v25 : BitVec 32 := Scalar.muli v24 c1_i32
  let v26 : BitVec 32 := Scalar.addi c0_i32_11 v25
  let c1_i32_13 : BitVec 32 := 1#32
  let arg10 : BitVec 32 := Scf.iv v26 c1_i32_13 k0_t2
  let c256_i32_91 : BitVec 32 := 256#32
  let v143 : BitVec 32 := Scalar.muli arg10 c256_i32_91
  let v144 : BitVec 32 := v143
  let v145 : Index := Scalar.indexCast v144
  let c0_93 : Index := 0#32
  ![0, v145.toNat, 0]
def k0_off5 (i : grid0.Coords) (k0_t2 : Fin (k0_t2_loop i).trips) : Fin 3 → Nat :=
  let c0_97 : Index := 0#32
  let c0_i32_11 : BitVec 32 := 0#32
  let arg2 : BitVec 32 := BitVec.ofNat 32 (i 2).val
  let v22 : BitVec 32 := Scalar.subi arg2 c0_i32_11
  let c1_i32 : BitVec 32 := 1#32
  let v24 : BitVec 32 := Scalar.divsi v22 c1_i32
  let v25 : BitVec 32 := Scalar.muli v24 c1_i32
  let v26 : BitVec 32 := Scalar.addi c0_i32_11 v25
  let c1_i32_13 : BitVec 32 := 1#32
  let arg10 : BitVec 32 := Scf.iv v26 c1_i32_13 k0_t2
  let c256_i32_91 : BitVec 32 := 256#32
  let v143 : BitVec 32 := Scalar.muli arg10 c256_i32_91
  let v144 : BitVec 32 := v143
  let v150 : Index := Scalar.indexCast v144
  let c0_98 : Index := 0#32
  ![0, v150.toNat, 0]
def k0_off6 (i : grid0.Coords) (k0_t2 : Fin (k0_t2_loop i).trips) : Fin 3 → Nat :=
  let c0_127 : Index := 0#32
  let c0_i32_11 : BitVec 32 := 0#32
  let arg2 : BitVec 32 := BitVec.ofNat 32 (i 2).val
  let v22 : BitVec 32 := Scalar.subi arg2 c0_i32_11
  let c1_i32 : BitVec 32 := 1#32
  let v24 : BitVec 32 := Scalar.divsi v22 c1_i32
  let v25 : BitVec 32 := Scalar.muli v24 c1_i32
  let v26 : BitVec 32 := Scalar.addi c0_i32_11 v25
  let c1_i32_13 : BitVec 32 := 1#32
  let arg10 : BitVec 32 := Scf.iv v26 c1_i32_13 k0_t2
  let c256_i32_91 : BitVec 32 := 256#32
  let v143 : BitVec 32 := Scalar.muli arg10 c256_i32_91
  let v144 : BitVec 32 := v143
  let v194 : Index := Scalar.indexCast v144
  let c128_128 : Index := 128#32
  ![0, v194.toNat, 128]
def k0_mult3 (i : grid0.Coords) : BitVec 32 :=
  let arg2 : BitVec 32 := BitVec.ofNat 32 (i 2).val
  let c256_i32 : BitVec 32 := 256#32
  let v27 : BitVec 32 := Scalar.muli arg2 c256_i32
  v27
def k0_off7 (i : grid0.Coords) : Fin 3 → Nat :=
  let c0_14 : Index := 0#32
  let arg2 : BitVec 32 := BitVec.ofNat 32 (i 2).val
  let c256_i32 : BitVec 32 := 256#32
  let v27 : BitVec 32 := Scalar.muli arg2 c256_i32
  let v28 : BitVec 32 := v27
  let v29 : Index := Scalar.indexCast v28
  let c0_15 : Index := 0#32
  ![0, v29.toNat, 0]
def k0_off8 (i : grid0.Coords) : Fin 3 → Nat :=
  let c0_19 : Index := 0#32
  let arg2 : BitVec 32 := BitVec.ofNat 32 (i 2).val
  let c256_i32 : BitVec 32 := 256#32
  let v27 : BitVec 32 := Scalar.muli arg2 c256_i32
  let v28 : BitVec 32 := v27
  let v34 : Index := Scalar.indexCast v28
  let c0_20 : Index := 0#32
  ![0, v34.toNat, 0]
def k0_off9 (i : grid0.Coords) : Fin 3 → Nat :=
  let c0_49 : Index := 0#32
  let arg2 : BitVec 32 := BitVec.ofNat 32 (i 2).val
  let c256_i32 : BitVec 32 := 256#32
  let v27 : BitVec 32 := Scalar.muli arg2 c256_i32
  let v28 : BitVec 32 := v27
  let v80 : Index := Scalar.indexCast v28
  let c128_50 : Index := 128#32
  ![0, v80.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "neg" => some ⊥
  | _ => none
-- ==== ReferenceIdeal.lean ====
abbrev S8x4096x2048 : Shape := ⟨3, ![8, 4096, 2048]⟩
abbrev S8x4096x1024 : Shape := ⟨3, ![8, 4096, 1024]⟩
abbrev S8x4096x16x128 : Shape := ⟨4, ![8, 4096, 16, 128]⟩
abbrev S8x4096x16x64 : Shape := ⟨4, ![8, 4096, 16, 64]⟩
abbrev S4096 : Shape := ⟨1, ![4096]⟩
abbrev S1x4096 : Shape := ⟨2, ![1, 4096]⟩
abbrev S_ : Shape := ⟨0, ![]⟩
abbrev S4096x1 : Shape := ⟨2, ![4096, 1]⟩
abbrev S4096x4096 : Shape := ⟨2, ![4096, 4096]⟩
abbrev S8x16x4096x4096 : Shape := ⟨4, ![8, 16, 4096, 4096]⟩
abbrev S8x16x4096 : Shape := ⟨3, ![8, 16, 4096]⟩
abbrev S8x16x4096x1 : Shape := ⟨4, ![8, 16, 4096, 1]⟩
abbrev S8x16x64x4096 : Shape := ⟨4, ![8, 16, 64, 4096]⟩

abbrev nBuf : Space → Nat
  | .hbm => 78
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .bf16⟩
  | .hbm, ⟨2, _⟩ => ⟨S8x4096x1024, .bf16⟩
  | .hbm, ⟨3, _⟩ => ⟨S8x4096x16x128, .bf16⟩
  | .hbm, ⟨4, _⟩ => ⟨S8x4096x16x128, .f32⟩
  | .hbm, ⟨5, _⟩ => ⟨S8x4096x16x128, .bf16⟩
  | .hbm, ⟨6, _⟩ => ⟨S8x4096x16x128, .f32⟩
  | .hbm, ⟨7, _⟩ => ⟨S8x4096x16x64, .bf16⟩
  | .hbm, ⟨8, _⟩ => ⟨S8x4096x16x64, .f32⟩
  | .hbm, ⟨9, _⟩ => ⟨S4096, .i32⟩
  | .hbm, ⟨10, _⟩ => ⟨S1x4096, .i32⟩
  | .hbm, ⟨11, _⟩ => ⟨S_, .i32⟩
  | .hbm, ⟨12, _⟩ => ⟨S_, .i32⟩
  | .hbm, ⟨13, _⟩ => ⟨S1x4096, .i32⟩
  | .hbm, ⟨14, _⟩ => ⟨S1x4096, .i32⟩
  | .hbm, ⟨15, _⟩ => ⟨S1x4096, .i32⟩
  | .hbm, ⟨16, _⟩ => ⟨S_, .i32⟩
  | .hbm, ⟨17, _⟩ => ⟨S1x4096, .i32⟩
  | .hbm, ⟨18, _⟩ => ⟨S1x4096, .i1⟩
  | .hbm, ⟨19, _⟩ => ⟨S1x4096, .i32⟩
  | .hbm, ⟨20, _⟩ => ⟨S1x4096, .i32⟩
  | .hbm, ⟨21, _⟩ => ⟨S_, .i32⟩
  | .hbm, ⟨22, _⟩ => ⟨S1x4096, .i32⟩
  | .hbm, ⟨23, _⟩ => ⟨S1x4096, .i1⟩
  | .hbm, ⟨24, _⟩ => ⟨S1x4096, .i1⟩
  | .hbm, ⟨25, _⟩ => ⟨S_, .i32⟩
  | .hbm, ⟨26, _⟩ => ⟨S1x4096, .i32⟩
  | .hbm, ⟨27, _⟩ => ⟨S1x4096, .i32⟩
  | .hbm, ⟨28, _⟩ => ⟨S1x4096, .i32⟩
  | .hbm, ⟨29, _⟩ => ⟨S4096x1, .i32⟩
  | .hbm, ⟨30, _⟩ => ⟨S_, .i32⟩
  | .hbm, ⟨31, _⟩ => ⟨S_, .i32⟩
  | .hbm, ⟨32, _⟩ => ⟨S4096x1, .i32⟩
  | .hbm, ⟨33, _⟩ => ⟨S4096x1, .i32⟩
  | .hbm, ⟨34, _⟩ => ⟨S4096x1, .i32⟩
  | .hbm, ⟨35, _⟩ => ⟨S_, .i32⟩
  | .hbm, ⟨36, _⟩ => ⟨S4096x1, .i32⟩
  | .hbm, ⟨37, _⟩ => ⟨S4096x1, .i1⟩
  | .hbm, ⟨38, _⟩ => ⟨S4096x1, .i32⟩
  | .hbm, ⟨39, _⟩ => ⟨S4096x1, .i32⟩
  | .hbm, ⟨40, _⟩ => ⟨S_, .i32⟩
  | .hbm, ⟨41, _⟩ => ⟨S4096x1, .i32⟩
  | .hbm, ⟨42, _⟩ => ⟨S4096x1, .i1⟩
  | .hbm, ⟨43, _⟩ => ⟨S4096x1, .i1⟩
  | .hbm, ⟨44, _⟩ => ⟨S_, .i32⟩
  | .hbm, ⟨45, _⟩ => ⟨S4096x1, .i32⟩
  | .hbm, ⟨46, _⟩ => ⟨S4096x1, .i32⟩
  | .hbm, ⟨47, _⟩ => ⟨S4096x1, .i32⟩
  | .hbm, ⟨48, _⟩ => ⟨S4096x4096, .i32⟩
  | .hbm, ⟨49, _⟩ => ⟨S4096x4096, .i32⟩
  | .hbm, ⟨50, _⟩ => ⟨S4096x4096, .i1⟩
  | .hbm, ⟨51, _⟩ => ⟨S8x16x4096x4096, .f32⟩
  | .hbm, ⟨52, _⟩ => ⟨S_, .f32⟩
  | .hbm, ⟨53, _⟩ => ⟨S8x16x4096x4096, .f32⟩
  | .hbm, ⟨54, _⟩ => ⟨S8x16x4096x4096, .f32⟩
  | .hbm, ⟨55, _⟩ => ⟨S_, .f32⟩
  | .hbm, ⟨56, _⟩ => ⟨S_, .f32⟩
  | .hbm, ⟨57, _⟩ => ⟨S8x16x4096x4096, .i1⟩
  | .hbm, ⟨58, _⟩ => ⟨S8x16x4096x4096, .f32⟩
  | .hbm, ⟨59, _⟩ => ⟨S8x16x4096x4096, .f32⟩
  | .hbm, ⟨60, _⟩ => ⟨S_, .f32⟩
  | .hbm, ⟨61, _⟩ => ⟨S8x16x4096, .f32⟩
  | .hbm, ⟨62, _⟩ => ⟨S_, .f32⟩
  | .hbm, ⟨63, _⟩ => ⟨S8x16x4096, .f32⟩
  | .hbm, ⟨64, _⟩ => ⟨S8x16x4096, .f32⟩
  | .hbm, ⟨65, _⟩ => ⟨S8x16x4096x1, .f32⟩
  | .hbm, ⟨66, _⟩ => ⟨S8x16x4096x4096, .f32⟩
  | .hbm, ⟨67, _⟩ => ⟨S8x16x4096x4096, .f32⟩
  | .hbm, ⟨68, _⟩ => ⟨S8x16x4096x4096, .f32⟩
  | .hbm, ⟨69, _⟩ => ⟨S_, .f32⟩
  | .hbm, ⟨70, _⟩ => ⟨S8x16x4096, .f32⟩
  | .hbm, ⟨71, _⟩ => ⟨S8x16x4096x1, .f32⟩
  | .hbm, ⟨72, _⟩ => ⟨S8x16x4096x4096, .f32⟩
  | .hbm, ⟨73, _⟩ => ⟨S8x16x4096x4096, .f32⟩
  | .hbm, ⟨74, _⟩ => ⟨S8x16x64x4096, .f32⟩
  | .hbm, ⟨75, _⟩ => ⟨S8x4096x16x64, .f32⟩
  | .hbm, ⟨76, _⟩ => ⟨S8x4096x1024, .f32⟩
  | .hbm, ⟨77, _⟩ => ⟨S8x4096x1024, .bf16⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst : Ref sig .tc := ⟨.hbm, 52, rfl⟩
abbrev main_v15 : Ref sig .tc := ⟨.hbm, 53, rfl⟩
abbrev main_v16 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v17 : Ref sig .tc := ⟨.hbm, 59, rfl⟩
abbrev main_cst_2 : Ref sig .tc := ⟨.hbm, 60, rfl⟩
abbrev main_v18 : Ref sig .tc := ⟨.hbm, 61, rfl⟩
abbrev main_cst_3 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_cst_4 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩

abbrev nD : Nat := 1
abbrev τ : Topo := Topo.v7x

variable {F : FTy → Type} [FloatOps F]
-- ==== Kernel2.lean ====
abbrev S8x4096x1024 : Shape := ⟨3, ![8, 4096, 1024]⟩
abbrev S32768x1024 : Shape := ⟨2, ![32768, 1024]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S8x4096x1024, .bf16⟩
  | .hbm, ⟨1, _⟩ => ⟨S32768x1024, .bf16⟩
  | .hbm, ⟨2, _⟩ => ⟨S32768x1024, .f32⟩
  | .hbm, ⟨3, _⟩ => ⟨S1x1024x1024, .f32⟩
  | .hbm, ⟨4, _⟩ => ⟨S1024, .f32⟩
  | .hbm, ⟨5, _⟩ => ⟨S32768x1024, .bf16⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x4096x1024 : Shape := ⟨3, ![8, 4096, 1024]⟩
abbrev S32768x1024 : Shape := ⟨2, ![32768, 1024]⟩
abbrev S1x1024x1024 : Shape := ⟨3, ![1, 1024, 1024]⟩
abbrev S1024 : Shape := ⟨1, ![1024]⟩
abbrev S_ : Shape := ⟨0, ![]⟩
abbrev S1024x1024 : Shape := ⟨2, ![1024, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S32768x1024, .bf16⟩
  | .hbm, ⟨2, _⟩ => ⟨S32768x1024, .f32⟩
  | .hbm, ⟨3, _⟩ => ⟨S1x1024x1024, .f32⟩
  | .hbm, ⟨4, _⟩ => ⟨S1024, .f32⟩
  | .hbm, ⟨5, _⟩ => ⟨S32768x1024, .bf16⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S1024x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Kernel3.lean ====
abbrev S8x4096x512 : Shape := ⟨3, ![8, 4096, 512]⟩
abbrev S32768x1024 : Shape := ⟨2, ![32768, 1024]⟩
abbrev S8x4096x1024 : Shape := ⟨3, ![8, 4096, 1024]⟩
abbrev S1x1024x1024 : Shape := ⟨3, ![1, 1024, 1024]⟩
abbrev S32768x512 : Shape := ⟨2, ![32768, 512]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 11
  | .vmem => 11
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S32768x1024, .bf16⟩
  | .hbm, ⟨3, _⟩ => ⟨S8x4096x1024, .f32⟩
  | .hbm, ⟨4, _⟩ => ⟨S1x1024x1024, .f32⟩
  | .hbm, ⟨5, _⟩ => ⟨S32768x1024, .f32⟩
  | .hbm, ⟨6, _⟩ => ⟨S32768x512, .bf16⟩
  | .hbm, ⟨7, _⟩ => ⟨S32768x512, .bf16⟩
  | .hbm, ⟨8, _⟩ => ⟨S1024x1024, .f32⟩
  | .hbm, ⟨9, _⟩ => ⟨S1024x1024, .bf16⟩
  | .hbm, ⟨10, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8x4096x512 : Shape := ⟨3, ![8, 4096, 512]⟩
abbrev S32768x1024 : Shape := ⟨2, ![32768, 1024]⟩
abbrev S8x4096x1024 : Shape := ⟨3, ![8, 4096, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S32768x1024, .bf16⟩
  | .hbm, ⟨3, _⟩ => ⟨S8x4096x1024, .f32⟩
  | .hbm, ⟨4, _⟩ => ⟨S1x1024x1024, .f32⟩
  | .hbm, ⟨5, _⟩ => ⟨S32768x1024, .f32⟩
  | .hbm, ⟨6, _⟩ => ⟨S8x4096x1024, .bf16⟩
  | .hbm, ⟨7, _⟩ => ⟨S32768x1024, .bf16⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S1024x1024, .f32⟩
  | .hbm, ⟨21, _⟩ => ⟨S32768x1024, .f32⟩
  | .hbm, ⟨22, _⟩ => ⟨S32768x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel4.lean ====
abbrev S8x4096x1024 : Shape := ⟨3, ![8, 4096, 1024]⟩
abbrev S1x1024 : Shape := ⟨2, ![1, 1024]⟩
abbrev S1x1024x3784 : Shape := ⟨3, ![1, 1024, 3784]⟩
abbrev S32768x1024 : Shape := ⟨2, ![32768, 1024]⟩
abbrev S1024x3784 : Shape := ⟨2, ![1024, 3784]⟩
abbrev S1024x512 : Shape := ⟨2, ![1024, 512]⟩
abbrev S_ : Shape := ⟨0, ![]⟩
abbrev S1024x2560 : Shape := ⟨2, ![1024, 2560]⟩
abbrev S1024x64 : Shape := ⟨2, ![1024, 64]⟩
abbrev S1024x128 : Shape := ⟨2, ![1024, 128]⟩
abbrev S1024x8 : Shape := ⟨2, ![1024, 8]⟩
abbrev S1024x1024 : Shape := ⟨2, ![1024, 1024]⟩
abbrev S1024 : Shape := ⟨1, ![1024]⟩
abbrev S32768x512 : Shape := ⟨2, ![32768, 512]⟩
abbrev S32768x128 : Shape := ⟨2, ![32768, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 44
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3784, .f32⟩
  | .hbm, ⟨3, _⟩ => ⟨S32768x1024, .f32⟩
  | .hbm, ⟨4, _⟩ => ⟨S1024x3784, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x2560, .f32⟩
  | .hbm, ⟨17, _⟩ => ⟨S1024x2560, .bf16⟩
  | .hbm, ⟨18, _⟩ => ⟨S1024x64, .f32⟩
  | .hbm, ⟨19, _⟩ => ⟨S1024x128, .f32⟩
  | .hbm, ⟨20, _⟩ => ⟨S1024x64, .f32⟩
  | .hbm, ⟨21, _⟩ => ⟨S1024x128, .f32⟩
  | .hbm, ⟨22, _⟩ => ⟨S1024x64, .f32⟩
  | .hbm, ⟨23, _⟩ => ⟨S1024x128, .f32⟩
  | .hbm, ⟨24, _⟩ => ⟨S1024x8, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1024x512, .f32⟩
  | .hbm, ⟨29, _⟩ => ⟨S1024x512, .bf16⟩
  | .hbm, ⟨30, _⟩ => ⟨S1024x1024, .f32⟩
  | .hbm, ⟨31, _⟩ => ⟨S1024x1024, .bf16⟩
  | .hbm, ⟨32, _⟩ => ⟨S1024, .f32⟩
  | .hbm, ⟨33, _⟩ => ⟨S1x1024, .f32⟩
  | .hbm, ⟨34, _⟩ => ⟨S32768x512, .bf16⟩
  | .hbm, ⟨35, _⟩ => ⟨S32768x512, .bf16⟩
  | .hbm, ⟨36, _⟩ => ⟨S32768x512, .bf16⟩
  | .hbm, ⟨37, _⟩ => ⟨S32768x512, .bf16⟩
  | .hbm, ⟨38, _⟩ => ⟨S32768x512, .bf16⟩
  | .hbm, ⟨39, _⟩ => ⟨S32768x128, .bf16⟩
  | .hbm, ⟨40, _⟩ => ⟨S32768x128, .bf16⟩
  | .hbm, ⟨41, _⟩ => ⟨S32768x128, .bf16⟩
  | .hbm, ⟨42, _⟩ => ⟨S32768x128, .f32⟩
  | .hbm, ⟨43, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1024x512, .bf16⟩
  | .local _ .vmem, ⟨5, _⟩ => ⟨S1024x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S512x128, .f32⟩
  | .local _ .vmem, ⟨23, _⟩ => ⟨S512x128, .f32⟩
  | .local _ .vmem, ⟨24, _⟩ => ⟨S512x1024, .bf16⟩
  | .local _ .vmem, ⟨25, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_call0_v0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27_0 : Ref sig .tc := ⟨.hbm, 34, rfl⟩
abbrev main_v27_1 : Ref sig .tc := ⟨.hbm, 35, rfl⟩
abbrev main_v27_2 : Ref sig .tc := ⟨.hbm, 36, rfl⟩
abbrev main_v27_3 : Ref sig .tc := ⟨.hbm, 37, rfl⟩
abbrev main_v27_4 : Ref sig .tc := ⟨.hbm, 38, rfl⟩
abbrev main_v27_5 : Ref sig .tc := ⟨.hbm, 39, rfl⟩
abbrev main_v27_6 : Ref sig .tc := ⟨.hbm, 40, rfl⟩
abbrev main_v27_7 : Ref sig .tc := ⟨.hbm, 41, rfl⟩
abbrev main_v27_8 : Ref sig .tc := ⟨.hbm, 42, rfl⟩
abbrev main_v27_9 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S8x4096x1024 : Shape := ⟨3, ![8, 4096, 1024]⟩
abbrev S1x1024 : Shape := ⟨2, ![1, 1024]⟩
abbrev S1x1024x3784 : Shape := ⟨3, ![1, 1024, 3784]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x3784 : Shape := ⟨2, ![1024, 3784]⟩
abbrev S32768x3784 : Shape := ⟨2, ![32768, 3784]⟩
abbrev S32768x512 : Shape := ⟨2, ![32768, 512]⟩
abbrev S32768x64 : Shape := ⟨2, ![32768, 64]⟩
abbrev S32768x8 : Shape := ⟨2, ![32768, 8]⟩
abbrev S32768x128 : Shape := ⟨2, ![32768, 128]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3784, .f32⟩
  | .hbm, ⟨3, _⟩ => ⟨S32768x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x3784, .f32⟩
  | .hbm, ⟨22, _⟩ => ⟨S32768x3784, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x64, .f32⟩
  | .hbm, ⟨28, _⟩ => ⟨S32768x64, .f32⟩
  | .hbm, ⟨29, _⟩ => ⟨S32768x512, .f32⟩
  | .hbm, ⟨30, _⟩ => ⟨S32768x64, .f32⟩
  | .hbm, ⟨31, _⟩ => ⟨S32768x8, .f32⟩
  | .hbm, ⟨32, _⟩ => ⟨S32768x1024, .f32⟩
  | .hbm, ⟨33, _⟩ => ⟨S_, .f32⟩
  | .hbm, ⟨34, _⟩ => ⟨S32768x512, .f32⟩
  | .hbm, ⟨35, _⟩ => ⟨S32768x512, .f32⟩
  | .hbm, ⟨36, _⟩ => ⟨S32768x512, .bf16⟩
  | .hbm, ⟨37, _⟩ => ⟨S32768x512, .bf16⟩
  | .hbm, ⟨38, _⟩ => ⟨S32768x512, .bf16⟩
  | .hbm, ⟨39, _⟩ => ⟨S_, .f32⟩
  | .hbm, ⟨40, _⟩ => ⟨S32768x512, .f32⟩
  | .hbm, ⟨41, _⟩ => ⟨S32768x512, .f32⟩
  | .hbm, ⟨42, _⟩ => ⟨S32768x512, .bf16⟩
  | .hbm, ⟨43, _⟩ => ⟨S32768x512, .bf16⟩
  | .hbm, ⟨44, _⟩ => ⟨S32768x128, .f32⟩
  | .hbm, ⟨45, _⟩ => ⟨S32768x128, .bf16⟩
  | .hbm, ⟨46, _⟩ => ⟨S32768x128, .f32⟩
  | .hbm, ⟨47, _⟩ => ⟨S32768x128, .bf16⟩
  | .hbm, ⟨48, _⟩ => ⟨S32768x128, .f32⟩
  | .hbm, ⟨49, _⟩ => ⟨S32768x128, .bf16⟩
  | .hbm, ⟨50, _⟩ => ⟨S_, .i32⟩
  | .hbm, ⟨51, _⟩ => ⟨S_, .f32⟩
  | .hbm, ⟨52, _⟩ => ⟨S32768x128, .f32⟩
  | .hbm, ⟨53, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c : Ref sig .tc := ⟨.hbm, 50, rfl⟩
abbrev main_call0_v0 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Kernel5.lean ====
abbrev S32768x1024 : Shape := ⟨2, ![32768, 1024]⟩
abbrev S1x1024 : Shape := ⟨2, ![1, 1024]⟩
abbrev S1x1024x1696 : Shape := ⟨3, ![1, 1024, 1696]⟩
abbrev S1x384 : Shape := ⟨2, ![1, 384]⟩
abbrev S1x384x1536 : Shape := ⟨3, ![1, 384, 1536]⟩
abbrev S1x256 : Shape := ⟨2, ![1, 256]⟩
abbrev S1x256x2048 : Shape := ⟨3, ![1, 256, 2048]⟩
abbrev S1024x1696 : Shape := ⟨2, ![1024, 1696]⟩
abbrev S1024x384 : Shape := ⟨2, ![1024, 384]⟩
abbrev S1024x256 : Shape := ⟨2, ![1024, 256]⟩
abbrev S1024x32 : Shape := ⟨2, ![1024, 32]⟩
abbrev S1024x1024 : Shape := ⟨2, ![1024, 1024]⟩
abbrev S1024x1x32 : Shape := ⟨3, ![1024, 1, 32]⟩
abbrev S_ : Shape := ⟨0, ![]⟩
abbrev S1024x1x128 : Shape := ⟨3, ![1024, 1, 128]⟩
abbrev S1024x128 : Shape := ⟨2, ![1024, 128]⟩
abbrev S1024x16 : Shape := ⟨2, ![1024, 16]⟩
abbrev S1024x896 : Shape := ⟨2, ![1024, 896]⟩
abbrev S384x1536 : Shape := ⟨2, ![384, 1536]⟩
abbrev S384x16x96 : Shape := ⟨3, ![384, 16, 96]⟩
abbrev S384x16x64 : Shape := ⟨3, ![384, 16, 64]⟩
abbrev S384x16x128 : Shape := ⟨3, ![384, 16, 128]⟩
abbrev S384x16x32 : Shape := ⟨3, ![384, 16, 32]⟩
abbrev S384x16x16 : Shape := ⟨3, ![384, 16, 16]⟩
abbrev S256x2048 : Shape := ⟨2, ![256, 2048]⟩
abbrev S256x16x128 : Shape := ⟨3, ![256, 16, 128]⟩
abbrev S256x16x64 : Shape := ⟨3, ![256, 16, 64]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S4096x128 : Shape := ⟨2, ![4096, 128]⟩
abbrev S1024 : Shape := ⟨1, ![1024]⟩
abbrev S384 : Shape := ⟨1, ![384]⟩
abbrev S256 : Shape := ⟨1, ![256]⟩
abbrev S384x2048 : Shape := ⟨2, ![384, 2048]⟩
abbrev S256x1024 : Shape := ⟨2, ![256, 1024]⟩
abbrev S32768x2048 : Shape := ⟨2, ![32768, 2048]⟩
abbrev S512x1024 : Shape := ⟨2, ![512, 1024]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S512x896 : Shape := ⟨2, ![512, 896]⟩
abbrev S512x384 : Shape := ⟨2, ![512, 384]⟩
abbrev S512x256 : Shape := ⟨2, ![512, 256]⟩
abbrev S384x128 : Shape := ⟨2, ![384, 128]⟩
abbrev S256x128 : Shape := ⟨2, ![256, 128]⟩

abbrev nBuf : Space → Nat
  | .hbm => 103
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x1696, .f32⟩
  | .hbm, ⟨3, _⟩ => ⟨S1x384, .f32⟩
  | .hbm, ⟨4, _⟩ => ⟨S1x384x1536, .f32⟩
  | .hbm, ⟨5, _⟩ => ⟨S1x256, .f32⟩
  | .hbm, ⟨6, _⟩ => ⟨S1x256x2048, .f32⟩
  | .hbm, ⟨7, _⟩ => ⟨S1024x1696, .f32⟩
  | .hbm, ⟨8, _⟩ => ⟨S1024x384, .f32⟩
  | .hbm, ⟨9, _⟩ => ⟨S1024x256, .f32⟩
  | .hbm, ⟨10, _⟩ => ⟨S1024x32, .f32⟩
  | .hbm, ⟨11, _⟩ => ⟨S1024x1024, .f32⟩
  | .hbm, ⟨12, _⟩ => ⟨S1024x1024, .bf16⟩
  | .hbm, ⟨13, _⟩ => ⟨S1024x1x32, .f32⟩
  | .hbm, ⟨14, _⟩ => ⟨S_, .i32⟩
  | .hbm, ⟨15, _⟩ => ⟨S_, .f32⟩
  | .hbm, ⟨16, _⟩ => ⟨S1024x1x128, .f32⟩
  | .hbm, ⟨17, _⟩ => ⟨S1024x128, .f32⟩
  | .hbm, ⟨18, _⟩ => ⟨S1024x16, .f32⟩
  | .hbm, ⟨19, _⟩ => ⟨S1024x16, .f32⟩
  | .hbm, ⟨20, _⟩ => ⟨S1024x16, .f32⟩
  | .hbm, ⟨21, _⟩ => ⟨S1024x32, .f32⟩
  | .hbm, ⟨22, _⟩ => ⟨S1024x1x32, .f32⟩
  | .hbm, ⟨23, _⟩ => ⟨S_, .i32⟩
  | .hbm, ⟨24, _⟩ => ⟨S_, .f32⟩
  | .hbm, ⟨25, _⟩ => ⟨S1024x1x128, .f32⟩
  | .hbm, ⟨26, _⟩ => ⟨S1024x128, .f32⟩
  | .hbm, ⟨27, _⟩ => ⟨S1024x896, .f32⟩
  | .hbm, ⟨28, _⟩ => ⟨S1024x896, .bf16⟩
  | .hbm, ⟨29, _⟩ => ⟨S384x1536, .f32⟩
  | .hbm, ⟨30, _⟩ => ⟨S384x16x96, .f32⟩
  | .hbm, ⟨31, _⟩ => ⟨S384x16x64, .f32⟩
  | .hbm, ⟨32, _⟩ => ⟨S_, .f32⟩
  | .hbm, ⟨33, _⟩ => ⟨S384x16x64, .f32⟩
  | .hbm, ⟨34, _⟩ => ⟨S384x16x128, .f32⟩
  | .hbm, ⟨35, _⟩ => ⟨S384x16x32, .f32⟩
  | .hbm, ⟨36, _⟩ => ⟨S_, .i32⟩
  | .hbm, ⟨37, _⟩ => ⟨S_, .f32⟩
  | .hbm, ⟨38, _⟩ => ⟨S384x16x128, .f32⟩
  | .hbm, ⟨39, _⟩ => ⟨S384x16x128, .f32⟩
  | .hbm, ⟨40, _⟩ => ⟨S384x16x32, .f32⟩
  | .hbm, ⟨41, _⟩ => ⟨S384x16x16, .f32⟩
  | .hbm, ⟨42, _⟩ => ⟨S384x16x16, .f32⟩
  | .hbm, ⟨43, _⟩ => ⟨S384x16x16, .f32⟩
  | .hbm, ⟨44, _⟩ => ⟨S384x16x32, .f32⟩
  | .hbm, ⟨45, _⟩ => ⟨S_, .i32⟩
  | .hbm, ⟨46, _⟩ => ⟨S_, .f32⟩
  | .hbm, ⟨47, _⟩ => ⟨S384x16x128, .f32⟩
  | .hbm, ⟨48, _⟩ => ⟨S256x2048, .f32⟩
  | .hbm, ⟨49, _⟩ => ⟨S256x16x128, .f32⟩
  | .hbm, ⟨50, _⟩ => ⟨S256x16x64, .f32⟩
  | .hbm, ⟨51, _⟩ => ⟨S_, .i32⟩
  | .hbm, ⟨52, _⟩ => ⟨S_, .f32⟩
  | .hbm, ⟨53, _⟩ => ⟨S256x16x128, .f32⟩
  | .hbm, ⟨54, _⟩ => ⟨S256x16x64, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S4096, .f32⟩
  | .hbm, ⟨70, _⟩ => ⟨S4096x1, .f32⟩
  | .hbm, ⟨71, _⟩ => ⟨S1x16, .f32⟩
  | .hbm, ⟨72, _⟩ => ⟨S4096x16, .f32⟩
  | .hbm, ⟨73, _⟩ => ⟨S4096x16, .f32⟩
  | .hbm, ⟨74, _⟩ => ⟨S4096x16, .f32⟩
  | .hbm, ⟨75, _⟩ => ⟨S4096x16, .f32⟩
  | .hbm, ⟨76, _⟩ => ⟨S4096x16, .f32⟩
  | .hbm, ⟨77, _⟩ => ⟨S_, .f32⟩
  | .hbm, ⟨78, _⟩ => ⟨S4096x32, .f32⟩
  | .hbm, ⟨79, _⟩ => ⟨S_, .f32⟩
  | .hbm, ⟨80, _⟩ => ⟨S4096x64, .f32⟩
  | .hbm, ⟨81, _⟩ => ⟨S4096x128, .f32⟩
  | .hbm, ⟨82, _⟩ => ⟨S_, .f32⟩
  | .hbm, ⟨83, _⟩ => ⟨S4096x64, .f32⟩
  | .hbm, ⟨84, _⟩ => ⟨S4096x128, .f32⟩
  | .hbm, ⟨85, _⟩ => ⟨S1024, .f32⟩
  | .hbm, ⟨86, _⟩ => ⟨S1x1024, .f32⟩
  | .hbm, ⟨87, _⟩ => ⟨S384, .f32⟩
  | .hbm, ⟨88, _⟩ => ⟨S1x384, .f32⟩
  | .hbm, ⟨89, _⟩ => ⟨S256, .f32⟩
  | .hbm, ⟨90, _⟩ => ⟨S1x256, .f32⟩
  | .hbm, ⟨91, _⟩ => ⟨S384x2048, .f32⟩
  | .hbm, ⟨92, _⟩ => ⟨S384x2048, .bf16⟩
  | .hbm, ⟨93, _⟩ => ⟨S384x2048, .f32⟩
  | .hbm, ⟨94, _⟩ => ⟨S384x2048, .bf16⟩
  | .hbm, ⟨95, _⟩ => ⟨S256x2048, .f32⟩
  | .hbm, ⟨96, _⟩ => ⟨S256x2048, .bf16⟩
  | .hbm, ⟨97, _⟩ => ⟨S256x1024, .f32⟩
  | .hbm, ⟨98, _⟩ => ⟨S256x1024, .bf16⟩
  | .hbm, ⟨99, _⟩ => ⟨S32768x2048, .bf16⟩
  | .hbm, ⟨100, _⟩ => ⟨S32768x2048, .bf16⟩
  | .hbm, ⟨101, _⟩ => ⟨S32768x1024, .bf16⟩
  | .hbm, ⟨102, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1024x896, .bf16⟩
  | .local _ .vmem, ⟨8, _⟩ => ⟨S1024x1024, .bf16⟩
  | .local _ .vmem, ⟨9, _⟩ => ⟨S1x384, .f32⟩
  | .local _ .vmem, ⟨10, _⟩ => ⟨S1x256, .f32⟩
  | .local _ .vmem, ⟨11, _⟩ => ⟨S384x2048, .bf16⟩
  | .local _ .vmem, ⟨12, _⟩ => ⟨S384x2048, .bf16⟩
  | .local _ .vmem, ⟨13, _⟩ => ⟨S256x2048, .bf16⟩
  | .local _ .vmem, ⟨14, _⟩ => ⟨S256x1024, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_call2_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_2 : Ref sig .tc := ⟨.hbm, 45, rfl⟩
abbrev main_call3_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_3 : Ref sig .tc := ⟨.hbm, 51, rfl⟩
abbrev main_call4_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74_0 : Ref sig .tc := ⟨.hbm, 99, rfl⟩
abbrev main_v74_1 : Ref sig .tc := ⟨.hbm, 100, rfl⟩
abbrev main_v74_2 : Ref sig .tc := ⟨.hbm, 101, rfl⟩
abbrev main_v74_3 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S32768x1024 : Shape := ⟨2, ![32768, 1024]⟩
abbrev S1x1024 : Shape := ⟨2, ![1, 1024]⟩
abbrev S1x1024x1696 : Shape := ⟨3, ![1, 1024, 1696]⟩
abbrev S1x384 : Shape := ⟨2, ![1, 384]⟩
abbrev S1x384x1536 : Shape := ⟨3, ![1, 384, 1536]⟩
abbrev S1x256 : Shape := ⟨2, ![1, 256]⟩
abbrev S1x256x2048 : Shape := ⟨3, ![1, 256, 2048]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1024 : Shape := ⟨1, ![1024]⟩
abbrev S32768 : Shape := ⟨1, ![32768]⟩
abbrev S32768x1 : Shape := ⟨2, ![32768, 1]⟩
abbrev S1024x1696 : Shape := ⟨2, ![1024, 1696]⟩
abbrev S32768x1696 : Shape := ⟨2, ![32768, 1696]⟩
abbrev S32768x384 : Shape := ⟨2, ![32768, 384]⟩
abbrev S32768x256 : Shape := ⟨2, ![32768, 256]⟩
abbrev S32768x32 : Shape := ⟨2, ![32768, 32]⟩
abbrev S384 : Shape := ⟨1, ![384]⟩
abbrev S384x1536 : Shape := ⟨2, ![384, 1536]⟩
abbrev S32768x1536 : Shape := ⟨2, ![32768, 1536]⟩
abbrev S8x4096x16x96 : Shape := ⟨4, ![8, 4096, 16, 96]⟩
abbrev S256 : Shape := ⟨1, ![256]⟩
abbrev S256x2048 : Shape := ⟨2, ![256, 2048]⟩
abbrev S32768x2048 : Shape := ⟨2, ![32768, 2048]⟩
abbrev S8x4096x16x128 : Shape := ⟨4, ![8, 4096, 16, 128]⟩
abbrev S8x4096x16x64 : Shape := ⟨4, ![8, 4096, 16, 64]⟩
abbrev S8x4096x16x32 : Shape := ⟨4, ![8, 4096, 16, 32]⟩
abbrev S4096x1x16 : Shape := ⟨3, ![4096, 1, 16]⟩
abbrev S8x4096x16x16 : Shape := ⟨4, ![8, 4096, 16, 16]⟩
abbrev S1x4096x1x16 : Shape := ⟨4, ![1, 4096, 1, 16]⟩
abbrev S8x4096x32 : Shape := ⟨3, ![8, 4096, 32]⟩
abbrev S8x4096x16 : Shape := ⟨3, ![8, 4096, 16]⟩
abbrev S1x4096x16 : Shape := ⟨3, ![1, 4096, 16]⟩
abbrev S8x4096x1x32 : Shape := ⟨4, ![8, 4096, 1, 32]⟩

abbrev nBuf : Space → Nat
  | .hbm => 146
  | .vmem => 0
  | .smem => 0
  | _ => 0

abbrev hbmTy0_0 (i : Nat) : BufTy := match i % 128 with
  | 0 => ⟨S32768x1024, .f32⟩
  | 1 => ⟨S1x1024, .f32⟩
  | 2 => ⟨S1x1024x1696, .f32⟩
  | 3 => ⟨S1x384, .f32⟩
  | 4 => ⟨S1x384x1536, .f32⟩
  | 5 => ⟨S1x256, .f32⟩
  | 6 => ⟨S1x256x2048, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S4096, .f32⟩
  | 22 => ⟨S4096x1, .f32⟩
  | 23 => ⟨S1x16, .f32⟩
  | 24 => ⟨S4096x16, .f32⟩
  | 25 => ⟨S4096x16, .f32⟩
  | 26 => ⟨S4096x16, .f32⟩
  | 27 => ⟨S4096x16, .f32⟩
  | 28 => ⟨S4096x16, .f32⟩
  | 29 => ⟨S1024, .f32⟩
  | 30 => ⟨S32768x1024, .f32⟩
  | 31 => ⟨S_, .f32⟩
  | 32 => ⟨S32768, .f32⟩
  | 33 => ⟨S32768x1, .f32⟩
  | 34 => ⟨S_, .f32⟩
  | 35 => ⟨S32768x1, .f32⟩
  | 36 => ⟨S32768x1, .f32⟩
  | 37 => ⟨S_, .f32⟩
  | 38 => ⟨S32768x1, .f32⟩
  | 39 => ⟨S32768x1, .f32⟩
  | 40 => ⟨S32768x1, .f32⟩
  | 41 => ⟨S32768x1024, .f32⟩
  | 42 => ⟨S32768x1024, .f32⟩
  | 43 => ⟨S1x1024, .f32⟩
  | 44 => ⟨S32768x1024, .f32⟩
  | 45 => ⟨S32768x1024, .f32⟩
  | 46 => ⟨S1024x1696, .f32⟩
  | 47 => ⟨S32768x1696, .f32⟩
  | 48 => ⟨S32768x384, .f32⟩
  | 49 => ⟨S32768x256, .f32⟩
  | 50 => ⟨S32768x32, .f32⟩
  | 51 => ⟨S32768x1024, .f32⟩
  | 52 => ⟨S384, .f32⟩
  | 53 => ⟨S32768x384, .f32⟩
  | 54 => ⟨S_, .f32⟩
  | 55 => ⟨S32768, .f32⟩
  | 56 => ⟨S32768x1, .f32⟩
  | 57 => ⟨S_, .f32⟩
  | 58 => ⟨S32768x1, .f32⟩
  | 59 => ⟨S32768x1, .f32⟩
  | 60 => ⟨S_, .f32⟩
  | 61 => ⟨S32768x1, .f32⟩
  | 62 => ⟨S32768x1, .f32⟩
  | 63 => ⟨S32768x1, .f32⟩
  | 64 => ⟨S32768x384, .f32⟩
  | 65 => ⟨S32768x384, .f32⟩
  | 66 => ⟨S1x384, .f32⟩
  | 67 => ⟨S32768x384, .f32⟩
  | 68 => ⟨S32768x384, .f32⟩
  | 69 => ⟨S384x1536, .f32⟩
  | 70 => ⟨S32768x1536, .f32⟩
  | 71 => ⟨S8x4096x16x96, .f32⟩
  | 72 => ⟨S256, .f32⟩
  | 73 => ⟨S32768x256, .f32⟩
  | 74 => ⟨S_, .f32⟩
  | 75 => ⟨S32768, .f32⟩
  | 76 => ⟨S32768x1, .f32⟩
  | 77 => ⟨S_, .f32⟩
  | 78 => ⟨S32768x1, .f32⟩
  | 79 => ⟨S32768x1, .f32⟩
  | 80 => ⟨S_, .f32⟩
  | 81 => ⟨S32768x1, .f32⟩
  | 82 => ⟨S32768x1, .f32⟩
  | 83 => ⟨S32768x1, .f32⟩
  | 84 => ⟨S32768x256, .f32⟩
  | 85 => ⟨S32768x256, .f32⟩
  | 86 => ⟨S1x256, .f32⟩
  | 87 => ⟨S32768x256, .f32⟩
  | 88 => ⟨S32768x256, .f32⟩
  | 89 => ⟨S256x2048, .f32⟩
  | 90 => ⟨S32768x2048, .f32⟩
  | 91 => ⟨S8x4096x16x128, .f32⟩
  | 92 => ⟨S8x4096x16x64, .f32⟩
  | 93 => ⟨S8x4096x16x32, .f32⟩
  | 94 => ⟨S8x4096x16x64, .f32⟩
  | 95 => ⟨S8x4096x16x64, .f32⟩
  | 96 => ⟨S4096x1x16, .f32⟩
  | 97 => ⟨S4096x1x16, .f32⟩
  | 98 => ⟨S8x4096x16x16, .f32⟩
  | 99 => ⟨S8x4096x16x16, .f32⟩
  | 100 => ⟨S1x4096x1x16, .f32⟩
  | 101 => ⟨S8x4096x16x16, .f32⟩
  | 102 => ⟨S8x4096x16x16, .f32⟩
  | 103 => ⟨S1x4096x1x16, .f32⟩
  | 104 => ⟨S8x4096x16x16, .f32⟩
  | 105 => ⟨S8x4096x16x16, .f32⟩
  | 106 => ⟨S8x4096x16x16, .f32⟩
  | 107 => ⟨S1x4096x1x16, .f32⟩
  | 108 => ⟨S8x4096x16x16, .f32⟩
  | 109 => ⟨S8x4096x16x16, .f32⟩
  | 110 => ⟨S1x4096x1x16, .f32⟩
  | 111 => ⟨S8x4096x16x16, .f32⟩
  | 112 => ⟨S8x4096x16x16, .f32⟩
  | 113 => ⟨S8x4096x16x16, .f32⟩
  | 114 => ⟨S8x4096x16x32, .f32⟩
  | 115 => ⟨S8x4096x32, .f32⟩
  | 116 => ⟨S8x4096x16, .f32⟩
  | 117 => ⟨S8x4096x16, .f32⟩
  | 118 => ⟨S1x4096x16, .f32⟩
  | 119 => ⟨S8x4096x16, .f32⟩
  | 120 => ⟨S8x4096x16, .f32⟩
  | 121 => ⟨S1x4096x16, .f32⟩
  | 122 => ⟨S8x4096x16, .f32⟩
  | 123 => ⟨S8x4096x16, .f32⟩
  | 124 => ⟨S8x4096x16, .f32⟩
  | 125 => ⟨S1x4096x16, .f32⟩
  | 126 => ⟨S8x4096x16, .f32⟩
  | 127 => ⟨S8x4096x16, .f32⟩
  | _ => ⟨S32768x1024, .f32⟩

abbrev hbmTy0_1 (i : Nat) : BufTy := match i % 128 with
  | 0 => ⟨S1x4096x16, .f32⟩
  | 1 => ⟨S8x4096x16, .f32⟩
  | 2 => ⟨S8x4096x16, .f32⟩
  | 3 => ⟨S8x4096x16, .f32⟩
  | 4 => ⟨S8x4096x32, .f32⟩
  | 5 => ⟨S8x4096x1x32, .f32⟩
  | 6 => ⟨S8x4096x16x32, .f32⟩
  | 7 => ⟨S_, .f32⟩
  | 8 => ⟨S8x4096x16x32, .f32⟩
  | 9 => ⟨S8x4096x16x128, .f32⟩
  | 10 => ⟨S32768x2048, .f32⟩
  | 11 => ⟨S32768x2048, .bf16⟩
  | 12 => ⟨S8x4096x16x128, .f32⟩
  | 13 => ⟨S32768x2048, .f32⟩
  | 14 => ⟨S32768x2048, .bf16⟩
  | 15 => ⟨S32768x1024, .f32⟩
  | 16 => ⟨S32768x1024, .bf16⟩
  | 17 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_cst_12 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩

abbrev nD : Nat := 1
abbrev τ : Topo := Topo.v7x

variable {F : FTy → Type} [FloatOps F]
-- ==== Kernel6.lean ====
abbrev S4 : Shape := ⟨1, ![4]⟩
abbrev S8x4096x512 : Shape := ⟨3, ![8, 4096, 512]⟩
abbrev S4x2x256x256 : Shape := ⟨4, ![4, 2, 256, 256]⟩
abbrev S1x64 : Shape := ⟨2, ![1, 64]⟩
abbrev S1x128 : Shape := ⟨2, ![1, 128]⟩
abbrev S64 : Shape := ⟨1, ![64]⟩
abbrev S4x64 : Shape := ⟨2, ![4, 64]⟩
abbrev S128 : Shape := ⟨1, ![128]⟩
abbrev S1x256x128 : Shape := ⟨3, ![1, 256, 128]⟩
abbrev S1x4096x128 : Shape := ⟨3, ![1, 4096, 128]⟩
abbrev S1x2x256x256 : Shape := ⟨4, ![1, 2, 256, 256]⟩
abbrev S2x256x1 : Shape := ⟨3, ![2, 256, 1]⟩
abbrev S2x256x128 : Shape := ⟨3, ![2, 256, 128]⟩
abbrev S256x128 : Shape := ⟨2, ![256, 128]⟩
abbrev S256x256 : Shape := ⟨2, ![256, 256]⟩
abbrev S1 : Shape := ⟨1, ![1]⟩
abbrev S1x256x1 : Shape := ⟨3, ![1, 256, 1]⟩
abbrev S256x1 : Shape := ⟨2, ![256, 1]⟩
abbrev S256 : Shape := ⟨1, ![256]⟩
abbrev S1x1x256x256 : Shape := ⟨4, ![1, 1, 256, 256]⟩
abbrev S1x1 : Shape := ⟨2, ![1, 1]⟩

abbrev nBuf : Space → Nat
  | .hbm => 22
  | .vmem => 15
  | .smem => 1
  | _ => 0

abbrev bufTy : (tb : Table) → Fin (tcTables nBuf tb) → BufTy
  | .hbm, ⟨0, _⟩ => ⟨S4, .f32⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S4x2x256x256, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S4x64, .f32⟩
  | .hbm, ⟨19, _⟩ => ⟨S128, .f32⟩
  | .hbm, ⟨20, _⟩ => ⟨S1x128, .f32⟩
  | .hbm, ⟨21, _⟩ => ⟨S8x4096x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x2x256x256, .f32⟩
  | .local _ .vmem, ⟨7, _⟩ => ⟨S1x2x256x256, .f32⟩
  | .local _ .vmem, ⟨8, _⟩ => ⟨S4x64, .f32⟩
  | .local _ .vmem, ⟨9, _⟩ => ⟨S1x128, .f32⟩
  | .local _ .vmem, ⟨10, _⟩ => ⟨S1x256x128, .bf16⟩
  | .local _ .vmem, ⟨11, _⟩ => ⟨S1x256x128, .bf16⟩
  | .local _ .vmem, ⟨12, _⟩ => ⟨S2x256x1, .f32⟩
  | .local _ .vmem, ⟨13, _⟩ => ⟨S2x256x1, .f32⟩
  | .local _ .vmem, ⟨14, _⟩ => ⟨S2x256x128, .f32⟩
  | .local _ .smem, ⟨0, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 4, 16], ![false, false, false]⟩

@[reducible] def k0_t1_loop (i : grid0.Coords) : Scf.Loop 32 :=
  let c0_i32_14 : BitVec 32 := 0#32
  let arg2 : BitVec 32 := BitVec.ofNat 32 (i 2).val
  let c1_i32 : BitVec 32 := 1#32
  let v17 : BitVec 32 := Scalar.subi arg2 c1_i32
  let c0_i32 : BitVec 32 := 0#32
  let v18 : BitVec 32 := Scalar.maxsi v17 c0_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_16 : BitVec 32 := 1#32
  ⟨c0_i32_14, v23, c1_i32_16⟩
def k0_mult1 (i : grid0.Coords) (k0_t1 : Fin (k0_t1_loop i).trips) : BitVec 32 :=
  let c0_i32_14 : BitVec 32 := 0#32
  let c1_i32_16 : BitVec 32 := 1#32
  let arg14 : BitVec 32 := Scf.iv c0_i32_14 c1_i32_16 k0_t1
  let c256_i32_106 : BitVec 32 := 256#32
  let v174 : BitVec 32 := Scalar.muli arg14 c256_i32_106
  v174
def k0_off1 (i : grid0.Coords) (k0_t1 : Fin (k0_t1_loop i).trips) : Fin 3 → Nat :=
  let c0_107 : Index := 0#32
  let c0_i32_14 : BitVec 32 := 0#32
  let c1_i32_16 : BitVec 32 := 1#32
  let arg14 : BitVec 32 := Scf.iv c0_i32_14 c1_i32_16 k0_t1
  let c256_i32_106 : BitVec 32 := 256#32
  let v174 : BitVec 32 := Scalar.muli arg14 c256_i32_106
  let v175 : BitVec 32 := v174
  let v176 : Index := Scalar.indexCast v175
  let c0_108 : Index := 0#32
  ![0, v176.toNat, 0]
def k0_off2 (i : grid0.Coords) : Fin 1 → Nat :=
  let arg1 : BitVec 32 := BitVec.ofNat 32 (i 1).val
  let v190 : Index := Scalar.indexCast arg1
  ![v190.toNat]
@[reducible] def k0_t2_loop (i : grid0.Coords) : Scf.Loop 32 :=
  let c0_i32_14 : BitVec 32 := 0#32
  let arg2 : BitVec 32 := BitVec.ofNat 32 (i 2).val
  let c1_i32 : BitVec 32 := 1#32
  let v17 : BitVec 32 := Scalar.subi arg2 c1_i32
  let c0_i32 : BitVec 32 := 0#32
  let v18 : BitVec 32 := Scalar.maxsi v17 c0_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let v20 : BitVec 32 := Scalar.addi c0_i32_14 v19
  let c1_i32_17 : BitVec 32 := 1#32
  ⟨v23, v20, c1_i32_17⟩
def k0_mult2 (i : grid0.Coords) (k0_t2 : Fin (k0_t2_loop i).trips) : BitVec 32 :=
  let c0_i32_14 : BitVec 32 := 0#32
  let arg2 : BitVec 32 := BitVec.ofNat 32 (i 2).val
  let c1_i32 : BitVec 32 := 1#32
  let v17 : BitVec 32 := Scalar.subi arg2 c1_i32
  let c0_i32 : BitVec 32 := 0#32
  let v18 : BitVec 32 := Scalar.maxsi v17 c0_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_17 : BitVec 32 := 1#32
  let arg14 : BitVec 32 := Scf.iv v23 c1_i32_17 k0_t2
  let c256_i32_106 : BitVec 32 := 256#32
  let v174 : BitVec 32 := Scalar.muli arg14 c256_i32_106
  v174
def k0_off3 (i : grid0.Coords) (k0_t2 : Fin (k0_t2_loop i).trips) : Fin 3 → Nat :=
  let c0_107 : Index := 0#32
  let c0_i32_14 : BitVec 32 := 0#32
  let arg2 : BitVec 32 := BitVec.ofNat 32 (i 2).val
  let c1_i32 : BitVec 32 := 1#32
  let v17 : BitVec 32 := Scalar.subi arg2 c1_i32
  let c0_i32 : BitVec 32 := 0#32
  let v18 : BitVec 32 := Scalar.maxsi v17 c0_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_17 : BitVec 32 := 1#32
  let arg14 : BitVec 32 := Scf.iv v23 c1_i32_17 k0_t2
  let c256_i32_106 : BitVec 32 := 256#32
  let v174 : BitVec 32 := Scalar.muli arg14 c256_i32_106
  let v175 : BitVec 32 := v174
  let v176 : Index := Scalar.indexCast v175
  let c0_108 : Index := 0#32
  ![0, v176.toNat, 0]
def k0_off4 (i : grid0.Coords) : Fin 1 → Nat :=
  let arg1 : BitVec 32 := BitVec.ofNat 32 (i 1).val
  let v190 : Index := Scalar.indexCast arg1
  ![v190.toNat]
def k0_cond1 (i : grid0.Coords) : BitVec 1 :=
  let arg2 : BitVec 32 := BitVec.ofNat 32 (i 2).val
  let c1_i32_18 : BitVec 32 := 1#32
  let v24 : BitVec 1 := Scalar.cmpi .sge arg2 c1_i32_18
  let v25 : BitVec 32 := Scalar.extui v24
  let c0_i32_19 : BitVec 32 := 0#32
  let v26 : BitVec 1 := Scalar.cmpi .ne v25 c0_i32_19
  v26

def k0_mult3 (i : grid0.Coords) : BitVec 32 :=
  let arg2 : BitVec 32 := BitVec.ofNat 32 (i 2).val
  let c1_i32_106 : BitVec 32 := 1#32
  let v174 : BitVec 32 := Scalar.subi arg2 c1_i32_106
  let c256_i32_107 : BitVec 32 := 256#32
  let v175 : BitVec 32 := Scalar.muli v174 c256_i32_107
  v175
def k0_off5 (i : grid0.Coords) : Fin 3 → Nat :=
  let c0_108 : Index := 0#32
  let arg2 : BitVec 32 := BitVec.ofNat 32 (i 2).val
  let c1_i32_106 : BitVec 32 := 1#32
  let v174 : BitVec 32 := Scalar.subi arg2 c1_i32_106
  let c256_i32_107 : BitVec 32 := 256#32
  let v175 : BitVec 32 := Scalar.muli v174 c256_i32_107
  let v176 : BitVec 32 := v175
  let v177 : Index := Scalar.indexCast v176
  let c0_109 : Index := 0#32
  ![0, v177.toNat, 0]
def k0_mult4 (i : grid0.Coords) : BitVec 32 :=
  let arg2 : BitVec 32 := BitVec.ofNat 32 (i 2).val
  let c256_i32 : BitVec 32 := 256#32
  let v27 : BitVec 32 := Scalar.muli arg2 c256_i32
  v27
def k0_off6 (i : grid0.Coords) : Fin 3 → Nat :=
  let c0_20 : Index := 0#32
  let arg2 : BitVec 32 := BitVec.ofNat 32 (i 2).val
  let c256_i32 : BitVec 32 := 256#32
  let v27 : BitVec 32 := Scalar.muli arg2 c256_i32
  let v28 : BitVec 32 := v27
  let v29 : Index := Scalar.indexCast v28
  let c0_21 : Index := 0#32
  ![0, v29.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference6Ideal.lean ====
abbrev S4 : Shape := ⟨1, ![4]⟩
abbrev S8x4096x512 : Shape := ⟨3, ![8, 4096, 512]⟩
abbrev S4x2x256x256 : Shape := ⟨4, ![4, 2, 256, 256]⟩
abbrev S1x64 : Shape := ⟨2, ![1, 64]⟩
abbrev S1x128 : Shape := ⟨2, ![1, 128]⟩
abbrev S8x4096x4x2x64 : Shape := ⟨5, ![8, 4096, 4, 2, 64]⟩
abbrev S8x4096x4x128 : Shape := ⟨4, ![8, 4096, 4, 128]⟩
abbrev S64 : Shape := ⟨1, ![64]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x1x256x256 : Shape := ⟨4, ![4, 1, 256, 256]⟩
abbrev S4x256x256 : Shape := ⟨3, ![4, 256, 256]⟩
abbrev S1x4x1x256x1x256 : Shape := ⟨6, ![1, 4, 1, 256, 1, 256]⟩
abbrev S1x4x16x256x16x256 : Shape := ⟨6, ![1, 4, 16, 256, 16, 256]⟩
abbrev S4x4096x4096 : Shape := ⟨3, ![4, 4096, 4096]⟩
abbrev S4x1x1 : Shape := ⟨3, ![4, 1, 1]⟩
abbrev S8x4x2x4096x4096 : Shape := ⟨5, ![8, 4, 2, 4096, 4096]⟩
abbrev S1x4x1x4096x4096 : Shape := ⟨5, ![1, 4, 1, 4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4x128x4096 : Shape := ⟨4, ![8, 4, 128, 4096]⟩
abbrev S128 : Shape := ⟨1, ![128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 174
  | .vmem => 0
  | .smem => 0
  | _ => 0

abbrev hbmTy0_0 (i : Nat) : BufTy := match i % 128 with
  | 0 => ⟨S4, .f32⟩
  | 1 => ⟨S8x4096x512, .bf16⟩
  | 2 => ⟨S8x4096x512, .bf16⟩
  | 3 => ⟨S8x4096x512, .bf16⟩
  | 4 => ⟨S4x2x256x256, .f32⟩
  | 5 => ⟨S1x64, .f32⟩
  | 6 => ⟨S1x64, .f32⟩
  | 7 => ⟨S1x64, .f32⟩
  | 8 => ⟨S1x64, .f32⟩
  | 9 => ⟨S1x128, .f32⟩
  | 10 => ⟨S8x4096x4x2x64, .bf16⟩
  | 11 => ⟨S8x4096x4x2x64, .f32⟩
  | 12 => ⟨S8x4096x4x2x64, .bf16⟩
  | 13 => ⟨S8x4096x4x2x64, .f32⟩
  | 14 => ⟨S8x4096x4x128, .bf16⟩
  | 15 => ⟨S8x4096x4x128, .f32⟩
  | 16 => ⟨S64, .f32⟩
  | 17 => ⟨S64, .f32⟩
  | 18 => ⟨S64, .f32⟩
  | 19 => ⟨S_, .f32⟩
  | 20 => ⟨S_, .f32⟩
  | 21 => ⟨S_, .f32⟩
  | 22 => ⟨S64, .f32⟩
  | 23 => ⟨S64, .f32⟩
  | 24 => ⟨S64, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S4096, .i32⟩
  | 32 => ⟨S1x4096, .i32⟩
  | 33 => ⟨S_, .i32⟩
  | 34 => ⟨S_, .i32⟩
  | 35 => ⟨S1x4096, .i32⟩
  | 36 => ⟨S1x4096, .i32⟩
  | 37 => ⟨S1x4096, .i32⟩
  | 38 => ⟨S_, .i32⟩
  | 39 => ⟨S1x4096, .i32⟩
  | 40 => ⟨S1x4096, .i1⟩
  | 41 => ⟨S1x4096, .i32⟩
  | 42 => ⟨S1x4096, .i32⟩
  | 43 => ⟨S_, .i32⟩
  | 44 => ⟨S1x4096, .i32⟩
  | 45 => ⟨S1x4096, .i1⟩
  | 46 => ⟨S1x4096, .i1⟩
  | 47 => ⟨S_, .i32⟩
  | 48 => ⟨S1x4096, .i32⟩
  | 49 => ⟨S1x4096, .i32⟩
  | 50 => ⟨S1x4096, .i32⟩
  | 51 => ⟨S4096x1, .i32⟩
  | 52 => ⟨S_, .i32⟩
  | 53 => ⟨S_, .i32⟩
  | 54 => ⟨S4096x1, .i32⟩
  | 55 => ⟨S4096x1, .i32⟩
  | 56 => ⟨S4096x1, .i32⟩
  | 57 => ⟨S_, .i32⟩
  | 58 => ⟨S4096x1, .i32⟩
  | 59 => ⟨S4096x1, .i1⟩
  | 60 => ⟨S4096x1, .i32⟩
  | 61 => ⟨S4096x1, .i32⟩
  | 62 => ⟨S_, .i32⟩
  | 63 => ⟨S4096x1, .i32⟩
  | 64 => ⟨S4096x1, .i1⟩
  | 65 => ⟨S4096x1, .i1⟩
  | 66 => ⟨S_, .i32⟩
  | 67 => ⟨S4096x1, .i32⟩
  | 68 => ⟨S4096x1, .i32⟩
  | 69 => ⟨S4096x1, .i32⟩
  | 70 => ⟨S4096x4096, .i32⟩
  | 71 => ⟨S4096x4096, .i32⟩
  | 72 => ⟨S4096x4096, .i1⟩
  | 73 => ⟨S_, .i32⟩
  | 74 => ⟨S_, .i32⟩
  | 75 => ⟨S4096, .i32⟩
  | 76 => ⟨S4096, .i32⟩
  | 77 => ⟨S4096, .i32⟩
  | 78 => ⟨S_, .i32⟩
  | 79 => ⟨S4096, .i32⟩
  | 80 => ⟨S4096, .i1⟩
  | 81 => ⟨S4096, .i32⟩
  | 82 => ⟨S4096, .i32⟩
  | 83 => ⟨S_, .i32⟩
  | 84 => ⟨S4096, .i32⟩
  | 85 => ⟨S4096, .i1⟩
  | 86 => ⟨S4096, .i1⟩
  | 87 => ⟨S_, .i32⟩
  | 88 => ⟨S4096, .i32⟩
  | 89 => ⟨S4096, .i32⟩
  | 90 => ⟨S4096, .i32⟩
  | 91 => ⟨S4x1x256x256, .f32⟩
  | 92 => ⟨S4x256x256, .f32⟩
  | 93 => ⟨S1x4x1x256x1x256, .f32⟩
  | 94 => ⟨S1x4x16x256x16x256, .f32⟩
  | 95 => ⟨S4x4096x4096, .f32⟩
  | 96 => ⟨S4x1x256x256, .f32⟩
  | 97 => ⟨S4x256x256, .f32⟩
  | 98 => ⟨S1x4x1x256x1x256, .f32⟩
  | 99 => ⟨S1x4x16x256x16x256, .f32⟩
  | 100 => ⟨S4x4096x4096, .f32⟩
  | 101 => ⟨S1x4096, .i32⟩
  | 102 => ⟨S4096x1, .i32⟩
  | 103 => ⟨S4096x4096, .i32⟩
  | 104 => ⟨S4096x4096, .i32⟩
  | 105 => ⟨S4096x4096, .i1⟩
  | 106 => ⟨S1x4096, .i32⟩
  | 107 => ⟨S_, .i32⟩
  | 108 => ⟨S1x4096, .i32⟩
  | 109 => ⟨S1x4096, .i32⟩
  | 110 => ⟨S4096x1, .i32⟩
  | 111 => ⟨S4096x4096, .i32⟩
  | 112 => ⟨S4096x4096, .i32⟩
  | 113 => ⟨S4096x4096, .i1⟩
  | 114 => ⟨S4x1x1, .f32⟩
  | 115 => ⟨S4x4096x4096, .i1⟩
  | 116 => ⟨S4x4096x4096, .f32⟩
  | 117 => ⟨S4x4096x4096, .f32⟩
  | 118 => ⟨S4x4096x4096, .i1⟩
  | 119 => ⟨S4x4096x4096, .f32⟩
  | 120 => ⟨S8x4x2x4096x4096, .f32⟩
  | 121 => ⟨S1x4x1x4096x4096, .f32⟩
  | 122 => ⟨S8x4x2x4096x4096, .f32⟩
  | 123 => ⟨S8x4x2x4096x4096, .f32⟩
  | 124 => ⟨S_, .f32⟩
  | 125 => ⟨S_, .f32⟩
  | 126 => ⟨S8x4x2x4096x4096, .i1⟩
  | 127 => ⟨S8x4x2x4096x4096, .f32⟩
  | _ => ⟨S4, .f32⟩

abbrev hbmTy0_1 (i : Nat) : BufTy := match i % 128 with
  | 0 => ⟨S8x4x2x4096x4096, .f32⟩
  | 1 => ⟨S_, .f32⟩
  | 2 => ⟨S8x4x2x4096, .f32⟩
  | 3 => ⟨S_, .f32⟩
  | 4 => ⟨S8x4x2x4096, .f32⟩
  | 5 => ⟨S8x4x2x4096, .f32⟩
  | 6 => ⟨S8x4x2x4096x1, .f32⟩
  | 7 => ⟨S8x4x2x4096x4096, .f32⟩
  | 8 => ⟨S8x4x2x4096x4096, .f32⟩
  | 9 => ⟨S8x4x2x4096x4096, .f32⟩
  | 10 => ⟨S_, .f32⟩
  | 11 => ⟨S8x4x2x4096, .f32⟩
  | 12 => ⟨S8x4x2x4096x1, .f32⟩
  | 13 => ⟨S8x4x2x4096x4096, .f32⟩
  | 14 => ⟨S8x4x2x4096x4096, .f32⟩
  | 15 => ⟨S8x4x1x4096x4096, .f32⟩
  | 16 => ⟨S8x4x4096x4096, .f32⟩
  | 17 => ⟨S8x4x1x4096x4096, .f32⟩
  | 18 => ⟨S8x4x4096x4096, .f32⟩
  | 19 => ⟨S8x4x4096x4096, .f32⟩
  | 20 => ⟨S8x4x4096x4096, .f32⟩
  | 21 => ⟨S8x4x4096x4096, .f32⟩
  | 22 => ⟨S8x4x128x4096, .f32⟩
  | 23 => ⟨S8x4096x4x128, .f32⟩
  | 24 => ⟨S128, .f32⟩
  | 25 => ⟨S8x4096x4x128, .f32⟩
  | 26 => ⟨S_, .f32⟩
  | 27 => ⟨S8x4096x4, .f32⟩
  | 28 => ⟨S8x4096x4x1, .f32⟩
  | 29 => ⟨S_, .f32⟩
  | 30 => ⟨S8x4096x4x1, .f32⟩
  | 31 => ⟨S8x4096x4x1, .f32⟩
  | 32 => ⟨S_, .f32⟩
  | 33 => ⟨S8x4096x4x1, .f32⟩
  | 34 => ⟨S8x4096x4x1, .f32⟩
  | 35 => ⟨S8x4096x4x1, .f32⟩
  | 36 => ⟨S8x4096x4x128, .f32⟩
  | 37 => ⟨S8x4096x4x128, .f32⟩
  | 38 => ⟨S1x1x1x128, .f32⟩
  | 39 => ⟨S8x4096x4x128, .f32⟩
  | 40 => ⟨S8x4096x4x128, .f32⟩
  | 41 => ⟨S_, .f32⟩
  | 42 => ⟨S8x4096x4x128, .f32⟩
  | 43 => ⟨S8x4096x4x128, .f32⟩
  | 44 => ⟨S8x4096x512, .f32⟩
  | 45 => ⟨S8x4096x512, .bf16⟩
  | _ => ⟨S4, .f32⟩

abbrev hbmTy (i : Nat) : BufTy := match i / 128 with
  | 0 => hbmTy0_0 i
  | 1 => hbmTy0_1 i
  | _ => ⟨S4, .f32⟩

abbrev bufTy : (tb : Table) → Fin (tcTables nBuf tb) → BufTy
  | .hbm, ⟨i, _⟩ => hbmTy i
  | _, _ => ⟨S4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v20 : Ref sig .tc := ⟨.hbm, 50, rfl⟩
abbrev main_v21 : Ref sig .tc := ⟨.hbm, 51, rfl⟩
abbrev main_c_2 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_c_3 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_c : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_0 : Ref sig .tc := ⟨.hbm, 87, rfl⟩
abbrev main_call2_v12 : Ref sig .tc := ⟨.hbm, 88, rfl⟩
abbrev main_call2_v13 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_c_4 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_call3_v0 : Ref sig .tc := ⟨.hbm, 115, rfl⟩
abbrev main_call3_v1 : Ref sig .tc := ⟨.hbm, 116, rfl⟩
abbrev main_v50 : Ref sig .tc := ⟨.hbm, 117, rfl⟩
abbrev main_call4_v0 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_cst_5 : Ref sig .tc := ⟨.hbm, 124, rfl⟩
abbrev main_call5_v0 : Ref sig .tc := ⟨.hbm, 125, rfl⟩
abbrev main_call5_v1 : Ref sig .tc := ⟨.hbm, 126, rfl⟩
abbrev main_call5_v2 : Ref sig .tc := ⟨.hbm, 127, rfl⟩
abbrev main_v56 : Ref sig .tc := ⟨.hbm, 128, rfl⟩
abbrev main_cst_6 : Ref sig .tc := ⟨.hbm, 129, rfl⟩
abbrev main_v57 : Ref sig .tc := ⟨.hbm, 130, rfl⟩
abbrev main_cst_7 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_cst_8 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_cst_9 : Ref sig .tc := ⟨.hbm, 154, rfl⟩
abbrev main_v79 : Ref sig .tc := ⟨.hbm, 155, rfl⟩
abbrev main_v80 : Ref sig .tc := ⟨.hbm, 156, rfl⟩
abbrev main_cst_10 : Ref sig .tc := ⟨.hbm, 157, rfl⟩
abbrev main_v81 : Ref sig .tc := ⟨.hbm, 158, rfl⟩
abbrev main_v82 : Ref sig .tc := ⟨.hbm, 159, rfl⟩
abbrev main_cst_11 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_12 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩

abbrev nD : Nat := 1
abbrev τ : Topo := Topo.v7x

variable {F : FTy → Type} [FloatOps F]
-- ==== Proof.Online.lean ====
/- The mathematics of a softmax taken tile by tile, over the extended reals: a running maximum, a running sum of
   exponentials and a running weighted sum, each rescaled when the maximum moves. -/
module

public import Idealize.ShloMosaic.Lib.Pointwise

@[expose] public section

noncomputable section

namespace Cert.Proof.Online

open Idealize.ShloMosaic

/-- An exponential is not negative. -/
theorem exp_nonneg (x : EReal) : 0 ≤ Ideal.exp x := by
  induction x with
  | bot => exact le_refl _
  | top => exact le_top
  | coe r => exact EReal.coe_nonneg.mpr (Real.exp_nonneg r)

/-- The exponential of anything but plus infinity is not plus infinity. -/
theorem exp_ne_top {x : EReal} (h : x ≠ ⊤) : Ideal.exp x ≠ ⊤ := by
  induction x with
  | bot => exact EReal.zero_ne_top
  | top => exact absurd rfl h
  | coe r => exact EReal.coe_ne_top _

/-- A difference of two extended reals in order is not plus infinity. -/
theorem sub_ne_top {s m : EReal} (h : s ≤ m) : s - m ≠ ⊤ := by
  induction m with
  | bot => rw [le_bot_iff.mp h]; decide
  | top => rw [EReal.sub_top]; exact bot_ne_top
  | coe m =>
    induction s with
    | bot => rw [EReal.bot_sub]; exact bot_ne_top
    | top => exact absurd (top_le_iff.mp h) (EReal.coe_ne_top m)
    | coe s => rw [← EReal.coe_sub]; exact EReal.coe_ne_top _

/-- Moving an exponential from one upper bound of its score to a larger one is a multiplication by the exponential of the
    bounds' difference, in every corner of the extended reals. -/
theorem exp_move {s m m' : EReal} (h : s ≤ m) (h' : m ≤ m') :
    Ideal.exp (m - m') * Ideal.exp (s - m) = Ideal.exp (s - m') := by
  have e0 : Ideal.exp ⊥ = 0 := rfl
  induction s with
  | bot => rw [EReal.bot_sub, EReal.bot_sub, e0, mul_zero]
  | top =>
    have hm : m = ⊤ := top_le_iff.mp h
    subst hm
    have hm' : m' = ⊤ := top_le_iff.mp h'
    subst hm'
    rw [EReal.sub_top, e0, zero_mul]
  | coe s =>
    induction m' with
    | bot => exact absurd (le_bot_iff.mp (h.trans h')) (EReal.coe_ne_bot s)
    | top => rw [EReal.sub_top, EReal.sub_top, e0, zero_mul]
    | coe m' =>
      induction m with
      | bot => exact absurd (le_bot_iff.mp h) (EReal.coe_ne_bot s)
      | top => exact absurd (top_le_iff.mp h') (EReal.coe_ne_top m')
      | coe m =>
        show ((Real.exp (m - m') : ℝ) : EReal) * ((Real.exp (s - m) : ℝ) : EReal) = ((Real.exp (s - m') : ℝ) : EReal)
        rw [← EReal.coe_mul, ← Real.exp_add]
        congr 2
        ring

/-- A finite factor that is not negative goes into a sum of any extended reals. -/
theorem mul_sum {ι : Type} {a : EReal} (h : 0 ≤ a) (h' : a ≠ ⊤) (K : Finset ι) (f : ι → EReal) :
    a * ∑ k ∈ K, f k = ∑ k ∈ K, a * f k := by
  classical
  induction K using Finset.induction_on with
  | empty => simp
  | insert k K hk ih =>
    rw [Finset.sum_insert hk, Finset.sum_insert hk, EReal.left_distrib_of_nonneg_of_ne_top h h', ih]

/-- The weighted sum of exponentials moves to a larger upper bound of its scores by one multiplication. -/
theorem rescale {ι : Type} (K : Finset ι) (s w : ι → EReal) {m m' : EReal} (h : ∀ k ∈ K, s k ≤ m) (h' : m ≤ m') :
    Ideal.exp (m - m') * ∑ k ∈ K, Ideal.exp (s k - m) * w k = ∑ k ∈ K, Ideal.exp (s k - m') * w k := by
  rw [mul_sum (exp_nonneg _) (exp_ne_top (sub_ne_top h'))]
  refine Finset.sum_congr rfl fun k hk => ?_
  rw [← mul_assoc, exp_move (h k hk) h']

/-- The same without weights. -/
theorem rescale_one {ι : Type} (K : Finset ι) (s : ι → EReal) {m m' : EReal} (h : ∀ k ∈ K, s k ≤ m) (h' : m ≤ m') :
    Ideal.exp (m - m') * ∑ k ∈ K, Ideal.exp (s k - m) = ∑ k ∈ K, Ideal.exp (s k - m') := by
  have := rescale K s (fun _ => 1) h h'
  simpa only [mul_one] using this

/-- The running maximum over the first `N` keys. -/
def mx (s : ℕ → EReal) (N : ℕ) : EReal := (Finset.range N).sup s

/-- The running sum of exponentials over the first `N` keys. -/
def den (s : ℕ → EReal) (N : ℕ) : EReal := ∑ k ∈ Finset.range N, Ideal.exp (s k - mx s N)

/-- The running weighted sum over the first `N` keys. -/
def num (s w : ℕ → EReal) (N : ℕ) : EReal := ∑ k ∈ Finset.range N, Ideal.exp (s k - mx s N) * w k

theorem le_mx (s : ℕ → EReal) {N k : ℕ} (h : k < N) : s k ≤ mx s N := Finset.le_sup (f := s) (Finset.mem_range.mpr h)

theorem mx_mono (s : ℕ → EReal) {N M : ℕ} (h : N ≤ M) : mx s N ≤ mx s M :=
  Finset.sup_mono (Finset.range_mono h)

theorem mx_zero (s : ℕ → EReal) : mx s 0 = ⊥ := rfl
theorem den_zero (s : ℕ → EReal) : den s 0 = 0 := by simp [den]
theorem num_zero (s w : ℕ → EReal) : num s w 0 = 0 := by simp [num]

/-- A maximum folded over a tile from minus infinity is the tile's supremum. -/
theorem fold_max_eq {ι : Type} (K : Finset ι) (f : ι → EReal) : Finset.fold max ⊥ f K = K.sup f := rfl

/-- The maximum after one more tile. -/
theorem mx_add (s : ℕ → EReal) (N n : ℕ) :
    max (mx s N) (Finset.fold max ⊥ (fun k : Fin n => s (N + k.val)) Finset.univ) = mx s (N + n) := by
  rw [fold_max_eq]
  apply le_antisymm
  · refine max_le (mx_mono s (Nat.le_add_right N n)) (Finset.sup_le fun k _ => le_mx s ?_)
    have := k.isLt
    omega
  · refine Finset.sup_le fun k hk => ?_
    have hk' := Finset.mem_range.mp hk
    by_cases h : k < N
    · exact (le_mx s h).trans (le_max_left _ _)
    · refine le_trans ?_ (le_max_right _ _)
      have := Finset.le_sup (f := fun k : Fin n => s (N + k.val)) (Finset.mem_univ (⟨k - N, by omega⟩ : Fin n))
      have e : N + (k - N) = k := by omega
      simpa only [e] using this

/-- The sum of exponentials after one more tile: the old one rescaled, and the tile's. -/
theorem den_add (s : ℕ → EReal) (N n : ℕ) :
    Ideal.exp (mx s N - mx s (N + n)) * den s N + ∑ k : Fin n, Ideal.exp (s (N + k.val) - mx s (N + n)) = den s (N + n) := by
  unfold den
  rw [rescale_one _ _ (fun k hk => le_mx s (Finset.mem_range.mp hk)) (mx_mono s (Nat.le_add_right N n)),
    Finset.sum_range_add, ← Finset.sum_range (fun k => Ideal.exp (s (N + k) - mx s (N + n)))]

/-- The weighted sum after one more tile: the old one rescaled, and the tile's. -/
theorem num_add (s w : ℕ → EReal) (N n : ℕ) :
    Ideal.exp (mx s N - mx s (N + n)) * num s w N + ∑ k : Fin n, Ideal.exp (s (N + k.val) - mx s (N + n)) * w (N + k.val)
      = num s w (N + n) := by
  unfold num
  rw [rescale _ _ _ (fun k hk => le_mx s (Finset.mem_range.mp hk)) (mx_mono s (Nat.le_add_right N n)),
    Finset.sum_range_add, ← Finset.sum_range (fun k => Ideal.exp (s (N + k) - mx s (N + n)) * w (N + k))]

/-- Keys whose score is minus infinity change nothing: the maximum. -/
theorem mx_extend (s : ℕ → EReal) {N M : ℕ} (h : N ≤ M) (hs : ∀ k, N ≤ k → k < M → s k = ⊥) : mx s M = mx s N := by
  refine le_antisymm (Finset.sup_le fun k hk => ?_) (mx_mono s h)
  by_cases hk' : k < N
  · exact le_mx s hk'
  · rw [hs k (by omega) (Finset.mem_range.mp hk)]; exact bot_le

/-- Keys whose score is minus infinity change nothing: the weighted sum. -/
theorem num_extend (s w : ℕ → EReal) {N M : ℕ} (h : N ≤ M) (hs : ∀ k, N ≤ k → k < M → s k = ⊥) : num s w M = num s w N := by
  unfold num
  rw [mx_extend s h hs]
  symm
  refine Finset.sum_subset (Finset.range_mono h) fun k hk hk' => ?_
  rw [hs k (by simpa using hk') (Finset.mem_range.mp hk), EReal.bot_sub]
  exact zero_mul _

/-- Keys whose score is minus infinity change nothing: the sum of exponentials. -/
theorem den_extend (s : ℕ → EReal) {N M : ℕ} (h : N ≤ M) (hs : ∀ k, N ≤ k → k < M → s k = ⊥) : den s M = den s N := by
  have := num_extend s (fun _ => 1) h hs
  simpa only [num, den, mul_one] using this

/-- The running maximum looks at the first keys alone. -/
theorem mx_congr {s s' : ℕ → EReal} {N : ℕ} (h : ∀ k, k < N → s k = s' k) : mx s N = mx s' N :=
  Finset.sup_congr rfl fun k hk => h k (Finset.mem_range.mp hk)

/-- So do the running sum … -/
theorem den_congr {s s' : ℕ → EReal} {N : ℕ} (h : ∀ k, k < N → s k = s' k) : den s N = den s' N := by
  unfold den
  rw [mx_congr h]
  exact Finset.sum_congr rfl fun k hk => by rw [h k (Finset.mem_range.mp hk)]

/-- … and the running weighted sum. -/
theorem num_congr {s s' w w' : ℕ → EReal} {N : ℕ} (h : ∀ k, k < N → s k = s' k) (hw : ∀ k, k < N → w k = w' k) :
    num s w N = num s' w' N := by
  unfold num
  rw [mx_congr h]
  exact Finset.sum_congr rfl fun k hk => by rw [h k (Finset.mem_range.mp hk), hw k (Finset.mem_range.mp hk)]

/-- A sum over the first `N` numbers is one over the finite type. -/
theorem den_fin (s : ℕ → EReal) (N : ℕ) : den s N = ∑ k : Fin N, Ideal.exp (s k.val - mx s N) :=
  Finset.sum_range fun k => Ideal.exp (s k - mx s N)

theorem num_fin (s w : ℕ → EReal) (N : ℕ) : num s w N = ∑ k : Fin N, Ideal.exp (s k.val - mx s N) * w k.val :=
  Finset.sum_range fun k => Ideal.exp (s k - mx s N) * w k

theorem mx_fin (s : ℕ → EReal) (N : ℕ) : Finset.fold max ⊥ (fun k : Fin N => s k.val) Finset.univ = mx s N := by
  have := mx_add s 0 N
  simp only [mx_zero, Nat.zero_add] at this
  rw [← this, max_eq_right bot_le]

/-- With one score that is not minus infinity and none that is plus infinity, the maximum is a real number. -/
theorem mx_real (s : ℕ → EReal) {N k₀ : ℕ} (h₀ : k₀ < N) (hb : s k₀ ≠ ⊥) (ht : ∀ k, k < N → s k ≠ ⊤) :
    mx s N ≠ ⊥ ∧ mx s N ≠ ⊤ := by
  constructor
  · intro e
    exact hb (le_bot_iff.mp (e ▸ le_mx s h₀))
  · have : mx s N < ⊤ := (Finset.sup_lt_iff (by decide)).mpr fun k hk => lt_top_iff_ne_top.mpr (ht k (Finset.mem_range.mp hk))
    exact this.ne

/-- … and the sum of exponentials is a positive real number. -/
theorem den_real (s : ℕ → EReal) {N k₀ : ℕ} (h₀ : k₀ < N) (hb : s k₀ ≠ ⊥) (ht : ∀ k, k < N → s k ≠ ⊤) :
    0 < den s N ∧ den s N ≠ ⊤ := by
  obtain ⟨mb, mt⟩ := mx_real s h₀ hb ht
  unfold den
  constructor
  · refine lt_of_lt_of_le ?_ (Finset.single_le_sum (f := fun k => Ideal.exp (s k - mx s N)) (fun k _ => exp_nonneg _) (Finset.mem_range.mpr h₀))
    have ht' := ht k₀ h₀
    generalize s k₀ = a at *
    generalize mx s N = b at *
    lift a to ℝ using ⟨ht', hb⟩
    lift b to ℝ using ⟨mt, mb⟩
    exact EReal.coe_pos.mpr (Real.exp_pos (a - b))
  · have : ∀ K : Finset ℕ, (∀ k ∈ K, k < N) → ∑ k ∈ K, Ideal.exp (s k - mx s N) ≠ ⊤ := by
      intro K
      induction K using Finset.induction_on with
      | empty => intro _; simp
      | insert k K hk ih =>
        intro hK
        rw [Finset.sum_insert hk]
        refine (EReal.add_lt_top (exp_ne_top (sub_ne_top (le_mx s (hK k (Finset.mem_insert_self _ _))))) (ih fun j hj => hK j (Finset.mem_insert_of_mem hj))).ne
    exact this _ fun k hk => Finset.mem_range.mp hk

/-- THE SOFTMAX: dividing the weighted sum by the sum of exponentials is weighting with the quotients, where the
    denominator is a positive real number. -/
theorem div_sum {ι : Type} [Fintype ι] (p w : ι → EReal) {d : EReal} (h : 0 < d) (h' : d ≠ ⊤) :
    Ideal.div (∑ k, p k * w k) d = ∑ k, Ideal.div (p k) d * w k := by
  have hd : d ≠ 0 := h.ne'
  have hi : 0 ≤ d⁻¹ := EReal.inv_nonneg_of_nonneg h.le
  have ht : d⁻¹ ≠ ⊤ := by
    lift d to ℝ using ⟨h', (bot_lt_iff_ne_bot.mp (lt_of_le_of_lt bot_le h))⟩
    rw [← EReal.coe_inv]; exact EReal.coe_ne_top _
  unfold Ideal.div
  simp only [if_neg hd]
  rw [mul_comm, mul_sum hi ht]
  refine Finset.sum_congr rfl fun k _ => ?_
  rw [← mul_assoc, mul_comm d⁻¹]

/-- A real shift of a score is the opposite shift of the maximum. -/
theorem sub_shift {c : EReal} (h : c ≠ ⊥) (h' : c ≠ ⊤) (s m : EReal) : s - (m - c) = s + c - m := by
  lift c to ℝ using ⟨h', h⟩
  induction m with
  | bot =>
    rw [EReal.bot_sub]
    induction s with
    | bot => rfl
    | top => rfl
    | coe s => rfl
  | top => rw [EReal.top_sub_coe, EReal.sub_top, EReal.sub_top]
  | coe m =>
    induction s with
    | bot => rw [EReal.bot_add, EReal.bot_sub, EReal.bot_sub]
    | top => rw [EReal.top_add_coe, EReal.top_sub_coe, ← EReal.coe_sub, EReal.top_sub_coe]
    | coe s => norm_cast; ring

/-- A running weighted sum over tiles of 256 keys of scores `b` shifted by `c`, kept by a loop that takes the shift off the
    maximum instead of adding it to the scores. -/
def run (c : EReal) (b w : ℕ → EReal) : ℕ → EReal
  | 0 => 0
  | n + 1 => Ideal.exp (mx (fun κ => b κ + c) (256 * n) - mx (fun κ => b κ + c) (256 * n + 256)) * run c b w n
      + ∑ κ : Fin 256, Ideal.exp (b (256 * n + κ.val) - (mx (fun κ => b κ + c) (256 * n + 256) - c)) * w (256 * n + κ.val)

/-- One more tile of it. -/
theorem run_succ (c : EReal) (b w : ℕ → EReal) (n : ℕ) :
    Ideal.exp (mx (fun κ => b κ + c) (256 * n) - max (mx (fun κ => b κ + c) (256 * n)) (Finset.fold max ⊥ (fun κ : Fin 256 => b (256 * n + κ.val) + c) Finset.univ)) * run c b w n
      + ∑ κ : Fin 256, Ideal.exp (b (256 * n + κ.val) - (max (mx (fun κ => b κ + c) (256 * n)) (Finset.fold max ⊥ (fun κ : Fin 256 => b (256 * n + κ.val) + c) Finset.univ) - c)) * w (256 * n + κ.val)
      = run c b w (n + 1) := by
  rw [mx_add (fun κ => b κ + c) (256 * n) 256]
  rfl

/-- The same without weights. -/
theorem run_succ_one (c : EReal) (b : ℕ → EReal) (n : ℕ) :
    Ideal.exp (mx (fun κ => b κ + c) (256 * n) - max (mx (fun κ => b κ + c) (256 * n)) (Finset.fold max ⊥ (fun κ : Fin 256 => b (256 * n + κ.val) + c) Finset.univ)) * run c b (fun _ => 1) n
      + ∑ κ : Fin 256, Ideal.exp (b (256 * n + κ.val) - (max (mx (fun κ => b κ + c) (256 * n)) (Finset.fold max ⊥ (fun κ : Fin 256 => b (256 * n + κ.val) + c) Finset.univ) - c))
      = run c b (fun _ => 1) (n + 1) := by
  simpa only [mul_one] using run_succ c b (fun _ => 1) n

/-- Under a real shift it is the weighted sum of the shifted scores. -/
theorem run_real {c : EReal} (h : c ≠ ⊥) (h' : c ≠ ⊤) (b w : ℕ → EReal) (n : ℕ) : run c b w n = num (fun κ => b κ + c) w (256 * n) := by
  induction n with
  | zero => rw [Nat.mul_zero, num_zero]; rfl
  | succ n ih =>
    rw [Nat.mul_succ, ← num_add, ← ih]
    simp only [← sub_shift h h']
    rfl

/-- The maximum of scores under an infinite shift is infinite. -/
theorem mx_shift {c : EReal} (h : c = ⊥ ∨ c = ⊤) (b : ℕ → EReal) (N : ℕ) : mx (fun κ => b κ + c) N = ⊥ ∨ mx (fun κ => b κ + c) N = ⊤ := by
  have key : ∀ κ, b κ + c = ⊥ ∨ b κ + c = ⊤ := by
    intro κ
    rcases h with rfl | rfl
    · exact Or.inl (EReal.add_bot _)
    · by_cases hb : b κ = ⊥
      · rw [hb, EReal.bot_add]; exact Or.inl rfl
      · exact Or.inr (EReal.add_top_of_ne_bot hb)
  by_cases ht : ∃ κ, κ < N ∧ b κ + c = ⊤
  · obtain ⟨κ, hκ, e⟩ := ht
    exact Or.inr (top_le_iff.mp (e ▸ le_mx (fun κ => b κ + c) hκ))
  · refine Or.inl (le_bot_iff.mp (Finset.sup_le fun κ hκ => ?_))
    exact ((key κ).resolve_right fun e => ht ⟨κ, Finset.mem_range.mp hκ, e⟩).le

/-- Whatever the shift, moved to a larger maximum it is the weighted sum of the shifted scores: an infinite shift makes the
    maximum infinite, which makes the move a multiplication by zero. -/
theorem run_move (c : EReal) (b w : ℕ → EReal) (n : ℕ) {m' : EReal} (h : mx (fun κ => b κ + c) (256 * n) ≤ m') :
    Ideal.exp (mx (fun κ => b κ + c) (256 * n) - m') * run c b w n
      = Ideal.exp (mx (fun κ => b κ + c) (256 * n) - m') * num (fun κ => b κ + c) w (256 * n) := by
  by_cases hc : c = ⊥ ∨ c = ⊤
  · have e0 : Ideal.exp (mx (fun κ => b κ + c) (256 * n) - m') = 0 := by
      rcases mx_shift hc b (256 * n) with e | e
      · rw [e, EReal.bot_sub]; rfl
      · rw [e] at h ⊢
        rw [top_le_iff.mp h]; rfl
    rw [e0, zero_mul, zero_mul]
  · rw [run_real (fun e => hc (Or.inl e)) (fun e => hc (Or.inr e))]

/-- The tile after the loop: its weighted sum, and the loop's moved to the new maximum, are the weighted sum of all. -/
theorem num_add_run {c : EReal} {b : ℕ → EReal} (s w : ℕ → EReal) (n : ℕ) (h : ∀ κ, κ < 256 * n → s κ = b κ + c) :
    Ideal.exp (mx s (256 * n) - mx s (256 * n + 256)) * run c b w n + ∑ k : Fin 256, Ideal.exp (s (256 * n + k.val) - mx s (256 * n + 256)) * w (256 * n + k.val)
      = num s w (256 * n + 256) := by
  have hm := mx_congr h
  have hle := mx_mono s (Nat.le_add_right (256 * n) 256)
  rw [← num_add]
  congr 1
  rw [num_congr h (fun k _ => rfl), hm]
  exact run_move c b w n (hm ▸ hle)

/-- The same for the sum of exponentials. -/
theorem den_add_run {c : EReal} {b : ℕ → EReal} (s : ℕ → EReal) (n : ℕ) (h : ∀ κ, κ < 256 * n → s κ = b κ + c) :
    Ideal.exp (mx s (256 * n) - mx s (256 * n + 256)) * run c b (fun _ => 1) n + ∑ k : Fin 256, Ideal.exp (s (256 * n + k.val) - mx s (256 * n + 256))
      = den s (256 * n + 256) := by
  have := num_add_run s (fun _ => 1) n h
  simpa only [num, den, mul_one] using this

/-- A loop of no trips leaves the empty sums. -/
theorem run_none {c : EReal} {b s w : ℕ → EReal} {n : ℕ} (h : n = 0) : run c b w n = num s w (256 * n) ∧ run c b w n = den s (256 * n) := by
  subst h
  rw [Nat.mul_zero, num_zero, den_zero]
  exact ⟨rfl, rfl⟩

end Cert.Proof.Online

end
-- ==== Proof.Trip.lean ====
/- One tile of the attention: what a trip of the loop over the tiles left of the diagonal leaves in the running maximum,
   the running sum and the running weighted sum, at every index. -/
module

public import proofs.«01_k».proof.Proof.Gen.KernelIdeal.Value
public import proofs.«01_k».proof.Proof.Online
public import Idealize.ShloMosaic.Lib.Pointwise
public import Idealize.ShloMosaic.Lib.VecWindow

@[expose] public section

noncomputable section

namespace Cert.Proof

open Idealize.ShloMosaic Idealize.ShloMosaic.TcCoe Idealize.SL.Sem
open Cert.KernelIdeal Cert.KernelIdeal.Gen

set_option maxRecDepth 20000

/-- The loop over the tiles left of the diagonal makes one trip per query tile before this one. -/
theorem trips1 (i : grid0.Coords) : Scf.trips (k0_t1_loop i).lb (k0_t1_loop i).ub (k0_t1_loop i).st = (i 2).val := by
  unfold k0_t1_loop
  generalize i 2 = n
  revert n
  decide +kernel

/-- The loop's remainder makes no trip. -/
theorem trips2 (i : grid0.Coords) : Scf.trips (k0_t2_loop i).lb (k0_t2_loop i).ub (k0_t2_loop i).st = 0 := by
  unfold k0_t2_loop
  generalize i 2 = n
  revert n
  decide +kernel

theorem trips1_lt (i : grid0.Coords) : (k0_t1_loop i).trips < 16 := by
  have e : (k0_t1_loop i).trips = (i 2).val := trips1 i
  have h : (i 2).val < 16 := (i 2).isLt
  omega

/-- The loop counter's word, times the tile's rows, is that number. -/
theorem word1 (k : ℕ) (h : k < 16) :
    BitVec.toNat (Scalar.indexCast (Scalar.muli (Scf.iv 0#32 1#32 k) 256#32)) = 256 * k := by
  interval_cases k <;> rfl

/-- A window put over the first half of a buffer, read in the first half. -/
theorem put_low {α : Type} {n : ℕ} (x : (⟨3, ![2, 256, n]⟩ : Shape).Idx → α) (w : ((a : Fin 3) → Fin (![1, 256, n] a)) → α)
    (r : Fin 256) (c : Fin n) :
    VecWindow.put (s := ⟨3, ![2, 256, n]⟩) x ![0, 0, 0] ![1, 256, n] w (ix3 0 r c) = w (ix3 (n0 := 1) 0 r c) := by
  unfold VecWindow.put
  rw [dif_pos (by intro a; match a with | 0 => exact ⟨Nat.zero_le _, Nat.one_pos⟩ | 1 => exact ⟨Nat.zero_le _, by have := r.isLt; show r.val < 0 + 256; omega⟩ | 2 => exact ⟨Nat.zero_le _, by have := c.isLt; show c.val < 0 + n; omega⟩)]
  refine congrArg w (funext fun a => ?_)
  match a with | 0 => rfl | 1 => rfl | 2 => rfl

/-- A window put over the second half of a buffer, read in the second half. -/
theorem put_high {α : Type} {n : ℕ} (x : (⟨3, ![2, 256, n]⟩ : Shape).Idx → α) (w : ((a : Fin 3) → Fin (![1, 256, n] a)) → α)
    (r : Fin 256) (c : Fin n) :
    VecWindow.put (s := ⟨3, ![2, 256, n]⟩) x ![1, 0, 0] ![1, 256, n] w (ix3 1 r c) = w (ix3 (n0 := 1) 0 r c) := by
  unfold VecWindow.put
  rw [dif_pos (by intro a; match a with | 0 => exact ⟨Nat.le_refl _, Nat.lt_succ_self _⟩ | 1 => exact ⟨Nat.zero_le _, by have := r.isLt; show r.val < 0 + 256; omega⟩ | 2 => exact ⟨Nat.zero_le _, by have := c.isLt; show c.val < 0 + n; omega⟩)]
  refine congrArg w (funext fun a => ?_)
  match a with | 0 => rfl | 1 => rfl | 2 => rfl

/-- A window put over the second half of a buffer leaves the first half. -/
theorem put_other {α : Type} {n : ℕ} (x : (⟨3, ![2, 256, n]⟩ : Shape).Idx → α) (w : ((a : Fin 3) → Fin (![1, 256, n] a)) → α)
    (r : Fin 256) (c : Fin n) :
    VecWindow.put (s := ⟨3, ![2, 256, n]⟩) x ![1, 0, 0] ![1, 256, n] w (ix3 0 r c) = x (ix3 0 r c) := by
  unfold VecWindow.put
  rw [dif_neg (fun h => by have := (h 0).1; exact absurd (show (1 : ℕ) ≤ 0 from this) (by decide))]

/-- Minus infinity's bits are minus infinity. -/
theorem neg_inf : Ideal.ofBits .f32 4286578688#32 = ⊥ := by
  simp [Ideal.ofBits, Ideal.ieee]

/-- The score of a query row against a key: the inner product over the head's 128 lanes, scaled; lane `128 h + d` of the pair's
    block belongs to the pair's head `h`. Past the last key it is minus infinity. -/
def score (x0 : Vec Ideal S1x256x256 .bf16) (x1 : Vec Ideal S1x4096x256 .bf16) (h : Fin 2) (r : Fin 256) (κ : ℕ) : EReal :=
  if hκ : κ < 4096 then
    (∑ d : Fin 128, x0 (ix3 0 r ⟨128 * h.val + d.val, by omega⟩) * x1 (ix3 0 ⟨κ, hκ⟩ ⟨128 * h.val + d.val, by omega⟩))
      * Ideal.ofBits .f32 1037108716#32
  else ⊥

/-- The value of a key, at a lane of the pair's block. -/
def value (x2 : Vec Ideal S1x4096x128 .bf16) (d : Fin 128) (κ : ℕ) : EReal :=
  if hκ : κ < 4096 then x2 (ix3 0 ⟨κ, hκ⟩ d) else 0

variable (𝒱 : Variants) (c : Dev nD) (bd : Option 𝒱.V) (i : grid0.Coords) (arg3 : Memref sig .tc .vmem S1x256x256 .bf16) (harg3 : arg3.IsWhole) (arg4 : Memref sig .tc .vmem S1x4096x256 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S2x256x1 .f32) (harg7 : arg7.IsWhole) (arg8 : Memref sig .tc .vmem S2x256x1 .f32) (harg8 : arg8.IsWhole) (arg9 : Memref sig .tc .vmem S2x256x128 .f32) (harg9 : arg9.IsWhole)
    (x0 : Vec Ideal S1x256x256 .bf16) (x1 : Vec Ideal S1x4096x256 .bf16) (x2 : Vec Ideal S1x4096x128 .bf16)
    (k : Fin (k0_t1_loop i).trips) (f7 : BufTy.Contents (Elt Ideal) arg7.view.ty) (f8 : BufTy.Contents (Elt Ideal) arg8.view.ty) (f9 : BufTy.Contents (Elt Ideal) arg9.view.ty)

/-- A trip's new maximum, for the pair's head 0. -/
theorem trip_m0 (r : Fin 256) :
    arg7.view.read (Elt Ideal) (arg7.view.writes (Elt Ideal) f7 (tripL_k0_t1 (F := Ideal) 𝒱 c bd i arg3 harg3 arg4 harg4 arg5 harg5 arg6 harg6 arg7 harg7 arg8 harg8 arg9 harg9 (harg3.unread x0) (harg4.unread x1) (harg5.unread x2) k f7 f8 f9).1) (ix3 0 r 0)
      = max (arg7.view.read (Elt Ideal) f7 (ix3 0 r 0)) (Finset.fold max ⊥ (fun κ : Fin 256 => score x0 x1 0 r (256 * k.val + κ.val)) Finset.univ) := by
  have hk : k.val < 16 := k.isLt.trans (trips1_lt i)
  have hw := word1 k.val hk
  unfold tripL_k0_t1
  unfold trip_k0_t1
  dsimp only
  rw [View.read_writes_cons_put _ _ _ _ _ rfl, View.read_writes_cons_put _ _ _ _ _ rfl]
  erw [put_other, put_low]
  have hs : ∀ κ : Fin 256, 256 * k.val + κ.val < 4096 := fun κ => by omega
  simp only [score, value, hs, dif_pos]
  sl_unfold_words
  simp only [View.readAt_eq_ld, harg3.read_unread, harg4.read_unread, harg5.read_unread]
  unfold_payloads
  pointwise []
  simp only [hw, neg_inf]
  try rfl

/-- A trip's new maximum, for the pair's head 1. -/
theorem trip_m1 (r : Fin 256) :
    arg7.view.read (Elt Ideal) (arg7.view.writes (Elt Ideal) f7 (tripL_k0_t1 (F := Ideal) 𝒱 c bd i arg3 harg3 arg4 harg4 arg5 harg5 arg6 harg6 arg7 harg7 arg8 harg8 arg9 harg9 (harg3.unread x0) (harg4.unread x1) (harg5.unread x2) k f7 f8 f9).1) (ix3 1 r 0)
      = max (arg7.view.read (Elt Ideal) f7 (ix3 1 r 0)) (Finset.fold max ⊥ (fun κ : Fin 256 => score x0 x1 1 r (256 * k.val + κ.val)) Finset.univ) := by
  have hk : k.val < 16 := k.isLt.trans (trips1_lt i)
  have hw := word1 k.val hk
  unfold tripL_k0_t1
  unfold trip_k0_t1
  dsimp only
  rw [View.read_writes_cons_put _ _ _ _ _ rfl, View.read_writes_cons_put _ _ _ _ _ rfl]
  erw [put_high]
  have hs : ∀ κ : Fin 256, 256 * k.val + κ.val < 4096 := fun κ => by omega
  simp only [score, value, hs, dif_pos]
  sl_unfold_words
  simp only [View.readAt_eq_ld, harg3.read_unread, harg4.read_unread, harg5.read_unread]
  unfold_payloads
  pointwise []
  simp only [hw, neg_inf]
  try rfl

/-- A trip's new sum, for the pair's head 0. -/
theorem trip_l0 (r : Fin 256) :
    arg8.view.read (Elt Ideal) (arg8.view.writes (Elt Ideal) f8 (tripL_k0_t1 (F := Ideal) 𝒱 c bd i arg3 harg3 arg4 harg4 arg5 harg5 arg6 harg6 arg7 harg7 arg8 harg8 arg9 harg9 (harg3.unread x0) (harg4.unread x1) (harg5.unread x2) k f7 f8 f9).2.1) (ix3 0 r 0)
      = Ideal.exp (arg7.view.read (Elt Ideal) f7 (ix3 0 r 0) - max (arg7.view.read (Elt Ideal) f7 (ix3 0 r 0)) (Finset.fold max ⊥ (fun κ : Fin 256 => score x0 x1 0 r (256 * k.val + κ.val)) Finset.univ)) * arg8.view.read (Elt Ideal) f8 (ix3 0 r 0)
        + ∑ κ : Fin 256, Ideal.exp (score x0 x1 0 r (256 * k.val + κ.val) - max (arg7.view.read (Elt Ideal) f7 (ix3 0 r 0)) (Finset.fold max ⊥ (fun κ : Fin 256 => score x0 x1 0 r (256 * k.val + κ.val)) Finset.univ)) := by
  have hk : k.val < 16 := k.isLt.trans (trips1_lt i)
  have hw := word1 k.val hk
  unfold tripL_k0_t1
  unfold trip_k0_t1
  dsimp only
  rw [View.read_writes_cons_put _ _ _ _ _ rfl, View.read_writes_cons_put _ _ _ _ _ rfl]
  erw [put_other, put_low]
  have hs : ∀ κ : Fin 256, 256 * k.val + κ.val < 4096 := fun κ => by omega
  simp only [score, value, hs, dif_pos]
  sl_unfold_words
  simp only [View.readAt_eq_ld, harg3.read_unread, harg4.read_unread, harg5.read_unread]
  unfold_payloads
  pointwise []
  simp only [hw, neg_inf]
  try rfl

/-- A trip's new sum, for the pair's head 1. -/
theorem trip_l1 (r : Fin 256) :
    arg8.view.read (Elt Ideal) (arg8.view.writes (Elt Ideal) f8 (tripL_k0_t1 (F := Ideal) 𝒱 c bd i arg3 harg3 arg4 harg4 arg5 harg5 arg6 harg6 arg7 harg7 arg8 harg8 arg9 harg9 (harg3.unread x0) (harg4.unread x1) (harg5.unread x2) k f7 f8 f9).2.1) (ix3 1 r 0)
      = Ideal.exp (arg7.view.read (Elt Ideal) f7 (ix3 1 r 0) - max (arg7.view.read (Elt Ideal) f7 (ix3 1 r 0)) (Finset.fold max ⊥ (fun κ : Fin 256 => score x0 x1 1 r (256 * k.val + κ.val)) Finset.univ)) * arg8.view.read (Elt Ideal) f8 (ix3 1 r 0)
        + ∑ κ : Fin 256, Ideal.exp (score x0 x1 1 r (256 * k.val + κ.val) - max (arg7.view.read (Elt Ideal) f7 (ix3 1 r 0)) (Finset.fold max ⊥ (fun κ : Fin 256 => score x0 x1 1 r (256 * k.val + κ.val)) Finset.univ)) := by
  have hk : k.val < 16 := k.isLt.trans (trips1_lt i)
  have hw := word1 k.val hk
  unfold tripL_k0_t1
  unfold trip_k0_t1
  dsimp only
  rw [View.read_writes_cons_put _ _ _ _ _ rfl, View.read_writes_cons_put _ _ _ _ _ rfl]
  erw [put_high]
  have hs : ∀ κ : Fin 256, 256 * k.val + κ.val < 4096 := fun κ => by omega
  simp only [score, value, hs, dif_pos]
  sl_unfold_words
  simp only [View.readAt_eq_ld, harg3.read_unread, harg4.read_unread, harg5.read_unread]
  unfold_payloads
  pointwise []
  simp only [hw, neg_inf]
  try rfl

/-- A trip's new weighted sum, for the pair's head 0. -/
theorem trip_a0 (r : Fin 256) (d : Fin 128) :
    arg9.view.read (Elt Ideal) (arg9.view.writes (Elt Ideal) f9 (tripL_k0_t1 (F := Ideal) 𝒱 c bd i arg3 harg3 arg4 harg4 arg5 harg5 arg6 harg6 arg7 harg7 arg8 harg8 arg9 harg9 (harg3.unread x0) (harg4.unread x1) (harg5.unread x2) k f7 f8 f9).2.2) (ix3 0 r d)
      = Ideal.exp (arg7.view.read (Elt Ideal) f7 (ix3 0 r 0) - max (arg7.view.read (Elt Ideal) f7 (ix3 0 r 0)) (Finset.fold max ⊥ (fun κ : Fin 256 => score x0 x1 0 r (256 * k.val + κ.val)) Finset.univ)) * arg9.view.read (Elt Ideal) f9 (ix3 0 r d)
        + ∑ κ : Fin 256, Ideal.exp (score x0 x1 0 r (256 * k.val + κ.val) - max (arg7.view.read (Elt Ideal) f7 (ix3 0 r 0)) (Finset.fold max ⊥ (fun κ : Fin 256 => score x0 x1 0 r (256 * k.val + κ.val)) Finset.univ)) * value x2 d (256 * k.val + κ.val) := by
  have hk : k.val < 16 := k.isLt.trans (trips1_lt i)
  have hw := word1 k.val hk
  unfold tripL_k0_t1
  unfold trip_k0_t1
  dsimp only
  rw [View.read_writes_cons_put _ _ _ _ _ rfl, View.read_writes_cons_put _ _ _ _ _ rfl]
  erw [put_other, put_low]
  have hs : ∀ κ : Fin 256, 256 * k.val + κ.val < 4096 := fun κ => by omega
  simp only [score, value, hs, dif_pos]
  sl_unfold_words
  simp only [View.readAt_eq_ld, harg3.read_unread, harg4.read_unread, harg5.read_unread]
  unfold_payloads
  pointwise []
  simp only [hw, neg_inf]
  try rfl

/-- A trip's new weighted sum, for the pair's head 1. -/
theorem trip_a1 (r : Fin 256) (d : Fin 128) :
    arg9.view.read (Elt Ideal) (arg9.view.writes (Elt Ideal) f9 (tripL_k0_t1 (F := Ideal) 𝒱 c bd i arg3 harg3 arg4 harg4 arg5 harg5 arg6 harg6 arg7 harg7 arg8 harg8 arg9 harg9 (harg3.unread x0) (harg4.unread x1) (harg5.unread x2) k f7 f8 f9).2.2) (ix3 1 r d)
      = Ideal.exp (arg7.view.read (Elt Ideal) f7 (ix3 1 r 0) - max (arg7.view.read (Elt Ideal) f7 (ix3 1 r 0)) (Finset.fold max ⊥ (fun κ : Fin 256 => score x0 x1 1 r (256 * k.val + κ.val)) Finset.univ)) * arg9.view.read (Elt Ideal) f9 (ix3 1 r d)
        + ∑ κ : Fin 256, Ideal.exp (score x0 x1 1 r (256 * k.val + κ.val) - max (arg7.view.read (Elt Ideal) f7 (ix3 1 r 0)) (Finset.fold max ⊥ (fun κ : Fin 256 => score x0 x1 1 r (256 * k.val + κ.val)) Finset.univ)) * value x2 d (256 * k.val + κ.val) := by
  have hk : k.val < 16 := k.isLt.trans (trips1_lt i)
  have hw := word1 k.val hk
  unfold tripL_k0_t1
  unfold trip_k0_t1
  dsimp only
  rw [View.read_writes_cons_put _ _ _ _ _ rfl, View.read_writes_cons_put _ _ _ _ _ rfl]
  erw [put_high]
  have hs : ∀ κ : Fin 256, 256 * k.val + κ.val < 4096 := fun κ => by omega
  simp only [score, value, hs, dif_pos]
  sl_unfold_words
  simp only [View.readAt_eq_ld, harg3.read_unread, harg4.read_unread, harg5.read_unread]
  unfold_payloads
  pointwise []
  simp only [hw, neg_inf]
  try rfl

/-- THE LOOP: entered with the maximum at minus infinity and both sums at zero, after `n` trips it holds the running maximum, sum
    and weighted sum over the first `256 n` keys. -/
theorem loop_eq (h7 : ∀ (h : Fin 2) (r : Fin 256), arg7.view.read (Elt Ideal) f7 (ix3 h r 0) = (⊥ : EReal))
    (h8 : ∀ (h : Fin 2) (r : Fin 256), arg8.view.read (Elt Ideal) f8 (ix3 h r 0) = (0 : EReal))
    (h9 : ∀ (h : Fin 2) (r : Fin 256) (d : Fin 128), arg9.view.read (Elt Ideal) f9 (ix3 h r d) = (0 : EReal))
    (n : ℕ) (hn : n ≤ (k0_t1_loop i).trips) (h : Fin 2) (r : Fin 256) :
    arg7.view.read (Elt Ideal) (arg7.view.writes (Elt Ideal) f7 (pb_k0_t1 (F := Ideal) 𝒱 c bd i arg3 harg3 arg4 harg4 arg5 harg5 arg6 harg6 arg7 harg7 arg8 harg8 arg9 harg9 (harg3.unread x0) (harg4.unread x1) (harg5.unread x2) f7 f8 f9 n).1) (ix3 h r 0) = Online.mx (score x0 x1 h r) (256 * n)
    ∧ arg8.view.read (Elt Ideal) (arg8.view.writes (Elt Ideal) f8 (pb_k0_t1 (F := Ideal) 𝒱 c bd i arg3 harg3 arg4 harg4 arg5 harg5 arg6 harg6 arg7 harg7 arg8 harg8 arg9 harg9 (harg3.unread x0) (harg4.unread x1) (harg5.unread x2) f7 f8 f9 n).2.1) (ix3 h r 0) = Online.den (score x0 x1 h r) (256 * n)
    ∧ ∀ d : Fin 128, arg9.view.read (Elt Ideal) (arg9.view.writes (Elt Ideal) f9 (pb_k0_t1 (F := Ideal) 𝒱 c bd i arg3 harg3 arg4 harg4 arg5 harg5 arg6 harg6 arg7 harg7 arg8 harg8 arg9 harg9 (harg3.unread x0) (harg4.unread x1) (harg5.unread x2) f7 f8 f9 n).2.2) (ix3 h r d)
        = Online.num (score x0 x1 h r) (value x2 d) (256 * n) := by
  induction n with
  | zero =>
    refine ⟨?_, ?_, fun d => ?_⟩
    · rw [Nat.mul_zero, Online.mx_zero]; exact h7 h r
    · rw [Nat.mul_zero, Online.den_zero]; exact h8 h r
    · rw [Nat.mul_zero, Online.num_zero]; exact h9 h r d
  | succ n ih =>
    obtain ⟨i7, i8, i9⟩ := ih (Nat.le_of_succ_le hn)
    have e := pb_k0_t1_succ (F := Ideal) 𝒱 c bd i arg3 harg3 arg4 harg4 arg5 harg5 arg6 harg6 arg7 harg7 arg8 harg8 arg9 harg9 (harg3.unread x0) (harg4.unread x1) (harg5.unread x2) f7 f8 f9 ⟨n, hn⟩
    dsimp only at e
    rw [e]
    dsimp only
    rw [View.writes_append, View.writes_append, View.writes_append, Nat.mul_succ]
    match h with
    | 0 =>
      refine ⟨?_, ?_, fun d => ?_⟩
      · rw [trip_m0, i7, Online.mx_add]
      · rw [trip_l0, i7, i8, Online.mx_add, Online.den_add]
      · rw [trip_a0, i7, i9 d, Online.mx_add, Online.num_add]
    | 1 =>
      refine ⟨?_, ?_, fun d => ?_⟩
      · rw [trip_m1, i7, Online.mx_add]
      · rw [trip_l1, i7, i8, Online.mx_add, Online.den_add]
      · rw [trip_a1, i7, i9 d, Online.mx_add, Online.num_add]

end Cert.Proof

end
-- ==== Proof.Out.lean ====
/- One query tile of the attention: the tile on the diagonal after the loop, and the block the body leaves. -/
module

public import proofs.«01_k».proof.Proof.Trip

@[expose] public section

noncomputable section

namespace Cert.Proof

open Idealize.ShloMosaic Idealize.ShloMosaic.TcCoe Idealize.SL.Sem
open Cert.KernelIdeal Cert.KernelIdeal.Gen

set_option maxRecDepth 20000

/-- The query tile's first row's word is its number times the tile's rows. -/
theorem word2 (n : Fin 16) :
    BitVec.toNat (Scalar.indexCast (Scalar.muli (BitVec.ofNat 32 n.val) 256#32)) = 256 * n.val := by
  revert n; decide +kernel

/-- Shifting a row number right by six bits divides it by the chunk. -/
theorem shift_eq (x : Fin 256) : IntOp.shrsi ArithUnit.vector (BitVec.ofNat 32 x.val) 6#32 = BitVec.ofNat 32 (x.val / 64) := by
  revert x; decide +kernel

/-- Comparing chunk numbers as words compares them. -/
theorem chunk_le (a b : Fin 4) :
    IntOp.cmpi CmpIPredicate.sle (BitVec.ofNat 32 a.val) (BitVec.ofNat 32 b.val) = if a.val ≤ b.val then 1#1 else 0#1 := by
  revert a b; decide +kernel

/-- The mask of the tile on the diagonal, in global positions. -/
theorem mask_eq (x r : Fin 256) (q : ℕ) (t : EReal) :
    Scalar.select (α := EReal) (IntOp.cmpi CmpIPredicate.sle (IntOp.shrsi ArithUnit.vector (BitVec.ofNat 32 x.val) 6#32)
        (IntOp.shrsi ArithUnit.vector (BitVec.ofNat 32 r.val) 6#32)) t ⊥
      = if (256 * q + x.val) / 64 ≤ (256 * q + r.val) / 64 then t else ⊥ := by
  have hx := x.isLt
  have hr := r.isLt
  rw [shift_eq, shift_eq, chunk_le ⟨x.val / 64, by omega⟩ ⟨r.val / 64, by omega⟩]
  dsimp only
  by_cases h : x.val / 64 ≤ r.val / 64
  · rw [if_pos h, if_pos (by omega)]; rfl
  · rw [if_neg h, if_neg (by omega)]; rfl

/-- The named constant of the mask is minus infinity. -/
theorem named_neg : Named.named (F := Ideal) Cert.KernelIdeal.κ "neg" (φ := .f32) 4048155338#32 = (⊥ : EReal) := rfl

/-- A window put over the first half of a buffer leaves the second half. -/
theorem put_other' {α : Type} {n : ℕ} (x : (⟨3, ![2, 256, n]⟩ : Shape).Idx → α) (w : ((a : Fin 3) → Fin (![1, 256, n] a)) → α)
    (r : Fin 256) (c : Fin n) :
    VecWindow.put (s := ⟨3, ![2, 256, n]⟩) x ![0, 0, 0] ![1, 256, n] w (ix3 1 r c) = x (ix3 1 r c) := by
  unfold VecWindow.put
  rw [dif_neg (fun h => by have := (h 0).2; exact absurd (show (1 : ℕ) < 0 + 1 from this) (by decide))]

/-- The score under the chunk mask: the query at row `r` of query tile `q` sees the keys of its own chunk and the chunks before. -/
def mscore (x0 : Vec Ideal S1x256x256 .bf16) (x1 : Vec Ideal S1x4096x256 .bf16) (h : Fin 2) (r : Fin 256) (q κ : ℕ) : EReal :=
  if κ / 64 ≤ (256 * q + r.val) / 64 then score x0 x1 h r κ else ⊥

/-- Left of the diagonal tile every key is seen. -/
theorem mscore_left (x0 : Vec Ideal S1x256x256 .bf16) (x1 : Vec Ideal S1x4096x256 .bf16) (h : Fin 2) (r : Fin 256) (q κ : ℕ)
    (hκ : κ < 256 * q) : score x0 x1 h r κ = mscore x0 x1 h r q κ := by
  unfold mscore; rw [if_pos (by omega)]

variable (c : Dev nD) (i : grid0.Coords) (arg3 : Memref sig .tc .vmem S1x256x256 .bf16) (harg3 : arg3.IsWhole) (arg4 : Memref sig .tc .vmem S1x4096x256 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S2x256x1 .f32) (harg7 : arg7.IsWhole) (arg8 : Memref sig .tc .vmem S2x256x1 .f32) (harg8 : arg8.IsWhole) (arg9 : Memref sig .tc .vmem S2x256x128 .f32) (harg9 : arg9.IsWhole)
    (x0 : Vec Ideal S1x256x256 .bf16) (x1 : Vec Ideal S1x4096x256 .bf16) (x2 : Vec Ideal S1x4096x128 .bf16)

/-- The pieces the loop leaves in the three running buffers. -/
abbrev main1 := pb_k0_t1 (F := Ideal) Variants.none c none i arg3 harg3 arg4 harg4 arg5 harg5 arg6 harg6 arg7 harg7 arg8 harg8 arg9 harg9 (harg3.unread x0) (harg4.unread x1) (harg5.unread x2)
    (arg7.view.writes (Elt Ideal) arg7.view.junk kernelRun0_A.sl.HS0_1) (arg8.view.writes (Elt Ideal) arg8.view.junk kernelRun0_A.sl.HS1_1)
    (arg9.view.writes (Elt Ideal) arg9.view.junk kernelRun0_A.sl.HS2_1) (Scf.trips (k0_t1_loop i).lb (k0_t1_loop i).ub (k0_t1_loop i).st)

/-- The pieces the loop's remainder leaves. -/
abbrev rest1 := pb_k0_t2 (F := Ideal) Variants.none c none i arg3 harg3 arg4 harg4 arg5 harg5 arg6 harg6 arg7 harg7 arg8 harg8 arg9 harg9 (kernelRun0_A.sl.v26 i) (harg3.unread x0) (harg4.unread x1) (harg5.unread x2)
    (arg7.view.writes (Elt Ideal) arg7.view.junk ((main1 c i arg3 harg3 arg4 harg4 arg5 harg5 arg6 harg6 arg7 harg7 arg8 harg8 arg9 harg9 x0 x1 x2).1 ++ kernelRun0_A.sl.HS0_1))
    (arg8.view.writes (Elt Ideal) arg8.view.junk ((main1 c i arg3 harg3 arg4 harg4 arg5 harg5 arg6 harg6 arg7 harg7 arg8 harg8 arg9 harg9 x0 x1 x2).2.1 ++ kernelRun0_A.sl.HS1_1))
    (arg9.view.writes (Elt Ideal) arg9.view.junk ((main1 c i arg3 harg3 arg4 harg4 arg5 harg5 arg6 harg6 arg7 harg7 arg8 harg8 arg9 harg9 x0 x1 x2).2.2 ++ kernelRun0_A.sl.HS2_1))
    (Scf.trips (k0_t2_loop i).lb (k0_t2_loop i).ub (k0_t2_loop i).st)

/-- The remainder leaves nothing. -/
theorem rest1_eq : rest1 c i arg3 harg3 arg4 harg4 arg5 harg5 arg6 harg6 arg7 harg7 arg8 harg8 arg9 harg9 x0 x1 x2 = ([], [], []) := by
  unfold rest1
  rw [trips2]
  rfl

/-- The initial contents of `arg7`. -/
theorem init_arg7 (h : Fin 2) (r : Fin 256) (d : Fin 1) :
    arg7.view.read (Elt Ideal) (arg7.view.writes (Elt Ideal) arg7.view.junk kernelRun0_A.sl.HS0_1) (ix3 h r d) = (⊥ : EReal) := by
  unfold kernelRun0_A.sl.HS0_1
  erw [View.read_writes_full]
  · unfold_payloads
    pointwise []
    try exact neg_inf

/-- The initial contents of `arg8`. -/
theorem init_arg8 (h : Fin 2) (r : Fin 256) (d : Fin 1) :
    arg8.view.read (Elt Ideal) (arg8.view.writes (Elt Ideal) arg8.view.junk kernelRun0_A.sl.HS1_1) (ix3 h r d) = (0 : EReal) := by
  unfold kernelRun0_A.sl.HS1_1
  erw [View.read_writes_full]
  · unfold_payloads
    pointwise []
    try exact neg_inf

/-- The initial contents of `arg9`. -/
theorem init_arg9 (h : Fin 2) (r : Fin 256) (d : Fin 128) :
    arg9.view.read (Elt Ideal) (arg9.view.writes (Elt Ideal) arg9.view.junk kernelRun0_A.sl.HS2_1) (ix3 h r d) = (0 : EReal) := by
  unfold kernelRun0_A.sl.HS2_1
  erw [View.read_writes_full]
  · unfold_payloads
    pointwise []
    try exact neg_inf

/-- What the three running buffers hold before the tile on the diagonal. -/
theorem left_eq (h : Fin 2) (r : Fin 256) :
    arg7.view.read (Elt Ideal) (arg7.view.writes (Elt Ideal) arg7.view.junk ((rest1 c i arg3 harg3 arg4 harg4 arg5 harg5 arg6 harg6 arg7 harg7 arg8 harg8 arg9 harg9 x0 x1 x2).1 ++ ((main1 c i arg3 harg3 arg4 harg4 arg5 harg5 arg6 harg6 arg7 harg7 arg8 harg8 arg9 harg9 x0 x1 x2).1 ++ kernelRun0_A.sl.HS0_1))) (ix3 h r 0)
        = Online.mx (score x0 x1 h r) (256 * (i 2).val)
    ∧ arg8.view.read (Elt Ideal) (arg8.view.writes (Elt Ideal) arg8.view.junk ((rest1 c i arg3 harg3 arg4 harg4 arg5 harg5 arg6 harg6 arg7 harg7 arg8 harg8 arg9 harg9 x0 x1 x2).2.1 ++ ((main1 c i arg3 harg3 arg4 harg4 arg5 harg5 arg6 harg6 arg7 harg7 arg8 harg8 arg9 harg9 x0 x1 x2).2.1 ++ kernelRun0_A.sl.HS1_1))) (ix3 h r 0)
        = Online.den (score x0 x1 h r) (256 * (i 2).val)
    ∧ ∀ d : Fin 128, arg9.view.read (Elt Ideal) (arg9.view.writes (Elt Ideal) arg9.view.junk ((rest1 c i arg3 harg3 arg4 harg4 arg5 harg5 arg6 harg6 arg7 harg7 arg8 harg8 arg9 harg9 x0 x1 x2).2.2 ++ ((main1 c i arg3 harg3 arg4 harg4 arg5 harg5 arg6 harg6 arg7 harg7 arg8 harg8 arg9 harg9 x0 x1 x2).2.2 ++ kernelRun0_A.sl.HS2_1))) (ix3 h r d)
        = Online.num (score x0 x1 h r) (value x2 d) (256 * (i 2).val) := by
  rw [rest1_eq]
  simp only [List.nil_append]
  rw [View.writes_append, View.writes_append, View.writes_append]
  have e := trips1 i
  have key := loop_eq Variants.none c none i arg3 harg3 arg4 harg4 arg5 harg5 arg6 harg6 arg7 harg7 arg8 harg8 arg9 harg9 x0 x1 x2
    (arg7.view.writes (Elt Ideal) arg7.view.junk kernelRun0_A.sl.HS0_1) (arg8.view.writes (Elt Ideal) arg8.view.junk kernelRun0_A.sl.HS1_1)
    (arg9.view.writes (Elt Ideal) arg9.view.junk kernelRun0_A.sl.HS2_1) (fun h r => init_arg7 arg7 h r 0) (fun h r => init_arg8 arg8 h r 0)
    (fun h r d => init_arg9 arg9 h r d) (Scf.trips (k0_t1_loop i).lb (k0_t1_loop i).ub (k0_t1_loop i).st) (le_refl _) h r
  rw [show (256 * (i 2).val) = 256 * Scf.trips (k0_t1_loop i).lb (k0_t1_loop i).ub (k0_t1_loop i).st from congrArg (256 * ·) e.symm]
  exact key

/-- What the tile on the diagonal loads of `arg7`, for the pair's head 0. -/
theorem v42_eq (r : Fin 256) (d : Fin 1) :
    kernelRun0_A.sl.v42 (F := Ideal) c i arg3 harg3 arg4 harg4 arg5 harg5 arg6 harg6 arg7 harg7 arg8 harg8 arg9 harg9 x0 x1 x2 (ix3 0 r d) = Online.mx (mscore x0 x1 0 r (i 2).val) (256 * (i 2).val) := by
  have left := left_eq c i arg3 harg3 arg4 harg4 arg5 harg5 arg6 harg6 arg7 harg7 arg8 harg8 arg9 harg9 x0 x1 x2 0 r
  refine Eq.trans ?_ (Eq.trans (left.1) (Online.mx_congr fun κ hκ => (mscore_left x0 x1 0 r _ κ hκ).symm).symm)
  obtain rfl : d = 0 := Subsingleton.elim _ _
  unfold kernelRun0_A.sl.v42 View.readCov
  simp only [View.readAt_eq_ld]
  pointwise []

/-- What the tile on the diagonal loads of `arg8`, for the pair's head 0. -/
theorem v56_eq (r : Fin 256) (d : Fin 1) :
    kernelRun0_A.sl.v56 (F := Ideal) c i arg3 harg3 arg4 harg4 arg5 harg5 arg6 harg6 arg7 harg7 arg8 harg8 arg9 harg9 x0 x1 x2 (ix3 0 r d) = Online.den (mscore x0 x1 0 r (i 2).val) (256 * (i 2).val) := by
  have left := left_eq c i arg3 harg3 arg4 harg4 arg5 harg5 arg6 harg6 arg7 harg7 arg8 harg8 arg9 harg9 x0 x1 x2 0 r
  refine Eq.trans ?_ (Eq.trans (left.2.1) (Online.den_congr fun κ hκ => (mscore_left x0 x1 0 r _ κ hκ).symm).symm)
  obtain rfl : d = 0 := Subsingleton.elim _ _
  unfold kernelRun0_A.sl.v56 View.readCov
  simp only [View.readAt_eq_ld]
  pointwise []

/-- What the tile on the diagonal loads of `arg9`, for the pair's head 0. -/
theorem v65_eq (r : Fin 256) (d : Fin 128) :
    kernelRun0_A.sl.v65 (F := Ideal) c i arg3 harg3 arg4 harg4 arg5 harg5 arg6 harg6 arg7 harg7 arg8 harg8 arg9 harg9 x0 x1 x2 (ix3 0 r d) = Online.num (mscore x0 x1 0 r (i 2).val) (value x2 d) (256 * (i 2).val) := by
  have left := left_eq c i arg3 harg3 arg4 harg4 arg5 harg5 arg6 harg6 arg7 harg7 arg8 harg8 arg9 harg9 x0 x1 x2 0 r
  refine Eq.trans ?_ (Eq.trans (left.2.2 d) (Online.num_congr (fun κ hκ => (mscore_left x0 x1 0 r _ κ hκ).symm) (fun _ _ => rfl)).symm)
  skip
  unfold kernelRun0_A.sl.v65 View.readCov
  simp only [View.readAt_eq_ld]
  pointwise []

/-- What the tile on the diagonal loads of `arg7`, for the pair's head 1. -/
theorem v88_eq (r : Fin 256) (d : Fin 1) :
    kernelRun0_A.sl.v88 (F := Ideal) c i arg3 harg3 arg4 harg4 arg5 harg5 arg6 harg6 arg7 harg7 arg8 harg8 arg9 harg9 x0 x1 x2 (ix3 0 r d) = Online.mx (mscore x0 x1 1 r (i 2).val) (256 * (i 2).val) := by
  have left := left_eq c i arg3 harg3 arg4 harg4 arg5 harg5 arg6 harg6 arg7 harg7 arg8 harg8 arg9 harg9 x0 x1 x2 1 r
  refine Eq.trans ?_ (Eq.trans (left.1) (Online.mx_congr fun κ hκ => (mscore_left x0 x1 1 r _ κ hκ).symm).symm)
  obtain rfl : d = 0 := Subsingleton.elim _ _
  unfold kernelRun0_A.sl.v88 View.readCov
  unfold kernelRun0_A.sl.HS0_1_1
  simp only [View.readAt_eq_ld]
  rw [View.read_writes_cons_put _ _ _ _ _ rfl]
  pointwise []
  erw [put_other']

/-- What the tile on the diagonal loads of `arg8`, for the pair's head 1. -/
theorem v102_eq (r : Fin 256) (d : Fin 1) :
    kernelRun0_A.sl.v102 (F := Ideal) c i arg3 harg3 arg4 harg4 arg5 harg5 arg6 harg6 arg7 harg7 arg8 harg8 arg9 harg9 x0 x1 x2 (ix3 0 r d) = Online.den (mscore x0 x1 1 r (i 2).val) (256 * (i 2).val) := by
  have left := left_eq c i arg3 harg3 arg4 harg4 arg5 harg5 arg6 harg6 arg7 harg7 arg8 harg8 arg9 harg9 x0 x1 x2 1 r
  refine Eq.trans ?_ (Eq.trans (left.2.1) (Online.den_congr fun κ hκ => (mscore_left x0 x1 1 r _ κ hκ).symm).symm)
  obtain rfl : d = 0 := Subsingleton.elim _ _
  unfold kernelRun0_A.sl.v102 View.readCov
  unfold kernelRun0_A.sl.HS1_1_1
  simp only [View.readAt_eq_ld]
  rw [View.read_writes_cons_put _ _ _ _ _ rfl]
  pointwise []
  erw [put_other']

/-- What the tile on the diagonal loads of `arg9`, for the pair's head 1. -/
theorem v111_eq (r : Fin 256) (d : Fin 128) :
    kernelRun0_A.sl.v111 (F := Ideal) c i arg3 harg3 arg4 harg4 arg5 harg5 arg6 harg6 arg7 harg7 arg8 harg8 arg9 harg9 x0 x1 x2 (ix3 0 r d) = Online.num (mscore x0 x1 1 r (i 2).val) (value x2 d) (256 * (i 2).val) := by
  have left := left_eq c i arg3 harg3 arg4 harg4 arg5 harg5 arg6 harg6 arg7 harg7 arg8 harg8 arg9 harg9 x0 x1 x2 1 r
  refine Eq.trans ?_ (Eq.trans (left.2.2 d) (Online.num_congr (fun κ hκ => (mscore_left x0 x1 1 r _ κ hκ).symm) (fun _ _ => rfl)).symm)
  skip
  unfold kernelRun0_A.sl.v111 View.readCov
  unfold kernelRun0_A.sl.HS2_1_1
  simp only [View.readAt_eq_ld]
  rw [View.read_writes_cons_put _ _ _ _ _ rfl]
  pointwise []
  erw [put_other']

/-- The sum after the tile on the diagonal, for the pair's head 0. -/
theorem v126_eq (r : Fin 256) (d : Fin 1) :
    kernelRun0_A.sl.v126 (F := Ideal) c i arg3 harg3 arg4 harg4 arg5 harg5 arg6 harg6 arg7 harg7 arg8 harg8 arg9 harg9 x0 x1 x2 (ix3 0 r d) = Online.den (mscore x0 x1 0 r (i 2).val) (256 * (i 2).val + 256) := by
  have hw := word2 (i 2)
  have hq : (i 2).val < 16 := (i 2).isLt
  have hs : ∀ κ : Fin 256, 256 * (i 2).val + κ.val < 4096 := fun κ => by omega
  rw [← Online.den_add, ← Online.mx_add]
  obtain rfl : d = 0 := Subsingleton.elim _ _
  rw [← v42_eq c i arg3 harg3 arg4 harg4 arg5 harg5 arg6 harg6 arg7 harg7 arg8 harg8 arg9 harg9 x0 x1 x2 r 0, ← v56_eq c i arg3 harg3 arg4 harg4 arg5 harg5 arg6 harg6 arg7 harg7 arg8 harg8 arg9 harg9 x0 x1 x2 r 0]
  have hms : ∀ κ : Fin 256, mscore x0 x1 0 r (i 2).val (256 * (i 2).val + κ.val) = if (256 * (i 2).val + κ.val) / 64 ≤ (256 * (i 2).val + r.val) / 64 then score x0 x1 0 r (256 * (i 2).val + κ.val) else ⊥ := fun _ => rfl
  simp only [hms]
  simp only [score, value, hs, dif_pos]
  unfold kernelRun0_A.sl.v126 kernelRun0_A.sl.HS1_2 kernelRun0_A.sl.HS1_1_1 View.readCov
  simp only [View.readAt_eq_ld]
  pointwise []
  rw [View.read_writes_cons_put _ _ _ _ _ rfl, View.read_writes_cons_put _ _ _ _ _ rfl]
  erw [put_other, put_low]
  try unfold kernelRun0_A.sl.r_1
  try unfold kernelRun0_A.sl.r_2
  try unfold kernelRun0_A.sl.r_3
  try unfold kernelRun0_A.sl.r
  try unfold k0_off7
  try unfold k0_off8
  try unfold k0_off9
  try simp only [View.readAt_eq_ld, harg3.read_unread, harg4.read_unread, harg5.read_unread]
  unfold_payloads
  pointwise []
  simp only [hw, neg_inf, named_neg]
  simp only [mask_eq _ _ (i 2).val]

/-- The sum after the tile on the diagonal, for the pair's head 1. -/
theorem v132_eq (r : Fin 256) (d : Fin 1) :
    kernelRun0_A.sl.v132 (F := Ideal) c i arg3 harg3 arg4 harg4 arg5 harg5 arg6 harg6 arg7 harg7 arg8 harg8 arg9 harg9 x0 x1 x2 (ix3 0 r d) = Online.den (mscore x0 x1 1 r (i 2).val) (256 * (i 2).val + 256) := by
  have hw := word2 (i 2)
  have hq : (i 2).val < 16 := (i 2).isLt
  have hs : ∀ κ : Fin 256, 256 * (i 2).val + κ.val < 4096 := fun κ => by omega
  rw [← Online.den_add, ← Online.mx_add]
  obtain rfl : d = 0 := Subsingleton.elim _ _
  rw [← v88_eq c i arg3 harg3 arg4 harg4 arg5 harg5 arg6 harg6 arg7 harg7 arg8 harg8 arg9 harg9 x0 x1 x2 r 0, ← v102_eq c i arg3 harg3 arg4 harg4 arg5 harg5 arg6 harg6 arg7 harg7 arg8 harg8 arg9 harg9 x0 x1 x2 r 0]
  have hms : ∀ κ : Fin 256, mscore x0 x1 1 r (i 2).val (256 * (i 2).val + κ.val) = if (256 * (i 2).val + κ.val) / 64 ≤ (256 * (i 2).val + r.val) / 64 then score x0 x1 1 r (256 * (i 2).val + κ.val) else ⊥ := fun _ => rfl
  simp only [hms]
  simp only [score, value, hs, dif_pos]
  unfold kernelRun0_A.sl.v132 kernelRun0_A.sl.HS1_2 View.readCov
  simp only [View.readAt_eq_ld]
  pointwise []
  rw [View.read_writes_cons_put _ _ _ _ _ rfl]
  erw [put_high]
  try unfold kernelRun0_A.sl.r_4
  try unfold kernelRun0_A.sl.r_5
  try unfold kernelRun0_A.sl.r_6
  try unfold kernelRun0_A.sl.r
  try unfold k0_off7
  try unfold k0_off8
  try unfold k0_off9
  try simp only [View.readAt_eq_ld, harg3.read_unread, harg4.read_unread, harg5.read_unread]
  unfold_payloads
  pointwise []
  simp only [hw, neg_inf, named_neg]
  simp only [mask_eq _ _ (i 2).val]

/-- The weighted sum after the tile on the diagonal, for the pair's head 0. -/
theorem v124_eq (r : Fin 256) (d : Fin 128) :
    kernelRun0_A.sl.v124 (F := Ideal) c i arg3 harg3 arg4 harg4 arg5 harg5 arg6 harg6 arg7 harg7 arg8 harg8 arg9 harg9 x0 x1 x2 (ix3 0 r d) = Online.num (mscore x0 x1 0 r (i 2).val) (value x2 d) (256 * (i 2).val + 256) := by
  have hw := word2 (i 2)
  have hq : (i 2).val < 16 := (i 2).isLt
  have hs : ∀ κ : Fin 256, 256 * (i 2).val + κ.val < 4096 := fun κ => by omega
  rw [← Online.num_add, ← Online.mx_add]
  skip
  rw [← v42_eq c i arg3 harg3 arg4 harg4 arg5 harg5 arg6 harg6 arg7 harg7 arg8 harg8 arg9 harg9 x0 x1 x2 r 0, ← v65_eq c i arg3 harg3 arg4 harg4 arg5 harg5 arg6 harg6 arg7 harg7 arg8 harg8 arg9 harg9 x0 x1 x2 r d]
  have hms : ∀ κ : Fin 256, mscore x0 x1 0 r (i 2).val (256 * (i 2).val + κ.val) = if (256 * (i 2).val + κ.val) / 64 ≤ (256 * (i 2).val + r.val) / 64 then score x0 x1 0 r (256 * (i 2).val + κ.val) else ⊥ := fun _ => rfl
  simp only [hms]
  simp only [score, value, hs, dif_pos]
  unfold kernelRun0_A.sl.v124 kernelRun0_A.sl.HS2_2 kernelRun0_A.sl.HS2_1_1 View.readCov
  simp only [View.readAt_eq_ld]
  pointwise []
  rw [View.read_writes_cons_put _ _ _ _ _ rfl, View.read_writes_cons_put _ _ _ _ _ rfl]
  erw [put_other, put_low]
  try unfold kernelRun0_A.sl.r_1
  try unfold kernelRun0_A.sl.r_2
  try unfold kernelRun0_A.sl.r_3
  try unfold kernelRun0_A.sl.r
  try unfold k0_off7
  try unfold k0_off8
  try unfold k0_off9
  try simp only [View.readAt_eq_ld, harg3.read_unread, harg4.read_unread, harg5.read_unread]
  unfold_payloads
  pointwise []
  simp only [hw, neg_inf, named_neg]
  simp only [mask_eq _ _ (i 2).val]

/-- The weighted sum after the tile on the diagonal, for the pair's head 1. -/
theorem v130_eq (r : Fin 256) (d : Fin 128) :
    kernelRun0_A.sl.v130 (F := Ideal) c i arg3 harg3 arg4 harg4 arg5 harg5 arg6 harg6 arg7 harg7 arg8 harg8 arg9 harg9 x0 x1 x2 (ix3 0 r d) = Online.num (mscore x0 x1 1 r (i 2).val) (value x2 d) (256 * (i 2).val + 256) := by
  have hw := word2 (i 2)
  have hq : (i 2).val < 16 := (i 2).isLt
  have hs : ∀ κ : Fin 256, 256 * (i 2).val + κ.val < 4096 := fun κ => by omega
  rw [← Online.num_add, ← Online.mx_add]
  skip
  rw [← v88_eq c i arg3 harg3 arg4 harg4 arg5 harg5 arg6 harg6 arg7 harg7 arg8 harg8 arg9 harg9 x0 x1 x2 r 0, ← v111_eq c i arg3 harg3 arg4 harg4 arg5 harg5 arg6 harg6 arg7 harg7 arg8 harg8 arg9 harg9 x0 x1 x2 r d]
  have hms : ∀ κ : Fin 256, mscore x0 x1 1 r (i 2).val (256 * (i 2).val + κ.val) = if (256 * (i 2).val + κ.val) / 64 ≤ (256 * (i 2).val + r.val) / 64 then score x0 x1 1 r (256 * (i 2).val + κ.val) else ⊥ := fun _ => rfl
  simp only [hms]
  simp only [score, value, hs, dif_pos]
  unfold kernelRun0_A.sl.v130 kernelRun0_A.sl.HS2_2 View.readCov
  simp only [View.readAt_eq_ld]
  pointwise []
  rw [View.read_writes_cons_put _ _ _ _ _ rfl]
  erw [put_high]
  try unfold kernelRun0_A.sl.r_4
  try unfold kernelRun0_A.sl.r_5
  try unfold kernelRun0_A.sl.r_6
  try unfold kernelRun0_A.sl.r
  try unfold k0_off7
  try unfold k0_off8
  try unfold k0_off9
  try simp only [View.readAt_eq_ld, harg3.read_unread, harg4.read_unread, harg5.read_unread]
  unfold_payloads
  pointwise []
  simp only [hw, neg_inf, named_neg]
  simp only [mask_eq _ _ (i 2).val]

/-- Comparing a lane number with half the lanes. -/
theorem lane_eq (d : Fin 128) : IntOp.cmpi CmpIPredicate.slt (BitVec.ofNat 32 d.val) 64#32 = if d.val < 64 then 1#1 else 0#1 := by
  revert d; decide +kernel

/-- A window put over a whole block is the block. -/
theorem put_whole {α : Type} (x : (⟨3, ![1, 256, 128]⟩ : Shape).Idx → α) (w : ((a : Fin 3) → Fin (![1, 256, 128] a)) → α)
    (r : Fin 256) (c : Fin 128) :
    VecWindow.put (s := ⟨3, ![1, 256, 128]⟩) x ![0, 0, 0] ![1, 256, 128] w (ix3 0 r c) = w (ix3 (n0 := 1) 0 r c) := by
  unfold VecWindow.put
  rw [dif_pos (by intro a; match a with | 0 => exact ⟨Nat.zero_le _, Nat.one_pos⟩ | 1 => exact ⟨Nat.zero_le _, by have := r.isLt; show r.val < 0 + 256; omega⟩ | 2 => exact ⟨Nat.zero_le _, by have := c.isLt; show c.val < 0 + 128; omega⟩)]
  refine congrArg w (funext fun a => ?_)
  match a with | 0 => rfl | 1 => rfl | 2 => rfl

/-- THE BLOCK the body leaves: at row `r` and lane `d` the weighted sum over the keys seen so far divided by the sum, for the
    pair's head the lane belongs to. -/
theorem out_eq (r : Fin 256) (d : Fin 128) :
    out0_A_3 (F := Ideal) c i arg3 harg3 arg4 harg4 arg5 harg5 arg6 harg6 arg7 harg7 arg8 harg8 arg9 harg9 x0 x1 x2 (ix3 0 r d)
      = Ideal.div (Online.num (mscore x0 x1 (if d.val < 64 then 0 else 1) r (i 2).val) (value x2 d) (256 * (i 2).val + 256))
          (Online.den (mscore x0 x1 (if d.val < 64 then 0 else 1) r (i 2).val) (256 * (i 2).val + 256)) := by
  unfold out0_A_3
  unfold kernelRun0_A
  dsimp only
  rw [View.read_writes_cons_put _ _ _ _ _ rfl]
  unfold kernelRun0_A.sl.r_7 kernelRun0_A.sl.r_8
  have e0 := v124_eq c i arg3 harg3 arg4 harg4 arg5 harg5 arg6 harg6 arg7 harg7 arg8 harg8 arg9 harg9 x0 x1 x2 r d
  have e1 := v126_eq c i arg3 harg3 arg4 harg4 arg5 harg5 arg6 harg6 arg7 harg7 arg8 harg8 arg9 harg9 x0 x1 x2 r 0
  have e2 := v130_eq c i arg3 harg3 arg4 harg4 arg5 harg5 arg6 harg6 arg7 harg7 arg8 harg8 arg9 harg9 x0 x1 x2 r d
  have e3 := v132_eq c i arg3 harg3 arg4 harg4 arg5 harg5 arg6 harg6 arg7 harg7 arg8 harg8 arg9 harg9 x0 x1 x2 r 0
  erw [put_whole]
  unfold_payloads
  pointwise []
  rw [e0, e1, e2, e3, lane_eq]
  by_cases hd : d.val < 64
  · rw [if_pos hd, if_pos hd]; rfl
  · rw [if_neg hd, if_neg hd]; rfl

/-- Right of the diagonal tile no key is seen. -/
theorem mscore_right (x0 : Vec Ideal S1x256x256 .bf16) (x1 : Vec Ideal S1x4096x256 .bf16) (h : Fin 2) (r : Fin 256) (q κ : ℕ)
    (hκ : 256 * q + 256 ≤ κ) : mscore x0 x1 h r q κ = ⊥ := by
  unfold mscore; rw [if_neg (by omega)]

/-- … so the block is the same with the sums taken over all the keys. -/
theorem out_eq_all (r : Fin 256) (d : Fin 128) :
    out0_A_3 (F := Ideal) c i arg3 harg3 arg4 harg4 arg5 harg5 arg6 harg6 arg7 harg7 arg8 harg8 arg9 harg9 x0 x1 x2 (ix3 0 r d)
      = Ideal.div (Online.num (mscore x0 x1 (if d.val < 64 then 0 else 1) r (i 2).val) (value x2 d) 4096)
          (Online.den (mscore x0 x1 (if d.val < 64 then 0 else 1) r (i 2).val) 4096) := by
  have hq : (i 2).val < 16 := (i 2).isLt
  rw [out_eq, ← Online.num_extend _ _ (M := 4096) (by omega) (fun κ h _ => mscore_right x0 x1 _ r (i 2).val κ h),
    ← Online.den_extend _ (M := 4096) (by omega) (fun κ h _ => mscore_right x0 x1 _ r (i 2).val κ h)]

end Cert.Proof

end
-- ==== Proof.RefValue.lean ====
module

public import proofs.«01_k».proof.Proof.Online
public import proofs.«01_k».proof.Proof.Gen.ReferenceIdeal.Read

@[expose] public section

noncomputable section

namespace Cert.Proof.Ref

open Idealize.ShloMosaic Idealize.ShloMosaic.TcCoe Idealize.SL.Sem
open Cert.ReferenceIdeal Cert.ReferenceIdeal.Gen Cert.ReferenceIdeal.Read

set_option maxRecDepth 20000

/-- The bit pattern of minus infinity. -/
theorem neg_inf : Ideal.ofBits .f32 4286578688#32 = ⊥ := by simp [Ideal.ofBits, Ideal.ieee]

/-- The scale of the scores is a real number. -/
theorem scale_real : ∃ a : ℝ, Ideal.ofBits .f32 1037108716#32 = (a : EReal) := by
  simp only [Ideal.ofBits, Ideal.ieee]
  simp
  exact ⟨_, rfl⟩

/-- The floor division of a position's word by the chunk, as the reference's steps spell it. -/
def chunkWord (w : BitVec 32) : BitVec 32 :=
  Scalar.select
    (IntOp.andi
      (IntOp.cmpi CmpIPredicate.ne (if w = 0 then (0 : BitVec 32) else if BitVec.msb w = true then -1 else 1)
        (if (64#32) = 0 then (0 : BitVec 32) else if BitVec.msb (64#32) = true then -1 else 1))
      (IntOp.cmpi CmpIPredicate.ne (IntOp.remsi ArithUnit.host w 64#32) 0#32))
    (IntOp.subi (IntOp.divsi ArithUnit.host w 64#32) 1#32)
    (IntOp.divsi ArithUnit.host w 64#32)

/-- It is the quotient at every position. -/
theorem chunkWord_eq (κ : Fin 4096) : chunkWord (BitVec.ofNat 32 κ.val) = BitVec.ofNat 32 (κ.val / 64) := by
  revert κ; decide +kernel

/-- Comparing chunk numbers as words compares them. -/
theorem chunk_le (a b : Fin 64) :
    IntOp.cmpi CmpIPredicate.sle (BitVec.ofNat 32 a.val) (BitVec.ofNat 32 b.val) = if a.val ≤ b.val then 1#1 else 0#1 := by
  revert a b; decide +kernel

/-- The keys' chunk numbers. -/
theorem v8_eq (κ : Fin 4096) : val_main_v8 (F := Ideal) (ix2 0 κ) = BitVec.ofNat 32 (κ.val / 64) := by
  rw [← chunkWord_eq κ]
  have h7 : val_main_v7 (F := Ideal) (ix2 0 κ) = BitVec.ofNat 32 κ.val := by
    unfold val_main_v7 val_main_v6
    pointwise []
  simp only [val_main_v8_apply, val_main_call0_v13_apply, val_main_call0_v11_apply, val_main_call0_v2_apply,
    val_main_call0_v6_apply, val_main_call0_v10_apply, val_main_call0_v8_apply, h7]
  unfold val_main_call0_v3 val_main_call0_v1 val_main_call0_v5 val_main_call0_v9 val_main_call0_v12 val_main_call0_v7
    val_main_call0_v4 val_main_call0_c val_main_call0_c_0 val_main_call0_v0 val_main_c
  pointwise []
  rw [h7]
  rfl

/-- The queries' chunk numbers. -/
theorem v10_eq (κ : Fin 4096) : val_main_v10 (F := Ideal) (ix2 κ 0) = BitVec.ofNat 32 (κ.val / 64) := by
  rw [← chunkWord_eq κ]
  have h7 : val_main_v9 (F := Ideal) (ix2 κ 0) = BitVec.ofNat 32 κ.val := by
    unfold val_main_v9 val_main_v6
    pointwise []
  simp only [val_main_v10_apply, val_main_call1_v13_apply, val_main_call1_v11_apply, val_main_call1_v2_apply,
    val_main_call1_v6_apply, val_main_call1_v10_apply, val_main_call1_v8_apply, h7]
  unfold val_main_call1_v3 val_main_call1_v1 val_main_call1_v5 val_main_call1_v9 val_main_call1_v12 val_main_call1_v7
    val_main_call1_v4 val_main_call1_c val_main_call1_c_0 val_main_call1_v0 val_main_c_0
  pointwise []
  rw [h7]
  rfl

/-- The mask: a key is seen from the queries of its chunk on. -/
theorem v13_eq (q κ : Fin 4096) :
    val_main_v13 (F := Ideal) (ix2 q κ) = if κ.val / 64 ≤ q.val / 64 then 1#1 else 0#1 := by
  unfold val_main_v13 val_main_v11 val_main_v12
  pointwise []
  rw [v8_eq, v10_eq]
  exact chunk_le ⟨κ.val / 64, by omega⟩ ⟨q.val / 64, by omega⟩

variable (x0 x1 : (⟨S8x4096x2048, .bf16⟩ : BufTy).Contents (Elt Ideal))
variable (x2 : (⟨S8x4096x1024, .bf16⟩ : BufTy).Contents (Elt Ideal))

/-- The masked score of a batch's query and key in a head. -/
def score (b : Fin 8) (n : Fin 16) (q : Fin 4096) (κ : ℕ) : EReal :=
  if hκ : κ < 4096 then
    if κ / 64 ≤ q.val / 64 then
      (∑ d : Fin 128, x0 (ix3 b q ⟨n.val * 128 + d.val, by omega⟩) * x1 (ix3 b ⟨κ, hκ⟩ ⟨n.val * 128 + d.val, by omega⟩))
        * Ideal.ofBits .f32 1037108716#32
    else ⊥
  else ⊥

/-- A key's value in a lane of the output. -/
def value (b : Fin 8) (l : Fin 1024) (κ : ℕ) : EReal :=
  if hκ : κ < 4096 then x2 (ix3 b ⟨κ, hκ⟩ l) else 0

/-- The reference's masked scores. -/
theorem v17_eq (b : Fin 8) (n : Fin 16) (q κ : Fin 4096) :
    val_main_v17 (F := Ideal) x0 x1 (ix4 b n q κ) = score x0 x1 b n q κ.val := by
  unfold val_main_v17 val_main_v16 val_main_v15 val_main_v14 val_main_v1 val_main_v3 val_main_call2_v2 val_main_call2_v1
    val_main_v0 val_main_v2 val_main_call2_v0 val_main_cst_1 val_main_cst
  pointwise []
  rw [v13_eq]
  unfold score
  rw [dif_pos κ.isLt]
  split
  · rfl
  · exact neg_inf

/-- A maximum over the last of four axes, from minus infinity, is the greatest of the scores the axis lists. -/
theorem reduce_max {n0 n1 n2 n3 : ℕ} (h : (⟨4, ![n0, n1, n2, n3]⟩ : Shape).ReducesTo [3] ⟨3, ![n0, n1, n2]⟩)
    (hu : 0 < (⟨0, ![]⟩ : Shape).numel) (v : FVec Ideal ⟨4, ![n0, n1, n2, n3]⟩ .f32) (c : FVec Ideal ⟨0, ![]⟩ .f32)
    (a : Fin n0) (b : Fin n1) (d : Fin n2) (s : ℕ → EReal) (hv : ∀ k : Fin n3, v (ix4 a b d k) = s k.val)
    (hc : ∀ i, c i = (⊥ : EReal)) :
    Host.reduce FloatOps.maximumf v c h hu (ix3 a b d) = Online.mx s n3 := by
  rw [Host.reduce_eq_fold, Shape.ReducesTo.fold_fiber_r4_a3, hc, ← Online.mx_fin]
  exact congrArg (fun f => Finset.fold max (⊥ : EReal) f Finset.univ) (funext hv)

/-- The reference's greatest scores before the clamp. -/
theorem v18_eq (b : Fin 8) (n : Fin 16) (q : Fin 4096) :
    val_main_v18 (F := Ideal) x0 x1 (ix3 b n q) = Online.mx (score x0 x1 b n q) 4096 :=
  reduce_max reducesTo_S8x16x4096x4096_S8x16x4096_d3 h_S_ (val_main_v17 (F := Ideal) x0 x1) (val_main_cst_2 (F := Ideal))
    b n q (score x0 x1 b n q) (fun κ => v17_eq x0 x1 b n q κ) (fun _ => neg_inf)

/-- The reference's greatest scores. -/
theorem v20_eq (b : Fin 8) (n : Fin 16) (q : Fin 4096) :
    val_main_v20 (F := Ideal) x0 x1 (ix3 b n q) = Online.mx (score x0 x1 b n q) 4096 := by
  have h19 : val_main_v19 (F := Ideal) (ix3 b n q) = (⊥ : EReal) := by
    unfold val_main_v19 val_main_cst_3
    pointwise [neg_inf]
  rw [val_main_v20_apply, h19, v18_eq]
  generalize Online.mx (score x0 x1 b n q) 4096 = t
  exact max_eq_right bot_le

/-- The reference's exponentials. -/
theorem v24_eq (b : Fin 8) (n : Fin 16) (q κ : Fin 4096) :
    val_main_v24 (F := Ideal) x0 x1 (ix4 b n q κ)
      = Ideal.exp (score x0 x1 b n q κ.val - Online.mx (score x0 x1 b n q) 4096) := by
  unfold val_main_v24 val_main_v23 val_main_v22 val_main_v21
  pointwise []
  rw [v17_eq, v20_eq]

/-- The reference's sums of exponentials. -/
theorem v25_eq (b : Fin 8) (n : Fin 16) (q : Fin 4096) :
    val_main_v25 (F := Ideal) x0 x1 (ix3 b n q) = Online.den (score x0 x1 b n q) 4096 := by
  unfold val_main_v25 val_main_cst_4
  pointwise []
  simp only [v24_eq]
  rw [Online.den_fin]

/-- The reference's probabilities. -/
theorem v28_eq (b : Fin 8) (n : Fin 16) (q κ : Fin 4096) :
    val_main_v28 (F := Ideal) x0 x1 (ix4 b n q κ)
      = Ideal.div (Ideal.exp (score x0 x1 b n q κ.val - Online.mx (score x0 x1 b n q) 4096))
          (Online.den (score x0 x1 b n q) 4096) := by
  unfold val_main_v28 val_main_v27 val_main_v26
  pointwise []
  rw [v24_eq, v25_eq]

/-- A finite sum of reals is the same sum in the extended reals. -/
theorem coe_sum {ι : Type} (K : Finset ι) (f : ι → ℝ) : ((∑ k ∈ K, f k : ℝ) : EReal) = ∑ k ∈ K, (f k : EReal) := by
  classical
  induction K using Finset.induction_on with
  | empty => simp
  | insert k K hk ih => rw [Finset.sum_insert hk, Finset.sum_insert hk, EReal.coe_add, ih]

/-- On finite queries and keys every score below the mask is real and a query's own key is seen. -/
theorem score_real (h0 : ∀ i, x0 i ≠ ⊥ ∧ x0 i ≠ ⊤) (h1 : ∀ i, x1 i ≠ ⊥ ∧ x1 i ≠ ⊤) (b : Fin 8) (n : Fin 16)
    (q : Fin 4096) : score x0 x1 b n q q.val ≠ ⊥ ∧ ∀ κ, κ < 4096 → score x0 x1 b n q κ ≠ ⊤ := by
  have hr : ∀ κ : Fin 4096, ∃ a : ℝ,
      (∑ d : Fin 128, x0 (ix3 b q ⟨n.val * 128 + d.val, by omega⟩) * x1 (ix3 b κ ⟨n.val * 128 + d.val, by omega⟩))
        * Ideal.ofBits .f32 1037108716#32 = (a : EReal) := by
    intro κ
    obtain ⟨a, ha⟩ := scale_real
    refine ⟨(∑ d : Fin 128, (x0 (ix3 b q ⟨n.val * 128 + d.val, by omega⟩)).toReal
      * (x1 (ix3 b κ ⟨n.val * 128 + d.val, by omega⟩)).toReal) * a, ?_⟩
    rw [ha, EReal.coe_mul]
    congr 1
    refine (Finset.sum_congr rfl fun d _ => ?_).trans (coe_sum _ _).symm
    rw [EReal.coe_mul, EReal.coe_toReal (h0 _).2 (h0 _).1, EReal.coe_toReal (h1 _).2 (h1 _).1]
  constructor
  · obtain ⟨a, ha⟩ := hr q
    unfold score
    rw [dif_pos q.isLt, if_pos le_rfl, ha]
    exact EReal.coe_ne_bot a
  · intro κ hκ
    unfold score
    rw [dif_pos hκ]
    split
    · obtain ⟨a, ha⟩ := hr ⟨κ, hκ⟩
      rw [ha]
      exact EReal.coe_ne_top a
    · exact bot_ne_top

/-- The reference's result on finite queries and keys: the weighted sum of the values over the sum of the weights. -/
theorem v32_eq (h0 : ∀ i, x0 i ≠ ⊥ ∧ x0 i ≠ ⊤) (h1 : ∀ i, x1 i ≠ ⊥ ∧ x1 i ≠ ⊤) (b : Fin 8) (q : Fin 4096)
    (l : Fin 1024) :
    val_main_v32 (F := Ideal) x0 x1 x2 (ix3 b q l)
      = Ideal.div (Online.num (score x0 x1 b ⟨l.val / 64, by omega⟩ q) (value x2 b l) 4096)
          (Online.den (score x0 x1 b ⟨l.val / 64, by omega⟩ q) 4096) := by
  obtain ⟨hd, ht⟩ := score_real x0 x1 h0 h1 b ⟨l.val / 64, by omega⟩ q
  obtain ⟨hp, hn⟩ := Online.den_real _ q.isLt hd ht
  rw [Online.num_fin, Online.div_sum _ _ hp hn]
  unfold val_main_v32 val_main_v31 val_main_v30 val_main_v29 val_main_v5 val_main_v4
  pointwise []
  refine Finset.sum_congr rfl fun κ _ => ?_
  rw [v28_eq, mul_comm]
  unfold value
  rw [dif_pos κ.isLt]

end Cert.Proof.Ref

end
-- ==== Proof.KernelValue.lean ====
module

public import proofs.«01_k».proof.Proof.Out
public import proofs.«01_k».proof.Proof.RefValue
public import proofs.«01_k».proof.Proof.Gen.KernelIdeal.Value
public import Idealize.ShloMosaic.Lib.Pipeline.ValueKit
public import Idealize.ShloMosaic.Lib.Pipeline.Covers

@[expose] public section

noncomputable section

namespace Cert.Proof

open Idealize.ShloMosaic Idealize.ShloMosaic.TcCoe Idealize.SL.Sem
open Cert.KernelIdeal Cert.KernelIdeal.Gen
open Idealize.ShloMosaic.Pipeline (Dat)

set_option maxRecDepth 20000

/-- The attention of the queries `x0`, keys `x1` and values `x2`, as one function of the output's index. -/
def attn (x0 x1 : S8x4096x2048.Idx → EReal) (x2 : S8x4096x1024.Idx → EReal) (b : Fin 8) (q : Fin 4096) (l : Fin 1024) : EReal :=
  Ideal.div (Online.num (Ref.score x0 x1 b ⟨l.val / 64, by omega⟩ q) (Ref.value x2 b l) 4096)
    (Online.den (Ref.score x0 x1 b ⟨l.val / 64, by omega⟩ q) 4096)

/-- The block of window 0 at a grid point. -/
theorem index0 : ∀ t : Fin cfg0.N, win0_0.index t = ![(grid0.coords t 0).val, (grid0.coords t 2).val, (grid0.coords t 1).val] :=
  (by decide +kernel : ∀ t : Fin grid0.N, _)

/-- The block of window 1 at a grid point. -/
theorem index1 : ∀ t : Fin cfg0.N, win0_1.index t = ![(grid0.coords t 0).val, 0, (grid0.coords t 1).val] :=
  (by decide +kernel : ∀ t : Fin grid0.N, _)

/-- The block of window 2 at a grid point. -/
theorem index2 : ∀ t : Fin cfg0.N, win0_2.index t = ![(grid0.coords t 0).val, 0, (grid0.coords t 1).val] :=
  (by decide +kernel : ∀ t : Fin grid0.N, _)

/-- The block of window 3 at a grid point. -/
theorem index3 : ∀ t : Fin cfg0.N, win0_3.index t = ![(grid0.coords t 0).val, (grid0.coords t 2).val, (grid0.coords t 1).val] :=
  (by decide +kernel : ∀ t : Fin grid0.N, _)

/-- The blocks of the output window cover its array. -/
theorem covers3 : win0_3.Covers :=
  win0_3.covers_of_indexMap_surj rfl (by decide) fun β =>
    ⟨fun | 0 => ⟨(β 0).val, (β 0).isLt⟩ | 1 => ⟨(β 2).val, (β 2).isLt⟩ | 2 => ⟨(β 1).val, (β 1).isLt⟩, fun a => by
      have h0 := (β 0).isLt
      have h1 := (β 1).isLt
      have h2 := (β 2).isLt
      fin_cases a
      · exact Nat.mod_eq_of_lt (lt_of_lt_of_le h0 (by decide))
      · exact Nat.mod_eq_of_lt (lt_of_lt_of_le h1 (by decide))
      · exact Nat.mod_eq_of_lt (lt_of_lt_of_le h2 (by decide))⟩

variable (m : (ℓ : Loc nD τ sig) → Buf (Elt Ideal) ℓ)

/-- The queries a point's block holds. -/
theorem blk0 (c : Dev nD) (t : Fin cfg0.N) (r l : Fin 256) (b : Fin 8) (q : Fin 4096) (l' : Fin 2048)
    (hb : b.val = (grid0.coords t 0).val) (hq : q.val = 256 * (grid0.coords t 2).val + r.val)
    (hl : l'.val = 256 * (grid0.coords t 1).val + l.val) :
    iblk m c 0 t (ix3 0 r l) = m ((c.tc : Thread nD τ).loc main_arg0) (ix3 b q l') := by
  blk_simp [iblk]
  refine congrArg (m ((c.tc : Thread nD τ).loc main_arg0)) ?_
  blk_ext [index0]

/-- The keys a point's block holds. -/
theorem blk1 (c : Dev nD) (t : Fin cfg0.N) (κ : Fin 4096) (l : Fin 256) (b : Fin 8) (l' : Fin 2048)
    (hb : b.val = (grid0.coords t 0).val) (hl : l'.val = 256 * (grid0.coords t 1).val + l.val) :
    iblk m c 1 t (ix3 0 κ l) = m ((c.tc : Thread nD τ).loc main_arg1) (ix3 b κ l') := by
  blk_simp [iblk]
  refine congrArg (m ((c.tc : Thread nD τ).loc main_arg1)) ?_
  blk_ext [index1]

/-- The values a point's block holds. -/
theorem blk2 (c : Dev nD) (t : Fin cfg0.N) (κ : Fin 4096) (l : Fin 128) (b : Fin 8) (l' : Fin 1024)
    (hb : b.val = (grid0.coords t 0).val) (hl : l'.val = 128 * (grid0.coords t 1).val + l.val) :
    iblk m c 2 t (ix3 0 κ l) = m ((c.tc : Thread nD τ).loc main_arg2) (ix3 b κ l') := by
  blk_simp [iblk]
  refine congrArg (m ((c.tc : Thread nD τ).loc main_arg2)) ?_
  blk_ext [index2]

/-- A point's scores are the attention's, at the head its lane belongs to. -/
theorem mscore_blk (c : Dev nD) (t : Fin cfg0.N) (r : Fin 256) (h : Fin 2) (b : Fin 8) (n : Fin 16) (q : Fin 4096)
    (hb : b.val = (grid0.coords t 0).val) (hn : n.val = 2 * (grid0.coords t 1).val + h.val)
    (hq : q.val = 256 * (grid0.coords t 2).val + r.val) :
    mscore (iblk m c 0 t) (iblk m c 1 t) h r (grid0.coords t 2).val
      = Ref.score (m ((c.tc : Thread nD τ).loc main_arg0)) (m ((c.tc : Thread nD τ).loc main_arg1)) b n q := by
  funext κ
  unfold mscore score Ref.score
  rw [hq]
  by_cases hκ : κ < 4096
  · rw [dif_pos hκ, dif_pos hκ]
    refine if_congr Iff.rfl ?_ rfl
    refine congrArg (fun s : EReal => s * Ideal.ofBits .f32 1037108716#32) (Finset.sum_congr rfl fun d _ => ?_)
    have h2 := h.isLt
    have e0 := blk0 m c t r ⟨128 * h.val + d.val, by omega⟩ b q ⟨n.val * 128 + d.val, by omega⟩ hb hq (by dsimp only; omega)
    have e1 := blk1 m c t ⟨κ, hκ⟩ ⟨128 * h.val + d.val, by omega⟩ b ⟨n.val * 128 + d.val, by omega⟩ hb (by dsimp only; omega)
    rw [e0, e1]
  · rw [dif_neg hκ, dif_neg hκ, ite_self]

/-- A point's values are the attention's. -/
theorem value_blk (c : Dev nD) (t : Fin cfg0.N) (d : Fin 128) (b : Fin 8) (l : Fin 1024)
    (hb : b.val = (grid0.coords t 0).val) (hl : l.val = 128 * (grid0.coords t 1).val + d.val) :
    value (iblk m c 2 t) d = Ref.value (m ((c.tc : Thread nD τ).loc main_arg2)) b l := by
  funext κ
  unfold value Ref.value
  by_cases hκ : κ < 4096
  · rw [dif_pos hκ, dif_pos hκ, blk2 m c t ⟨κ, hκ⟩ d b l hb hl]
  · rw [dif_neg hκ, dif_neg hκ]

/-- What a point's body leaves at an element of its block is the attention at that element's place in the array. -/
theorem out_blk (c : Dev nD) (t : Fin cfg0.N) (r : Fin 256) (d : Fin 128) (b : Fin 8) (q : Fin 4096) (l : Fin 1024)
    (hb : b.val = (grid0.coords t 0).val) (hq : q.val = 256 * (grid0.coords t 2).val + r.val)
    (hl : l.val = 128 * (grid0.coords t 1).val + d.val) :
    outsAt0 m c t (ix3 0 r d)
      = attn (m ((c.tc : Thread nD τ).loc main_arg0)) (m ((c.tc : Thread nD τ).loc main_arg1)) (m ((c.tc : Thread nD τ).loc main_arg2)) b q l := by
  unfold outsAt0
  rw [out_eq_all, value_blk m c t d b l hb hl,
    mscore_blk m c t r (if d.val < 64 then 0 else 1) b ⟨l.val / 64, by omega⟩ q hb
      (by dsimp only; split <;> (show l.val / 64 = _ + (_ : ℕ); simp; omega)) hq]
  rfl

/-- The kernel's result array: the attention of its queries, keys and values. -/
theorem kernel_value (c : Dev nD) :
    (dats m 0 c).arrAt 3 cfg0.N
      = fun i : S8x4096x1024.Idx => attn (m ((c.tc : Thread nD τ).loc main_arg0)) (m ((c.tc : Thread nD τ).loc main_arg1)) (m ((c.tc : Thread nD τ).loc main_arg2)) (i 0) (i 1) (i 2) := by
  refine (dats m 0 c).arrAt_eq_of_covers 3 _ covers3 fun t hf y => ?_
  blk_simp
  rw [after0_3]
  idx_vars y
  obtain rfl : y0 = 0 := Subsingleton.elim _ _
  refine out_blk m c t y1 y2 _ _ _ ?_ ?_ ?_
  · refine (Pipeline.Window.rect_emb_val win0_3 t (ix3 0 y1 y2) 0).trans ?_
    rw [index3]
    show (grid0.coords t 0).val * 1 + 0 = _
    omega
  · refine (Pipeline.Window.rect_emb_val win0_3 t (ix3 0 y1 y2) 1).trans ?_
    rw [index3]
    show (grid0.coords t 2).val * 256 + y1.val = _
    omega
  · refine (Pipeline.Window.rect_emb_val win0_3 t (ix3 0 y1 y2) 2).trans ?_
    rw [index3]
    show (grid0.coords t 1).val * 128 + y2.val = _
    omega

end Cert.Proof

end
-- ==== Proof.Rows.lean ====
/- The row operations of the projections: the gate's silu and the root mean square of a row. -/
module

public import Idealize.ShloMosaic.PureOps.Ideal
public import Idealize.ShloMosaic.PureOps.Ideal.Laws

@[expose] public section

noncomputable section

namespace Cert.Proof.Rows

open Idealize.ShloMosaic

/-- The word of one is one. -/
theorem one_word : Ideal.ofBits .f32 1065353216#32 = (1 : EReal) := by
  simp [Ideal.ofBits, Ideal.ieee]
  rw [← EReal.coe_mul]
  norm_num

/-- The word of zero is zero. -/
theorem zero_word : Ideal.ofBits .f32 0#32 = (0 : EReal) := by
  simp [Ideal.ofBits, Ideal.ieee]

/-- An exponential is not negative. -/
theorem exp_nonneg (x : EReal) : 0 ≤ Ideal.exp x := by
  induction x with
  | bot => exact le_refl _
  | top => exact le_top
  | coe r => exact EReal.coe_nonneg.mpr (Real.exp_pos r).le

/-- The gate's silu. -/
def silu (g : EReal) : EReal := Ideal.div g (1 + Ideal.exp (-g))

/-- Silu as a product with the logistic function. -/
theorem mul_logistic (g : EReal) : g * Ideal.div 1 (1 + Ideal.exp (-g)) = silu g := by
  have h : (1 : EReal) + Ideal.exp (-g) ≠ 0 := by
    have h1 : (0 : EReal) < 1 + Ideal.exp (-g) := lt_of_lt_of_le zero_lt_one (le_add_of_nonneg_right (exp_nonneg _))
    exact h1.ne'
  unfold silu Ideal.div
  rw [if_neg h, if_neg h, one_mul]

/-- The scale of a row of `n` elements: one over the root of its mean square `s / n` and the constant. -/
def scale (n s : EReal) : EReal := Ideal.rsqrt (Ideal.div s n + Ideal.ofBits .f32 897988541#32)

/-- A row, normalised by its root mean square, at an element. -/
def rms {n : ℕ} (N : EReal) (x : Fin n → EReal) (k : Fin n) : EReal := x k * scale N (∑ l, x l * x l)

end Cert.Proof.Rows

end
-- ==== Proof.OutNorm.lean ====
/- The output projection of the odd layer with the final norm: what a block holds, what the array holds, what the
   reference computes. -/
module

public import proofs.«01_k».proof.Proof.Rows
public import proofs.«01_k».proof.Proof.Gen.Kernel2Ideal.Value
public import proofs.«01_k».proof.Proof.Gen.Reference2Ideal.Read
public import Idealize.ShloMosaic.Lib.Pointwise
public import Idealize.ShloMosaic.Lib.Claim
public import Idealize.ShloMosaic.Lib.Pipeline.ValueKit
public import Idealize.ShloMosaic.Lib.Pipeline.Covers

@[expose] public section

noncomputable section

namespace Cert.Proof.OutNorm

open Idealize.ShloMosaic Idealize.ShloMosaic.TcCoe Idealize.SL.Sem
open Cert.Kernel2Ideal Cert.Kernel2Ideal.Gen
open Idealize.ShloMosaic.Pipeline (Dat)

set_option maxRecDepth 20000

/-- The residual and the gated product, of a row's mixer outputs `o`, gates `g` and residual `x`, at a column. -/
def mixed (o g x : Fin 1024 → EReal) (w : Fin 1024 → Fin 1024 → EReal) (l : Fin 1024) : EReal :=
  x l + ∑ k, o k * Rows.silu (g k) * w k l

/-- The result of a row at a column. -/
def row (o g x : Fin 1024 → EReal) (w : Fin 1024 → Fin 1024 → EReal) (f : Fin 1024 → EReal) (l : Fin 1024) : EReal :=
  Rows.rms (Ideal.ofBits .f32 1149239296#32) (mixed o g x w) l * f l

/-- What the body stores, at an element. -/
theorem pay (v0 : Vec Ideal S512x1024 .bf16) (v8 : Vec Ideal S512x1024 .f32) (v9 : Vec Ideal S512x1024 .bf16)
    (v14 : Vec Ideal S1024x1024 .bf16) (v18 : Vec Ideal S1x1024 .f32) (r : Fin 512) (l : Fin 1024) :
    k0_pay1 v0 v8 v9 v14 v18 (ix2 r l)
      = row (fun k => v9 (ix2 r k)) (fun k => v0 (ix2 r k)) (fun k => v8 (ix2 r k)) (fun k l => v14 (ix2 k l))
          (fun k => v18 (ix2 0 k)) l := by
  unfold_payloads
  pointwise []
  simp only [Rows.zero_word, Rows.one_word, zero_sub, zero_add]
  rfl

variable (m : (ℓ : Loc nD τ sig) → Buf (Elt Ideal) ℓ)

/-- The result array of the arguments. -/
def result (a0 : S8x4096x1024.Idx → EReal) (a1 a2 : S32768x1024.Idx → EReal) (a3 : S1x1024x1024.Idx → EReal)
    (a4 : S1024.Idx → EReal) (R : Fin 32768) (l : Fin 1024) : EReal :=
  row (fun k => a0 (ix3 ⟨R.val / 4096, by omega⟩ ⟨R.val % 4096, by omega⟩ k)) (fun k => a1 (ix2 R k)) (fun k => a2 (ix2 R k))
    (fun k l => a3 (ix3 0 k l)) (fun k => a4 (ix1 k)) l

/-- The block of each window at a grid point. -/
theorem index0 : ∀ t : Fin cfg0.N, win0_0.index t = ![(grid0.coords t 0).val, 0] :=
  (by decide +kernel : ∀ t : Fin grid0.N, _)
theorem index1 : ∀ t : Fin cfg0.N, win0_1.index t = ![(grid0.coords t 0).val, 0] :=
  (by decide +kernel : ∀ t : Fin grid0.N, _)
theorem index2 : ∀ t : Fin cfg0.N, win0_2.index t = ![(grid0.coords t 0).val, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![(grid0.coords t 0).val, 0] :=
  (by decide +kernel : ∀ t : Fin grid0.N, _)

/-- The blocks of the output window cover its array. -/
theorem covers5 : win0_5.Covers :=
  win0_5.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- A row of the flattened array. -/
theorem flat {α : Type} (x : S8x4096x1024.Idx → α) (R : Fin 32768) (k : Fin 1024) :
    shapeCast S32768x1024 x shapeCasts_S8x4096x1024_S32768x1024 (ix2 R k)
      = x (ix3 ⟨R.val / 4096, by omega⟩ ⟨R.val % 4096, by omega⟩ k) :=
  shapeCast_apply x _ _ _ (by
    rw [Shape.rowMajor_val_three, Shape.rowMajor_val_two]
    show (R.val / 4096 * 4096 + R.val % 4096) * 1024 + k.val = R.val * 1024 + k.val
    omega)

/-- The one matrix of the stack. -/
theorem unstack {α : Type} (x : S1x1024x1024.Idx → α) (k l : Fin 1024) :
    shapeCast S1024x1024 x shapeCasts_S1x1024x1024_S1024x1024 (ix2 k l) = x (ix3 0 k l) :=
  shapeCast_apply x _ _ _ (by
    rw [Shape.rowMajor_val_three, Shape.rowMajor_val_two]
    show (0 * 1024 + k.val) * 1024 + l.val = k.val * 1024 + l.val
    omega)

variable (c : Dev nD) (t : Fin cfg0.N) (r : Fin 512) (k : Fin 1024) (R : Fin 32768)

/-- The mixer outputs a point's block holds. -/
theorem blk0 (h : R.val = 512 * (grid0.coords t 0).val + r.val) :
    iblk m c 0 t (ix2 r k) = m ((c.tc : Thread nD τ).loc main_arg0) (ix3 ⟨R.val / 4096, by omega⟩ ⟨R.val % 4096, by omega⟩ k) := by
  blk_simp [iblk]
  entry_read
  refine Eq.trans (congrArg _ ?_) (flat _ R k)
  blk_ext [index0]

/-- The gates a point's block holds. -/
theorem blk1 (h : R.val = 512 * (grid0.coords t 0).val + r.val) :
    iblk m c 1 t (ix2 r k) = m ((c.tc : Thread nD τ).loc main_arg1) (ix2 R k) := by
  blk_simp [iblk]
  refine congrArg (m ((c.tc : Thread nD τ).loc main_arg1)) ?_
  blk_ext [index1]

/-- The residual a point's block holds. -/
theorem blk2 (h : R.val = 512 * (grid0.coords t 0).val + r.val) :
    iblk m c 2 t (ix2 r k) = m ((c.tc : Thread nD τ).loc main_arg2) (ix2 R k) := by
  blk_simp [iblk]
  refine congrArg (m ((c.tc : Thread nD τ).loc main_arg2)) ?_
  blk_ext [index2]

/-- The weights a point's block holds. -/
theorem blk3 (l : Fin 1024) : iblk m c 3 t (ix2 k l) = m ((c.tc : Thread nD τ).loc main_arg3) (ix3 0 k l) := by
  blk_simp [iblk]
  entry_read
  refine Eq.trans (congrArg _ ?_) (unstack _ k l)
  blk_ext [index3]

/-- The final norm's weights a point's block holds. -/
theorem blk4 : iblk m c 4 t (ix2 0 k) = m ((c.tc : Thread nD τ).loc main_arg4) (ix1 k) := by
  blk_simp [iblk]
  entry_read
  refine Eq.trans (congrArg (broadcastInDim S1x1024 ![1] bcast_S1024_S1x1024_1 (m ((c.tc : Thread nD τ).loc main_arg4))) (a₂ := ix2 0 k) ?_) ?_
  · blk_ext [index4]
  · pointwise []

/-- What a point's body leaves at an element of its block is the result at that element's place in the array. -/
theorem out_blk (h : R.val = 512 * (grid0.coords t 0).val + r.val) :
    out0_5 (iblk m c 0 t) (iblk m c 1 t) (iblk m c 2 t) (iblk m c 3 t) (iblk m c 4 t) (ix2 r k)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) R k := by
  unfold out0_5
  have hz : (![0, 0] : Fin 2 → ℕ) = fun _ => 0 := by decide
  rw [View.canon_unit_zero hz, View.ld_unit_zero hz, View.ld_unit_zero hz, View.ld_unit_zero hz, View.ld_unit_zero hz, View.ld_unit_zero hz,
    pay]
  unfold result
  simp only [blk0 m c t r _ R h, blk1 m c t r _ R h, blk2 m c t r _ R h, blk3, blk4]

/-- The kernel's result array. -/
theorem kernel_value :
    (dats m 0 c).arrAt 5 cfg0.N
      = fun i : S32768x1024.Idx => result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (i 0) (i 1) := by
  refine (dats m 0 c).arrAt_eq_of_covers 5 _ covers5 fun t hf y => ?_
  blk_simp
  rw [after0_5]
  idx_vars y
  have e0 := (Pipeline.Window.rect_emb_val win0_5 t (ix2 y0 y1) 0).trans
    (show win0_5.index t 0 * 512 + y0.val = 512 * (grid0.coords t 0).val + y0.val by
      rw [index5]; show (grid0.coords t 0).val * 512 + _ = _; omega)
  have e1 := (Pipeline.Window.rect_emb_val win0_5 t (ix2 y0 y1) 1).trans
    (show win0_5.index t 1 * 1024 + y1.val = y1.val by
      rw [index5]; show 0 * 1024 + _ = _; omega)
  refine (out_blk m c t y0 y1 _ e0).trans (congrArg _ (Fin.ext e1.symm))

open Cert.Reference2Ideal.Read in
/-- The reference's result array. -/
theorem reference_value (x0 : S8x4096x1024.Idx → EReal) (x1 x2 : S32768x1024.Idx → EReal) (x3 : S1x1024x1024.Idx → EReal)
    (x4 : S1024.Idx → EReal) :
    val_main_v20 (F := Ideal) x0 x1 x2 x3 x4 = fun i : S32768x1024.Idx => result x0 x1 x2 x3 x4 (i 0) (i 1) := by
  funext j
  idx_vars j
  have h6 : ∀ (R : Fin 32768) (l : Fin 1024), val_main_v7 (F := Ideal) x0 x1 x2 x3 (ix2 R l)
      = mixed (fun k => x0 (ix3 ⟨R.val / 4096, by omega⟩ ⟨R.val % 4096, by omega⟩ k)) (fun k => x1 (ix2 R k)) (fun k => x2 (ix2 R k))
        (fun k l => x3 (ix3 0 k l)) l := by
    intro R l
    unfold mixed val_main_v7 val_main_v6 val_main_v5 val_main_v4 val_main_v3 val_main_call0_v5 val_main_call0_v4
      val_main_call0_v3 val_main_call0_v2 val_main_call0_v1 val_main_call0_v0 val_main_call0_cst_0 val_main_call0_cst
      val_main_v2 val_main_v1 val_main_v0
    simp only [← Rows.mul_logistic, ← flat x0 R, ← unstack x3, ← Rows.one_word]
    generalize hy0 : shapeCast S32768x1024 x0 shapeCasts_S8x4096x1024_S32768x1024 = y0
    generalize hy3 : shapeCast S1024x1024 x3 shapeCasts_S1x1024x1024_S1024x1024 = y3
    pointwise []
  unfold val_main_v20 val_main_v19 val_main_v18 val_main_v17 val_main_v16 val_main_v15 val_main_v14 val_main_v13 val_main_v12
    val_main_v11 val_main_v10 val_main_v9 val_main_v8 val_main_cst val_main_cst_0 val_main_cst_1
  pointwise []
  simp only [h6, Rows.zero_word, zero_add]
  rfl

end Cert.Proof.OutNorm

end
-- ==== Proof.OutMix.lean ====
/- The output projection of the even layer: what a block holds, what the array holds, what the reference computes. -/
module

public import proofs.«01_k».proof.Proof.Rows
public import proofs.«01_k».proof.Proof.Gen.Kernel3Ideal.Value
public import proofs.«01_k».proof.Proof.Gen.Reference3Ideal.Read
public import Idealize.ShloMosaic.Lib.Pointwise
public import Idealize.ShloMosaic.Lib.Claim
public import Idealize.ShloMosaic.Lib.Pipeline.ValueKit
public import Idealize.ShloMosaic.Lib.Pipeline.Covers

@[expose] public section

noncomputable section

namespace Cert.Proof.OutMix

open Idealize.ShloMosaic Idealize.ShloMosaic.TcCoe Idealize.SL.Sem
open Cert.Kernel3Ideal Cert.Kernel3Ideal.Gen
open Idealize.ShloMosaic.Pipeline (Dat)

set_option maxRecDepth 20000

/-- The result of a row at a column, from the two mixers' outputs `p` and `q`, the gates `g`, the residual `x` and the
    weights `w`. -/
def row (p q : Fin 512 → EReal) (g x : Fin 1024 → EReal) (w : Fin 1024 → Fin 1024 → EReal) (l : Fin 1024) : EReal :=
  x l + ∑ k : Fin 512, p k * Rows.silu (g ⟨k.val, by omega⟩) * w ⟨k.val, by omega⟩ l
    + ∑ k : Fin 512, q k * Rows.silu (g ⟨512 + k.val, by omega⟩) * w ⟨512 + k.val, by omega⟩ l

/-- A row whose mixer outputs are given as one vector. -/
theorem row_joined (o : Fin 1024 → EReal) (g x : Fin 1024 → EReal) (w : Fin 1024 → Fin 1024 → EReal) (l : Fin 1024) :
    x l + ∑ k, o k * Rows.silu (g k) * w k l
      = row (fun k => o ⟨k.val, by omega⟩) (fun k => o ⟨512 + k.val, by omega⟩) g x w l := by
  unfold row
  rw [add_assoc]
  exact congrArg (x l + ·) (Fin.sum_univ_add (a := 512) (b := 512) fun k => o k * Rows.silu (g k) * w k l)

/-- What the body stores, at an element. -/
theorem pay (v0 : Vec Ideal S512x1024 .bf16) (v8 : Vec Ideal S512x1024 .f32) (v10 : Vec Ideal S512x512 .bf16)
    (v16 : Vec Ideal S512x1024 .bf16) (v20 : Vec Ideal S512x512 .bf16) (v26 : Vec Ideal S512x1024 .bf16)
    (w : Fin 1024 → Fin 1024 → EReal) (h16 : ∀ k l : Fin _, v16 (ix2 k l) = w ⟨k.val, by omega⟩ l)
    (h26 : ∀ k l : Fin _, v26 (ix2 k l) = w ⟨512 + k.val, by omega⟩ l) (r : Fin 512) (l : Fin 1024) :
    k0_pay1 v0 v8 v10 v16 v20 v26 (ix2 r l)
      = row (fun k => v10 (ix2 r k)) (fun k => v20 (ix2 r k)) (fun k => v0 (ix2 r k)) (fun k => v8 (ix2 r k)) w l := by
  unfold_payloads
  pointwise []
  simp only [h16, h26, Rows.zero_word, Rows.one_word, zero_sub, zero_add]
  unfold row Rows.silu
  rfl

variable (m : (ℓ : Loc nD τ sig) → Buf (Elt Ideal) ℓ)

/-- The result array of the arguments. -/
def result (a0 a1 : S8x4096x512.Idx → EReal) (a2 : S32768x1024.Idx → EReal) (a3 : S8x4096x1024.Idx → EReal)
    (a4 : S1x1024x1024.Idx → EReal) (R : Fin 32768) (l : Fin 1024) : EReal :=
  row (fun k => a0 (ix3 ⟨R.val / 4096, by omega⟩ ⟨R.val % 4096, by omega⟩ k))
    (fun k => a1 (ix3 ⟨R.val / 4096, by omega⟩ ⟨R.val % 4096, by omega⟩ k)) (fun k => a2 (ix2 R k))
    (fun k => a3 (ix3 ⟨R.val / 4096, by omega⟩ ⟨R.val % 4096, by omega⟩ k)) (fun k l => a4 (ix3 0 k l)) l

/-- The block of each window at a grid point. -/
theorem index0 : ∀ t : Fin cfg0.N, win0_0.index t = ![(grid0.coords t 0).val, 0] :=
  (by decide +kernel : ∀ t : Fin grid0.N, _)
theorem index1 : ∀ t : Fin cfg0.N, win0_1.index t = ![(grid0.coords t 0).val, 0] :=
  (by decide +kernel : ∀ t : Fin grid0.N, _)
theorem index2 : ∀ t : Fin cfg0.N, win0_2.index t = ![(grid0.coords t 0).val, 0] :=
  (by decide +kernel : ∀ t : Fin grid0.N, _)
theorem index3 : ∀ t : Fin cfg0.N, win0_3.index t = ![(grid0.coords t 0).val, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![(grid0.coords t 0).val, 0] :=
  (by decide +kernel : ∀ t : Fin grid0.N, _)

/-- The blocks of the output window cover its array. -/
theorem covers5 : win0_5.Covers :=
  win0_5.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- A row of the flattened array. -/
theorem flat {α : Type} (x : S8x4096x1024.Idx → α) (R : Fin 32768) (k : Fin 1024) :
    shapeCast S32768x1024 x shapeCasts_S8x4096x1024_S32768x1024 (ix2 R k)
      = x (ix3 ⟨R.val / 4096, by omega⟩ ⟨R.val % 4096, by omega⟩ k) :=
  shapeCast_apply x _ _ _ (by
    rw [Shape.rowMajor_val_three, Shape.rowMajor_val_two]
    show (R.val / 4096 * 4096 + R.val % 4096) * 1024 + k.val = R.val * 1024 + k.val
    omega)

/-- A row of a flattened mixer output. -/
theorem flatHalf {α : Type} (x : S8x4096x512.Idx → α) (R : Fin 32768) (k : Fin 512) :
    shapeCast S32768x512 x shapeCasts_S8x4096x512_S32768x512 (ix2 R k)
      = x (ix3 ⟨R.val / 4096, by omega⟩ ⟨R.val % 4096, by omega⟩ k) :=
  shapeCast_apply x _ _ _ (by
    rw [Shape.rowMajor_val_three, Shape.rowMajor_val_two]
    show (R.val / 4096 * 4096 + R.val % 4096) * 512 + k.val = R.val * 512 + k.val
    omega)

/-- The one matrix of the stack. -/
theorem unstack {α : Type} (x : S1x1024x1024.Idx → α) (k l : Fin 1024) :
    shapeCast S1024x1024 x shapeCasts_S1x1024x1024_S1024x1024 (ix2 k l) = x (ix3 0 k l) :=
  shapeCast_apply x _ _ _ (by
    rw [Shape.rowMajor_val_three, Shape.rowMajor_val_two]
    show (0 * 1024 + k.val) * 1024 + l.val = k.val * 1024 + l.val
    omega)

variable (c : Dev nD) (t : Fin cfg0.N) (r : Fin 512) (k : Fin 1024) (R : Fin 32768)

/-- The first mixer's outputs a point's block holds. -/
theorem blk0 (h : R.val = 512 * (grid0.coords t 0).val + r.val) (k : Fin 512) :
    iblk m c 0 t (ix2 r k) = m ((c.tc : Thread nD τ).loc main_arg0) (ix3 ⟨R.val / 4096, by omega⟩ ⟨R.val % 4096, by omega⟩ k) := by
  blk_simp [iblk]
  entry_read
  refine Eq.trans (congrArg _ ?_) (flatHalf _ R k)
  blk_ext [index0]

/-- The second mixer's outputs a point's block holds. -/
theorem blk1 (h : R.val = 512 * (grid0.coords t 0).val + r.val) (k : Fin 512) :
    iblk m c 1 t (ix2 r k) = m ((c.tc : Thread nD τ).loc main_arg1) (ix3 ⟨R.val / 4096, by omega⟩ ⟨R.val % 4096, by omega⟩ k) := by
  blk_simp [iblk]
  entry_read
  refine Eq.trans (congrArg _ ?_) (flatHalf _ R k)
  blk_ext [index1]

/-- The gates a point's block holds. -/
theorem blk2 (h : R.val = 512 * (grid0.coords t 0).val + r.val) :
    iblk m c 2 t (ix2 r k) = m ((c.tc : Thread nD τ).loc main_arg2) (ix2 R k) := by
  blk_simp [iblk]
  refine congrArg (m ((c.tc : Thread nD τ).loc main_arg2)) ?_
  blk_ext [index2]

/-- The residual a point's block holds. -/
theorem blk3 (h : R.val = 512 * (grid0.coords t 0).val + r.val) :
    iblk m c 3 t (ix2 r k) = m ((c.tc : Thread nD τ).loc main_arg3) (ix3 ⟨R.val / 4096, by omega⟩ ⟨R.val % 4096, by omega⟩ k) := by
  blk_simp [iblk]
  entry_read
  refine Eq.trans (congrArg _ ?_) (flat _ R k)
  blk_ext [index3]

/-- The weights a point's block holds. -/
theorem blk4 (l : Fin 1024) : iblk m c 4 t (ix2 k l) = m ((c.tc : Thread nD τ).loc main_arg4) (ix3 0 k l) := by
  blk_simp [iblk]
  entry_read
  refine Eq.trans (congrArg _ ?_) (unstack _ k l)
  blk_ext [index4]

/-- What a point's body leaves at an element of its block is the result at that element's place in the array. -/
theorem out_blk (h : R.val = 512 * (grid0.coords t 0).val + r.val) :
    out0_5 (iblk m c 0 t) (iblk m c 1 t) (iblk m c 2 t) (iblk m c 3 t) (iblk m c 4 t) (ix2 r k)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) R k := by
  have hz : (![0, 0] : Fin 2 → ℕ) = fun _ => 0 := by decide
  unfold out0_5
  rw [View.canon_unit_zero hz, View.ld_unit_zero hz, View.ld_unit_zero hz, View.ld_unit_zero hz, View.ld_unit_zero hz]
  refine (pay _ _ _ _ _ _ (fun k l => iblk m c 4 t (ix2 k l)) (fun k l => ?_) (fun k l => ?_) r k).trans ?_
  · exact View.ld_unit_apply_of _ _ _ _ _ _ fun a => by
      match a with
      | 0 => exact (Nat.zero_add _).symm
      | 1 => exact (Nat.zero_add _).symm
  · exact View.ld_unit_apply_of _ _ _ _ _ _ fun a => by
      match a with
      | 0 => rfl
      | 1 => exact (Nat.zero_add _).symm
  unfold result
  simp only [blk0 m c t r R h, blk1 m c t r R h, blk2 m c t r _ R h, blk3 m c t r _ R h, blk4]

/-- The kernel's result array. -/
theorem kernel_value :
    (dats m 0 c).arrAt 5 cfg0.N
      = fun i : S32768x1024.Idx => result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (i 0) (i 1) := by
  refine (dats m 0 c).arrAt_eq_of_covers 5 _ covers5 fun t hf y => ?_
  blk_simp
  rw [after0_5]
  idx_vars y
  have e0 := (Pipeline.Window.rect_emb_val win0_5 t (ix2 y0 y1) 0).trans
    (show win0_5.index t 0 * 512 + y0.val = 512 * (grid0.coords t 0).val + y0.val by
      rw [index5]; show (grid0.coords t 0).val * 512 + _ = _; omega)
  have e1 := (Pipeline.Window.rect_emb_val win0_5 t (ix2 y0 y1) 1).trans
    (show win0_5.index t 1 * 1024 + y1.val = y1.val by
      rw [index5]; show 0 * 1024 + _ = _; omega)
  exact (out_blk m c t y0 y1 _ e0).trans (congrArg _ (Fin.ext e1.symm))

open Cert.Reference3Ideal.Read in
/-- The reference's result array. -/
theorem reference_value (x0 x1 : S8x4096x512.Idx → EReal) (x2 : S32768x1024.Idx → EReal) (x3 : S8x4096x1024.Idx → EReal)
    (x4 : S1x1024x1024.Idx → EReal) :
    val_main_v9 (F := Ideal) x0 x1 x2 x3 x4 = fun i : S32768x1024.Idx => result x0 x1 x2 x3 x4 (i 0) (i 1) := by
  funext j
  idx_vars j
  have h1 : ∀ k : Fin 512, val_main_v1 (F := Ideal) x0 x1 (ix3 ⟨j0.val / 4096, by omega⟩ ⟨j0.val % 4096, by omega⟩ ⟨k.val, by omega⟩)
      = x0 (ix3 ⟨j0.val / 4096, by omega⟩ ⟨j0.val % 4096, by omega⟩ k) := by
    intro k
    unfold val_main_v1
    pointwise []
  have h2 : ∀ k : Fin 512, val_main_v1 (F := Ideal) x0 x1 (ix3 ⟨j0.val / 4096, by omega⟩ ⟨j0.val % 4096, by omega⟩ ⟨512 + k.val, by omega⟩)
      = x1 (ix3 ⟨j0.val / 4096, by omega⟩ ⟨j0.val % 4096, by omega⟩ k) := by
    intro k
    unfold val_main_v1
    pointwise []
  unfold result
  simp only [← h1, ← h2]
  refine Eq.trans ?_ (row_joined (fun k => val_main_v1 (F := Ideal) x0 x1 (ix3 ⟨j0.val / 4096, by omega⟩ ⟨j0.val % 4096, by omega⟩ k)) _ _ _ _)
  simp only [← flat (val_main_v1 (F := Ideal) x0 x1), ← flat x3, ← unstack x4, ← Rows.mul_logistic, ← Rows.one_word]
  unfold val_main_v9 val_main_v8 val_main_v7 val_main_v6 val_main_v5 val_main_call0_v5 val_main_call0_v4
    val_main_call0_v3 val_main_call0_v2 val_main_call0_v1 val_main_call0_v0 val_main_call0_cst_0 val_main_call0_cst
    val_main_v4 val_main_v3 val_main_v2 val_main_v0
  generalize val_main_v1 (F := Ideal) x0 x1 = z
  generalize shapeCast S32768x1024 z shapeCasts_S8x4096x1024_S32768x1024 = y0
  generalize shapeCast S32768x1024 x3 shapeCasts_S8x4096x1024_S32768x1024 = y3
  generalize shapeCast S1024x1024 x4 shapeCasts_S1x1024x1024_S1024x1024 = y4
  pointwise []

end Cert.Proof.OutMix

end
-- ==== Proof.InProj.lean ====
/- The input projection of the even layer: what a block holds, what the arrays hold, what the reference computes. -/
module

public import proofs.«01_k».proof.Proof.Rows
public import proofs.«01_k».proof.Proof.Gen.Kernel4Ideal.Value
public import proofs.«01_k».proof.Proof.Gen.Reference4Ideal.Read
public import Idealize.ShloMosaic.Lib.Pointwise
public import Idealize.ShloMosaic.Lib.Claim
public import Idealize.ShloMosaic.Lib.Pipeline.ValueKit
public import Idealize.ShloMosaic.Lib.Pipeline.Covers
public import Idealize.ShloMosaic.Lib.StableHlo.ReadAt

@[expose] public section

noncomputable section

namespace Cert.Proof.InProj

open Idealize.ShloMosaic Idealize.ShloMosaic.TcCoe Idealize.SL.Sem
open Cert.Kernel4Ideal Cert.Kernel4Ideal.Gen
open Idealize.ShloMosaic.Pipeline (Dat)

set_option maxRecDepth 20000

/-- A nonnegative real factor of every term of a finite sum comes out of the sum. -/
theorem sum_mul_real {n : ℕ} (f : Fin n → EReal) (c : EReal) (h0 : 0 ≤ c) (h1 : c ≠ ⊤) :
    ∑ k, f k * c = (∑ k, f k) * c := by
  have key : ∀ s : Finset (Fin n), ∑ k ∈ s, f k * c = (∑ k ∈ s, f k) * c := by
    classical
    intro s
    induction s using Finset.induction_on with
    | empty => simp
    | insert a s ha h => rw [Finset.sum_insert ha, Finset.sum_insert ha, h, EReal.right_distrib_of_nonneg_of_ne_top h0 h1]
  exact key Finset.univ

/-- The word `0.125`. -/
def eighth : EReal := Ideal.ofBits .f32 1040187392#32

/-- The word as a real. -/
theorem eighth_eq : eighth = ((0.125 : ℝ) : EReal) := by
  unfold eighth
  simp [Ideal.ofBits, Ideal.ieee]
  rw [← EReal.coe_mul]
  norm_num

/-- It is not negative. -/
theorem eighth_nonneg : 0 ≤ eighth := by rw [eighth_eq]; exact_mod_cast (by norm_num : (0 : ℝ) ≤ 0.125)
/-- It is not infinite. -/
theorem eighth_ne_top : eighth ≠ ⊤ := by rw [eighth_eq]; exact EReal.coe_ne_top _

/-- The normalised row, at a column. -/
def normed (x g : Fin 1024 → EReal) (k : Fin 1024) : EReal :=
  Rows.rms (Ideal.ofBits .f32 1149239296#32) x k * g k

/-- The product of the normalised row with a column of weights. -/
def proj (x g u : Fin 1024 → EReal) : EReal := ∑ k, normed x g k * u k

/-- A column scaled by an eighth. -/
theorem proj_eighth (x g u : Fin 1024 → EReal) : proj x g (fun k => u k * eighth) = proj x g u * eighth := by
  unfold proj
  simp only [← mul_assoc]
  exact sum_mul_real _ _ eighth_nonneg eighth_ne_top

/-- A column of zeros. -/
theorem proj_zero (x g : Fin 1024 → EReal) : proj x g (fun _ => 0) = 0 := by
  unfold proj
  simp

variable (m : (ℓ : Loc nD τ sig) → Buf (Elt Ideal) ℓ)

/-- An element of the product: normalised row of the arguments times one column of the weights. -/
def cell (a0 : S8x4096x1024.Idx → EReal) (a1 : S1x1024.Idx → EReal) (a2 : S1x1024x3784.Idx → EReal) (R : Fin 32768)
    (q : Fin 3784) : EReal :=
  proj (fun k => a0 (ix3 ⟨R.val / 4096, by omega⟩ ⟨R.val % 4096, by omega⟩ k)) (fun k => a1 (ix2 0 k)) fun k => a2 (ix3 0 k q)

/-- The scaled first queries. -/
def res0 (a0 : S8x4096x1024.Idx → EReal) (a1 : S1x1024.Idx → EReal) (a2 : S1x1024x3784.Idx → EReal) (R : Fin 32768) (l : Fin 512) : EReal :=
  cell a0 a1 a2 R ⟨l.val, by omega⟩ * eighth

/-- The first keys. -/
def res1 (a0 : S8x4096x1024.Idx → EReal) (a1 : S1x1024.Idx → EReal) (a2 : S1x1024x3784.Idx → EReal) (R : Fin 32768) (l : Fin 512) : EReal :=
  cell a0 a1 a2 R ⟨512 + l.val, by omega⟩

/-- The first values. -/
def res2 (a0 : S8x4096x1024.Idx → EReal) (a1 : S1x1024.Idx → EReal) (a2 : S1x1024x3784.Idx → EReal) (R : Fin 32768) (l : Fin 512) : EReal :=
  cell a0 a1 a2 R ⟨1024 + l.val, by omega⟩

/-- The scaled second queries. -/
def res3 (a0 : S8x4096x1024.Idx → EReal) (a1 : S1x1024.Idx → EReal) (a2 : S1x1024x3784.Idx → EReal) (R : Fin 32768) (l : Fin 512) : EReal :=
  cell a0 a1 a2 R ⟨1536 + l.val, by omega⟩ * eighth

/-- The selecting queries. -/
def res4 (a0 : S8x4096x1024.Idx → EReal) (a1 : S1x1024.Idx → EReal) (a2 : S1x1024x3784.Idx → EReal) (R : Fin 32768) (l : Fin 512) : EReal :=
  cell a0 a1 a2 R ⟨2176 + l.val, by omega⟩

/-- The shared keys, twice. -/
def res5 (a0 : S8x4096x1024.Idx → EReal) (a1 : S1x1024.Idx → EReal) (a2 : S1x1024x3784.Idx → EReal) (R : Fin 32768) (l : Fin 128) : EReal :=
  cell a0 a1 a2 R ⟨2048 + l.val % 64, by omega⟩

/-- The shared values, twice. -/
def res6 (a0 : S8x4096x1024.Idx → EReal) (a1 : S1x1024.Idx → EReal) (a2 : S1x1024x3784.Idx → EReal) (R : Fin 32768) (l : Fin 128) : EReal :=
  cell a0 a1 a2 R ⟨2112 + l.val % 64, by omega⟩

/-- The selecting keys, twice. -/
def res7 (a0 : S8x4096x1024.Idx → EReal) (a1 : S1x1024.Idx → EReal) (a2 : S1x1024x3784.Idx → EReal) (R : Fin 32768) (l : Fin 128) : EReal :=
  cell a0 a1 a2 R ⟨2688 + l.val % 64, by omega⟩

/-- The selecting heads' weights, padded with zeros. -/
def res8 (a0 : S8x4096x1024.Idx → EReal) (a1 : S1x1024.Idx → EReal) (a2 : S1x1024x3784.Idx → EReal) (R : Fin 32768) (l : Fin 128) : EReal :=
  if h : l.val < 8 then cell a0 a1 a2 R ⟨2752 + l.val, by omega⟩ else 0

/-- The gates. -/
def res9 (a0 : S8x4096x1024.Idx → EReal) (a1 : S1x1024.Idx → EReal) (a2 : S1x1024x3784.Idx → EReal) (R : Fin 32768) (l : Fin 1024) : EReal :=
  cell a0 a1 a2 R ⟨2760 + l.val, by omega⟩

/-- The block of each window at a grid point. -/
theorem index0 : ∀ t : Fin cfg0.N, win0_0.index t = ![(grid0.coords t 0).val, 0] :=
  (by decide +kernel : ∀ t : Fin grid0.N, _)
theorem index1 : ∀ t : Fin cfg0.N, win0_1.index t = ![0, 0] :=
  (by decide +kernel : ∀ t : Fin grid0.N, _)
theorem index2 : ∀ t : Fin cfg0.N, win0_2.index t = ![0, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![0, 0] :=
  (by decide +kernel : ∀ t : Fin grid0.N, _)

theorem index5 : ∀ t : Fin cfg0.N, win0_5.index t = ![(grid0.coords t 0).val, 0] :=
  (by decide +kernel : ∀ t : Fin grid0.N, _)
theorem index6 : ∀ t : Fin cfg0.N, win0_6.index t = ![(grid0.coords t 0).val, 0] :=
  (by decide +kernel : ∀ t : Fin grid0.N, _)
theorem index7 : ∀ t : Fin cfg0.N, win0_7.index t = ![(grid0.coords t 0).val, 0] :=
  (by decide +kernel : ∀ t : Fin grid0.N, _)
theorem index8 : ∀ t : Fin cfg0.N, win0_8.index t = ![(grid0.coords t 0).val, 0] :=
  (by decide +kernel : ∀ t : Fin grid0.N, _)
theorem index9 : ∀ t : Fin cfg0.N, win0_9.index t = ![(grid0.coords t 0).val, 0] :=
  (by decide +kernel : ∀ t : Fin grid0.N, _)
theorem index10 : ∀ t : Fin cfg0.N, win0_10.index t = ![(grid0.coords t 0).val, 0] :=
  (by decide +kernel : ∀ t : Fin grid0.N, _)
theorem index11 : ∀ t : Fin cfg0.N, win0_11.index t = ![(grid0.coords t 0).val, 0] :=
  (by decide +kernel : ∀ t : Fin grid0.N, _)
theorem index12 : ∀ t : Fin cfg0.N, win0_12.index t = ![(grid0.coords t 0).val, 0] :=
  (by decide +kernel : ∀ t : Fin grid0.N, _)
theorem index13 : ∀ t : Fin cfg0.N, win0_13.index t = ![(grid0.coords t 0).val, 0] :=
  (by decide +kernel : ∀ t : Fin grid0.N, _)
theorem index14 : ∀ t : Fin cfg0.N, win0_14.index t = ![(grid0.coords t 0).val, 0] :=
  (by decide +kernel : ∀ t : Fin grid0.N, _)

/-- A row of the flattened array. -/
theorem flat {α : Type} (x : S8x4096x1024.Idx → α) (R : Fin 32768) (k : Fin 1024) :
    shapeCast S32768x1024 x shapeCasts_S8x4096x1024_S32768x1024 (ix2 R k)
      = x (ix3 ⟨R.val / 4096, by omega⟩ ⟨R.val % 4096, by omega⟩ k) :=
  shapeCast_apply x _ _ _ (by
    rw [Shape.rowMajor_val_three, Shape.rowMajor_val_two]
    show (R.val / 4096 * 4096 + R.val % 4096) * 1024 + k.val = R.val * 1024 + k.val
    omega)

/-- The one matrix of the stack. -/
theorem unstack {α : Type} (x : S1x1024x3784.Idx → α) (k : Fin 1024) (l : Fin 3784) :
    shapeCast S1024x3784 x shapeCasts_S1x1024x3784_S1024x3784 (ix2 k l) = x (ix3 0 k l) :=
  shapeCast_apply x _ _ _ (by
    rw [Shape.rowMajor_val_three, Shape.rowMajor_val_two]
    show (0 * 1024 + k.val) * 3784 + l.val = k.val * 3784 + l.val
    omega)

variable (c : Dev nD) (t : Fin cfg0.N) (r : Fin 512) (k : Fin 1024) (R : Fin 32768)

/-- The rows a point's block holds. -/
theorem blk0 (h : R.val = 512 * (grid0.coords t 0).val + r.val) :
    iblk m c 0 t (ix2 r k) = m ((c.tc : Thread nD τ).loc main_arg0) (ix3 ⟨R.val / 4096, by omega⟩ ⟨R.val % 4096, by omega⟩ k) := by
  blk_simp [iblk]
  entry_read
  refine Eq.trans (congrArg _ ?_) (flat _ R k)
  blk_ext [index0]

/-- The norm's weights as the host hands them on. -/
theorem norm_at : V m c main_v26 (ix2 0 k) = m ((c.tc : Thread nD τ).loc main_arg1) (ix2 0 k) := by
  unfold V
  after_reads_at

/-- The scaled queries' weights as the host joins them. -/
theorem main_at0 (l : Fin 512) : V m c main_v12 (ix2 k ⟨l.val, by omega⟩)
    = HMul.hMul (α := EReal) (β := EReal) (m ((c.tc : Thread nD τ).loc main_arg2) (ix3 0 k ⟨l.val, by omega⟩)) eighth := by
  unfold V
  after_reads_at
  after_reads_at
  rfl

/-- The first keys' weights as the host joins them. -/
theorem main_at1 (l : Fin 512) : V m c main_v12 (ix2 k ⟨512 + l.val, by omega⟩)
    = m ((c.tc : Thread nD τ).loc main_arg2) (ix3 0 k ⟨512 + l.val, by omega⟩) := by
  unfold V
  after_reads_at
  after_reads_at

/-- The first values' weights as the host joins them. -/
theorem main_at2 (l : Fin 512) : V m c main_v12 (ix2 k ⟨1024 + l.val, by omega⟩)
    = m ((c.tc : Thread nD τ).loc main_arg2) (ix3 0 k ⟨1024 + l.val, by omega⟩) := by
  unfold V
  after_reads_at
  after_reads_at
  rw [dif_neg (by omega)]
  rw [dif_neg (by omega)]
  rw [dif_pos (by omega)]
  refine congrArg (fun q => m ((c.tc : Thread nD τ).loc main_arg2) (ix3 0 k q)) (Fin.ext ?_)
  show 1024 + _ = 1024 + _
  omega

/-- The second queries', scaled, weights as the host joins them. -/
theorem main_at3 (l : Fin 512) : V m c main_v12 (ix2 k ⟨1536 + l.val, by omega⟩)
    = HMul.hMul (α := EReal) (β := EReal) (m ((c.tc : Thread nD τ).loc main_arg2) (ix3 0 k ⟨1536 + l.val, by omega⟩)) eighth := by
  unfold V
  after_reads_at
  after_reads_at
  rw [dif_neg (by omega)]
  rw [dif_neg (by omega)]
  rw [dif_neg (by omega)]
  rw [dif_pos (by omega)]
  refine congrArg (fun q => HMul.hMul (α := EReal) (β := EReal) (m ((c.tc : Thread nD τ).loc main_arg2) (ix3 0 k q)) eighth) (Fin.ext ?_)
  show 1536 + _ = 1536 + _
  omega

/-- The selecting queries' weights as the host joins them. -/
theorem main_at4 (l : Fin 512) : V m c main_v12 (ix2 k ⟨2048 + l.val, by omega⟩)
    = m ((c.tc : Thread nD τ).loc main_arg2) (ix3 0 k ⟨2176 + l.val, by omega⟩) := by
  unfold V
  after_reads_at
  after_reads_at
  rw [dif_neg (by omega)]
  rw [dif_neg (by omega)]
  rw [dif_neg (by omega)]
  rw [dif_neg (by omega)]
  refine congrArg (fun q => m ((c.tc : Thread nD τ).loc main_arg2) (ix3 0 k q)) (Fin.ext ?_)
  show 2176 + _ = 2176 + _
  omega

/-- The shared keys' weights, twice, as the host joins them. -/
theorem small_at0 (l : Fin 128) : V m c main_v22 (ix2 k ⟨l.val, by omega⟩)
    = m ((c.tc : Thread nD τ).loc main_arg2) (ix3 0 k ⟨2048 + l.val % 64, by omega⟩) := by
  unfold V
  after_reads_at
  after_reads_at
  split_ifs
  all_goals first | omega | skip
  all_goals
    refine congrArg (fun q => m ((c.tc : Thread nD τ).loc main_arg2) (ix3 0 k q)) (Fin.ext ?_)
    show 2048 + _ = 2048 + _
    omega

/-- The shared values' weights, twice, as the host joins them. -/
theorem small_at1 (l : Fin 128) : V m c main_v22 (ix2 k ⟨128 + l.val, by omega⟩)
    = m ((c.tc : Thread nD τ).loc main_arg2) (ix3 0 k ⟨2112 + l.val % 64, by omega⟩) := by
  unfold V
  after_reads_at
  after_reads_at
  split_ifs
  all_goals first | omega | skip
  all_goals
    refine congrArg (fun q => m ((c.tc : Thread nD τ).loc main_arg2) (ix3 0 k q)) (Fin.ext ?_)
    show 2112 + _ = 2112 + _
    omega

/-- The selecting keys' weights, twice, as the host joins them. -/
theorem small_at2 (l : Fin 128) : V m c main_v22 (ix2 k ⟨256 + l.val, by omega⟩)
    = m ((c.tc : Thread nD τ).loc main_arg2) (ix3 0 k ⟨2688 + l.val % 64, by omega⟩) := by
  unfold V
  after_reads_at
  after_reads_at
  split_ifs
  all_goals first | omega | skip
  all_goals
    refine congrArg (fun q => m ((c.tc : Thread nD τ).loc main_arg2) (ix3 0 k q)) (Fin.ext ?_)
    show 2688 + _ = 2688 + _
    omega

/-- The selecting heads' weights as the host joins them. -/
theorem small_at3 (l : Fin 128) (h : l.val < 8) : V m c main_v22 (ix2 k ⟨384 + l.val, by omega⟩)
    = m ((c.tc : Thread nD τ).loc main_arg2) (ix3 0 k ⟨2752 + l.val, by omega⟩) := by
  unfold V
  after_reads_at
  after_reads_at
  split_ifs
  all_goals first | omega | skip
  all_goals
    refine congrArg (fun q => m ((c.tc : Thread nD τ).loc main_arg2) (ix3 0 k q)) (Fin.ext ?_)
    show 2752 + _ = 2752 + _
    omega

/-- The columns the host pads with are zero. -/
theorem small_at4 (l : Fin 128) (h : ¬l.val < 8) : V m c main_v22 (ix2 k ⟨384 + l.val, by omega⟩) = (0 : EReal) := by
  unfold V
  after_reads_at
  after_reads_at
  split_ifs
  all_goals first | omega | skip
  simp [FloatOps.sitofp]

/-- The gates' weights as the host hands them on. -/
theorem gate_at (l : Fin 1024) : V m c main_v24 (ix2 k l) = m ((c.tc : Thread nD τ).loc main_arg2) (ix3 0 k ⟨2760 + l.val, by omega⟩) := by
  unfold V
  after_reads_at

/-- The norm's weights a point's block holds. -/
theorem blk1 : iblk m c 1 t (ix2 0 k) = m ((c.tc : Thread nD τ).loc main_arg1) (ix2 0 k) := by
  refine Eq.trans ?_ (norm_at m c k)
  blk_simp [iblk]
  refine congrArg (V m c main_v26) ?_
  blk_ext [index1]

/-- The wide weights a point's block holds. -/
theorem blk2 (q : Fin 2560) : iblk m c 2 t (ix2 k q) = V m c main_v12 (ix2 k q) := by
  blk_simp [iblk]
  refine congrArg (V m c main_v12) ?_
  blk_ext [index2]

/-- The narrow weights a point's block holds. -/
theorem blk3 (q : Fin 512) : iblk m c 3 t (ix2 k q) = V m c main_v22 (ix2 k q) := by
  blk_simp [iblk]
  refine congrArg (V m c main_v22) ?_
  blk_ext [index3]

/-- The gates' weights a point's block holds. -/
theorem blk4 (q : Fin 1024) : iblk m c 4 t (ix2 k q) = V m c main_v24 (ix2 k q) := by
  blk_simp [iblk]
  refine congrArg (V m c main_v24) ?_
  blk_ext [index4]

/-- The normalised rows, at an element. -/
theorem rows (v0 : Vec Ideal S512x1024 .f32) (v2 : Vec Ideal S1x1024 .f32) (r : Fin 512) (k : Fin 1024) :
    k0_pay2 v0 v2 (ix2 r k) = normed (fun k => v0 (ix2 r k)) (fun k => v2 (ix2 0 k)) k := by
  unfold_payloads
  pointwise []
  rfl

/-- The normalised rows a point's body computes. -/
abbrev ptRows : FVec Ideal S512x1024 .bf16 :=
  k0_pay12 (iblk m c 0 t) (iblk m c 1 t) (iblk m c 2 t) (iblk m c 3 t) (iblk m c 4 t)

/-- They are the normalised rows of the arguments. -/
theorem ptRows_eq (h : R.val = 512 * (grid0.coords t 0).val + r.val) :
    ptRows m c t (ix2 r k)
      = normed (fun k => m ((c.tc : Thread nD τ).loc main_arg0) (ix3 ⟨R.val / 4096, by omega⟩ ⟨R.val % 4096, by omega⟩ k))
          (fun k => m ((c.tc : Thread nD τ).loc main_arg1) (ix2 0 k)) k := by
  have hz : (![0, 0] : Fin 2 → ℕ) = fun _ => 0 := by decide
  unfold ptRows k0_pay12
  rw [View.ld_unit_zero hz, View.ld_unit_zero hz, rows]
  simp only [blk0 m c t r _ R h, blk1 m c t]

/-- A product of rows and 512 columns, at an element. -/
theorem pay6 (h : FVec Ideal S512x1024 .bf16) (u : Vec Ideal S1024x512 .bf16) (r : Fin 512) (l : Fin 512) :
    k0_pay6 h u (ix2 r l) = ∑ k, h (ix2 r k) * u (ix2 k l) := by
  unfold_payloads
  pointwise []

/-- A product of rows and 128 columns, at an element. -/
theorem pay8 (h : FVec Ideal S512x1024 .bf16) (u : Vec Ideal S1024x128 .bf16) (r : Fin 512) (l : Fin 128) :
    k0_pay8 h u (ix2 r l) = ∑ k, h (ix2 r k) * u (ix2 k l) := by
  unfold_payloads
  pointwise []

/-- A product of rows and 128 columns that keeps its format, at an element. -/
theorem pay11 (h : FVec Ideal S512x1024 .bf16) (u : Vec Ideal S1024x128 .bf16) (r : Fin 512) (l : Fin 128) :
    k0_pay11 h u (ix2 r l) = ∑ k, h (ix2 r k) * u (ix2 k l) := by
  unfold_payloads
  pointwise []

/-- A product of rows and 1024 columns, at an element. -/
theorem pay1 (h : FVec Ideal S512x1024 .bf16) (u : Vec Ideal S1024x1024 .bf16) (r : Fin 512) (l : Fin 1024) :
    k0_pay1 h u (ix2 r l) = ∑ k, h (ix2 r k) * u (ix2 k l) := by
  unfold_payloads
  pointwise []

/-- A row of a point's block times a column `u`. -/
theorem product (h : R.val = 512 * (grid0.coords t 0).val + r.val) (u v : Fin 1024 → EReal) (e : ∀ k, v k = u k) :
    ∑ k, ptRows m c t (ix2 r k) * v k
      = proj (fun k => m ((c.tc : Thread nD τ).loc main_arg0) (ix3 ⟨R.val / 4096, by omega⟩ ⟨R.val % 4096, by omega⟩ k))
          (fun k => m ((c.tc : Thread nD τ).loc main_arg1) (ix2 0 k)) u := by
  unfold proj
  refine Finset.sum_congr rfl fun k _ => ?_
  rw [ptRows_eq m c t r k R h, e k]

/-- The scaled first queries: what a point's body leaves at an element of its block. -/
theorem out0 (h : R.val = 512 * (grid0.coords t 0).val + r.val) (l : Fin 512) :
    out0_5 (iblk m c 0 t) (iblk m c 1 t) (iblk m c 2 t) (iblk m c 3 t) (iblk m c 4 t) (ix2 r l)
      = res0 (m ((c.tc : Thread nD τ).loc main_arg0)) (m ((c.tc : Thread nD τ).loc main_arg1)) (m ((c.tc : Thread nD τ).loc main_arg2)) R l := by
  have hz : (![0, 0] : Fin 2 → ℕ) = fun _ => 0 := by decide
  unfold out0_5
  rw [View.canon_unit_zero hz]
  refine (pay6 (ptRows m c t) (View.ld (iblk m c 2 t) r0_2) r l).trans ?_
  have e : ∀ k, View.ld (iblk m c 2 t) r0_2 (ix2 k l) = V m c main_v12 (ix2 k ⟨l.val, by omega⟩) := fun k =>
    (View.ld_unit_apply_of _ _ _ _ _ (ix2 k ⟨l.val, by omega⟩) fun a => by
      match a with
      | 0 => exact (Nat.zero_add _).symm
      | 1 => exact (Nat.zero_add _).symm).trans (blk2 m c t k _)
  exact (product m c t r R h _ _ fun k => (e k).trans (main_at0 m c k l)).trans (proj_eighth _ _ _)

/-- The first keys: what a point's body leaves at an element of its block. -/
theorem out1 (h : R.val = 512 * (grid0.coords t 0).val + r.val) (l : Fin 512) :
    out0_6 (iblk m c 0 t) (iblk m c 1 t) (iblk m c 2 t) (iblk m c 3 t) (iblk m c 4 t) (ix2 r l)
      = res1 (m ((c.tc : Thread nD τ).loc main_arg0)) (m ((c.tc : Thread nD τ).loc main_arg1)) (m ((c.tc : Thread nD τ).loc main_arg2)) R l := by
  have hz : (![0, 0] : Fin 2 → ℕ) = fun _ => 0 := by decide
  unfold out0_6
  rw [View.canon_unit_zero hz]
  refine (pay6 (ptRows m c t) (View.ld (iblk m c 2 t) r0_4) r l).trans ?_
  have e : ∀ k, View.ld (iblk m c 2 t) r0_4 (ix2 k l) = V m c main_v12 (ix2 k ⟨512 + l.val, by omega⟩) := fun k =>
    (View.ld_unit_apply_of _ _ _ _ _ (ix2 k ⟨512 + l.val, by omega⟩) fun a => by
      match a with
      | 0 => exact (Nat.zero_add _).symm
      | 1 => exact rfl).trans (blk2 m c t k _)
  exact product m c t r R h _ _ fun k => (e k).trans (main_at1 m c k l)

/-- The first values: what a point's body leaves at an element of its block. -/
theorem out2 (h : R.val = 512 * (grid0.coords t 0).val + r.val) (l : Fin 512) :
    out0_7 (iblk m c 0 t) (iblk m c 1 t) (iblk m c 2 t) (iblk m c 3 t) (iblk m c 4 t) (ix2 r l)
      = res2 (m ((c.tc : Thread nD τ).loc main_arg0)) (m ((c.tc : Thread nD τ).loc main_arg1)) (m ((c.tc : Thread nD τ).loc main_arg2)) R l := by
  have hz : (![0, 0] : Fin 2 → ℕ) = fun _ => 0 := by decide
  unfold out0_7
  rw [View.canon_unit_zero hz]
  refine (pay6 (ptRows m c t) (View.ld (iblk m c 2 t) r0_5) r l).trans ?_
  have e : ∀ k, View.ld (iblk m c 2 t) r0_5 (ix2 k l) = V m c main_v12 (ix2 k ⟨1024 + l.val, by omega⟩) := fun k =>
    (View.ld_unit_apply_of _ _ _ _ _ (ix2 k ⟨1024 + l.val, by omega⟩) fun a => by
      match a with
      | 0 => exact (Nat.zero_add _).symm
      | 1 => exact rfl).trans (blk2 m c t k _)
  exact product m c t r R h _ _ fun k => (e k).trans (main_at2 m c k l)

/-- The scaled second queries: what a point's body leaves at an element of its block. -/
theorem out3 (h : R.val = 512 * (grid0.coords t 0).val + r.val) (l : Fin 512) :
    out0_8 (iblk m c 0 t) (iblk m c 1 t) (iblk m c 2 t) (iblk m c 3 t) (iblk m c 4 t) (ix2 r l)
      = res3 (m ((c.tc : Thread nD τ).loc main_arg0)) (m ((c.tc : Thread nD τ).loc main_arg1)) (m ((c.tc : Thread nD τ).loc main_arg2)) R l := by
  have hz : (![0, 0] : Fin 2 → ℕ) = fun _ => 0 := by decide
  unfold out0_8
  rw [View.canon_unit_zero hz]
  refine (pay6 (ptRows m c t) (View.ld (iblk m c 2 t) r0_6) r l).trans ?_
  have e : ∀ k, View.ld (iblk m c 2 t) r0_6 (ix2 k l) = V m c main_v12 (ix2 k ⟨1536 + l.val, by omega⟩) := fun k =>
    (View.ld_unit_apply_of _ _ _ _ _ (ix2 k ⟨1536 + l.val, by omega⟩) fun a => by
      match a with
      | 0 => exact (Nat.zero_add _).symm
      | 1 => exact rfl).trans (blk2 m c t k _)
  exact (product m c t r R h _ _ fun k => (e k).trans (main_at3 m c k l)).trans (proj_eighth _ _ _)

/-- The selecting queries: what a point's body leaves at an element of its block. -/
theorem out4 (h : R.val = 512 * (grid0.coords t 0).val + r.val) (l : Fin 512) :
    out0_9 (iblk m c 0 t) (iblk m c 1 t) (iblk m c 2 t) (iblk m c 3 t) (iblk m c 4 t) (ix2 r l)
      = res4 (m ((c.tc : Thread nD τ).loc main_arg0)) (m ((c.tc : Thread nD τ).loc main_arg1)) (m ((c.tc : Thread nD τ).loc main_arg2)) R l := by
  have hz : (![0, 0] : Fin 2 → ℕ) = fun _ => 0 := by decide
  unfold out0_9
  rw [View.canon_unit_zero hz]
  refine (pay6 (ptRows m c t) (View.ld (iblk m c 2 t) r0_7) r l).trans ?_
  have e : ∀ k, View.ld (iblk m c 2 t) r0_7 (ix2 k l) = V m c main_v12 (ix2 k ⟨2048 + l.val, by omega⟩) := fun k =>
    (View.ld_unit_apply_of _ _ _ _ _ (ix2 k ⟨2048 + l.val, by omega⟩) fun a => by
      match a with
      | 0 => exact (Nat.zero_add _).symm
      | 1 => exact rfl).trans (blk2 m c t k _)
  exact product m c t r R h _ _ fun k => (e k).trans (main_at4 m c k l)

/-- The shared keys, twice: what a point's body leaves at an element of its block. -/
theorem out5 (h : R.val = 512 * (grid0.coords t 0).val + r.val) (l : Fin 128) :
    out0_10 (iblk m c 0 t) (iblk m c 1 t) (iblk m c 2 t) (iblk m c 3 t) (iblk m c 4 t) (ix2 r l)
      = res5 (m ((c.tc : Thread nD τ).loc main_arg0)) (m ((c.tc : Thread nD τ).loc main_arg1)) (m ((c.tc : Thread nD τ).loc main_arg2)) R l := by
  have hz : (![0, 0] : Fin 2 → ℕ) = fun _ => 0 := by decide
  unfold out0_10
  rw [View.canon_unit_zero hz]
  refine (pay8 (ptRows m c t) (View.ld (iblk m c 3 t) r0_8) r l).trans ?_
  have e : ∀ k, View.ld (iblk m c 3 t) r0_8 (ix2 k l) = V m c main_v22 (ix2 k ⟨l.val, by omega⟩) := fun k =>
    (View.ld_unit_apply_of _ _ _ _ _ (ix2 k ⟨l.val, by omega⟩) fun a => by
      match a with
      | 0 => exact (Nat.zero_add _).symm
      | 1 => exact (Nat.zero_add _).symm).trans (blk3 m c t k _)
  exact product m c t r R h _ _ fun k => (e k).trans (small_at0 m c k l)

/-- The shared values, twice: what a point's body leaves at an element of its block. -/
theorem out6 (h : R.val = 512 * (grid0.coords t 0).val + r.val) (l : Fin 128) :
    out0_11 (iblk m c 0 t) (iblk m c 1 t) (iblk m c 2 t) (iblk m c 3 t) (iblk m c 4 t) (ix2 r l)
      = res6 (m ((c.tc : Thread nD τ).loc main_arg0)) (m ((c.tc : Thread nD τ).loc main_arg1)) (m ((c.tc : Thread nD τ).loc main_arg2)) R l := by
  have hz : (![0, 0] : Fin 2 → ℕ) = fun _ => 0 := by decide
  unfold out0_11
  rw [View.canon_unit_zero hz]
  refine (pay8 (ptRows m c t) (View.ld (iblk m c 3 t) r0_10) r l).trans ?_
  have e : ∀ k, View.ld (iblk m c 3 t) r0_10 (ix2 k l) = V m c main_v22 (ix2 k ⟨128 + l.val, by omega⟩) := fun k =>
    (View.ld_unit_apply_of _ _ _ _ _ (ix2 k ⟨128 + l.val, by omega⟩) fun a => by
      match a with
      | 0 => exact (Nat.zero_add _).symm
      | 1 => exact rfl).trans (blk3 m c t k _)
  exact product m c t r R h _ _ fun k => (e k).trans (small_at1 m c k l)

/-- The selecting keys, twice: what a point's body leaves at an element of its block. -/
theorem out7 (h : R.val = 512 * (grid0.coords t 0).val + r.val) (l : Fin 128) :
    out0_12 (iblk m c 0 t) (iblk m c 1 t) (iblk m c 2 t) (iblk m c 3 t) (iblk m c 4 t) (ix2 r l)
      = res7 (m ((c.tc : Thread nD τ).loc main_arg0)) (m ((c.tc : Thread nD τ).loc main_arg1)) (m ((c.tc : Thread nD τ).loc main_arg2)) R l := by
  have hz : (![0, 0] : Fin 2 → ℕ) = fun _ => 0 := by decide
  unfold out0_12
  rw [View.canon_unit_zero hz]
  refine (pay8 (ptRows m c t) (View.ld (iblk m c 3 t) r0_11) r l).trans ?_
  have e : ∀ k, View.ld (iblk m c 3 t) r0_11 (ix2 k l) = V m c main_v22 (ix2 k ⟨256 + l.val, by omega⟩) := fun k =>
    (View.ld_unit_apply_of _ _ _ _ _ (ix2 k ⟨256 + l.val, by omega⟩) fun a => by
      match a with
      | 0 => exact (Nat.zero_add _).symm
      | 1 => exact rfl).trans (blk3 m c t k _)
  exact product m c t r R h _ _ fun k => (e k).trans (small_at2 m c k l)

/-- The selecting heads' weights, padded with zeros: what a point's body leaves at an element of its block. -/
theorem out8 (h : R.val = 512 * (grid0.coords t 0).val + r.val) (l : Fin 128) :
    out0_13 (iblk m c 0 t) (iblk m c 1 t) (iblk m c 2 t) (iblk m c 3 t) (iblk m c 4 t) (ix2 r l)
      = res8 (m ((c.tc : Thread nD τ).loc main_arg0)) (m ((c.tc : Thread nD τ).loc main_arg1)) (m ((c.tc : Thread nD τ).loc main_arg2)) R l := by
  have hz : (![0, 0] : Fin 2 → ℕ) = fun _ => 0 := by decide
  unfold out0_13
  rw [View.canon_unit_zero hz]
  refine (pay11 (ptRows m c t) (View.ld (iblk m c 3 t) r0_12) r l).trans ?_
  have e : ∀ k, View.ld (iblk m c 3 t) r0_12 (ix2 k l) = V m c main_v22 (ix2 k ⟨384 + l.val, by omega⟩) := fun k =>
    (View.ld_unit_apply_of _ _ _ _ _ (ix2 k ⟨384 + l.val, by omega⟩) fun a => by
      match a with
      | 0 => exact (Nat.zero_add _).symm
      | 1 => exact rfl).trans (blk3 m c t k _)
  unfold res8
  split_ifs with h8
  · exact product m c t r R h _ _ fun k => (e k).trans (small_at3 m c k l h8)
  · exact (product m c t r R h _ _ fun k => (e k).trans (small_at4 m c k l h8)).trans (proj_zero _ _)

/-- The gates: what a point's body leaves at an element of its block. -/
theorem out9 (h : R.val = 512 * (grid0.coords t 0).val + r.val) (l : Fin 1024) :
    out0_14 (iblk m c 0 t) (iblk m c 1 t) (iblk m c 2 t) (iblk m c 3 t) (iblk m c 4 t) (ix2 r l)
      = res9 (m ((c.tc : Thread nD τ).loc main_arg0)) (m ((c.tc : Thread nD τ).loc main_arg1)) (m ((c.tc : Thread nD τ).loc main_arg2)) R l := by
  have hz : (![0, 0] : Fin 2 → ℕ) = fun _ => 0 := by decide
  unfold out0_14
  rw [View.canon_unit_zero hz]
  refine (pay1 (ptRows m c t) (View.ld (iblk m c 4 t) r0_13) r l).trans ?_
  have e : ∀ k, View.ld (iblk m c 4 t) r0_13 (ix2 k l) = V m c main_v24 (ix2 k l) := fun k =>
    (View.ld_unit_apply_of _ _ _ _ _ (ix2 k l) fun a => by
      match a with
      | 0 => exact (Nat.zero_add _).symm
      | 1 => exact (Nat.zero_add _).symm).trans (blk4 m c t k _)
  exact product m c t r R h _ _ fun k => (e k).trans (gate_at m c k l)

/-- The blocks of output window 0 cover its array. -/
theorem covers5 : win0_5.Covers :=
  win0_5.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- The scaled first queries: the kernel's array. -/
theorem kernel_value0 :
    (dats m 0 c).arrAt 5 cfg0.N
      = fun i : S32768x512.Idx => res0 (m ((c.tc : Thread nD τ).loc main_arg0)) (m ((c.tc : Thread nD τ).loc main_arg1)) (m ((c.tc : Thread nD τ).loc main_arg2)) (i 0) (i 1) := by
  refine (dats m 0 c).arrAt_eq_of_covers 5 _ covers5 fun t hf y => ?_
  blk_simp
  rw [after0_5]
  idx_vars y
  have e0 := (Pipeline.Window.rect_emb_val win0_5 t (ix2 y0 y1) 0).trans
    (show win0_5.index t 0 * 512 + y0.val = 512 * (grid0.coords t 0).val + y0.val by
      rw [index5]; show (grid0.coords t 0).val * 512 + _ = _; omega)
  have e1 := (Pipeline.Window.rect_emb_val win0_5 t (ix2 y0 y1) 1).trans
    (show win0_5.index t 1 * 512 + y1.val = y1.val by
      rw [index5]; show 0 * 512 + _ = _; omega)
  exact (out0 m c t y0 _ e0 y1).trans (congrArg _ (Fin.ext e1.symm))

/-- The blocks of output window 1 cover its array. -/
theorem covers6 : win0_6.Covers :=
  win0_6.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- The first keys: the kernel's array. -/
theorem kernel_value1 :
    (dats m 0 c).arrAt 6 cfg0.N
      = fun i : S32768x512.Idx => res1 (m ((c.tc : Thread nD τ).loc main_arg0)) (m ((c.tc : Thread nD τ).loc main_arg1)) (m ((c.tc : Thread nD τ).loc main_arg2)) (i 0) (i 1) := by
  refine (dats m 0 c).arrAt_eq_of_covers 6 _ covers6 fun t hf y => ?_
  blk_simp
  rw [after0_6]
  idx_vars y
  have e0 := (Pipeline.Window.rect_emb_val win0_6 t (ix2 y0 y1) 0).trans
    (show win0_6.index t 0 * 512 + y0.val = 512 * (grid0.coords t 0).val + y0.val by
      rw [index6]; show (grid0.coords t 0).val * 512 + _ = _; omega)
  have e1 := (Pipeline.Window.rect_emb_val win0_6 t (ix2 y0 y1) 1).trans
    (show win0_6.index t 1 * 512 + y1.val = y1.val by
      rw [index6]; show 0 * 512 + _ = _; omega)
  exact (out1 m c t y0 _ e0 y1).trans (congrArg _ (Fin.ext e1.symm))

/-- The blocks of output window 2 cover its array. -/
theorem covers7 : win0_7.Covers :=
  win0_7.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- The first values: the kernel's array. -/
theorem kernel_value2 :
    (dats m 0 c).arrAt 7 cfg0.N
      = fun i : S32768x512.Idx => res2 (m ((c.tc : Thread nD τ).loc main_arg0)) (m ((c.tc : Thread nD τ).loc main_arg1)) (m ((c.tc : Thread nD τ).loc main_arg2)) (i 0) (i 1) := by
  refine (dats m 0 c).arrAt_eq_of_covers 7 _ covers7 fun t hf y => ?_
  blk_simp
  rw [after0_7]
  idx_vars y
  have e0 := (Pipeline.Window.rect_emb_val win0_7 t (ix2 y0 y1) 0).trans
    (show win0_7.index t 0 * 512 + y0.val = 512 * (grid0.coords t 0).val + y0.val by
      rw [index7]; show (grid0.coords t 0).val * 512 + _ = _; omega)
  have e1 := (Pipeline.Window.rect_emb_val win0_7 t (ix2 y0 y1) 1).trans
    (show win0_7.index t 1 * 512 + y1.val = y1.val by
      rw [index7]; show 0 * 512 + _ = _; omega)
  exact (out2 m c t y0 _ e0 y1).trans (congrArg _ (Fin.ext e1.symm))

/-- The blocks of output window 3 cover its array. -/
theorem covers8 : win0_8.Covers :=
  win0_8.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- The scaled second queries: the kernel's array. -/
theorem kernel_value3 :
    (dats m 0 c).arrAt 8 cfg0.N
      = fun i : S32768x512.Idx => res3 (m ((c.tc : Thread nD τ).loc main_arg0)) (m ((c.tc : Thread nD τ).loc main_arg1)) (m ((c.tc : Thread nD τ).loc main_arg2)) (i 0) (i 1) := by
  refine (dats m 0 c).arrAt_eq_of_covers 8 _ covers8 fun t hf y => ?_
  blk_simp
  rw [after0_8]
  idx_vars y
  have e0 := (Pipeline.Window.rect_emb_val win0_8 t (ix2 y0 y1) 0).trans
    (show win0_8.index t 0 * 512 + y0.val = 512 * (grid0.coords t 0).val + y0.val by
      rw [index8]; show (grid0.coords t 0).val * 512 + _ = _; omega)
  have e1 := (Pipeline.Window.rect_emb_val win0_8 t (ix2 y0 y1) 1).trans
    (show win0_8.index t 1 * 512 + y1.val = y1.val by
      rw [index8]; show 0 * 512 + _ = _; omega)
  exact (out3 m c t y0 _ e0 y1).trans (congrArg _ (Fin.ext e1.symm))

/-- The blocks of output window 4 cover its array. -/
theorem covers9 : win0_9.Covers :=
  win0_9.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- The selecting queries: the kernel's array. -/
theorem kernel_value4 :
    (dats m 0 c).arrAt 9 cfg0.N
      = fun i : S32768x512.Idx => res4 (m ((c.tc : Thread nD τ).loc main_arg0)) (m ((c.tc : Thread nD τ).loc main_arg1)) (m ((c.tc : Thread nD τ).loc main_arg2)) (i 0) (i 1) := by
  refine (dats m 0 c).arrAt_eq_of_covers 9 _ covers9 fun t hf y => ?_
  blk_simp
  rw [after0_9]
  idx_vars y
  have e0 := (Pipeline.Window.rect_emb_val win0_9 t (ix2 y0 y1) 0).trans
    (show win0_9.index t 0 * 512 + y0.val = 512 * (grid0.coords t 0).val + y0.val by
      rw [index9]; show (grid0.coords t 0).val * 512 + _ = _; omega)
  have e1 := (Pipeline.Window.rect_emb_val win0_9 t (ix2 y0 y1) 1).trans
    (show win0_9.index t 1 * 512 + y1.val = y1.val by
      rw [index9]; show 0 * 512 + _ = _; omega)
  exact (out4 m c t y0 _ e0 y1).trans (congrArg _ (Fin.ext e1.symm))

/-- The blocks of output window 5 cover its array. -/
theorem covers10 : win0_10.Covers :=
  win0_10.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- The shared keys, twice: the kernel's array. -/
theorem kernel_value5 :
    (dats m 0 c).arrAt 10 cfg0.N
      = fun i : S32768x128.Idx => res5 (m ((c.tc : Thread nD τ).loc main_arg0)) (m ((c.tc : Thread nD τ).loc main_arg1)) (m ((c.tc : Thread nD τ).loc main_arg2)) (i 0) (i 1) := by
  refine (dats m 0 c).arrAt_eq_of_covers 10 _ covers10 fun t hf y => ?_
  blk_simp
  rw [after0_10]
  idx_vars y
  have e0 := (Pipeline.Window.rect_emb_val win0_10 t (ix2 y0 y1) 0).trans
    (show win0_10.index t 0 * 512 + y0.val = 512 * (grid0.coords t 0).val + y0.val by
      rw [index10]; show (grid0.coords t 0).val * 512 + _ = _; omega)
  have e1 := (Pipeline.Window.rect_emb_val win0_10 t (ix2 y0 y1) 1).trans
    (show win0_10.index t 1 * 128 + y1.val = y1.val by
      rw [index10]; show 0 * 128 + _ = _; omega)
  exact (out5 m c t y0 _ e0 y1).trans (congrArg _ (Fin.ext e1.symm))

/-- The blocks of output window 6 cover its array. -/
theorem covers11 : win0_11.Covers :=
  win0_11.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- The shared values, twice: the kernel's array. -/
theorem kernel_value6 :
    (dats m 0 c).arrAt 11 cfg0.N
      = fun i : S32768x128.Idx => res6 (m ((c.tc : Thread nD τ).loc main_arg0)) (m ((c.tc : Thread nD τ).loc main_arg1)) (m ((c.tc : Thread nD τ).loc main_arg2)) (i 0) (i 1) := by
  refine (dats m 0 c).arrAt_eq_of_covers 11 _ covers11 fun t hf y => ?_
  blk_simp
  rw [after0_11]
  idx_vars y
  have e0 := (Pipeline.Window.rect_emb_val win0_11 t (ix2 y0 y1) 0).trans
    (show win0_11.index t 0 * 512 + y0.val = 512 * (grid0.coords t 0).val + y0.val by
      rw [index11]; show (grid0.coords t 0).val * 512 + _ = _; omega)
  have e1 := (Pipeline.Window.rect_emb_val win0_11 t (ix2 y0 y1) 1).trans
    (show win0_11.index t 1 * 128 + y1.val = y1.val by
      rw [index11]; show 0 * 128 + _ = _; omega)
  exact (out6 m c t y0 _ e0 y1).trans (congrArg _ (Fin.ext e1.symm))

/-- The blocks of output window 7 cover its array. -/
theorem covers12 : win0_12.Covers :=
  win0_12.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- The selecting keys, twice: the kernel's array. -/
theorem kernel_value7 :
    (dats m 0 c).arrAt 12 cfg0.N
      = fun i : S32768x128.Idx => res7 (m ((c.tc : Thread nD τ).loc main_arg0)) (m ((c.tc : Thread nD τ).loc main_arg1)) (m ((c.tc : Thread nD τ).loc main_arg2)) (i 0) (i 1) := by
  refine (dats m 0 c).arrAt_eq_of_covers 12 _ covers12 fun t hf y => ?_
  blk_simp
  rw [after0_12]
  idx_vars y
  have e0 := (Pipeline.Window.rect_emb_val win0_12 t (ix2 y0 y1) 0).trans
    (show win0_12.index t 0 * 512 + y0.val = 512 * (grid0.coords t 0).val + y0.val by
      rw [index12]; show (grid0.coords t 0).val * 512 + _ = _; omega)
  have e1 := (Pipeline.Window.rect_emb_val win0_12 t (ix2 y0 y1) 1).trans
    (show win0_12.index t 1 * 128 + y1.val = y1.val by
      rw [index12]; show 0 * 128 + _ = _; omega)
  exact (out7 m c t y0 _ e0 y1).trans (congrArg _ (Fin.ext e1.symm))

/-- The blocks of output window 8 cover its array. -/
theorem covers13 : win0_13.Covers :=
  win0_13.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- The selecting heads' weights, padded with zeros: the kernel's array. -/
theorem kernel_value8 :
    (dats m 0 c).arrAt 13 cfg0.N
      = fun i : S32768x128.Idx => res8 (m ((c.tc : Thread nD τ).loc main_arg0)) (m ((c.tc : Thread nD τ).loc main_arg1)) (m ((c.tc : Thread nD τ).loc main_arg2)) (i 0) (i 1) := by
  refine (dats m 0 c).arrAt_eq_of_covers 13 _ covers13 fun t hf y => ?_
  blk_simp
  rw [after0_13]
  idx_vars y
  have e0 := (Pipeline.Window.rect_emb_val win0_13 t (ix2 y0 y1) 0).trans
    (show win0_13.index t 0 * 512 + y0.val = 512 * (grid0.coords t 0).val + y0.val by
      rw [index13]; show (grid0.coords t 0).val * 512 + _ = _; omega)
  have e1 := (Pipeline.Window.rect_emb_val win0_13 t (ix2 y0 y1) 1).trans
    (show win0_13.index t 1 * 128 + y1.val = y1.val by
      rw [index13]; show 0 * 128 + _ = _; omega)
  exact (out8 m c t y0 _ e0 y1).trans (congrArg _ (Fin.ext e1.symm))

/-- The blocks of output window 9 cover its array. -/
theorem covers14 : win0_14.Covers :=
  win0_14.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- The gates: the kernel's array. -/
theorem kernel_value9 :
    (dats m 0 c).arrAt 14 cfg0.N
      = fun i : S32768x1024.Idx => res9 (m ((c.tc : Thread nD τ).loc main_arg0)) (m ((c.tc : Thread nD τ).loc main_arg1)) (m ((c.tc : Thread nD τ).loc main_arg2)) (i 0) (i 1) := by
  refine (dats m 0 c).arrAt_eq_of_covers 14 _ covers14 fun t hf y => ?_
  blk_simp
  rw [after0_14]
  idx_vars y
  have e0 := (Pipeline.Window.rect_emb_val win0_14 t (ix2 y0 y1) 0).trans
    (show win0_14.index t 0 * 512 + y0.val = 512 * (grid0.coords t 0).val + y0.val by
      rw [index14]; show (grid0.coords t 0).val * 512 + _ = _; omega)
  have e1 := (Pipeline.Window.rect_emb_val win0_14 t (ix2 y0 y1) 1).trans
    (show win0_14.index t 1 * 1024 + y1.val = y1.val by
      rw [index14]; show 0 * 1024 + _ = _; omega)
  exact (out9 m c t y0 _ e0 y1).trans (congrArg _ (Fin.ext e1.symm))

open Cert.Reference4Ideal.Read in
/-- The reference's product, at an element. -/
theorem reference_cell (x0 : S8x4096x1024.Idx → EReal) (x1 : S1x1024.Idx → EReal) (x2 : S1x1024x3784.Idx → EReal) (R : Fin 32768) (q : Fin 3784) :
    val_main_v16 (F := Ideal) x0 x1 x2 (ix2 R q) = cell x0 x1 x2 R q := by
  have hg : ∀ k : Fin 1024, shapeCast Cert.Reference4Ideal.S1024 x1 Cert.Reference4Ideal.Gen.shapeCasts_S1x1024_S1024 (ix1 k) = x1 (ix2 0 k) := fun k =>
    shapeCast_apply x1 _ _ _ (by
      rw [Shape.rowMajor_val_two, Shape.rowMajor_val_one]
      show 0 * 1024 + k.val = k.val
      omega)
  unfold cell proj normed Rows.rms Rows.scale
  simp only [← flat x0, ← unstack x2, ← hg]
  unfold val_main_v16 val_main_v15 val_main_v14 val_main_v13 val_main_v12 val_main_v11 val_main_v10 val_main_v9 val_main_v8
    val_main_v7 val_main_v6 val_main_v5 val_main_v4 val_main_v3 val_main_v2 val_main_v1 val_main_v0 val_main_cst val_main_cst_0 val_main_cst_1
  generalize shapeCast S32768x1024 x0 shapeCasts_S8x4096x1024_S32768x1024 = y0
  generalize shapeCast S1024x3784 x2 shapeCasts_S1x1024x3784_S1024x3784 = y2
  generalize shapeCast Cert.Reference4Ideal.S1024 x1 Cert.Reference4Ideal.Gen.shapeCasts_S1x1024_S1024 = y1
  pointwise []

open Cert.Reference4Ideal.Read in
/-- The scaled first queries: the reference's array. -/
theorem reference_value0 (x0 : S8x4096x1024.Idx → EReal) (x1 : S1x1024.Idx → EReal) (x2 : S1x1024x3784.Idx → EReal) :
    val_main_v29 (F := Ideal) x0 x1 x2 = fun i : S32768x512.Idx => res0 x0 x1 x2 (i 0) (i 1) := by
  funext j
  idx_vars j
  unfold res0
  simp only [← reference_cell]
  unfold val_main_v29 val_main_v28 val_main_v27 val_main_cst_2 val_main_v17
  generalize val_main_v16 (F := Ideal) x0 x1 x2 = z
  pointwise []
  rfl

open Cert.Reference4Ideal.Read in
/-- The first keys: the reference's array. -/
theorem reference_value1 (x0 : S8x4096x1024.Idx → EReal) (x1 : S1x1024.Idx → EReal) (x2 : S1x1024x3784.Idx → EReal) :
    val_main_v30 (F := Ideal) x0 x1 x2 = fun i : S32768x512.Idx => res1 x0 x1 x2 (i 0) (i 1) := by
  funext j
  idx_vars j
  unfold res1
  simp only [← reference_cell]
  unfold val_main_v30 val_main_v18
  generalize val_main_v16 (F := Ideal) x0 x1 x2 = z
  pointwise []

open Cert.Reference4Ideal.Read in
/-- The first values: the reference's array. -/
theorem reference_value2 (x0 : S8x4096x1024.Idx → EReal) (x1 : S1x1024.Idx → EReal) (x2 : S1x1024x3784.Idx → EReal) :
    val_main_v31 (F := Ideal) x0 x1 x2 = fun i : S32768x512.Idx => res2 x0 x1 x2 (i 0) (i 1) := by
  funext j
  idx_vars j
  unfold res2
  simp only [← reference_cell]
  unfold val_main_v31 val_main_v19
  generalize val_main_v16 (F := Ideal) x0 x1 x2 = z
  pointwise []

open Cert.Reference4Ideal.Read in
/-- The scaled second queries: the reference's array. -/
theorem reference_value3 (x0 : S8x4096x1024.Idx → EReal) (x1 : S1x1024.Idx → EReal) (x2 : S1x1024x3784.Idx → EReal) :
    val_main_v34 (F := Ideal) x0 x1 x2 = fun i : S32768x512.Idx => res3 x0 x1 x2 (i 0) (i 1) := by
  funext j
  idx_vars j
  unfold res3
  simp only [← reference_cell]
  unfold val_main_v34 val_main_v33 val_main_v32 val_main_cst_3 val_main_v20
  generalize val_main_v16 (F := Ideal) x0 x1 x2 = z
  pointwise []
  rfl

open Cert.Reference4Ideal.Read in
/-- The selecting queries: the reference's array. -/
theorem reference_value4 (x0 : S8x4096x1024.Idx → EReal) (x1 : S1x1024.Idx → EReal) (x2 : S1x1024x3784.Idx → EReal) :
    val_main_v35 (F := Ideal) x0 x1 x2 = fun i : S32768x512.Idx => res4 x0 x1 x2 (i 0) (i 1) := by
  funext j
  idx_vars j
  unfold res4
  simp only [← reference_cell]
  unfold val_main_v35 val_main_v23
  generalize val_main_v16 (F := Ideal) x0 x1 x2 = z
  pointwise []

open Cert.Reference4Ideal.Read in
/-- The shared keys, twice: the reference's array. -/
theorem reference_value5 (x0 : S8x4096x1024.Idx → EReal) (x1 : S1x1024.Idx → EReal) (x2 : S1x1024x3784.Idx → EReal) :
    val_main_v37 (F := Ideal) x0 x1 x2 = fun i : S32768x128.Idx => res5 x0 x1 x2 (i 0) (i 1) := by
  funext j
  idx_vars j
  unfold res5
  simp only [← reference_cell]
  unfold val_main_v37 val_main_v36 val_main_v21
  generalize val_main_v16 (F := Ideal) x0 x1 x2 = z
  pointwise []
  split_ifs
  all_goals
    refine congrArg (fun q => z (ix2 j0 q)) (Fin.ext ?_)
    show 2048 + _ = 2048 + _
    omega

open Cert.Reference4Ideal.Read in
/-- The shared values, twice: the reference's array. -/
theorem reference_value6 (x0 : S8x4096x1024.Idx → EReal) (x1 : S1x1024.Idx → EReal) (x2 : S1x1024x3784.Idx → EReal) :
    val_main_v39 (F := Ideal) x0 x1 x2 = fun i : S32768x128.Idx => res6 x0 x1 x2 (i 0) (i 1) := by
  funext j
  idx_vars j
  unfold res6
  simp only [← reference_cell]
  unfold val_main_v39 val_main_v38 val_main_v22
  generalize val_main_v16 (F := Ideal) x0 x1 x2 = z
  pointwise []
  split_ifs
  all_goals
    refine congrArg (fun q => z (ix2 j0 q)) (Fin.ext ?_)
    show 2112 + _ = 2112 + _
    omega

open Cert.Reference4Ideal.Read in
/-- The selecting keys, twice: the reference's array. -/
theorem reference_value7 (x0 : S8x4096x1024.Idx → EReal) (x1 : S1x1024.Idx → EReal) (x2 : S1x1024x3784.Idx → EReal) :
    val_main_v41 (F := Ideal) x0 x1 x2 = fun i : S32768x128.Idx => res7 x0 x1 x2 (i 0) (i 1) := by
  funext j
  idx_vars j
  unfold res7
  simp only [← reference_cell]
  unfold val_main_v41 val_main_v40 val_main_v24
  generalize val_main_v16 (F := Ideal) x0 x1 x2 = z
  pointwise []
  split_ifs
  all_goals
    refine congrArg (fun q => z (ix2 j0 q)) (Fin.ext ?_)
    show 2688 + _ = 2688 + _
    omega

open Cert.Reference4Ideal.Read in
/-- The selecting heads' weights, padded with zeros: the reference's array. -/
theorem reference_value8 (x0 : S8x4096x1024.Idx → EReal) (x1 : S1x1024.Idx → EReal) (x2 : S1x1024x3784.Idx → EReal) :
    val_main_v42 (F := Ideal) x0 x1 x2 = fun i : S32768x128.Idx => res8 x0 x1 x2 (i 0) (i 1) := by
  funext j
  idx_vars j
  unfold res8
  simp only [← reference_cell]
  unfold val_main_v42 val_main_v25 val_main_call0_v0 val_main_c
  generalize val_main_v16 (F := Ideal) x0 x1 x2 = z
  pointwise []
  split_ifs
  · rfl
  · simp [FloatOps.sitofp]

open Cert.Reference4Ideal.Read in
/-- The gates: the reference's array. -/
theorem reference_value9 (x0 : S8x4096x1024.Idx → EReal) (x1 : S1x1024.Idx → EReal) (x2 : S1x1024x3784.Idx → EReal) :
    val_main_v43 (F := Ideal) x0 x1 x2 = fun i : S32768x1024.Idx => res9 x0 x1 x2 (i 0) (i 1) := by
  funext j
  idx_vars j
  unfold res9
  simp only [← reference_cell]
  unfold val_main_v43 val_main_v26
  generalize val_main_v16 (F := Ideal) x0 x1 x2 = z
  pointwise []

end Cert.Proof.InProj

end
-- ==== Proof.Mla.lean ====
/- The odd layer's input projection, as the reference states it: latent rows, heads, rotary positions. -/
module

public import proofs.«01_k».proof.Proof.Rows
public import proofs.«01_k».proof.Proof.Gen.Reference5Ideal.Read
public import Idealize.ShloMosaic.Lib.Pointwise

@[expose] public section

noncomputable section

namespace Cert.Proof.Mla

open Idealize.ShloMosaic Idealize.ShloMosaic.TcCoe Idealize.SL.Sem
open Cert.Reference5Ideal

set_option maxRecDepth 20000

/-- The angle of a position's rotation in one of the sixteen planes. -/
def angle (p : Fin 4096) (j : Fin 16) : EReal := Read.val_main_v15 (F := Ideal) (ix2 p j)

/-- The arguments of the call. -/
structure Args where
  /-- the rows -/
  a0 : S32768x1024.Idx → EReal
  /-- the gains of the rows' norm -/
  a1 : S1x1024.Idx → EReal
  /-- the weights of the latent rows, the shared rope key and the gate -/
  a2 : S1x1024x1696.Idx → EReal
  /-- the gains of the query's norm -/
  a3 : S1x384.Idx → EReal
  /-- the queries' weights -/
  a4 : S1x384x1536.Idx → EReal
  /-- the gains of the keys' and values' norm -/
  a5 : S1x256.Idx → EReal
  /-- the keys' and values' weights -/
  a6 : S1x256x2048.Idx → EReal

variable (A : Args) (R : Fin 32768)

/-- The normalised row. -/
def hrow (k : Fin 1024) : EReal := Rows.rms (Ideal.ofBits .f32 0x44800000#32) (fun k => A.a0 (ix2 R k)) k * A.a1 (ix2 0 k)

/-- The row's product with a column of the weights. -/
def lat (q : Fin 1696) : EReal := ∑ k, hrow A R k * A.a2 (ix3 0 k q)

/-- The queries' normalised latent row. -/
def qn (k : Fin 384) : EReal :=
  Rows.rms (Ideal.ofBits .f32 0x43C00000#32) (fun k : Fin 384 => lat A R ⟨k.val, by omega⟩) k * A.a3 (ix2 0 k)

/-- The keys' and values' normalised latent row. -/
def kvn (k : Fin 256) : EReal :=
  Rows.rms (Ideal.ofBits .f32 0x43800000#32) (fun k : Fin 256 => lat A R ⟨384 + k.val, by omega⟩) k * A.a5 (ix2 0 k)

/-- The queries before the rotation. -/
def qcol (j : Fin 1536) : EReal := ∑ k, qn A R k * A.a4 (ix3 0 k j)

/-- The keys without position, and the values. -/
def kvcol (j : Fin 2048) : EReal := ∑ k, kvn A R k * A.a6 (ix3 0 k j)

/-- The position of a row. -/
def pos : Fin 4096 := ⟨R.val % 4096, by omega⟩

/-- One coordinate of a pair `(x₁, x₂)` turned by the angle of plane `j`: the first below sixteen, the second above. -/
def turn (j : Fin 32) (x₁ x₂ : EReal) : EReal :=
  if j.val < 16 then x₁ * Ideal.cos (angle (pos R) ⟨j.val % 16, by omega⟩) - x₂ * Ideal.sin (angle (pos R) ⟨j.val % 16, by omega⟩)
  else x₁ * Ideal.sin (angle (pos R) ⟨j.val % 16, by omega⟩) + x₂ * Ideal.cos (angle (pos R) ⟨j.val % 16, by omega⟩)

/-- A head's query. -/
def query (h : Fin 16) (l : Fin 128) : EReal :=
  if l.val < 64 then qcol A R ⟨(96 * h.val + l.val) % 1536, by omega⟩
  else if l.val < 96 then
    turn R ⟨(l.val - 64) % 32, by omega⟩ (qcol A R ⟨96 * h.val + 64 + l.val % 16, by omega⟩) (qcol A R ⟨96 * h.val + 80 + l.val % 16, by omega⟩)
  else 0

/-- A head's key. -/
def key (h : Fin 16) (l : Fin 128) : EReal :=
  if l.val < 64 then kvcol A R ⟨128 * h.val + l.val, by omega⟩
  else if l.val < 96 then
    turn R ⟨(l.val - 64) % 32, by omega⟩ (lat A R ⟨640 + l.val % 16, by omega⟩) (lat A R ⟨656 + l.val % 16, by omega⟩)
  else 0

/-- A head's value. -/
def value (h : Fin 16) (l : Fin 64) : EReal := kvcol A R ⟨128 * h.val + 64 + l.val, by omega⟩

/-- The gate. -/
def gate (l : Fin 1024) : EReal := lat A R ⟨672 + l.val, by omega⟩

/-- The queries, heads side by side. -/
def res0 (c : Fin 2048) : EReal := query A R ⟨c.val / 128, by omega⟩ ⟨c.val % 128, by omega⟩

/-- The keys, heads side by side. -/
def res1 (c : Fin 2048) : EReal := key A R ⟨c.val / 128, by omega⟩ ⟨c.val % 128, by omega⟩

/-- The values, heads side by side. -/
def res2 (c : Fin 1024) : EReal := value A R ⟨c.val / 64, by omega⟩ ⟨c.val % 64, by omega⟩

/-! ## Finite rows -/

/-- An extended real that is neither infinite. -/
def IsReal (x : EReal) : Prop := x ≠ ⊥ ∧ x ≠ ⊤

theorem fin_coe (r : ℝ) : IsReal (r : EReal) := ⟨EReal.coe_ne_bot r, EReal.coe_ne_top r⟩

/-- It is a real. -/
theorem IsReal.real {x : EReal} (h : IsReal x) : ∃ r : ℝ, x = r := ⟨x.toReal, (EReal.coe_toReal h.2 h.1).symm⟩

/-- A product of reals is real. -/
theorem IsReal.mul {x y : EReal} (hx : IsReal x) (hy : IsReal y) : IsReal (x * y) := by
  obtain ⟨a, rfl⟩ := hx.real
  obtain ⟨b, rfl⟩ := hy.real
  rw [← EReal.coe_mul]
  exact fin_coe _

/-- A finite sum of reals is real. -/
theorem fin_sum {n : ℕ} (f : Fin n → EReal) (h : ∀ k, IsReal (f k)) : IsReal (∑ k, f k) := by
  have key : ∀ s : Finset (Fin n), IsReal (∑ k ∈ s, f k) := by
    classical
    intro s
    induction s using Finset.induction_on with
    | empty => simpa using fin_coe 0
    | insert a s ha ih =>
      rw [Finset.sum_insert ha]
      obtain ⟨x, hx⟩ := (h a).real
      obtain ⟨y, hy⟩ := ih.real
      rw [hx, hy, ← EReal.coe_add]
      exact fin_coe _
  exact key Finset.univ

/-- A square is not negative. -/
theorem square_nonneg (x : EReal) : 0 ≤ x * x := by
  induction x with
  | bot => simp
  | top => simp
  | coe r => rw [← EReal.coe_mul]; exact EReal.coe_nonneg.mpr (mul_self_nonneg r)

/-- The small word under the root is positive. -/
theorem eps_pos : (0 : EReal) < Ideal.ofBits .f32 897988541#32 := by
  simp [Ideal.ofBits, Ideal.ieee]
  rw [← EReal.coe_mul]
  exact EReal.coe_pos.mpr (by positivity)

/-- One over the root of a positive number is real. -/
theorem fin_rsqrt {v : EReal} (h : 0 < v) : IsReal (Ideal.rsqrt v) := by
  induction v with
  | bot => exact absurd h (by simp)
  | top => exact fin_coe 0
  | coe r =>
    have hr : 0 < r := EReal.coe_pos.mp h
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    rw [e]
    exact fin_coe _

/-- A normalised row is real, whatever the row: a row with an infinite element has the scale zero. -/
theorem fin_rms {n : ℕ} (N : ℝ) (hN : 0 < N) (x : Fin n → EReal) (k : Fin n) : IsReal (Rows.rms (N : EReal) x k) := by
  have hinv : (0 : EReal) < (N : EReal)⁻¹ := by
    rw [← EReal.coe_inv]; exact EReal.coe_pos.mpr (inv_pos.mpr hN)
  have hdiv : ∀ s : EReal, Ideal.div s (N : EReal) = s * (N : EReal)⁻¹ := fun s => by
    unfold Ideal.div
    rw [if_neg (by exact_mod_cast hN.ne')]
  have hs : 0 ≤ ∑ l, x l * x l := Finset.sum_nonneg fun l _ => square_nonneg _
  unfold Rows.rms Rows.scale
  rw [hdiv]
  by_cases ht : ∑ l, x l * x l = ⊤
  · rw [ht, EReal.top_mul_of_pos hinv, EReal.top_add_of_ne_bot eps_pos.ne_bot]
    show IsReal (x k * 0)
    rw [mul_zero]
    exact fin_coe 0
  · have hk : IsReal (x k) := by
      have hle : x k * x k ≤ ∑ l, x l * x l :=
        Finset.single_le_sum (f := fun l => x l * x l) (fun l _ => square_nonneg _) (Finset.mem_univ k)
      constructor
      · intro e; rw [e] at hle; exact ht (top_le_iff.mp (by simpa using hle))
      · intro e; rw [e] at hle; exact ht (top_le_iff.mp (by simpa using hle))
    refine hk.mul (fin_rsqrt ?_)
    exact lt_of_lt_of_le eps_pos (le_add_of_nonneg_left (mul_nonneg hs hinv.le))

/-- The word of a row's length is a positive real. -/
theorem word1024 : Ideal.ofBits .f32 0x44800000#32 = ((1024 : ℝ) : EReal) := by
  simp [Ideal.ofBits, Ideal.ieee]
  rw [← EReal.coe_mul]
  norm_num
theorem word384 : Ideal.ofBits .f32 0x43C00000#32 = ((384 : ℝ) : EReal) := by
  simp [Ideal.ofBits, Ideal.ieee]
  rw [← EReal.coe_mul]
  norm_num

/-- What the precondition gives: the gains and the weights of the rotated columns are real. -/
structure Args.Real (A : Args) : Prop where
  h1 : ∀ k, IsReal (A.a1 (ix2 0 k))
  h2 : ∀ k q, IsReal (A.a2 (ix3 0 k q))
  h3 : ∀ k, IsReal (A.a3 (ix2 0 k))
  h4 : ∀ k q, IsReal (A.a4 (ix3 0 k q))

variable {A}

/-- Then the normalised row is real, -/
theorem fin_hrow (H : A.Real) (k : Fin 1024) : IsReal (hrow A R k) := by
  unfold hrow
  rw [word1024]
  exact (fin_rms _ (by norm_num) _ _).mul (H.h1 k)

/-- and the queries' normalised latent row. -/
theorem fin_qn (H : A.Real) (k : Fin 384) : IsReal (qn A R k) := by
  unfold qn
  rw [word384]
  exact (fin_rms _ (by norm_num) _ _).mul (H.h3 k)

/-- A real row's product with a negated real column. -/
theorem sum_neg {n : ℕ} (f g : Fin n → EReal) (hf : ∀ k, IsReal (f k)) (hg : ∀ k, IsReal (g k)) :
    ∑ k, f k * -g k = -∑ k, f k * g k := by
  have key : ∀ s : Finset (Fin n), IsReal (∑ k ∈ s, f k * g k) ∧ ∑ k ∈ s, f k * -g k = -∑ k ∈ s, f k * g k := by
    classical
    intro s
    induction s using Finset.induction_on with
    | empty => exact ⟨by simpa using fin_coe 0, by simp⟩
    | insert a s ha ih =>
      rw [Finset.sum_insert ha, Finset.sum_insert ha, ih.2]
      obtain ⟨x, hx⟩ := ((hf a).mul (hg a)).real
      obtain ⟨y, hy⟩ := ih.1.real
      rw [mul_neg, hx, hy]
      refine ⟨by rw [← EReal.coe_add]; exact fin_coe _, ?_⟩
      rw [← EReal.coe_neg, ← EReal.coe_neg, ← EReal.coe_add, ← EReal.coe_add, ← EReal.coe_neg]
      exact congrArg _ (by ring)
  exact (key Finset.univ).2

end Cert.Proof.Mla

end
-- ==== Proof.MlaHost.lean ====
/- The odd layer's input projection: the arrays the host prepares, at an element. -/
module

public import proofs.«01_k».proof.Proof.Mla
public import proofs.«01_k».proof.Proof.Gen.Kernel5Ideal.Value
public import Idealize.ShloMosaic.Lib.Pointwise
public import Idealize.ShloMosaic.Lib.Claim
public import Idealize.ShloMosaic.Lib.Pipeline.ValueKit
public import Idealize.ShloMosaic.Lib.StableHlo.ReadAt

@[expose] public section

noncomputable section

namespace Cert.Proof.Mla

open Idealize.ShloMosaic Idealize.ShloMosaic.TcCoe Idealize.SL.Sem
open Cert.Kernel5Ideal Cert.Kernel5Ideal.Gen

set_option maxRecDepth 20000

variable (m : (ℓ : Loc nD τ sig) → Buf (Elt Ideal) ℓ) (c : Dev nD)

/-- The arguments in memory. -/
abbrev args : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)

/-- The padding's zero. -/
theorem sitofp_zero : FloatOps.sitofp (F := Ideal) FTy.f32 0#32 = (0 : EReal) := by simp [FloatOps.sitofp]

/-- The gains. -/
theorem gain1_at (k : Fin 1024) : V m c main_v61 (ix2 0 k) = (args m c).a1 (ix2 0 k) := by
  unfold V
  after_reads_at
theorem gain3_at (k : Fin 384) : V m c main_v63 (ix2 0 k) = (args m c).a3 (ix2 0 k) := by
  unfold V
  after_reads_at
theorem gain5_at (k : Fin 256) : V m c main_v65 (ix2 0 k) = (args m c).a5 (ix2 0 k) := by
  unfold V
  after_reads_at

/-- The gate's weights. -/
theorem gate_at (k : Fin 1024) (l : Fin 1024) : V m c main_v5 (ix2 k l) = (args m c).a2 (ix3 0 k ⟨672 + l.val, by omega⟩) := by
  unfold V
  after_reads_at

/-- The rotation's angle written out. -/
theorem angle_eq (p : Fin 4096) (j : Fin 16) : angle p j
    = FloatOps.sitofp (F := Ideal) FTy.f32 (BitVec.ofNat 32 p.val) * Ideal.pow (Ideal.ofBits FTy.f32 1176256512#32)
        (Ideal.div (-(Ideal.ofBits FTy.f32 1073741824#32 * FloatOps.sitofp (F := Ideal) FTy.f32 (BitVec.ofNat 32 j.val)))
          (Ideal.ofBits FTy.f32 1107296256#32)) := by
  unfold angle Cert.Reference5Ideal.Read.val_main_v15 Cert.Reference5Ideal.Read.val_main_v14 Cert.Reference5Ideal.Read.val_main_v13
    Cert.Reference5Ideal.Read.val_main_v12 Cert.Reference5Ideal.Read.val_main_v11 Cert.Reference5Ideal.Read.val_main_v10
    Cert.Reference5Ideal.Read.val_main_v9 Cert.Reference5Ideal.Read.val_main_v8 Cert.Reference5Ideal.Read.val_main_v7
    Cert.Reference5Ideal.Read.val_main_v6 Cert.Reference5Ideal.Read.val_main_v5 Cert.Reference5Ideal.Read.val_main_v4
    Cert.Reference5Ideal.Read.val_main_v3 Cert.Reference5Ideal.Read.val_main_v2 Cert.Reference5Ideal.Read.val_main_v1
    Cert.Reference5Ideal.Read.val_main_v0 Cert.Reference5Ideal.Read.val_main_cst Cert.Reference5Ideal.Read.val_main_cst_0
    Cert.Reference5Ideal.Read.val_main_cst_1 Cert.Reference5Ideal.Read.val_main_cst_2
  pointwise []

/-- The latent rows' weights. -/
theorem lat_at0 (k : Fin 1024) (l : Fin 640) : V m c main_v17 (ix2 k ⟨l.val, by omega⟩) = (args m c).a2 (ix3 0 k ⟨l.val, by omega⟩) := by
  unfold V
  after_reads_at
  try after_reads_at
  try after_reads_at
  split_ifs
  all_goals first | omega | skip
  all_goals first | done | exact congrArg (fun q => m ((c.tc : Thread nD τ).loc main_arg2) (ix3 0 k q)) (Fin.ext (by dsimp only <;> omega))

/-- The shared key's weights, in the lanes of the rope. -/
theorem kr_at0 (k : Fin 1024) (l : Fin 128) (h : 64 ≤ l.val) (h2 : l.val < 96) : V m c main_v17 (ix2 k ⟨640 + l.val, by omega⟩) = (args m c).a2 (ix3 0 k ⟨640 + (l.val - 64), by omega⟩) := by
  unfold V
  after_reads_at
  try after_reads_at
  try after_reads_at
  split_ifs
  all_goals first | omega | skip
  all_goals first | done | exact congrArg (fun q => m ((c.tc : Thread nD τ).loc main_arg2) (ix3 0 k q)) (Fin.ext (by dsimp only <;> omega))

/-- Elsewhere they are zero. -/
theorem kr_at1 (k : Fin 1024) (l : Fin 128) (h : ¬(64 ≤ l.val ∧ l.val < 96)) : V m c main_v17 (ix2 k ⟨640 + l.val, by omega⟩) = (0 : EReal) := by
  unfold V
  after_reads_at
  try after_reads_at
  try after_reads_at
  split_ifs
  all_goals first | omega | skip
  all_goals first | rfl | simp [FloatOps.sitofp]

/-- The turned shared key's weights: the second half negated, -/
theorem krr_at0 (k : Fin 1024) (l : Fin 128) (h : 64 ≤ l.val) (h2 : l.val < 80) : V m c main_v17 (ix2 k ⟨768 + l.val, by omega⟩) = -(args m c).a2 (ix3 0 k ⟨656 + (l.val - 64), by omega⟩) := by
  unfold V
  after_reads_at
  try after_reads_at
  try after_reads_at
  split_ifs
  all_goals first | omega | skip
  all_goals first | done | exact congrArg (fun q => -(show EReal from m ((c.tc : Thread nD τ).loc main_arg2) (ix3 0 k q))) (Fin.ext (by dsimp only <;> omega))

/-- then the first half, -/
theorem krr_at1 (k : Fin 1024) (l : Fin 128) (h : 80 ≤ l.val) (h2 : l.val < 96) : V m c main_v17 (ix2 k ⟨768 + l.val, by omega⟩) = (args m c).a2 (ix3 0 k ⟨640 + (l.val - 80), by omega⟩) := by
  unfold V
  after_reads_at
  try after_reads_at
  try after_reads_at
  split_ifs
  all_goals first | omega | skip
  all_goals first | done | exact congrArg (fun q => m ((c.tc : Thread nD τ).loc main_arg2) (ix3 0 k q)) (Fin.ext (by dsimp only <;> omega))

/-- elsewhere zero. -/
theorem krr_at2 (k : Fin 1024) (l : Fin 128) (h : ¬(64 ≤ l.val ∧ l.val < 96)) : V m c main_v17 (ix2 k ⟨768 + l.val, by omega⟩) = (0 : EReal) := by
  unfold V
  after_reads_at
  try after_reads_at
  try after_reads_at
  split_ifs
  all_goals first | omega | skip
  all_goals first | rfl | simp [FloatOps.sitofp]

/-- The queries' weights. -/
theorem wq_at0 (k : Fin 384) (h : Fin 16) (l : Fin 128) (h1 : l.val < 96) : V m c main_v67 (ix2 k ⟨128 * h.val + l.val, by omega⟩) = (args m c).a4 (ix3 0 k ⟨96 * h.val + l.val, by omega⟩) := by
  unfold V
  after_reads_at
  try after_reads_at
  try after_reads_at
  split_ifs
  all_goals first | omega | skip
  · refine Eq.trans (b := (HAdd.hAdd : EReal → EReal → EReal) _ _) rfl ?_
    refine (congrArg₂ (HAdd.hAdd : EReal → EReal → EReal) ?_ (sitofp_zero)).trans (add_zero _)
    exact congrArg (fun q => m ((c.tc : Thread nD τ).loc main_arg4) (ix3 0 k q)) (Fin.ext (by dsimp only <;> omega))
  · refine Eq.trans (b := (HAdd.hAdd : EReal → EReal → EReal) _ _) rfl ?_
    refine (congrArg (HAdd.hAdd (0 : EReal) : EReal → EReal) ?_).trans (zero_add _)
    exact congrArg (fun q => m ((c.tc : Thread nD τ).loc main_arg4) (ix3 0 k q)) (Fin.ext (by dsimp only <;> omega))

/-- Past the rope they are zero. -/
theorem wq_at1 (k : Fin 384) (h : Fin 16) (l : Fin 128) (h1 : ¬l.val < 96) : V m c main_v67 (ix2 k ⟨128 * h.val + l.val, by omega⟩) = (0 : EReal) := by
  unfold V
  after_reads_at
  try after_reads_at
  try after_reads_at
  split_ifs
  all_goals first | omega | skip
  all_goals simp [FloatOps.sitofp]

/-- The turned queries' weights: the second half negated, -/
theorem wr_at0 (k : Fin 384) (h : Fin 16) (l : Fin 128) (h1 : 64 ≤ l.val) (h2 : l.val < 80) : V m c main_v69 (ix2 k ⟨128 * h.val + l.val, by omega⟩) = -(args m c).a4 (ix3 0 k ⟨96 * h.val + 80 + (l.val - 64), by omega⟩) := by
  unfold V
  after_reads_at
  try after_reads_at
  try after_reads_at
  split_ifs
  all_goals first | omega | skip
  all_goals first | done | exact congrArg (fun q => -(show EReal from m ((c.tc : Thread nD τ).loc main_arg4) (ix3 0 k q))) (Fin.ext (by dsimp only <;> omega))

/-- then the first half, -/
theorem wr_at1 (k : Fin 384) (h : Fin 16) (l : Fin 128) (h1 : 80 ≤ l.val) (h2 : l.val < 96) : V m c main_v69 (ix2 k ⟨128 * h.val + l.val, by omega⟩) = (args m c).a4 (ix3 0 k ⟨96 * h.val + 64 + (l.val - 80), by omega⟩) := by
  unfold V
  after_reads_at
  try after_reads_at
  try after_reads_at
  split_ifs
  all_goals first | omega | skip
  all_goals first | done | exact congrArg (fun q => m ((c.tc : Thread nD τ).loc main_arg4) (ix3 0 k q)) (Fin.ext (by dsimp only <;> omega))

/-- elsewhere zero. -/
theorem wr_at2 (k : Fin 384) (h : Fin 16) (l : Fin 128) (h1 : ¬(64 ≤ l.val ∧ l.val < 96)) : V m c main_v69 (ix2 k ⟨128 * h.val + l.val, by omega⟩) = (0 : EReal) := by
  unfold V
  after_reads_at
  try after_reads_at
  try after_reads_at
  split_ifs
  all_goals first | omega | skip
  all_goals first | rfl | simp [FloatOps.sitofp]

/-- The keys' weights. -/
theorem wk_at0 (k : Fin 256) (h : Fin 16) (l : Fin 128) (h1 : l.val < 64) : V m c main_v71 (ix2 k ⟨128 * h.val + l.val, by omega⟩) = (args m c).a6 (ix3 0 k ⟨128 * h.val + l.val, by omega⟩) := by
  unfold V
  after_reads_at
  try after_reads_at
  try after_reads_at
  split_ifs
  all_goals first | omega | skip
  all_goals first | done | exact congrArg (fun q => m ((c.tc : Thread nD τ).loc main_arg6) (ix3 0 k q)) (Fin.ext (by dsimp only <;> omega))

/-- Past the first half they are zero. -/
theorem wk_at1 (k : Fin 256) (h : Fin 16) (l : Fin 128) (h1 : ¬l.val < 64) : V m c main_v71 (ix2 k ⟨128 * h.val + l.val, by omega⟩) = (0 : EReal) := by
  unfold V
  after_reads_at
  try after_reads_at
  try after_reads_at
  split_ifs
  all_goals first | omega | skip
  all_goals first | rfl | simp [FloatOps.sitofp]

/-- The values' weights. -/
theorem wv_at (k : Fin 256) (h : Fin 16) (l : Fin 64) : V m c main_v73 (ix2 k ⟨64 * h.val + l.val, by omega⟩)
    = (args m c).a6 (ix3 0 k ⟨128 * h.val + 64 + l.val, by omega⟩) := by
  unfold V
  after_reads_at
  exact congrArg (fun q => m ((c.tc : Thread nD τ).loc main_arg6) (ix3 0 k q)) (Fin.ext (by dsimp only <;> omega))

/-- The table below the rope. -/
theorem cos_at0 (p : Fin 4096) (l : Fin 128) (h : l.val < 64) : V m c main_v57 (ix2 p l) = (1 : EReal) := by
  unfold V
  after_reads_at
  try after_reads_at
  try after_reads_at
  split_ifs
  all_goals first | omega | skip
  all_goals first | rfl | simp

/-- In the rope. -/
theorem cos_at1 (p : Fin 4096) (l : Fin 128) (h : 64 ≤ l.val) (h2 : l.val < 96) : V m c main_v57 (ix2 p l) = Ideal.cos (angle p ⟨l.val % 16, by omega⟩) := by
  unfold V
  after_reads_at
  try after_reads_at
  try after_reads_at
  split_ifs
  all_goals first | omega | skip
  all_goals
    rw [angle_eq]
    refine congrArg (fun n : ℕ => Ideal.cos (FloatOps.sitofp (F := Ideal) FTy.f32 (BitVec.ofNat 32 p.val) * Ideal.pow (Ideal.ofBits FTy.f32 1176256512#32)
      (Ideal.div (-(Ideal.ofBits FTy.f32 1073741824#32 * FloatOps.sitofp (F := Ideal) FTy.f32 (BitVec.ofNat 32 n)))
        (Ideal.ofBits FTy.f32 1107296256#32)))) ?_
    dsimp only
    omega

/-- Past it. -/
theorem cos_at2 (p : Fin 4096) (l : Fin 128) (h : ¬l.val < 96) : V m c main_v57 (ix2 p l) = (0 : EReal) := by
  unfold V
  after_reads_at
  try after_reads_at
  try after_reads_at
  split_ifs
  all_goals first | omega | skip
  all_goals first | rfl | simp

/-- The table below the rope. -/
theorem sin_at0 (p : Fin 4096) (l : Fin 128) (h : l.val < 64) : V m c main_v59 (ix2 p l) = (0 : EReal) := by
  unfold V
  after_reads_at
  try after_reads_at
  try after_reads_at
  split_ifs
  all_goals first | omega | skip
  all_goals first | rfl | simp

/-- In the rope. -/
theorem sin_at1 (p : Fin 4096) (l : Fin 128) (h : 64 ≤ l.val) (h2 : l.val < 96) : V m c main_v59 (ix2 p l) = Ideal.sin (angle p ⟨l.val % 16, by omega⟩) := by
  unfold V
  after_reads_at
  try after_reads_at
  try after_reads_at
  split_ifs
  all_goals first | omega | skip
  all_goals
    rw [angle_eq]
    refine congrArg (fun n : ℕ => Ideal.sin (FloatOps.sitofp (F := Ideal) FTy.f32 (BitVec.ofNat 32 p.val) * Ideal.pow (Ideal.ofBits FTy.f32 1176256512#32)
      (Ideal.div (-(Ideal.ofBits FTy.f32 1073741824#32 * FloatOps.sitofp (F := Ideal) FTy.f32 (BitVec.ofNat 32 n)))
        (Ideal.ofBits FTy.f32 1107296256#32)))) ?_
    dsimp only
    omega

/-- Past it. -/
theorem sin_at2 (p : Fin 4096) (l : Fin 128) (h : ¬l.val < 96) : V m c main_v59 (ix2 p l) = (0 : EReal) := by
  unfold V
  after_reads_at
  try after_reads_at
  try after_reads_at
  split_ifs
  all_goals first | omega | skip
  all_goals first | rfl | simp

end Cert.Proof.Mla

end
-- ==== Proof.MlaBlocks.lean ====
/- The odd layer's input projection: what a point's body computes from its blocks. -/
module

public import proofs.«01_k».proof.Proof.MlaHost
public import Idealize.ShloMosaic.Lib.Pipeline.Covers

@[expose] public section

noncomputable section

namespace Cert.Proof.Mla

open Idealize.ShloMosaic Idealize.ShloMosaic.TcCoe Idealize.SL.Sem
open Cert.Kernel5Ideal Cert.Kernel5Ideal.Gen
open Idealize.ShloMosaic.Pipeline (Dat)

set_option maxRecDepth 20000

/-! ## The body's operations, at an element -/

/-- The normalised rows. -/
theorem pay3_at (v0 : Vec Ideal S512x1024 .f32) (v1 : Vec Ideal S1x1024 .f32) (r : Fin 512) (k : Fin 1024) :
    k0_pay3 v0 v1 (ix2 r k) = Rows.rms (Ideal.ofBits .f32 0x44800000#32) (fun k => v0 (ix2 r k)) k * v1 (ix2 0 k) := by
  unfold_payloads
  pointwise []
  rfl

/-- Their product with the latent weights. -/
theorem pay6_at (v0 : Vec Ideal S512x1024 .f32) (v1 : Vec Ideal S1x1024 .f32) (w : Vec Ideal S1024x896 .bf16) (r : Fin 512) (q : Fin 896) :
    k0_pay6 v0 v1 w (ix2 r q) = ∑ k, k0_pay3 v0 v1 (ix2 r k) * w (ix2 k q) := by
  unfold k0_pay6
  generalize k0_pay3 v0 v1 = h
  pointwise []

/-- The shared key's lanes. -/
theorem pay9_at (v0 : Vec Ideal S512x1024 .f32) (v1 : Vec Ideal S1x1024 .f32) (v16 v18 : Vec Ideal S512x128 .f32)
    (w : Vec Ideal S1024x896 .bf16) (r : Fin 512) (l : Fin 128) :
    k0_pay9 v0 v1 v16 v18 w (ix2 r l)
      = k0_pay6 v0 v1 w (ix2 r ⟨640 + l.val, by omega⟩) * v16 (ix2 r l) + k0_pay6 v0 v1 w (ix2 r ⟨768 + l.val, by omega⟩) * v18 (ix2 r l) := by
  unfold k0_pay9 k0_pay4 k0_pay5
  generalize k0_pay6 v0 v1 w = h
  pointwise []

/-- The queries' normalised latent rows. -/
theorem pay12_at (v0 : Vec Ideal S512x1024 .f32) (v1 : Vec Ideal S1x1024 .f32) (w : Vec Ideal S1024x896 .bf16) (v30 : Vec Ideal S1x384 .f32)
    (r : Fin 512) (k : Fin 384) :
    k0_pay12 (k0_pay7 v0 v1 w) (k0_pay10 v30) (k0_pay11 v0 v1 w) (ix2 r k)
      = Rows.rms (Ideal.ofBits .f32 0x43C00000#32) (fun k : Fin 384 => k0_pay6 v0 v1 w (ix2 r ⟨k.val, by omega⟩)) k * v30 (ix2 0 k) := by
  unfold k0_pay12 k0_pay11 k0_pay10 k0_pay7
  generalize k0_pay6 v0 v1 w = h
  pointwise []
  rfl

/-- The keys' and values' normalised latent rows. -/
theorem pay13_at (v0 : Vec Ideal S512x1024 .f32) (v1 : Vec Ideal S1x1024 .f32) (w : Vec Ideal S1024x896 .bf16) (v45 : Vec Ideal S1x256 .f32)
    (r : Fin 512) (k : Fin 256) :
    k0_pay13 (k0_pay8 v0 v1 w) v45 (ix2 r k)
      = Rows.rms (Ideal.ofBits .f32 0x43800000#32) (fun k : Fin 256 => k0_pay6 v0 v1 w (ix2 r ⟨384 + k.val, by omega⟩)) k * v45 (ix2 0 k) := by
  unfold k0_pay13 k0_pay8
  generalize k0_pay6 v0 v1 w = h
  pointwise []
  rfl

/-- A head's query from its two products. -/
theorem pay16_at (v17 v19 : FVec Ideal S512x128 .f32) (v44 : FVec Ideal S512x384 .bf16) (a b : Vec Ideal S384x128 .bf16) (r : Fin 512) (l : Fin 128) :
    k0_pay16 v17 v19 v44 a b (ix2 r l)
      = (∑ k, v44 (ix2 r k) * a (ix2 k l)) * v17 (ix2 r l) + (∑ k, v44 (ix2 r k) * b (ix2 k l)) * v19 (ix2 r l) := by
  unfold_payloads
  pointwise []

/-- A head's key from its product. -/
theorem pay17_at (v29 : FVec Ideal S512x128 .f32) (v59 : FVec Ideal S512x256 .bf16) (a : Vec Ideal S256x128 .bf16) (r : Fin 512) (l : Fin 128) :
    k0_pay17 v29 v59 a (ix2 r l) = (∑ k, v59 (ix2 r k) * a (ix2 k l)) + v29 (ix2 r l) := by
  unfold_payloads
  pointwise []

/-- The values, and the gate. -/
theorem pay1_at (v59 : FVec Ideal S512x256 .bf16) (a : Vec Ideal S256x1024 .bf16) (r : Fin 512) (l : Fin 1024) :
    k0_pay1 v59 a (ix2 r l) = ∑ k, v59 (ix2 r k) * a (ix2 k l) := by
  unfold_payloads
  pointwise []
theorem pay2_at (v15 : FVec Ideal S512x1024 .bf16) (a : Vec Ideal S1024x1024 .bf16) (r : Fin 512) (l : Fin 1024) :
    k0_pay2 v15 a (ix2 r l) = ∑ k, v15 (ix2 r k) * a (ix2 k l) := by
  unfold_payloads
  pointwise []

/-! ## The heads side by side -/

/-- The lane of a column in its head. -/
abbrev lane (y : Fin 2048) : Fin 128 := ⟨y.val % 128, by omega⟩

/-- The queries a body stores, over the whole block. -/
def allQ (v17 v19 : FVec Ideal S512x128 .f32) (v44 : FVec Ideal S512x384 .bf16) (a b : Vec Ideal S384x2048 .bf16) : Vec Ideal S512x2048 .bf16 :=
  fun y => (∑ k, v44 (ix2 (y 0) k) * a (ix2 k (y 1))) * v17 (ix2 (y 0) (lane (y 1)))
    + (∑ k, v44 (ix2 (y 0) k) * b (ix2 k (y 1))) * v19 (ix2 (y 0) (lane (y 1)))

/-- The keys a body stores, over the whole block. -/
def allK (v29 : FVec Ideal S512x128 .f32) (v59 : FVec Ideal S512x256 .bf16) (a : Vec Ideal S256x2048 .bf16) : Vec Ideal S512x2048 .bf16 :=
  fun y => (∑ k, v59 (ix2 (y 0) k) * a (ix2 k (y 1))) + v29 (ix2 (y 0) (lane (y 1)))

/-- Where a head's lane lies in the block. -/
theorem lane_emb (o : ℕ) (ho : o + 128 ≤ 2048) (inb : ∀ a, (![0, o] : Fin 2 → ℕ) a + S512x128.size a ≤ S512x2048.size a) (r : Fin 512) (l : Fin 128) :
    (Rect.unit (s := S512x2048) ![0, o] S512x128.size inb).emb (ix2 r l) = ix2 r ⟨o + l.val, by omega⟩ := by
  funext a
  refine Fin.ext ?_
  rw [Rect.emb_apply]
  match a with
  | 0 => show 0 + 1 * r.val = r.val; omega
  | 1 => show o + 1 * l.val = o + l.val; omega

/-- One head's query is its part of the whole. -/
theorem piece_q_at (v17 v19 : FVec Ideal S512x128 .f32) (v44 : FVec Ideal S512x384 .bf16) (a b : Vec Ideal S384x2048 .bf16)
    (o : ℕ) (ho : o + 128 ≤ 2048) (hm : o % 128 = 0) (inb : ∀ a, (![0, o] : Fin 2 → ℕ) a + S512x128.size a ≤ S512x2048.size a)
    (inb' : ∀ a, (![0, o] : Fin 2 → ℕ) a + S384x128.size a ≤ S384x2048.size a) (x0 : Fin 512) (x1 : Fin 128) :
    k0_pay16 v17 v19 v44 (View.ld a (Rect.unit ![0, o] S384x128.size inb')) (View.ld b (Rect.unit ![0, o] S384x128.size inb')) (ix2 x0 x1)
      = allQ v17 v19 v44 a b ((Rect.unit (s := S512x2048) ![0, o] S512x128.size inb).emb (ix2 x0 x1)) := by
  have e : ∀ (w : Vec Ideal S384x2048 .bf16) (k : Fin 384), View.ld w (Rect.unit ![0, o] S384x128.size inb') (ix2 k x1) = w (ix2 k ⟨o + x1.val, by omega⟩) :=
    fun w k => View.ld_unit_apply_of _ _ _ _ _ _ fun a => by
      match a with
      | 0 => exact (Nat.zero_add _).symm
      | 1 => exact rfl
  have el : lane ⟨o + x1.val, by omega⟩ = x1 := Fin.ext (by show (o + x1.val) % 128 = x1.val; omega)
  rw [lane_emb o ho, pay16_at]
  show _ = (∑ k, v44 (ix2 x0 k) * a (ix2 k ⟨o + x1.val, _⟩)) * v17 (ix2 x0 (lane ⟨o + x1.val, _⟩))
    + (∑ k, v44 (ix2 x0 k) * b (ix2 k ⟨o + x1.val, _⟩)) * v19 (ix2 x0 (lane ⟨o + x1.val, _⟩))
  rw [el]
  exact congrArg₂ (HAdd.hAdd : EReal → EReal → EReal)
    (congrArg (fun s : EReal => s * v17 (ix2 x0 x1)) (Finset.sum_congr rfl fun k _ => congrArg (fun s : EReal => v44 (ix2 x0 k) * s) (e a k)))
    (congrArg (fun s : EReal => s * v19 (ix2 x0 x1)) (Finset.sum_congr rfl fun k _ => congrArg (fun s : EReal => v44 (ix2 x0 k) * s) (e b k)))

/-- One head's part at every index. -/
theorem piece_q (v17 v19 : FVec Ideal S512x128 .f32) (v44 : FVec Ideal S512x384 .bf16) (a b : Vec Ideal S384x2048 .bf16)
    (o : ℕ) (ho : o + 128 ≤ 2048) (hm : o % 128 = 0) (inb : ∀ a, (![0, o] : Fin 2 → ℕ) a + S512x128.size a ≤ S512x2048.size a)
    (inb' : ∀ a, (![0, o] : Fin 2 → ℕ) a + S384x128.size a ≤ S384x2048.size a) (x : S512x128.Idx) :
    k0_pay16 v17 v19 v44 (View.ld a (Rect.unit ![0, o] S384x128.size inb')) (View.ld b (Rect.unit ![0, o] S384x128.size inb')) x
      = allQ v17 v19 v44 a b ((Rect.unit (s := S512x2048) ![0, o] S512x128.size inb).emb x) := by
  idx_vars x
  exact piece_q_at v17 v19 v44 a b o ho hm inb inb' x0 x1

/-- One head's key is its part of the whole. -/
theorem piece_k_at (v29 : FVec Ideal S512x128 .f32) (v59 : FVec Ideal S512x256 .bf16) (a : Vec Ideal S256x2048 .bf16)
    (o : ℕ) (ho : o + 128 ≤ 2048) (hm : o % 128 = 0) (inb : ∀ a, (![0, o] : Fin 2 → ℕ) a + S512x128.size a ≤ S512x2048.size a)
    (inb' : ∀ a, (![0, o] : Fin 2 → ℕ) a + S256x128.size a ≤ S256x2048.size a) (x0 : Fin 512) (x1 : Fin 128) :
    k0_pay17 v29 v59 (View.ld a (Rect.unit ![0, o] S256x128.size inb')) (ix2 x0 x1)
      = allK v29 v59 a ((Rect.unit (s := S512x2048) ![0, o] S512x128.size inb).emb (ix2 x0 x1)) := by
  have e : ∀ (w : Vec Ideal S256x2048 .bf16) (k : Fin 256), View.ld w (Rect.unit ![0, o] S256x128.size inb') (ix2 k x1) = w (ix2 k ⟨o + x1.val, by omega⟩) :=
    fun w k => View.ld_unit_apply_of _ _ _ _ _ _ fun a => by
      match a with
      | 0 => exact (Nat.zero_add _).symm
      | 1 => exact rfl
  have el : lane ⟨o + x1.val, by omega⟩ = x1 := Fin.ext (by show (o + x1.val) % 128 = x1.val; omega)
  rw [lane_emb o ho, pay17_at]
  show _ = (∑ k, v59 (ix2 x0 k) * a (ix2 k ⟨o + x1.val, _⟩)) + v29 (ix2 x0 (lane ⟨o + x1.val, _⟩))
  rw [el]
  exact congrArg (fun s : EReal => s + v29 (ix2 x0 x1)) (Finset.sum_congr rfl fun k _ => congrArg (fun s : EReal => v59 (ix2 x0 k) * s) (e a k))

/-- One head's part at every index. -/
theorem piece_k (v29 : FVec Ideal S512x128 .f32) (v59 : FVec Ideal S512x256 .bf16) (a : Vec Ideal S256x2048 .bf16)
    (o : ℕ) (ho : o + 128 ≤ 2048) (hm : o % 128 = 0) (inb : ∀ a, (![0, o] : Fin 2 → ℕ) a + S512x128.size a ≤ S512x2048.size a)
    (inb' : ∀ a, (![0, o] : Fin 2 → ℕ) a + S256x128.size a ≤ S256x2048.size a) (x : S512x128.Idx) :
    k0_pay17 v29 v59 (View.ld a (Rect.unit ![0, o] S256x128.size inb')) x
      = allK v29 v59 a ((Rect.unit (s := S512x2048) ![0, o] S512x128.size inb).emb x) := by
  idx_vars x
  exact piece_k_at v29 v59 a o ho hm inb inb' x0 x1

section Bodies

variable (x0 : Vec Ideal S512x1024 .f32) (x1 : Vec Ideal S1x1024 .f32) (x2 : Vec Ideal S512x128 .f32) (x3 : Vec Ideal S512x128 .f32)
  (x4 : Vec Ideal S1024x896 .bf16) (x5 : Vec Ideal S1024x1024 .bf16) (x6 : Vec Ideal S1x384 .f32) (x7 : Vec Ideal S1x256 .f32)
  (x8 : Vec Ideal S384x2048 .bf16) (x9 : Vec Ideal S384x2048 .bf16) (x10 : Vec Ideal S256x2048 .bf16) (x11 : Vec Ideal S256x1024 .bf16)

/-- What the body leaves of the queries. -/
theorem body_q : out0_12 x0 x1 x2 x3 x4 x5 x6 x7 x8 x9 x10 x11
    = allQ (k0_pay51 x0 x1 x2 x3 x4 x5 x6 x7 x8 x9 x10 x11) (k0_pay52 x0 x1 x2 x3 x4 x5 x6 x7 x8 x9 x10 x11)
        (k0_pay58 x0 x1 x2 x3 x4 x5 x6 x7 x8 x9 x10 x11) x8 x9 := by
  funext y
  unfold out0_12
  generalize ec : k0_pay51 x0 x1 x2 x3 x4 x5 x6 x7 x8 x9 x10 x11 = c
  generalize es : k0_pay52 x0 x1 x2 x3 x4 x5 x6 x7 x8 x9 x10 x11 = s
  generalize eq : k0_pay58 x0 x1 x2 x3 x4 x5 x6 x7 x8 x9 x10 x11 = q
  have e0 : k0_pay14 c s (k0_pay53 x0 x1 x2 x3 x4 x5 x6 x7 x8 x9 x10 x11) (k0_pay56 x0 x1 x2 x3 x4 x5 x6 x7 x8 x9 x10 x11)
      (k0_pay57 x0 x1 x2 x3 x4 x5 x6 x7 x8 x9 x10 x11) (View.ld x8 r0_6) (View.ld x9 r0_6) = k0_pay16 c s q (View.ld x8 r0_6) (View.ld x9 r0_6) := by
    subst eq
    rfl
  rw [e0]
  refine View.canon_apply_of_pieces (allQ c s q x8 x9) _ ?_ y (cover0_12 _ _ _ _ _ _ _ _ _ _ _ _ _ _ _ _ y)
  simp only [List.forall_mem_cons, List.not_mem_nil, false_imp_iff, implies_true, and_true]
  exact ⟨fun x => piece_q c s q x8 x9 1920 (by decide) (by decide) _ _ x, fun x => piece_q c s q x8 x9 1792 (by decide) (by decide) _ _ x,
    fun x => piece_q c s q x8 x9 1664 (by decide) (by decide) _ _ x, fun x => piece_q c s q x8 x9 1536 (by decide) (by decide) _ _ x,
    fun x => piece_q c s q x8 x9 1408 (by decide) (by decide) _ _ x, fun x => piece_q c s q x8 x9 1280 (by decide) (by decide) _ _ x,
    fun x => piece_q c s q x8 x9 1152 (by decide) (by decide) _ _ x, fun x => piece_q c s q x8 x9 1024 (by decide) (by decide) _ _ x,
    fun x => piece_q c s q x8 x9 896 (by decide) (by decide) _ _ x, fun x => piece_q c s q x8 x9 768 (by decide) (by decide) _ _ x,
    fun x => piece_q c s q x8 x9 640 (by decide) (by decide) _ _ x, fun x => piece_q c s q x8 x9 512 (by decide) (by decide) _ _ x,
    fun x => piece_q c s q x8 x9 384 (by decide) (by decide) _ _ x, fun x => piece_q c s q x8 x9 256 (by decide) (by decide) _ _ x,
    fun x => piece_q c s q x8 x9 128 (by decide) (by decide) _ _ x, fun x => piece_q c s q x8 x9 0 (by decide) (by decide) _ _ x⟩

/-- What the body leaves of the keys. -/
theorem body_k : out0_13 x0 x1 x2 x3 x4 x5 x6 x7 x8 x9 x10 x11
    = allK (k0_pay55 x0 x1 x2 x3 x4 x5 x6 x7 x8 x9 x10 x11) (k0_pay59 x0 x1 x2 x3 x4 x5 x6 x7 x8 x9 x10 x11) x10 := by
  funext y
  unfold out0_13
  generalize es : k0_pay55 x0 x1 x2 x3 x4 x5 x6 x7 x8 x9 x10 x11 = s
  generalize eq : k0_pay59 x0 x1 x2 x3 x4 x5 x6 x7 x8 x9 x10 x11 = q
  have e0 : k0_pay15 (k0_pay54 x0 x1 x2 x3 x4 x5 x6 x7 x8 x9 x10 x11) s (View.ld x7 r0_5) (View.ld x10 r0_8) = k0_pay17 s q (View.ld x10 r0_8) := by
    subst eq
    rfl
  rw [e0]
  refine View.canon_apply_of_pieces (allK s q x10) _ ?_ y (cover0_13 _ _ _ _ _ _ _ _ _ _ _ _ _ _ _ _ y)
  simp only [List.forall_mem_cons, List.not_mem_nil, false_imp_iff, implies_true, and_true]
  exact ⟨fun x => piece_k s q x10 1920 (by decide) (by decide) _ _ x, fun x => piece_k s q x10 1792 (by decide) (by decide) _ _ x,
    fun x => piece_k s q x10 1664 (by decide) (by decide) _ _ x, fun x => piece_k s q x10 1536 (by decide) (by decide) _ _ x,
    fun x => piece_k s q x10 1408 (by decide) (by decide) _ _ x, fun x => piece_k s q x10 1280 (by decide) (by decide) _ _ x,
    fun x => piece_k s q x10 1152 (by decide) (by decide) _ _ x, fun x => piece_k s q x10 1024 (by decide) (by decide) _ _ x,
    fun x => piece_k s q x10 896 (by decide) (by decide) _ _ x, fun x => piece_k s q x10 768 (by decide) (by decide) _ _ x,
    fun x => piece_k s q x10 640 (by decide) (by decide) _ _ x, fun x => piece_k s q x10 512 (by decide) (by decide) _ _ x,
    fun x => piece_k s q x10 384 (by decide) (by decide) _ _ x, fun x => piece_k s q x10 256 (by decide) (by decide) _ _ x,
    fun x => piece_k s q x10 128 (by decide) (by decide) _ _ x, fun x => piece_k s q x10 0 (by decide) (by decide) _ _ x⟩

end Bodies

end Cert.Proof.Mla

end
-- ==== Proof.MlaKernel.lean ====
/- The odd layer's input projection: the kernel's four arrays. -/
module

public import proofs.«01_k».proof.Proof.MlaBlocks

@[expose] public section

noncomputable section

namespace Cert.Proof.Mla

open Idealize.ShloMosaic Idealize.ShloMosaic.TcCoe Idealize.SL.Sem
open Cert.Kernel5Ideal Cert.Kernel5Ideal.Gen
open Idealize.ShloMosaic.Pipeline (Dat)

set_option maxRecDepth 20000

/-! ## The block of each window at a grid point -/
theorem index0 : ∀ t : Fin cfg0.N, win0_0.index t = ![(grid0.coords t 0).val, 0] :=
  (by decide +kernel : ∀ t : Fin grid0.N, _)
theorem index1 : ∀ t : Fin cfg0.N, win0_1.index t = ![0, 0] :=
  (by decide +kernel : ∀ t : Fin grid0.N, _)
theorem index2 : ∀ t : Fin cfg0.N, win0_2.index t = ![(grid0.coords t 0).val % 8, 0] :=
  (by decide +kernel : ∀ t : Fin grid0.N, _)
theorem index3 : ∀ t : Fin cfg0.N, win0_3.index t = ![(grid0.coords t 0).val % 8, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![0, 0] :=
  (by decide +kernel : ∀ t : Fin grid0.N, _)
theorem index7 : ∀ t : Fin cfg0.N, win0_7.index t = ![0, 0] :=
  (by decide +kernel : ∀ t : Fin grid0.N, _)
theorem index8 : ∀ t : Fin cfg0.N, win0_8.index t = ![0, 0] :=
  (by decide +kernel : ∀ t : Fin grid0.N, _)
theorem index9 : ∀ t : Fin cfg0.N, win0_9.index t = ![0, 0] :=
  (by decide +kernel : ∀ t : Fin grid0.N, _)
theorem index10 : ∀ t : Fin cfg0.N, win0_10.index t = ![0, 0] :=
  (by decide +kernel : ∀ t : Fin grid0.N, _)
theorem index11 : ∀ t : Fin cfg0.N, win0_11.index t = ![0, 0] :=
  (by decide +kernel : ∀ t : Fin grid0.N, _)
theorem index12 : ∀ t : Fin cfg0.N, win0_12.index t = ![(grid0.coords t 0).val, 0] :=
  (by decide +kernel : ∀ t : Fin grid0.N, _)
theorem index13 : ∀ t : Fin cfg0.N, win0_13.index t = ![(grid0.coords t 0).val, 0] :=
  (by decide +kernel : ∀ t : Fin grid0.N, _)
theorem index14 : ∀ t : Fin cfg0.N, win0_14.index t = ![(grid0.coords t 0).val, 0] :=
  (by decide +kernel : ∀ t : Fin grid0.N, _)
theorem index15 : ∀ t : Fin cfg0.N, win0_15.index t = ![(grid0.coords t 0).val, 0] :=
  (by decide +kernel : ∀ t : Fin grid0.N, _)

variable (m : (ℓ : Loc nD τ sig) → Buf (Elt Ideal) ℓ) (c : Dev nD) (t : Fin cfg0.N) (r : Fin 512) (R : Fin 32768)

/-- The rows a point's block holds. -/
theorem blk0 (h : R.val = 512 * (grid0.coords t 0).val + r.val) (k : Fin 1024) : iblk m c 0 t (ix2 r k) = (args m c).a0 (ix2 R k) := by
  blk_simp [iblk]
  entry_read
  refine congrArg (m ((c.tc : Thread nD τ).loc main_arg0)) ?_
  blk_ext [index0]

/-- The cosines and sines a point's block holds: those of its rows' positions. -/
theorem blk2 (h : R.val = 512 * (grid0.coords t 0).val + r.val) (l : Fin 128) : iblk m c 2 t (ix2 r l) = V m c main_v57 (ix2 (pos R) l) := by
  have hp : (pos R).val = 512 * ((grid0.coords t 0).val % 8) + r.val := by show R.val % 4096 = _; omega
  blk_simp [iblk]
  refine congrArg (V m c main_v57) ?_
  blk_ext [index2]
theorem blk3 (h : R.val = 512 * (grid0.coords t 0).val + r.val) (l : Fin 128) : iblk m c 3 t (ix2 r l) = V m c main_v59 (ix2 (pos R) l) := by
  have hp : (pos R).val = 512 * ((grid0.coords t 0).val % 8) + r.val := by show R.val % 4096 = _; omega
  blk_simp [iblk]
  refine congrArg (V m c main_v59) ?_
  blk_ext [index3]

/-- The gains and weights a point's block holds: the whole of what the host hands on. -/
theorem blk1 (k : Fin 1) (q : Fin 1024) : iblk m c 1 t (ix2 k q) = V m c main_v61 (ix2 k q) := by
  blk_simp [iblk]
  refine congrArg (V m c main_v61) ?_
  blk_ext [index1]
theorem blk4 (k : Fin 1024) (q : Fin 896) : iblk m c 4 t (ix2 k q) = V m c main_v17 (ix2 k q) := by
  blk_simp [iblk]
  refine congrArg (V m c main_v17) ?_
  blk_ext [index4]
theorem blk5 (k : Fin 1024) (q : Fin 1024) : iblk m c 5 t (ix2 k q) = V m c main_v5 (ix2 k q) := by
  blk_simp [iblk]
  refine congrArg (V m c main_v5) ?_
  blk_ext [index5]
theorem blk6 (k : Fin 1) (q : Fin 384) : iblk m c 6 t (ix2 k q) = V m c main_v63 (ix2 k q) := by
  blk_simp [iblk]
  refine congrArg (V m c main_v63) ?_
  blk_ext [index6]
theorem blk7 (k : Fin 1) (q : Fin 256) : iblk m c 7 t (ix2 k q) = V m c main_v65 (ix2 k q) := by
  blk_simp [iblk]
  refine congrArg (V m c main_v65) ?_
  blk_ext [index7]
theorem blk8 (k : Fin 384) (q : Fin 2048) : iblk m c 8 t (ix2 k q) = V m c main_v67 (ix2 k q) := by
  blk_simp [iblk]
  refine congrArg (V m c main_v67) ?_
  blk_ext [index8]
theorem blk9 (k : Fin 384) (q : Fin 2048) : iblk m c 9 t (ix2 k q) = V m c main_v69 (ix2 k q) := by
  blk_simp [iblk]
  refine congrArg (V m c main_v69) ?_
  blk_ext [index9]
theorem blk10 (k : Fin 256) (q : Fin 2048) : iblk m c 10 t (ix2 k q) = V m c main_v71 (ix2 k q) := by
  blk_simp [iblk]
  refine congrArg (V m c main_v71) ?_
  blk_ext [index10]
theorem blk11 (k : Fin 256) (q : Fin 1024) : iblk m c 11 t (ix2 k q) = V m c main_v73 (ix2 k q) := by
  blk_simp [iblk]
  refine congrArg (V m c main_v73) ?_
  blk_ext [index11]

/-! ## The body's values, from its blocks -/

section Bodies

variable (x0 : Vec Ideal S512x1024 .f32) (x1 : Vec Ideal S1x1024 .f32) (x2 : Vec Ideal S512x128 .f32) (x3 : Vec Ideal S512x128 .f32)
  (x4 : Vec Ideal S1024x896 .bf16) (x5 : Vec Ideal S1024x1024 .bf16) (x6 : Vec Ideal S1x384 .f32) (x7 : Vec Ideal S1x256 .f32)
  (x8 : Vec Ideal S384x2048 .bf16) (x9 : Vec Ideal S384x2048 .bf16) (x10 : Vec Ideal S256x2048 .bf16) (x11 : Vec Ideal S256x1024 .bf16)

theorem zero_off : (![0, 0] : Fin 2 → ℕ) = fun _ => 0 := by decide

/-- The cosines, -/
theorem body_cos (l : Fin 128) : k0_pay51 x0 x1 x2 x3 x4 x5 x6 x7 x8 x9 x10 x11 (ix2 r l) = x2 (ix2 r l) := by
  unfold k0_pay51
  rw [View.ld_unit_zero zero_off]
  unfold_payloads
  pointwise []

/-- the sines, -/
theorem body_sin (l : Fin 128) : k0_pay52 x0 x1 x2 x3 x4 x5 x6 x7 x8 x9 x10 x11 (ix2 r l) = x3 (ix2 r l) := by
  unfold k0_pay52
  rw [View.ld_unit_zero zero_off]
  unfold_payloads
  pointwise []

/-- the shared key's lanes, -/
theorem body_rope : k0_pay55 x0 x1 x2 x3 x4 x5 x6 x7 x8 x9 x10 x11 = k0_pay9 x0 x1 x2 x3 x4 := by
  unfold k0_pay55
  rw [View.ld_unit_zero zero_off, View.ld_unit_zero zero_off, View.ld_unit_zero zero_off, View.ld_unit_zero zero_off, View.ld_unit_zero zero_off]

/-- the queries' normalised latent rows, -/
theorem body_qn : k0_pay58 x0 x1 x2 x3 x4 x5 x6 x7 x8 x9 x10 x11 = k0_pay12 (k0_pay7 x0 x1 x4) (k0_pay10 x6) (k0_pay11 x0 x1 x4) := by
  unfold k0_pay58 k0_pay57 k0_pay56 k0_pay53
  rw [View.ld_unit_zero zero_off, View.ld_unit_zero zero_off, View.ld_unit_zero zero_off, View.ld_unit_zero zero_off]

/-- and the keys' and values'. -/
theorem body_kvn : k0_pay59 x0 x1 x2 x3 x4 x5 x6 x7 x8 x9 x10 x11 = k0_pay13 (k0_pay8 x0 x1 x4) x7 := by
  unfold k0_pay59 k0_pay54
  rw [View.ld_unit_zero zero_off, View.ld_unit_zero zero_off, View.ld_unit_zero zero_off, View.ld_unit_zero zero_off]

/-- What the body leaves of the values, -/
theorem body_v : out0_14 x0 x1 x2 x3 x4 x5 x6 x7 x8 x9 x10 x11 = k0_pay1 (k0_pay59 x0 x1 x2 x3 x4 x5 x6 x7 x8 x9 x10 x11) x11 := by
  unfold out0_14
  rw [View.canon_unit_zero zero_off, View.ld_unit_zero zero_off]

/-- and of the gate. -/
theorem body_g : out0_15 x0 x1 x2 x3 x4 x5 x6 x7 x8 x9 x10 x11 = k0_pay2 (k0_pay3 x0 x1) x5 := by
  unfold out0_15
  rw [View.canon_unit_zero zero_off, View.ld_unit_zero zero_off, View.ld_unit_zero zero_off, View.ld_unit_zero zero_off]

end Bodies

/-! ## Products of a row and a column -/

/-- The product. -/
def dotp {n : ℕ} (f g : Fin n → EReal) : EReal := ∑ k, f k * g k

theorem dotp_congr {n : ℕ} {f f' g g' : Fin n → EReal} (hf : ∀ k, f k = f' k) (hg : ∀ k, g k = g' k) : dotp f g = dotp f' g' := by
  rw [funext hf, funext hg]

/-- With a column of zeros. -/
theorem dotp_zero {n : ℕ} {f g : Fin n → EReal} (hg : ∀ k, g k = 0) : dotp f g = 0 := by
  unfold dotp
  exact Finset.sum_eq_zero fun k _ => by rw [hg, mul_zero]

/-- With a negated column, of reals. -/
theorem dotp_neg {n : ℕ} {f g g' : Fin n → EReal} (hg : ∀ k, g k = -g' k) (hf : ∀ k, IsReal (f k)) (hg' : ∀ k, IsReal (g' k)) :
    dotp f g = -dotp f g' := by
  unfold dotp
  rw [← sum_neg f g' hf hg']
  exact Finset.sum_congr rfl fun k _ => by rw [hg]

/-- Equal parts, equal wholes. -/
theorem comb {a a' b b' c c' s s' : EReal} (ha : a = a') (hb : b = b') (hc : c = c') (hs : s = s') :
    a * c + b * s = a' * c' + b' * s' := by rw [ha, hb, hc, hs]

/-- Below sixteen, the turn of a pair, -/
theorem turn_low (j : Fin 32) (i : Fin 16) (hj : j.val < 16) (hi : i.val = j.val % 16) (a b : EReal) :
    a * Ideal.cos (angle (pos R) i) + -b * Ideal.sin (angle (pos R) i) = turn R j a b := by
  unfold turn
  rw [if_pos hj, show i = ⟨j.val % 16, by omega⟩ from Fin.ext hi, neg_mul, ← sub_eq_add_neg]

/-- and above. -/
theorem turn_high (j : Fin 32) (i : Fin 16) (hj : ¬j.val < 16) (hi : i.val = j.val % 16) (a b : EReal) :
    b * Ideal.cos (angle (pos R) i) + a * Ideal.sin (angle (pos R) i) = turn R j a b := by
  unfold turn
  rw [if_neg hj, show i = ⟨j.val % 16, by omega⟩ from Fin.ext hi, add_comm]

/-- The rotated lanes of the shared key, from the host's columns. -/
theorem rope_eq (H : (args m c).Real) (l : Fin 128) :
    dotp (hrow (args m c) R) (fun k => V m c main_v17 (ix2 k ⟨640 + l.val, by omega⟩)) * V m c main_v57 (ix2 (pos R) l)
        + dotp (hrow (args m c) R) (fun k => V m c main_v17 (ix2 k ⟨768 + l.val, by omega⟩)) * V m c main_v59 (ix2 (pos R) l)
      = if 64 ≤ l.val ∧ l.val < 96 then
          turn R ⟨(l.val - 64) % 32, by omega⟩ (lat (args m c) R ⟨640 + l.val % 16, by omega⟩) (lat (args m c) R ⟨656 + l.val % 16, by omega⟩)
        else 0 := by
  by_cases h : 64 ≤ l.val ∧ l.val < 96
  · rw [if_pos h]
    obtain ⟨h1, h2⟩ := h
    by_cases h3 : l.val < 80
    · refine (comb (a' := lat (args m c) R ⟨640 + l.val % 16, by omega⟩) (b' := -lat (args m c) R ⟨656 + l.val % 16, by omega⟩)
        ?_ ?_ (cos_at1 m c _ l h1 h2) (sin_at1 m c _ l h1 h2)).trans (turn_low R _ _ (by dsimp only; omega) (by dsimp only; omega) _ _)
      · exact dotp_congr (fun _ => rfl) fun k => (kr_at0 m c k l h1 h2).trans (congrArg (fun q => (args m c).a2 (ix3 0 k q)) (Fin.ext (by dsimp only; omega)))
      · exact dotp_neg (fun k => (krr_at0 m c k l h1 h3).trans (congrArg (fun q => -(show EReal from (args m c).a2 (ix3 0 k q))) (Fin.ext (by dsimp only; omega))))
          (fin_hrow R H) fun k => H.h2 k _
    · refine (comb (a' := lat (args m c) R ⟨656 + l.val % 16, by omega⟩) (b' := lat (args m c) R ⟨640 + l.val % 16, by omega⟩)
        ?_ ?_ (cos_at1 m c _ l h1 h2) (sin_at1 m c _ l h1 h2)).trans (turn_high R _ _ (by dsimp only; omega) (by dsimp only; omega) _ _)
      · exact dotp_congr (fun _ => rfl) fun k => (kr_at0 m c k l h1 h2).trans (congrArg (fun q => (args m c).a2 (ix3 0 k q)) (Fin.ext (by dsimp only; omega)))
      · exact dotp_congr (fun _ => rfl) fun k => (krr_at1 m c k l (by omega) h2).trans (congrArg (fun q => (args m c).a2 (ix3 0 k q)) (Fin.ext (by dsimp only; omega)))
  · rw [if_neg h]
    refine (comb (dotp_zero fun k => kr_at1 m c k l h) (dotp_zero fun k => krr_at2 m c k l h) rfl rfl).trans ?_
    rw [zero_mul, zero_mul, add_zero]

/-- A head's query, from the host's columns. -/
theorem query_eq (H : (args m c).Real) (h : Fin 16) (l : Fin 128) :
    dotp (qn (args m c) R) (fun k => V m c main_v67 (ix2 k ⟨128 * h.val + l.val, by omega⟩)) * V m c main_v57 (ix2 (pos R) l)
        + dotp (qn (args m c) R) (fun k => V m c main_v69 (ix2 k ⟨128 * h.val + l.val, by omega⟩)) * V m c main_v59 (ix2 (pos R) l)
      = query (args m c) R h l := by
  have hh := h.isLt
  unfold query
  by_cases h1 : l.val < 64
  · rw [if_pos h1]
    refine (comb (a' := qcol (args m c) R ⟨(96 * h.val + l.val) % 1536, by omega⟩)
      ?_ (dotp_zero fun k => wr_at2 m c k h l (by omega)) (cos_at0 m c _ l h1) (sin_at0 m c _ l h1)).trans ?_
    · exact dotp_congr (fun _ => rfl) fun k => (wq_at0 m c k h l (by omega)).trans (congrArg (fun q => (args m c).a4 (ix3 0 k q)) (Fin.ext (by dsimp only; omega)))
    · rw [mul_one, zero_mul, add_zero]
  · rw [if_neg h1]
    by_cases h2 : l.val < 96
    · rw [if_pos h2]
      by_cases h3 : l.val < 80
      · refine (comb (a' := qcol (args m c) R ⟨96 * h.val + 64 + l.val % 16, by omega⟩) (b' := -qcol (args m c) R ⟨96 * h.val + 80 + l.val % 16, by omega⟩)
          ?_ ?_ (cos_at1 m c _ l (by omega) h2) (sin_at1 m c _ l (by omega) h2)).trans (turn_low R _ _ (by dsimp only; omega) (by dsimp only; omega) _ _)
        · exact dotp_congr (fun _ => rfl) fun k => (wq_at0 m c k h l h2).trans (congrArg (fun q => (args m c).a4 (ix3 0 k q)) (Fin.ext (by dsimp only; omega)))
        · exact dotp_neg (fun k => (wr_at0 m c k h l (by omega) h3).trans (congrArg (fun q => -(show EReal from (args m c).a4 (ix3 0 k q))) (Fin.ext (by dsimp only; omega))))
            (fin_qn R H) fun k => H.h4 k _
      · refine (comb (a' := qcol (args m c) R ⟨96 * h.val + 80 + l.val % 16, by omega⟩) (b' := qcol (args m c) R ⟨96 * h.val + 64 + l.val % 16, by omega⟩)
          ?_ ?_ (cos_at1 m c _ l (by omega) h2) (sin_at1 m c _ l (by omega) h2)).trans (turn_high R _ _ (by dsimp only; omega) (by dsimp only; omega) _ _)
        · exact dotp_congr (fun _ => rfl) fun k => (wq_at0 m c k h l h2).trans (congrArg (fun q => (args m c).a4 (ix3 0 k q)) (Fin.ext (by dsimp only; omega)))
        · exact dotp_congr (fun _ => rfl) fun k => (wr_at1 m c k h l (by omega) h2).trans (congrArg (fun q => (args m c).a4 (ix3 0 k q)) (Fin.ext (by dsimp only; omega)))
    · rw [if_neg h2]
      refine (comb (dotp_zero fun k => wq_at1 m c k h l h2) (dotp_zero fun k => wr_at2 m c k h l (by omega)) rfl rfl).trans ?_
      rw [zero_mul, zero_mul, add_zero]

/-- A head's key, from the host's columns. -/
theorem key_eq (h : Fin 16) (l : Fin 128) :
    dotp (kvn (args m c) R) (fun k => V m c main_v71 (ix2 k ⟨128 * h.val + l.val, by omega⟩))
        + (if 64 ≤ l.val ∧ l.val < 96 then
            turn R ⟨(l.val - 64) % 32, by omega⟩ (lat (args m c) R ⟨640 + l.val % 16, by omega⟩) (lat (args m c) R ⟨656 + l.val % 16, by omega⟩)
          else 0)
      = key (args m c) R h l := by
  unfold key
  by_cases h1 : l.val < 64
  · rw [if_pos h1, if_neg (by omega), add_zero]
    exact dotp_congr (fun _ => rfl) fun k => wk_at0 m c k h l h1
  · rw [if_neg h1, dotp_zero fun k => wk_at1 m c k h l h1, zero_add]
    by_cases h2 : l.val < 96
    · rw [if_pos h2, if_pos ⟨by omega, h2⟩]
    · rw [if_neg h2, if_neg (by omega)]

/-! ## A point's values -/

section Points

variable (h : R.val = 512 * (grid0.coords t 0).val + r.val)

include h

/-- The normalised rows, -/
theorem pt_hrow (k : Fin 1024) : k0_pay3 (iblk m c 0 t) (iblk m c 1 t) (ix2 r k) = hrow (args m c) R k := by
  rw [pay3_at]
  unfold hrow
  rw [blk1, gain1_at]
  exact congrArg (fun f => Rows.rms (Ideal.ofBits .f32 0x44800000#32) f k * (args m c).a1 (ix2 0 k))
    (funext fun k : Fin 1024 => blk0 m c t r R h k)

/-- their products with the latent weights, -/
theorem pt_dot (q : Fin 896) : k0_pay6 (iblk m c 0 t) (iblk m c 1 t) (iblk m c 4 t) (ix2 r q)
    = dotp (hrow (args m c) R) (fun k => V m c main_v17 (ix2 k q)) := by
  rw [pay6_at]
  exact dotp_congr (fun k => pt_hrow m c t r R h k) fun k => blk4 m c t k q
theorem pt_lat (q : Fin 640) : k0_pay6 (iblk m c 0 t) (iblk m c 1 t) (iblk m c 4 t) (ix2 r ⟨q.val, by omega⟩)
    = lat (args m c) R ⟨q.val, by omega⟩ :=
  (pt_dot m c t r R h _).trans (dotp_congr (fun _ => rfl) fun k => lat_at0 m c k q)

/-- the queries' normalised latent rows, -/
theorem pt_qn (k : Fin 384) : k0_pay58 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k) = qn (args m c) R k := by
  rw [body_qn, pay12_at]
  unfold qn
  rw [blk6, gain3_at]
  exact congrArg (fun f => Rows.rms (Ideal.ofBits .f32 0x43C00000#32) f k * (args m c).a3 (ix2 0 k))
    (funext fun k : Fin 384 => pt_lat m c t r R h ⟨k.val, by omega⟩)

/-- the keys' and values', -/
theorem pt_kvn (k : Fin 256) : k0_pay59 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k) = kvn (args m c) R k := by
  rw [body_kvn, pay13_at]
  unfold kvn
  rw [blk7, gain5_at]
  exact congrArg (fun f => Rows.rms (Ideal.ofBits .f32 0x43800000#32) f k * (args m c).a5 (ix2 0 k))
    (funext fun k : Fin 256 => pt_lat m c t r R h ⟨384 + k.val, by omega⟩)

/-- the shared key's lanes. -/
theorem pt_rope (H : (args m c).Real) (l : Fin 128) : k0_pay55 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r l)
    = if 64 ≤ l.val ∧ l.val < 96 then
        turn R ⟨(l.val - 64) % 32, by omega⟩ (lat (args m c) R ⟨640 + l.val % 16, by omega⟩) (lat (args m c) R ⟨656 + l.val % 16, by omega⟩)
      else 0 := by
  rw [body_rope, pay9_at]
  exact (comb (pt_dot m c t r R h _) (pt_dot m c t r R h _) (blk2 m c t r R h l) (blk3 m c t r R h l)).trans (rope_eq m c R H l)

/-- A point's queries, -/
theorem pt_query (H : (args m c).Real) (q : Fin 2048) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = res0 (args m c) R q := by
  have e : q = ⟨128 * (q.val / 128) + q.val % 128, by omega⟩ := Fin.ext (by dsimp only; omega)
  rw [body_q]
  refine Eq.trans ?_ (query_eq m c R H ⟨q.val / 128, by omega⟩ ⟨q.val % 128, by omega⟩)
  refine comb ?_ ?_ ((body_cos _ _ _ _ _ _ _ _ _ _ _ _ _ _).trans (blk2 m c t r R h _)) ((body_sin _ _ _ _ _ _ _ _ _ _ _ _ _ _).trans (blk3 m c t r R h _))
  · exact dotp_congr (fun k => pt_qn m c t r R h k) fun k => (blk8 m c t k q).trans (congrArg (fun q => V m c main_v67 (ix2 k q)) e)
  · exact dotp_congr (fun k => pt_qn m c t r R h k) fun k => (blk9 m c t k q).trans (congrArg (fun q => V m c main_v69 (ix2 k q)) e)

/-- its keys, -/
theorem pt_key (H : (args m c).Real) (q : Fin 2048) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = res1 (args m c) R q := by
  have e : q = ⟨128 * (q.val / 128) + q.val % 128, by omega⟩ := Fin.ext (by dsimp only; omega)
  rw [body_k]
  refine Eq.trans ?_ (key_eq m c R ⟨q.val / 128, by omega⟩ ⟨q.val % 128, by omega⟩)
  refine congrArg₂ (HAdd.hAdd : EReal → EReal → EReal) ?_ (pt_rope m c t r R h H _)
  exact dotp_congr (fun k => pt_kvn m c t r R h k) fun k => (blk10 m c t k q).trans (congrArg (fun q => V m c main_v71 (ix2 k q)) e)

/-- its values, -/
theorem pt_value (q : Fin 1024) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = res2 (args m c) R q := by
  have e : q = ⟨64 * (q.val / 64) + q.val % 64, by omega⟩ := Fin.ext (by dsimp only; omega)
  rw [body_v, pay1_at]
  exact dotp_congr (fun k => pt_kvn m c t r R h k) fun k => ((blk11 m c t k q).trans (congrArg (fun q => V m c main_v73 (ix2 k q)) e)).trans
    (wv_at m c k ⟨q.val / 64, by omega⟩ ⟨q.val % 64, by omega⟩)

/-- and its gate. -/
theorem pt_gate (q : Fin 1024) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = gate (args m c) R q := by
  rw [body_g, pay2_at]
  exact dotp_congr (fun k => pt_hrow m c t r R h k) fun k => (blk5 m c t k q).trans (gate_at m c k q)

end Points

/-! ## The arrays -/

/-- The blocks of the queries' window cover its array. -/
theorem covers12 : win0_12.Covers :=
  win0_12.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- The queries: the kernel's array. -/
theorem kernel_value0 (H : (args m c).Real) :
    (dats m 0 c).arrAt 12 cfg0.N = fun i : S32768x2048.Idx => res0 (args m c) (i 0) (i 1) := by
  refine (dats m 0 c).arrAt_eq_of_covers 12 _ covers12 fun t hf y => ?_
  blk_simp
  rw [after0_12]
  idx_vars y
  have e0 := (Pipeline.Window.rect_emb_val win0_12 t (ix2 y0 y1) 0).trans
    (show win0_12.index t 0 * 512 + y0.val = 512 * (grid0.coords t 0).val + y0.val by
      rw [index12]; show (grid0.coords t 0).val * 512 + _ = _; omega)
  have e1 := (Pipeline.Window.rect_emb_val win0_12 t (ix2 y0 y1) 1).trans
    (show win0_12.index t 1 * 2048 + y1.val = y1.val by
      rw [index12]; show 0 * 2048 + _ = _; omega)
  exact (pt_query m c t y0 _ e0 H y1).trans (congrArg _ (Fin.ext e1.symm))

/-- The blocks of the keys' window cover its array. -/
theorem covers13 : win0_13.Covers :=
  win0_13.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- The keys: the kernel's array. -/
theorem kernel_value1 (H : (args m c).Real) :
    (dats m 0 c).arrAt 13 cfg0.N = fun i : S32768x2048.Idx => res1 (args m c) (i 0) (i 1) := by
  refine (dats m 0 c).arrAt_eq_of_covers 13 _ covers13 fun t hf y => ?_
  blk_simp
  rw [after0_13]
  idx_vars y
  have e0 := (Pipeline.Window.rect_emb_val win0_13 t (ix2 y0 y1) 0).trans
    (show win0_13.index t 0 * 512 + y0.val = 512 * (grid0.coords t 0).val + y0.val by
      rw [index13]; show (grid0.coords t 0).val * 512 + _ = _; omega)
  have e1 := (Pipeline.Window.rect_emb_val win0_13 t (ix2 y0 y1) 1).trans
    (show win0_13.index t 1 * 2048 + y1.val = y1.val by
      rw [index13]; show 0 * 2048 + _ = _; omega)
  exact (pt_key m c t y0 _ e0 H y1).trans (congrArg _ (Fin.ext e1.symm))

/-- The blocks of the values' window cover its array. -/
theorem covers14 : win0_14.Covers :=
  win0_14.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- The values: the kernel's array. -/
theorem kernel_value2 :
    (dats m 0 c).arrAt 14 cfg0.N = fun i : S32768x1024.Idx => res2 (args m c) (i 0) (i 1) := by
  refine (dats m 0 c).arrAt_eq_of_covers 14 _ covers14 fun t hf y => ?_
  blk_simp
  rw [after0_14]
  idx_vars y
  have e0 := (Pipeline.Window.rect_emb_val win0_14 t (ix2 y0 y1) 0).trans
    (show win0_14.index t 0 * 512 + y0.val = 512 * (grid0.coords t 0).val + y0.val by
      rw [index14]; show (grid0.coords t 0).val * 512 + _ = _; omega)
  have e1 := (Pipeline.Window.rect_emb_val win0_14 t (ix2 y0 y1) 1).trans
    (show win0_14.index t 1 * 1024 + y1.val = y1.val by
      rw [index14]; show 0 * 1024 + _ = _; omega)
  exact (pt_value m c t y0 _ e0 y1).trans (congrArg _ (Fin.ext e1.symm))

/-- The blocks of the gate' window cover its array. -/
theorem covers15 : win0_15.Covers :=
  win0_15.covers_of_indexMap_surj rfl (by decide) fun β =>
    ⟨fun | 0 => ⟨(β 0).val, (β 0).isLt⟩, fun a => by
      have h0 := (β 0).isLt
      have h1 : (β 1).val < 1 := (β 1).isLt
      fin_cases a
      · exact Nat.mod_eq_of_lt (lt_of_lt_of_le h0 (by decide))
      · show 0 = (β 1).val
        omega⟩

/-- The gate: the kernel's array. -/
theorem kernel_value3 :
    (dats m 0 c).arrAt 15 cfg0.N = fun i : S32768x1024.Idx => gate (args m c) (i 0) (i 1) := by
  refine (dats m 0 c).arrAt_eq_of_covers 15 _ covers15 fun t hf y => ?_
  blk_simp
  rw [after0_15]
  idx_vars y
  have e0 := (Pipeline.Window.rect_emb_val win0_15 t (ix2 y0 y1) 0).trans
    (show win0_15.index t 0 * 512 + y0.val = 512 * (grid0.coords t 0).val + y0.val by
      rw [index15]; show (grid0.coords t 0).val * 512 + _ = _; omega)
  have e1 := (Pipeline.Window.rect_emb_val win0_15 t (ix2 y0 y1) 1).trans
    (show win0_15.index t 1 * 1024 + y1.val = y1.val by
      rw [index15]; show 0 * 1024 + _ = _; omega)
  exact (pt_gate m c t y0 _ e0 y1).trans (congrArg _ (Fin.ext e1.symm))

end Cert.Proof.Mla

end
-- ==== Proof.MlaRef.lean ====
/- The odd layer's input projection: what the reference computes, at an element. -/
module

public import proofs.«01_k».proof.Proof.Mla
public import Idealize.ShloMosaic.Lib.Pointwise

@[expose] public section

noncomputable section

namespace Cert.Proof.Mla

open Idealize.ShloMosaic Idealize.ShloMosaic.TcCoe Idealize.SL.Sem
open Cert.Reference5Ideal Cert.Reference5Ideal.Gen Cert.Reference5Ideal.Read

set_option maxRecDepth 20000

/-- The one matrix of a stack, and the one row of a list of gains. -/
theorem unstack2 {α : Type} (x : S1x1024x1696.Idx → α) (k : Fin 1024) (l : Fin 1696) :
    shapeCast S1024x1696 x shapeCasts_S1x1024x1696_S1024x1696 (ix2 k l) = x (ix3 0 k l) :=
  shapeCast_apply x _ _ _ (by
    rw [Shape.rowMajor_val_three, Shape.rowMajor_val_two]
    show (0 * 1024 + k.val) * 1696 + l.val = k.val * 1696 + l.val
    omega)
theorem unstack4 {α : Type} (x : S1x384x1536.Idx → α) (k : Fin 384) (l : Fin 1536) :
    shapeCast S384x1536 x shapeCasts_S1x384x1536_S384x1536 (ix2 k l) = x (ix3 0 k l) :=
  shapeCast_apply x _ _ _ (by
    rw [Shape.rowMajor_val_three, Shape.rowMajor_val_two]
    show (0 * 384 + k.val) * 1536 + l.val = k.val * 1536 + l.val
    omega)
theorem unstack6 {α : Type} (x : S1x256x2048.Idx → α) (k : Fin 256) (l : Fin 2048) :
    shapeCast S256x2048 x shapeCasts_S1x256x2048_S256x2048 (ix2 k l) = x (ix3 0 k l) :=
  shapeCast_apply x _ _ _ (by
    rw [Shape.rowMajor_val_three, Shape.rowMajor_val_two]
    show (0 * 256 + k.val) * 2048 + l.val = k.val * 2048 + l.val
    omega)
theorem gains1 {α : Type} (x : S1x1024.Idx → α) (k : Fin 1024) :
    shapeCast S1024 x shapeCasts_S1x1024_S1024 (ix1 k) = x (ix2 0 k) :=
  shapeCast_apply x _ _ _ (by
    rw [Shape.rowMajor_val_two, Shape.rowMajor_val_one]
    show 0 * 1024 + k.val = k.val
    omega)
theorem gains3 {α : Type} (x : S1x384.Idx → α) (k : Fin 384) :
    shapeCast S384 x shapeCasts_S1x384_S384 (ix1 k) = x (ix2 0 k) :=
  shapeCast_apply x _ _ _ (by
    rw [Shape.rowMajor_val_two, Shape.rowMajor_val_one]
    show 0 * 384 + k.val = k.val
    omega)
theorem gains5 {α : Type} (x : S1x256.Idx → α) (k : Fin 256) :
    shapeCast S256 x shapeCasts_S1x256_S256 (ix1 k) = x (ix2 0 k) :=
  shapeCast_apply x _ _ _ (by
    rw [Shape.rowMajor_val_two, Shape.rowMajor_val_one]
    show 0 * 256 + k.val = k.val
    omega)

variable (A : Args) (R : Fin 32768)

/-- The rows' product with the weights. -/
theorem ref_lat (q : Fin 1696) : val_main_v33 (F := Ideal) A.a0 A.a1 A.a2 (ix2 R q) = lat A R q := by
  unfold lat hrow Rows.rms Rows.scale
  simp only [← unstack2 A.a2, ← gains1 A.a1]
  unfold val_main_v33 val_main_v32 val_main_v31 val_main_v30 val_main_v29 val_main_v28 val_main_v27 val_main_v26 val_main_v25
    val_main_v24 val_main_v23 val_main_v22 val_main_v21 val_main_v20 val_main_v19 val_main_v18 val_main_cst_3 val_main_cst_4 val_main_cst_5
  generalize shapeCast S1024x1696 A.a2 shapeCasts_S1x1024x1696_S1024x1696 = y2
  generalize shapeCast S1024 A.a1 shapeCasts_S1x1024_S1024 = y1
  generalize A.a0 = y0
  pointwise []

/-- The queries before the rotation. -/
theorem ref_qcol (j : Fin 1536) : val_main_v53 (F := Ideal) A.a0 A.a1 A.a2 A.a3 A.a4 (ix2 R j) = qcol A R j := by
  unfold qcol qn Rows.rms Rows.scale
  simp only [← unstack4 A.a4, ← gains3 A.a3, ← ref_lat]
  unfold val_main_v53 val_main_v52 val_main_v51 val_main_v50 val_main_v49 val_main_v48 val_main_v47 val_main_v46 val_main_v45
    val_main_v44 val_main_v43 val_main_v42 val_main_v41 val_main_v40 val_main_v39 val_main_v38 val_main_v34 val_main_cst_6 val_main_cst_7 val_main_cst_8
  generalize shapeCast S384x1536 A.a4 shapeCasts_S1x384x1536_S384x1536 = y2
  generalize shapeCast S384 A.a3 shapeCasts_S1x384_S384 = y1
  generalize val_main_v33 (F := Ideal) A.a0 A.a1 A.a2 = y0
  pointwise []

/-- The keys without position, and the values. -/
theorem ref_kvcol (j : Fin 2048) : val_main_v70 (F := Ideal) A.a0 A.a1 A.a2 A.a5 A.a6 (ix2 R j) = kvcol A R j := by
  unfold kvcol kvn Rows.rms Rows.scale
  simp only [← unstack6 A.a6, ← gains5 A.a5, ← ref_lat]
  unfold val_main_v70 val_main_v69 val_main_v68 val_main_v67 val_main_v66 val_main_v65 val_main_v64 val_main_v63 val_main_v62
    val_main_v61 val_main_v60 val_main_v59 val_main_v58 val_main_v57 val_main_v56 val_main_v55 val_main_v35 val_main_cst_9 val_main_cst_10 val_main_cst_11
  generalize shapeCast S256x2048 A.a6 shapeCasts_S1x256x2048_S256x2048 = y2
  generalize shapeCast S256 A.a5 shapeCasts_S1x256_S256 = y1
  generalize val_main_v33 (F := Ideal) A.a0 A.a1 A.a2 = y0
  pointwise []

/-- The tables. -/
theorem ref_cos (p : Fin 4096) (j : Fin 16) : val_main_v16 (F := Ideal) (ix2 p j) = Ideal.cos (angle p j) := by
  unfold val_main_v16 angle
  generalize val_main_v15 (F := Ideal) = z
  pointwise []
theorem ref_sin (p : Fin 4096) (j : Fin 16) : val_main_v17 (F := Ideal) (ix2 p j) = Ideal.sin (angle p j) := by
  unfold val_main_v17 angle
  generalize val_main_v15 (F := Ideal) = z
  pointwise []

/-- One row of a matrix, at equal columns. -/
theorem at_col {n k : ℕ} (z : (⟨2, ![n, k]⟩ : Shape).Idx → EReal) (j : Fin n) {a b : Fin k} (h : a.val = b.val) :
    z (ix2 j a) = z (ix2 j b) := congrArg (fun q => z (ix2 j q)) (Fin.ext h)

/-- The queries: the reference's array. -/
theorem ref_value0 : val_main_v118 (F := Ideal) A.a0 A.a1 A.a2 A.a3 A.a4 = fun i : S32768x2048.Idx => res0 A (i 0) (i 1) := by
  funext j
  idx_vars j
  unfold res0 query turn
  simp only [← ref_qcol, ← ref_cos, ← ref_sin]
  unfold val_main_v118 val_main_v117 val_main_v116 val_main_v115 val_main_cst_12 val_main_v94 val_main_v93 val_main_v92 val_main_v91 val_main_v90 val_main_v89
    val_main_v88 val_main_v87 val_main_v86 val_main_v85 val_main_v84 val_main_v83 val_main_v82 val_main_v81 val_main_v80 val_main_v79 val_main_v78
    val_main_v77 val_main_v76 val_main_v73 val_main_v72 val_main_v54
  generalize val_main_v53 (F := Ideal) A.a0 A.a1 A.a2 A.a3 A.a4 = z
  generalize val_main_v16 (F := Ideal) = cosT
  generalize val_main_v17 (F := Ideal) = sinT
  pointwise []
  by_cases c1 : j1.val % 128 < 64
  · simp only [c1, ↓reduceIte, ↓reduceDIte]
    exact at_col z j0 (by dsimp only <;> omega)
  · by_cases c2 : j1.val % 128 < 80
    · have d1 : j1.val % 128 - 64 < 32 := by omega
      have d2 : j1.val % 128 - 64 < 16 := by omega
      have d3 : (j1.val % 128 - 64) % 32 < 16 := by omega
      have d4 : j1.val % 128 < 96 := by omega
      simp only [c1, d1, d2, d3, d4, ↓reduceIte, ↓reduceDIte]
      exact congrArg₂ (HSub.hSub : EReal → EReal → EReal)
        (congrArg₂ (HMul.hMul : EReal → EReal → EReal) (at_col z j0 (by dsimp only <;> omega)) (at_col cosT (pos j0) (by dsimp only <;> omega)))
        (congrArg₂ (HMul.hMul : EReal → EReal → EReal) (at_col z j0 (by dsimp only <;> omega)) (at_col sinT (pos j0) (by dsimp only <;> omega)))
    · by_cases c3 : j1.val % 128 < 96
      · have d1 : j1.val % 128 - 64 < 32 := by omega
        have d2 : ¬j1.val % 128 - 64 < 16 := by omega
        have d3 : ¬(j1.val % 128 - 64) % 32 < 16 := by omega
        simp only [c1, c3, d1, d2, d3, ↓reduceIte, ↓reduceDIte]
        exact congrArg₂ (HAdd.hAdd : EReal → EReal → EReal)
          (congrArg₂ (HMul.hMul : EReal → EReal → EReal) (at_col z j0 (by dsimp only <;> omega)) (at_col sinT (pos j0) (by dsimp only <;> omega)))
          (congrArg₂ (HMul.hMul : EReal → EReal → EReal) (at_col z j0 (by dsimp only <;> omega)) (at_col cosT (pos j0) (by dsimp only <;> omega)))
      · have d1 : ¬j1.val % 128 - 64 < 32 := by omega
        simp only [c1, c3, d1, ↓reduceIte, ↓reduceDIte]

/-- The keys: the reference's array. -/
theorem ref_value1 : val_main_v121 (F := Ideal) A.a0 A.a1 A.a2 A.a5 A.a6 = fun i : S32768x2048.Idx => res1 A (i 0) (i 1) := by
  funext j
  idx_vars j
  unfold res1 key turn
  simp only [← ref_kvcol, ← ref_lat, ← ref_cos, ← ref_sin]
  unfold val_main_v121 val_main_v120 val_main_v119 val_main_v115 val_main_cst_12 val_main_v114 val_main_v113 val_main_v112 val_main_v111 val_main_v110
    val_main_v109 val_main_v108 val_main_v107 val_main_v106 val_main_v105 val_main_v104 val_main_v103 val_main_v102 val_main_v101 val_main_v100
    val_main_v99 val_main_v98 val_main_v97 val_main_v96 val_main_v95 val_main_v74 val_main_v71 val_main_v36
  generalize val_main_v70 (F := Ideal) A.a0 A.a1 A.a2 A.a5 A.a6 = z
  generalize val_main_v33 (F := Ideal) A.a0 A.a1 A.a2 = y
  generalize val_main_v16 (F := Ideal) = cosT
  generalize val_main_v17 (F := Ideal) = sinT
  pointwise []
  by_cases c1 : j1.val % 128 < 64
  · simp only [c1, ↓reduceIte, ↓reduceDIte]
    exact at_col z j0 (by dsimp only <;> omega)
  · by_cases c2 : j1.val % 128 < 80
    · have d1 : j1.val % 128 - 64 < 32 := by omega
      have d2 : j1.val % 128 - 64 < 16 := by omega
      have d3 : (j1.val % 128 - 64) % 32 < 16 := by omega
      have d4 : j1.val % 128 < 96 := by omega
      simp only [c1, d1, d2, d3, d4, ↓reduceIte, ↓reduceDIte]
      exact congrArg₂ (HSub.hSub : EReal → EReal → EReal)
        (congrArg₂ (HMul.hMul : EReal → EReal → EReal) (at_col y j0 (by dsimp only <;> omega)) (at_col cosT (pos j0) (by dsimp only <;> omega)))
        (congrArg₂ (HMul.hMul : EReal → EReal → EReal) (at_col y j0 (by dsimp only <;> omega)) (at_col sinT (pos j0) (by dsimp only <;> omega)))
    · by_cases c3 : j1.val % 128 < 96
      · have d1 : j1.val % 128 - 64 < 32 := by omega
        have d2 : ¬j1.val % 128 - 64 < 16 := by omega
        have d3 : ¬(j1.val % 128 - 64) % 32 < 16 := by omega
        simp only [c1, c3, d1, d2, d3, ↓reduceIte, ↓reduceDIte]
        exact congrArg₂ (HAdd.hAdd : EReal → EReal → EReal)
          (congrArg₂ (HMul.hMul : EReal → EReal → EReal) (at_col y j0 (by dsimp only <;> omega)) (at_col sinT (pos j0) (by dsimp only <;> omega)))
          (congrArg₂ (HMul.hMul : EReal → EReal → EReal) (at_col y j0 (by dsimp only <;> omega)) (at_col cosT (pos j0) (by dsimp only <;> omega)))
      · have d1 : ¬j1.val % 128 - 64 < 32 := by omega
        simp only [c1, c3, d1, ↓reduceIte, ↓reduceDIte]

/-- The values: the reference's array. -/
theorem ref_value2 : val_main_v123 (F := Ideal) A.a0 A.a1 A.a2 A.a5 A.a6 = fun i : S32768x1024.Idx => res2 A (i 0) (i 1) := by
  funext j
  idx_vars j
  unfold res2 value
  simp only [← ref_kvcol]
  unfold val_main_v123 val_main_v122 val_main_v75 val_main_v71
  generalize val_main_v70 (F := Ideal) A.a0 A.a1 A.a2 A.a5 A.a6 = z
  pointwise []
  exact at_col z j0 (by dsimp only <;> omega)

/-- The gate: the reference's array. -/
theorem ref_value3 : val_main_v124 (F := Ideal) A.a0 A.a1 A.a2 = fun i : S32768x1024.Idx => gate A (i 0) (i 1) := by
  funext j
  idx_vars j
  unfold gate
  simp only [← ref_lat]
  unfold val_main_v124 val_main_v37
  generalize val_main_v33 (F := Ideal) A.a0 A.a1 A.a2 = z
  pointwise []

end Cert.Proof.Mla

end
-- ==== Proof.DiffTrip.lean ====
/- One tile of the differential attention: what a trip of the loop over the tiles far left of the diagonal leaves in the running
   maxima, sums and weighted sums of the two maps, at every index. -/
module

public import proofs.«01_k».proof.Proof.Gen.Kernel6Ideal.Value
public import proofs.«01_k».proof.Proof.Out

@[expose] public section

noncomputable section

namespace Cert.Diff

open Idealize.ShloMosaic Idealize.ShloMosaic.TcCoe Idealize.SL.Sem
open Cert.Kernel6Ideal Cert.Kernel6Ideal.Gen
open Cert.Proof (put_low put_high put_other put_other' word1 word2 neg_inf lane_eq put_whole)

set_option maxRecDepth 20000

/-- The loop over the far tiles makes one trip per query tile before the one left of this one. -/
theorem trips1 (i : grid0.Coords) : Scf.trips (k0_t1_loop i).lb (k0_t1_loop i).ub (k0_t1_loop i).st = (i 2).val - 1 := by
  unfold k0_t1_loop
  generalize i 2 = n
  revert n
  decide +kernel

/-- The loop's remainder makes no trip. -/
theorem trips2 (i : grid0.Coords) : Scf.trips (k0_t2_loop i).lb (k0_t2_loop i).ub (k0_t2_loop i).st = 0 := by
  unfold k0_t2_loop
  generalize i 2 = n
  revert n
  decide +kernel

theorem trips1_lt (i : grid0.Coords) : (k0_t1_loop i).trips < 16 := by
  have e : (k0_t1_loop i).trips = (i 2).val - 1 := trips1 i
  have h : (i 2).val < 16 := (i 2).isLt
  omega

/-- The head of a grid point. -/
def head (i : grid0.Coords) : Fin 4 := ⟨(i 1).val, (i 1).isLt⟩

/-- The head's word is the head's number. -/
theorem word3 (n : Fin 4) : BitVec.toNat (Scalar.indexCast (BitVec.ofNat 32 n.val)) = n.val := by
  revert n; decide +kernel

/-- The word of the first row of the tile left of the query tile. -/
theorem word4 (n : Fin 16) (h : 1 ≤ n.val) :
    BitVec.toNat (Scalar.indexCast (Scalar.muli (Scalar.subi (BitVec.ofNat 32 n.val) 1#32) 256#32)) = 256 * (n.val - 1) := by
  revert n; decide +kernel

/-- The zero of the narrow type is zero. -/
theorem zero_bf : Ideal.ofBits .bf16 0#16 = 0 := by
  simp [Ideal.ofBits, Ideal.ieee]

/-- A lane's product as a map sees it: the lanes of the other map's half are zero. -/
def half (mp : Fin 2) (d : Fin 128) (x : EReal) : EReal :=
  if d.val < 64 then (if mp = 0 then x else 0) else (if mp = 0 then 0 else x)

theorem half_low (d : Fin 128) (x : EReal) :
    Scalar.select (α := EReal) (IntOp.cmpi CmpIPredicate.slt (BitVec.ofNat 32 d.val) 64#32) x 0 = half 0 d x := by
  rw [lane_eq]
  unfold half
  by_cases hd : d.val < 64
  · rw [if_pos hd, if_pos hd]; rfl
  · rw [if_neg hd, if_neg hd]; rfl

theorem half_high (d : Fin 128) (x : EReal) :
    Scalar.select (α := EReal) (IntOp.cmpi CmpIPredicate.slt (BitVec.ofNat 32 d.val) 64#32) 0 x = half 1 d x := by
  rw [lane_eq]
  unfold half
  by_cases hd : d.val < 64
  · rw [if_pos hd, if_pos hd]; rfl
  · rw [if_neg hd, if_neg hd]; rfl

/-- The product of a query row with a key in one of the two maps. Past the last key it is minus infinity. -/
def base (x1 : Vec Ideal S1x256x128 .bf16) (x2 : Vec Ideal S1x4096x128 .bf16) (mp : Fin 2) (r : Fin 256) (κ : ℕ) : EReal :=
  if hκ : κ < 4096 then ∑ d : Fin 128, half mp d (x1 (ix3 0 r d) * x2 (ix3 0 ⟨κ, hκ⟩ d)) else ⊥

/-- The value of a key, at a lane of the head's block. -/
def value (x3 : Vec Ideal S1x4096x128 .bf16) (d : Fin 128) (κ : ℕ) : EReal :=
  if hκ : κ < 4096 then x3 (ix3 0 ⟨κ, hκ⟩ d) else 0

/-- A shift goes into a maximum. -/
theorem fold_shift (c : EReal) (f : Fin 256 → EReal) :
    Finset.fold max ⊥ f Finset.univ + c = Finset.fold max ⊥ (fun κ => f κ + c) Finset.univ := by
  have mono : Monotone fun x : EReal => x + c := fun _ _ h => add_le_add_left h c
  have key : ∀ K : Finset (Fin 256), Finset.fold max ⊥ f K + c = Finset.fold max ⊥ (fun κ => f κ + c) K := by
    intro K
    induction K using Finset.induction_on with
    | empty => exact EReal.bot_add c
    | insert k K hk ih => rw [Finset.fold_insert hk, Finset.fold_insert hk, ← ih]; exact mono.map_max
  exact key _

variable (𝒱 : Variants) (c : Dev nD) (bd : Option 𝒱.V) (i : grid0.Coords) (arg3 : Memref sig .tc .smem S4 .f32) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x2x256x256 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x128 .bf16) (harg10 : arg10.IsWhole) (arg11 : Memref sig .tc .vmem S2x256x1 .f32) (harg11 : arg11.IsWhole) (arg12 : Memref sig .tc .vmem S2x256x1 .f32) (harg12 : arg12.IsWhole) (arg13 : Memref sig .tc .vmem S2x256x128 .f32) (harg13 : arg13.IsWhole)
    (arg1 : BitVec 32) (x0 : Vec Ideal S4 .f32) (x1 : Vec Ideal S1x256x128 .bf16) (x2 : Vec Ideal S1x4096x128 .bf16) (x3 : Vec Ideal S1x4096x128 .bf16)
    (k : Fin (k0_t1_loop i).trips) (f11 : BufTy.Contents (Elt Ideal) arg11.view.ty) (f12 : BufTy.Contents (Elt Ideal) arg12.view.ty) (f13 : BufTy.Contents (Elt Ideal) arg13.view.ty)

/-- A trip's new maximum, for map 0. -/
theorem trip_m0 (r : Fin 256) :
    arg11.view.read (Elt Ideal) (arg11.view.writes (Elt Ideal) f11 (tripL_k0_t1 (F := Ideal) 𝒱 c bd i arg3 harg3 arg4 harg4 arg5 harg5 arg6 harg6 arg7 harg7 arg8 harg8 arg9 harg9 arg10 harg10 arg11 harg11 arg12 harg12 arg13 harg13 arg1 x1 (harg3.unread x0) (harg5.unread x2) (harg6.unread x3) k f11 f12 f13).1) (ix3 0 r 0)
      = max (arg11.view.read (Elt Ideal) f11 (ix3 0 r 0)) (Finset.fold max ⊥ (fun κ : Fin 256 => (base x1 x2 0 r (256 * k.val + κ.val) + x0 (ix1 (head i)))) Finset.univ) := by
  have hk : k.val < 16 := k.isLt.trans (trips1_lt i)
  have hw := word1 k.val hk
  have hw3 := word3 (i 1)
  unfold tripL_k0_t1
  unfold trip_k0_t1
  dsimp only
  rw [View.read_writes_cons_put _ _ _ _ _ rfl, View.read_writes_cons_put _ _ _ _ _ rfl]
  erw [put_other, put_low]
  have hs : ∀ κ : Fin 256, 256 * k.val + κ.val < 4096 := fun κ => by omega
  simp only [← fold_shift]
  simp only [base, value, hs, dif_pos]
  sl_unfold_words
  simp only [View.readAt_eq_ld, harg3.read_unread, harg5.read_unread, harg6.read_unread]
  unfold_payloads
  pointwise []
  simp only [hw, hw3, neg_inf, zero_bf, half_low, half_high]
  rfl

/-- A trip's new sum, for map 0. -/
theorem trip_l0 (r : Fin 256) :
    arg12.view.read (Elt Ideal) (arg12.view.writes (Elt Ideal) f12 (tripL_k0_t1 (F := Ideal) 𝒱 c bd i arg3 harg3 arg4 harg4 arg5 harg5 arg6 harg6 arg7 harg7 arg8 harg8 arg9 harg9 arg10 harg10 arg11 harg11 arg12 harg12 arg13 harg13 arg1 x1 (harg3.unread x0) (harg5.unread x2) (harg6.unread x3) k f11 f12 f13).2.1) (ix3 0 r 0)
      = Ideal.exp (arg11.view.read (Elt Ideal) f11 (ix3 0 r 0) - max (arg11.view.read (Elt Ideal) f11 (ix3 0 r 0)) (Finset.fold max ⊥ (fun κ : Fin 256 => (base x1 x2 0 r (256 * k.val + κ.val) + x0 (ix1 (head i)))) Finset.univ)) * arg12.view.read (Elt Ideal) f12 (ix3 0 r 0)
        + ∑ κ : Fin 256, Ideal.exp (base x1 x2 0 r (256 * k.val + κ.val) - (max (arg11.view.read (Elt Ideal) f11 (ix3 0 r 0)) (Finset.fold max ⊥ (fun κ : Fin 256 => (base x1 x2 0 r (256 * k.val + κ.val) + x0 (ix1 (head i)))) Finset.univ) - x0 (ix1 (head i)))) := by
  have hk : k.val < 16 := k.isLt.trans (trips1_lt i)
  have hw := word1 k.val hk
  have hw3 := word3 (i 1)
  unfold tripL_k0_t1
  unfold trip_k0_t1
  dsimp only
  rw [View.read_writes_cons_put _ _ _ _ _ rfl, View.read_writes_cons_put _ _ _ _ _ rfl]
  erw [put_other, put_low]
  have hs : ∀ κ : Fin 256, 256 * k.val + κ.val < 4096 := fun κ => by omega
  simp only [← fold_shift]
  simp only [base, value, hs, dif_pos]
  sl_unfold_words
  simp only [View.readAt_eq_ld, harg3.read_unread, harg5.read_unread, harg6.read_unread]
  unfold_payloads
  pointwise []
  simp only [hw, hw3, neg_inf, zero_bf, half_low, half_high]
  rfl

/-- A trip's new weighted sum, for map 0. -/
theorem trip_a0 (r : Fin 256) (d : Fin 128) :
    arg13.view.read (Elt Ideal) (arg13.view.writes (Elt Ideal) f13 (tripL_k0_t1 (F := Ideal) 𝒱 c bd i arg3 harg3 arg4 harg4 arg5 harg5 arg6 harg6 arg7 harg7 arg8 harg8 arg9 harg9 arg10 harg10 arg11 harg11 arg12 harg12 arg13 harg13 arg1 x1 (harg3.unread x0) (harg5.unread x2) (harg6.unread x3) k f11 f12 f13).2.2) (ix3 0 r d)
      = Ideal.exp (arg11.view.read (Elt Ideal) f11 (ix3 0 r 0) - max (arg11.view.read (Elt Ideal) f11 (ix3 0 r 0)) (Finset.fold max ⊥ (fun κ : Fin 256 => (base x1 x2 0 r (256 * k.val + κ.val) + x0 (ix1 (head i)))) Finset.univ)) * arg13.view.read (Elt Ideal) f13 (ix3 0 r d)
        + ∑ κ : Fin 256, Ideal.exp (base x1 x2 0 r (256 * k.val + κ.val) - (max (arg11.view.read (Elt Ideal) f11 (ix3 0 r 0)) (Finset.fold max ⊥ (fun κ : Fin 256 => (base x1 x2 0 r (256 * k.val + κ.val) + x0 (ix1 (head i)))) Finset.univ) - x0 (ix1 (head i)))) * value x3 d (256 * k.val + κ.val) := by
  have hk : k.val < 16 := k.isLt.trans (trips1_lt i)
  have hw := word1 k.val hk
  have hw3 := word3 (i 1)
  unfold tripL_k0_t1
  unfold trip_k0_t1
  dsimp only
  rw [View.read_writes_cons_put _ _ _ _ _ rfl, View.read_writes_cons_put _ _ _ _ _ rfl]
  erw [put_other, put_low]
  have hs : ∀ κ : Fin 256, 256 * k.val + κ.val < 4096 := fun κ => by omega
  simp only [← fold_shift]
  simp only [base, value, hs, dif_pos]
  sl_unfold_words
  simp only [View.readAt_eq_ld, harg3.read_unread, harg5.read_unread, harg6.read_unread]
  unfold_payloads
  pointwise []
  simp only [hw, hw3, neg_inf, zero_bf, half_low, half_high]
  rfl

/-- A trip's new maximum, for map 1. -/
theorem trip_m1 (r : Fin 256) :
    arg11.view.read (Elt Ideal) (arg11.view.writes (Elt Ideal) f11 (tripL_k0_t1 (F := Ideal) 𝒱 c bd i arg3 harg3 arg4 harg4 arg5 harg5 arg6 harg6 arg7 harg7 arg8 harg8 arg9 harg9 arg10 harg10 arg11 harg11 arg12 harg12 arg13 harg13 arg1 x1 (harg3.unread x0) (harg5.unread x2) (harg6.unread x3) k f11 f12 f13).1) (ix3 1 r 0)
      = max (arg11.view.read (Elt Ideal) f11 (ix3 1 r 0)) (Finset.fold max ⊥ (fun κ : Fin 256 => (base x1 x2 1 r (256 * k.val + κ.val) + x0 (ix1 (head i)))) Finset.univ) := by
  have hk : k.val < 16 := k.isLt.trans (trips1_lt i)
  have hw := word1 k.val hk
  have hw3 := word3 (i 1)
  unfold tripL_k0_t1
  unfold trip_k0_t1
  dsimp only
  rw [View.read_writes_cons_put _ _ _ _ _ rfl, View.read_writes_cons_put _ _ _ _ _ rfl]
  erw [put_high]
  have hs : ∀ κ : Fin 256, 256 * k.val + κ.val < 4096 := fun κ => by omega
  simp only [← fold_shift]
  simp only [base, value, hs, dif_pos]
  sl_unfold_words
  simp only [View.readAt_eq_ld, harg3.read_unread, harg5.read_unread, harg6.read_unread]
  unfold_payloads
  pointwise []
  simp only [hw, hw3, neg_inf, zero_bf, half_low, half_high]
  rfl

/-- A trip's new sum, for map 1. -/
theorem trip_l1 (r : Fin 256) :
    arg12.view.read (Elt Ideal) (arg12.view.writes (Elt Ideal) f12 (tripL_k0_t1 (F := Ideal) 𝒱 c bd i arg3 harg3 arg4 harg4 arg5 harg5 arg6 harg6 arg7 harg7 arg8 harg8 arg9 harg9 arg10 harg10 arg11 harg11 arg12 harg12 arg13 harg13 arg1 x1 (harg3.unread x0) (harg5.unread x2) (harg6.unread x3) k f11 f12 f13).2.1) (ix3 1 r 0)
      = Ideal.exp (arg11.view.read (Elt Ideal) f11 (ix3 1 r 0) - max (arg11.view.read (Elt Ideal) f11 (ix3 1 r 0)) (Finset.fold max ⊥ (fun κ : Fin 256 => (base x1 x2 1 r (256 * k.val + κ.val) + x0 (ix1 (head i)))) Finset.univ)) * arg12.view.read (Elt Ideal) f12 (ix3 1 r 0)
        + ∑ κ : Fin 256, Ideal.exp (base x1 x2 1 r (256 * k.val + κ.val) - (max (arg11.view.read (Elt Ideal) f11 (ix3 1 r 0)) (Finset.fold max ⊥ (fun κ : Fin 256 => (base x1 x2 1 r (256 * k.val + κ.val) + x0 (ix1 (head i)))) Finset.univ) - x0 (ix1 (head i)))) := by
  have hk : k.val < 16 := k.isLt.trans (trips1_lt i)
  have hw := word1 k.val hk
  have hw3 := word3 (i 1)
  unfold tripL_k0_t1
  unfold trip_k0_t1
  dsimp only
  rw [View.read_writes_cons_put _ _ _ _ _ rfl, View.read_writes_cons_put _ _ _ _ _ rfl]
  erw [put_high]
  have hs : ∀ κ : Fin 256, 256 * k.val + κ.val < 4096 := fun κ => by omega
  simp only [← fold_shift]
  simp only [base, value, hs, dif_pos]
  sl_unfold_words
  simp only [View.readAt_eq_ld, harg3.read_unread, harg5.read_unread, harg6.read_unread]
  unfold_payloads
  pointwise []
  simp only [hw, hw3, neg_inf, zero_bf, half_low, half_high]
  rfl

/-- A trip's new weighted sum, for map 1. -/
theorem trip_a1 (r : Fin 256) (d : Fin 128) :
    arg13.view.read (Elt Ideal) (arg13.view.writes (Elt Ideal) f13 (tripL_k0_t1 (F := Ideal) 𝒱 c bd i arg3 harg3 arg4 harg4 arg5 harg5 arg6 harg6 arg7 harg7 arg8 harg8 arg9 harg9 arg10 harg10 arg11 harg11 arg12 harg12 arg13 harg13 arg1 x1 (harg3.unread x0) (harg5.unread x2) (harg6.unread x3) k f11 f12 f13).2.2) (ix3 1 r d)
      = Ideal.exp (arg11.view.read (Elt Ideal) f11 (ix3 1 r 0) - max (arg11.view.read (Elt Ideal) f11 (ix3 1 r 0)) (Finset.fold max ⊥ (fun κ : Fin 256 => (base x1 x2 1 r (256 * k.val + κ.val) + x0 (ix1 (head i)))) Finset.univ)) * arg13.view.read (Elt Ideal) f13 (ix3 1 r d)
        + ∑ κ : Fin 256, Ideal.exp (base x1 x2 1 r (256 * k.val + κ.val) - (max (arg11.view.read (Elt Ideal) f11 (ix3 1 r 0)) (Finset.fold max ⊥ (fun κ : Fin 256 => (base x1 x2 1 r (256 * k.val + κ.val) + x0 (ix1 (head i)))) Finset.univ) - x0 (ix1 (head i)))) * value x3 d (256 * k.val + κ.val) := by
  have hk : k.val < 16 := k.isLt.trans (trips1_lt i)
  have hw := word1 k.val hk
  have hw3 := word3 (i 1)
  unfold tripL_k0_t1
  unfold trip_k0_t1
  dsimp only
  rw [View.read_writes_cons_put _ _ _ _ _ rfl, View.read_writes_cons_put _ _ _ _ _ rfl]
  erw [put_high]
  have hs : ∀ κ : Fin 256, 256 * k.val + κ.val < 4096 := fun κ => by omega
  simp only [← fold_shift]
  simp only [base, value, hs, dif_pos]
  sl_unfold_words
  simp only [View.readAt_eq_ld, harg3.read_unread, harg5.read_unread, harg6.read_unread]
  unfold_payloads
  pointwise []
  simp only [hw, hw3, neg_inf, zero_bf, half_low, half_high]
  rfl

/-- The score of a key in a far tile: the product and the head's far bias. -/
def far (x0 : Vec Ideal S4 .f32) (x1 : Vec Ideal S1x256x128 .bf16) (x2 : Vec Ideal S1x4096x128 .bf16) (h : Fin 4) (mp : Fin 2) (r : Fin 256) (κ : ℕ) : EReal :=
  base x1 x2 mp r κ + x0 (ix1 h)

/-- THE LOOP: entered with the maxima at minus infinity and the sums at zero, after `n` trips it holds the running maxima over
    the first `256 n` keys, and the sums and weighted sums its trips make. -/
theorem loop_eq
    (h11 : ∀ (mp : Fin 2) (r : Fin 256), arg11.view.read (Elt Ideal) f11 (ix3 mp r 0) = (⊥ : EReal))
    (h12 : ∀ (mp : Fin 2) (r : Fin 256), arg12.view.read (Elt Ideal) f12 (ix3 mp r 0) = (0 : EReal))
    (h13 : ∀ (mp : Fin 2) (r : Fin 256) (d : Fin 128), arg13.view.read (Elt Ideal) f13 (ix3 mp r d) = (0 : EReal))
    (n : ℕ) (hn : n ≤ (k0_t1_loop i).trips) (mp : Fin 2) (r : Fin 256) :
    arg11.view.read (Elt Ideal) (arg11.view.writes (Elt Ideal) f11 (pb_k0_t1 (F := Ideal) 𝒱 c bd i arg3 harg3 arg4 harg4 arg5 harg5 arg6 harg6 arg7 harg7 arg8 harg8 arg9 harg9 arg10 harg10 arg11 harg11 arg12 harg12 arg13 harg13 arg1 x1 (harg3.unread x0) (harg5.unread x2) (harg6.unread x3) f11 f12 f13 n).1) (ix3 mp r 0) = Proof.Online.mx (far x0 x1 x2 (head i) mp r) (256 * n)
    ∧ arg12.view.read (Elt Ideal) (arg12.view.writes (Elt Ideal) f12 (pb_k0_t1 (F := Ideal) 𝒱 c bd i arg3 harg3 arg4 harg4 arg5 harg5 arg6 harg6 arg7 harg7 arg8 harg8 arg9 harg9 arg10 harg10 arg11 harg11 arg12 harg12 arg13 harg13 arg1 x1 (harg3.unread x0) (harg5.unread x2) (harg6.unread x3) f11 f12 f13 n).2.1) (ix3 mp r 0) = Proof.Online.run (x0 (ix1 (head i))) (base x1 x2 mp r) (fun _ => 1) n
    ∧ ∀ d : Fin 128, arg13.view.read (Elt Ideal) (arg13.view.writes (Elt Ideal) f13 (pb_k0_t1 (F := Ideal) 𝒱 c bd i arg3 harg3 arg4 harg4 arg5 harg5 arg6 harg6 arg7 harg7 arg8 harg8 arg9 harg9 arg10 harg10 arg11 harg11 arg12 harg12 arg13 harg13 arg1 x1 (harg3.unread x0) (harg5.unread x2) (harg6.unread x3) f11 f12 f13 n).2.2) (ix3 mp r d)
        = Proof.Online.run (x0 (ix1 (head i))) (base x1 x2 mp r) (value x3 d) n := by
  induction n with
  | zero =>
    refine ⟨?_, ?_, fun d => ?_⟩
    · rw [Nat.mul_zero, Proof.Online.mx_zero]; exact h11 mp r
    · exact h12 mp r
    · exact h13 mp r d
  | succ n ih =>
    obtain ⟨i11, i12, i13⟩ := ih (Nat.le_of_succ_le hn)
    have e := pb_k0_t1_succ (F := Ideal) 𝒱 c bd i arg3 harg3 arg4 harg4 arg5 harg5 arg6 harg6 arg7 harg7 arg8 harg8 arg9 harg9 arg10 harg10 arg11 harg11 arg12 harg12 arg13 harg13 arg1 x1 (harg3.unread x0) (harg5.unread x2) (harg6.unread x3) f11 f12 f13 ⟨n, hn⟩
    dsimp only at e
    rw [e]
    dsimp only
    rw [View.writes_append, View.writes_append, View.writes_append, Nat.mul_succ]
    match mp with
    | 0 =>
      refine ⟨?_, ?_, fun d => ?_⟩
      · rw [trip_m0, i11, ← Proof.Online.mx_add (far x0 x1 x2 (head i) 0 r)]; rfl
      · rw [trip_l0, i11, i12]; exact Proof.Online.run_succ_one _ _ n
      · rw [trip_a0, i11, i13 d]; exact Proof.Online.run_succ _ _ _ n
    | 1 =>
      refine ⟨?_, ?_, fun d => ?_⟩
      · rw [trip_m1, i11, ← Proof.Online.mx_add (far x0 x1 x2 (head i) 1 r)]; rfl
      · rw [trip_l1, i11, i12]; exact Proof.Online.run_succ_one _ _ n
      · rw [trip_a1, i11, i13 d]; exact Proof.Online.run_succ _ _ _ n

end Cert.Diff

end
-- ==== Proof.DiffOut.lean ====
/- One query tile of the differential attention: the tiles left of the diagonal and on it after the loop. -/
module

public import proofs.«01_k».proof.Proof.DiffTrip

@[expose] public section

noncomputable section

namespace Cert.Diff

open Idealize.ShloMosaic Idealize.ShloMosaic.TcCoe Idealize.SL.Sem
open Cert.Kernel6Ideal Cert.Kernel6Ideal.Gen
open Cert.Proof (put_low put_high put_other put_other' word1 word2 neg_inf lane_eq put_whole Online.mx Online.den Online.num)

set_option maxRecDepth 20000

/-- The score of a key for row `r` of query tile `q`: the product with the far bias, the bias tile before the diagonal or the one on
    it. Past the diagonal tile it is minus infinity. -/
def sc (x0 : Vec Ideal S4 .f32) (x1 : Vec Ideal S1x256x128 .bf16) (x2 : Vec Ideal S1x4096x128 .bf16) (x4 : Vec Ideal S1x2x256x256 .f32)
    (h : Fin 4) (mp : Fin 2) (r : Fin 256) (q κ : ℕ) : EReal :=
  if κ < 256 * (q - 1) then far x0 x1 x2 h mp r κ
  else if κ < 256 * q then base x1 x2 mp r κ + x4 (ix4 0 1 r ⟨(κ - 256 * (q - 1)) % 256, Nat.mod_lt _ (by decide)⟩)
  else if κ < 256 * q + 256 then base x1 x2 mp r κ + x4 (ix4 0 0 r ⟨(κ - 256 * q) % 256, Nat.mod_lt _ (by decide)⟩)
  else ⊥

section

variable (x0 : Vec Ideal S4 .f32) (x1 : Vec Ideal S1x256x128 .bf16) (x2 : Vec Ideal S1x4096x128 .bf16) (x4 : Vec Ideal S1x2x256x256 .f32)
    (h : Fin 4) (mp : Fin 2) (r : Fin 256) (q : ℕ)

theorem sc_far (κ : ℕ) (hκ : κ < 256 * (q - 1)) : far x0 x1 x2 h mp r κ = sc x0 x1 x2 x4 h mp r q κ := by
  unfold sc; rw [if_pos hκ]

theorem sc_near (hq : 1 ≤ q) (κ : Fin 256) :
    sc x0 x1 x2 x4 h mp r q (256 * (q - 1) + κ.val) = base x1 x2 mp r (256 * (q - 1) + κ.val) + x4 (ix4 0 1 r κ) := by
  have hκ := κ.isLt
  unfold sc
  rw [if_neg (by omega), if_pos (by omega)]
  refine congrArg (fun j : Fin 256 => base x1 x2 mp r (256 * (q - 1) + κ.val) + x4 (ix4 0 1 r j)) (Fin.ext ?_)
  show (256 * (q - 1) + κ.val - 256 * (q - 1)) % 256 = κ.val
  omega

theorem sc_diag (κ : Fin 256) :
    sc x0 x1 x2 x4 h mp r q (256 * q + κ.val) = base x1 x2 mp r (256 * q + κ.val) + x4 (ix4 0 0 r κ) := by
  have hκ := κ.isLt
  unfold sc
  rw [if_neg (by omega), if_neg (by omega), if_pos (by omega)]
  refine congrArg (fun j : Fin 256 => base x1 x2 mp r (256 * q + κ.val) + x4 (ix4 0 0 r j)) (Fin.ext ?_)
  show (256 * q + κ.val - 256 * q) % 256 = κ.val
  omega

theorem sc_right (κ : ℕ) (hκ : 256 * q + 256 ≤ κ) : sc x0 x1 x2 x4 h mp r q κ = ⊥ := by
  unfold sc
  rw [if_neg (by omega), if_neg (by omega), if_neg (by omega)]

end

/-- No shift at all. -/
theorem zero_f : Ideal.ofBits .f32 0#32 = 0 := by
  simp [Ideal.ofBits, Ideal.ieee]

variable (c : Dev nD) (i : grid0.Coords) (arg3 : Memref sig .tc .smem S4 .f32) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x2x256x256 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x128 .bf16) (harg10 : arg10.IsWhole) (arg11 : Memref sig .tc .vmem S2x256x1 .f32) (harg11 : arg11.IsWhole) (arg12 : Memref sig .tc .vmem S2x256x1 .f32) (harg12 : arg12.IsWhole) (arg13 : Memref sig .tc .vmem S2x256x128 .f32) (harg13 : arg13.IsWhole)
    (x0 : Vec Ideal S4 .f32) (x1 : Vec Ideal S1x256x128 .bf16) (x2 : Vec Ideal S1x4096x128 .bf16) (x3 : Vec Ideal S1x4096x128 .bf16)

/-- The query block read whole is the block. -/
theorem q_eq : (View.readAt (Elt Ideal) arg4.view (Rect.unit ![0, 0, 0] S1x256x128.size inb_S1x256x128_S1x256x128_0_0_0).toLoadRect (harg4.unread x1)) = x1 := by
  rw [View.readAt_eq_ld, harg4.read_unread]
  funext j
  idx_vars j
  obtain rfl : j0 = 0 := Subsingleton.elim _ _
  pointwise []

section
variable (w : BitVec 32) (L11 : List (View.Piece (Elt Ideal) S2x256x1 .f32)) (L12 : List (View.Piece (Elt Ideal) S2x256x1 .f32)) (L13 : List (View.Piece (Elt Ideal) S2x256x128 .f32))

/-- The pieces the loop leaves in the three running buffers. -/
abbrev main1 := pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 1).val) (View.readAt (Elt Ideal) arg4.view (Rect.unit ![0, 0, 0] S1x256x128.size inb_S1x256x128_S1x256x128_0_0_0).toLoadRect (harg4.unread x1)) (harg3.unread x0) (harg5.unread x2) (harg6.unread x3)
    (arg11.view.writes (Elt Ideal) arg11.view.junk (L11)) (arg12.view.writes (Elt Ideal) arg12.view.junk (L12)) (arg13.view.writes (Elt Ideal) arg13.view.junk (L13)) (Scf.trips (k0_t1_loop i).lb (k0_t1_loop i).ub (k0_t1_loop i).st)

/-- The pieces the loop's remainder leaves. -/
abbrev rest1 := pb_k0_t2 (F := Ideal) Variants.none c none i arg3 harg3 arg4 harg4 arg5 harg5 arg6 harg6 arg7 harg7 arg8 harg8 arg9 harg9 arg10 harg10 arg11 harg11 arg12 harg12 arg13 harg13 (BitVec.ofNat 32 (i 1).val) (View.readAt (Elt Ideal) arg4.view (Rect.unit ![0, 0, 0] S1x256x128.size inb_S1x256x128_S1x256x128_0_0_0).toLoadRect (harg4.unread x1)) w (harg3.unread x0) (harg5.unread x2) (harg6.unread x3)
    (arg11.view.writes (Elt Ideal) arg11.view.junk ((main1 c i arg3 harg3 arg4 harg4 arg5 harg5 arg6 harg6 arg7 harg7 arg8 harg8 arg9 harg9 arg10 harg10 arg11 harg11 arg12 harg12 arg13 harg13 x0 x1 x2 x3 L11 L12 L13).1 ++ L11))
    (arg12.view.writes (Elt Ideal) arg12.view.junk ((main1 c i arg3 harg3 arg4 harg4 arg5 harg5 arg6 harg6 arg7 harg7 arg8 harg8 arg9 harg9 arg10 harg10 arg11 harg11 arg12 harg12 arg13 harg13 x0 x1 x2 x3 L11 L12 L13).2.1 ++ L12))
    (arg13.view.writes (Elt Ideal) arg13.view.junk ((main1 c i arg3 harg3 arg4 harg4 arg5 harg5 arg6 harg6 arg7 harg7 arg8 harg8 arg9 harg9 arg10 harg10 arg11 harg11 arg12 harg12 arg13 harg13 x0 x1 x2 x3 L11 L12 L13).2.2 ++ L13)) (Scf.trips (k0_t2_loop i).lb (k0_t2_loop i).ub (k0_t2_loop i).st)

/-- The remainder leaves nothing. -/
theorem rest1_eq : rest1 c i arg3 harg3 arg4 harg4 arg5 harg5 arg6 harg6 arg7 harg7 arg8 harg8 arg9 harg9 arg10 harg10 arg11 harg11 arg12 harg12 arg13 harg13 x0 x1 x2 x3 w L11 L12 L13 = ([], [], []) := by
  unfold rest1
  rw [trips2]
  rfl

/-- What the three running buffers hold after the loop. -/
theorem left_eq
    (h11 : ∀ (mp : Fin 2) (r : Fin 256), arg11.view.read (Elt Ideal) (arg11.view.writes (Elt Ideal) arg11.view.junk (L11)) (ix3 mp r 0) = (⊥ : EReal))
    (h12 : ∀ (mp : Fin 2) (r : Fin 256), arg12.view.read (Elt Ideal) (arg12.view.writes (Elt Ideal) arg12.view.junk (L12)) (ix3 mp r 0) = (0 : EReal))
    (h13 : ∀ (mp : Fin 2) (r : Fin 256) (d : Fin 128), arg13.view.read (Elt Ideal) (arg13.view.writes (Elt Ideal) arg13.view.junk (L13)) (ix3 mp r d) = (0 : EReal))
    (mp : Fin 2) (r : Fin 256) :
    arg11.view.read (Elt Ideal) (arg11.view.writes (Elt Ideal) arg11.view.junk ((rest1 c i arg3 harg3 arg4 harg4 arg5 harg5 arg6 harg6 arg7 harg7 arg8 harg8 arg9 harg9 arg10 harg10 arg11 harg11 arg12 harg12 arg13 harg13 x0 x1 x2 x3 w L11 L12 L13).1 ++ ((main1 c i arg3 harg3 arg4 harg4 arg5 harg5 arg6 harg6 arg7 harg7 arg8 harg8 arg9 harg9 arg10 harg10 arg11 harg11 arg12 harg12 arg13 harg13 x0 x1 x2 x3 L11 L12 L13).1 ++ L11))) (ix3 mp r 0)
        = Online.mx (far x0 x1 x2 (head i) mp r) (256 * ((i 2).val - 1))
    ∧ arg12.view.read (Elt Ideal) (arg12.view.writes (Elt Ideal) arg12.view.junk ((rest1 c i arg3 harg3 arg4 harg4 arg5 harg5 arg6 harg6 arg7 harg7 arg8 harg8 arg9 harg9 arg10 harg10 arg11 harg11 arg12 harg12 arg13 harg13 x0 x1 x2 x3 w L11 L12 L13).2.1 ++ ((main1 c i arg3 harg3 arg4 harg4 arg5 harg5 arg6 harg6 arg7 harg7 arg8 harg8 arg9 harg9 arg10 harg10 arg11 harg11 arg12 harg12 arg13 harg13 x0 x1 x2 x3 L11 L12 L13).2.1 ++ L12))) (ix3 mp r 0)
        = Proof.Online.run (x0 (ix1 (head i))) (base x1 x2 mp r) (fun _ => 1) ((i 2).val - 1)
    ∧ ∀ d : Fin 128, arg13.view.read (Elt Ideal) (arg13.view.writes (Elt Ideal) arg13.view.junk ((rest1 c i arg3 harg3 arg4 harg4 arg5 harg5 arg6 harg6 arg7 harg7 arg8 harg8 arg9 harg9 arg10 harg10 arg11 harg11 arg12 harg12 arg13 harg13 x0 x1 x2 x3 w L11 L12 L13).2.2 ++ ((main1 c i arg3 harg3 arg4 harg4 arg5 harg5 arg6 harg6 arg7 harg7 arg8 harg8 arg9 harg9 arg10 harg10 arg11 harg11 arg12 harg12 arg13 harg13 x0 x1 x2 x3 L11 L12 L13).2.2 ++ L13))) (ix3 mp r d)
        = Proof.Online.run (x0 (ix1 (head i))) (base x1 x2 mp r) (value x3 d) ((i 2).val - 1) := by
  rw [rest1_eq]
  simp only [List.nil_append]
  rw [View.writes_append, View.writes_append, View.writes_append]
  have e := trips1 i
  have key := loop_eq Variants.none c none i arg3 harg3 arg4 harg4 arg5 harg5 arg6 harg6 arg7 harg7 arg8 harg8 arg9 harg9 arg10 harg10 arg11 harg11 arg12 harg12 arg13 harg13 (BitVec.ofNat 32 (i 1).val) x0 x1 x2 x3 (arg11.view.writes (Elt Ideal) arg11.view.junk (L11)) (arg12.view.writes (Elt Ideal) arg12.view.junk (L12)) (arg13.view.writes (Elt Ideal) arg13.view.junk (L13))
    h11 h12 h13 (Scf.trips (k0_t1_loop i).lb (k0_t1_loop i).ub (k0_t1_loop i).st) (le_refl _) mp r
  rw [show (i 2).val - 1 = Scf.trips (k0_t1_loop i).lb (k0_t1_loop i).ub (k0_t1_loop i).st from e.symm]
  unfold main1
  rw [q_eq]
  exact key

end

/-- The initial contents of `arg11`. -/
theorem initA_arg11 (mp : Fin 2) (r : Fin 256) (d : Fin 1) :
    arg11.view.read (Elt Ideal) (arg11.view.writes (Elt Ideal) arg11.view.junk kernelRun0_A.sl.HS0_1) (ix3 mp r d) = (⊥ : EReal) := by
  unfold kernelRun0_A.sl.HS0_1
  erw [View.read_writes_full]
  · unfold_payloads
    pointwise []
    try exact neg_inf

/-- The initial contents of `arg12`. -/
theorem initA_arg12 (mp : Fin 2) (r : Fin 256) (d : Fin 1) :
    arg12.view.read (Elt Ideal) (arg12.view.writes (Elt Ideal) arg12.view.junk kernelRun0_A.sl.HS1_1) (ix3 mp r d) = (0 : EReal) := by
  unfold kernelRun0_A.sl.HS1_1
  erw [View.read_writes_full]
  · unfold_payloads
    pointwise []
    try exact neg_inf

/-- The initial contents of `arg13`. -/
theorem initA_arg13 (mp : Fin 2) (r : Fin 256) (d : Fin 128) :
    arg13.view.read (Elt Ideal) (arg13.view.writes (Elt Ideal) arg13.view.junk kernelRun0_A.sl.HS2_1) (ix3 mp r d) = (0 : EReal) := by
  unfold kernelRun0_A.sl.HS2_1
  erw [View.read_writes_full]
  · unfold_payloads
    pointwise []
    try exact neg_inf

section
variable (x4 : Vec Ideal S1x2x256x256 .f32)
variable (hc0 : ¬cond0_0 i) (hq : (i 2).val = 0)

include hq in
/-- What the first tile after the loop loads of the running maximum, for map 0. -/
theorem Av46_eq (r : Fin 256) (d : Fin 1) :
    kernelRun0_A.sl.v46 (F := Ideal) c i arg3 harg3 arg4 harg4 arg5 harg5 arg6 harg6 arg7 harg7 arg8 harg8 arg9 harg9 arg10 harg10 arg11 harg11 arg12 harg12 arg13 harg13 x0 x1 x2 x3 (ix3 0 r d) = Online.mx (sc x0 x1 x2 x4 (head i) 0 r (i 2).val) (256 * (i 2).val) := by
  have left := left_eq c i arg3 harg3 arg4 harg4 arg5 harg5 arg6 harg6 arg7 harg7 arg8 harg8 arg9 harg9 arg10 harg10 arg11 harg11 arg12 harg12 arg13 harg13 x0 x1 x2 x3 (kernelRun0_A.sl.v23 i) kernelRun0_A.sl.HS0_1 kernelRun0_A.sl.HS1_1 kernelRun0_A.sl.HS2_1 (fun mp r => initA_arg11 arg11 mp r 0) (fun mp r => initA_arg12 arg12 mp r 0) (fun mp r d => initA_arg13 arg13 mp r d) 0 r
  rw [show 256 * (i 2).val = 256 * ((i 2).val - 1) by omega]
  refine Eq.trans ?_ ((left.1).trans (Proof.Online.mx_congr (fun κ hκ => sc_far x0 x1 x2 x4 (head i) 0 r (i 2).val κ hκ)))
  obtain rfl : d = 0 := Subsingleton.elim _ _
  unfold kernelRun0_A.sl.v46 View.readCov
  simp only [View.readAt_eq_ld]
  pointwise []
  try rfl

include hq in
/-- What the first tile after the loop loads of the running sum, for map 0. -/
theorem Av60_eq (r : Fin 256) (d : Fin 1) :
    kernelRun0_A.sl.v60 (F := Ideal) c i arg3 harg3 arg4 harg4 arg5 harg5 arg6 harg6 arg7 harg7 arg8 harg8 arg9 harg9 arg10 harg10 arg11 harg11 arg12 harg12 arg13 harg13 x0 x1 x2 x3 (ix3 0 r d) = Online.den (sc x0 x1 x2 x4 (head i) 0 r (i 2).val) (256 * (i 2).val) := by
  have left := left_eq c i arg3 harg3 arg4 harg4 arg5 harg5 arg6 harg6 arg7 harg7 arg8 harg8 arg9 harg9 arg10 harg10 arg11 harg11 arg12 harg12 arg13 harg13 x0 x1 x2 x3 (kernelRun0_A.sl.v23 i) kernelRun0_A.sl.HS0_1 kernelRun0_A.sl.HS1_1 kernelRun0_A.sl.HS2_1 (fun mp r => initA_arg11 arg11 mp r 0) (fun mp r => initA_arg12 arg12 mp r 0) (fun mp r d => initA_arg13 arg13 mp r d) 0 r
  rw [show 256 * (i 2).val = 256 * ((i 2).val - 1) by omega]
  refine Eq.trans ?_ ((left.2.1).trans (Proof.Online.run_none (w := fun _ => 1) (by omega)).2)
  obtain rfl : d = 0 := Subsingleton.elim _ _
  unfold kernelRun0_A.sl.v60 View.readCov
  simp only [View.readAt_eq_ld]
  pointwise []
  try rfl

include hq in
/-- What the first tile after the loop loads of the running weighted sum, for map 0. -/
theorem Av69_eq (r : Fin 256) (d : Fin 128) :
    kernelRun0_A.sl.v69 (F := Ideal) c i arg3 harg3 arg4 harg4 arg5 harg5 arg6 harg6 arg7 harg7 arg8 harg8 arg9 harg9 arg10 harg10 arg11 harg11 arg12 harg12 arg13 harg13 x0 x1 x2 x3 (ix3 0 r d) = Online.num (sc x0 x1 x2 x4 (head i) 0 r (i 2).val) (value x3 d) (256 * (i 2).val) := by
  have left := left_eq c i arg3 harg3 arg4 harg4 arg5 harg5 arg6 harg6 arg7 harg7 arg8 harg8 arg9 harg9 arg10 harg10 arg11 harg11 arg12 harg12 arg13 harg13 x0 x1 x2 x3 (kernelRun0_A.sl.v23 i) kernelRun0_A.sl.HS0_1 kernelRun0_A.sl.HS1_1 kernelRun0_A.sl.HS2_1 (fun mp r => initA_arg11 arg11 mp r 0) (fun mp r => initA_arg12 arg12 mp r 0) (fun mp r d => initA_arg13 arg13 mp r d) 0 r
  rw [show 256 * (i 2).val = 256 * ((i 2).val - 1) by omega]
  refine Eq.trans ?_ ((left.2.2 d).trans (Proof.Online.run_none (by omega)).1)
  unfold kernelRun0_A.sl.v69 View.readCov
  simp only [View.readAt_eq_ld]
  pointwise []
  try rfl

include hq in
/-- What the first tile after the loop loads of the running maximum, for map 1. -/
theorem Av86_eq (r : Fin 256) (d : Fin 1) :
    kernelRun0_A.sl.v86 (F := Ideal) c i arg3 harg3 arg4 harg4 arg5 harg5 arg6 harg6 arg7 harg7 arg8 harg8 arg9 harg9 arg10 harg10 arg11 harg11 arg12 harg12 arg13 harg13 x0 x1 x2 x3 x4 (ix3 0 r d) = Online.mx (sc x0 x1 x2 x4 (head i) 1 r (i 2).val) (256 * (i 2).val) := by
  have left := left_eq c i arg3 harg3 arg4 harg4 arg5 harg5 arg6 harg6 arg7 harg7 arg8 harg8 arg9 harg9 arg10 harg10 arg11 harg11 arg12 harg12 arg13 harg13 x0 x1 x2 x3 (kernelRun0_A.sl.v23 i) kernelRun0_A.sl.HS0_1 kernelRun0_A.sl.HS1_1 kernelRun0_A.sl.HS2_1 (fun mp r => initA_arg11 arg11 mp r 0) (fun mp r => initA_arg12 arg12 mp r 0) (fun mp r d => initA_arg13 arg13 mp r d) 1 r
  rw [show 256 * (i 2).val = 256 * ((i 2).val - 1) by omega]
  refine Eq.trans ?_ ((left.1).trans (Proof.Online.mx_congr (fun κ hκ => sc_far x0 x1 x2 x4 (head i) 1 r (i 2).val κ hκ)))
  obtain rfl : d = 0 := Subsingleton.elim _ _
  unfold kernelRun0_A.sl.v86 View.readCov
  unfold kernelRun0_A.sl.HS0_1_1
  simp only [View.readAt_eq_ld]
  rw [View.read_writes_cons_put _ _ _ _ _ rfl]
  pointwise []
  erw [put_other']
  try rfl

include hq in
/-- What the first tile after the loop loads of the running sum, for map 1. -/
theorem Av100_eq (r : Fin 256) (d : Fin 1) :
    kernelRun0_A.sl.v100 (F := Ideal) c i arg3 harg3 arg4 harg4 arg5 harg5 arg6 harg6 arg7 harg7 arg8 harg8 arg9 harg9 arg10 harg10 arg11 harg11 arg12 harg12 arg13 harg13 x0 x1 x2 x3 x4 (ix3 0 r d) = Online.den (sc x0 x1 x2 x4 (head i) 1 r (i 2).val) (256 * (i 2).val) := by
  have left := left_eq c i arg3 harg3 arg4 harg4 arg5 harg5 arg6 harg6 arg7 harg7 arg8 harg8 arg9 harg9 arg10 harg10 arg11 harg11 arg12 harg12 arg13 harg13 x0 x1 x2 x3 (kernelRun0_A.sl.v23 i) kernelRun0_A.sl.HS0_1 kernelRun0_A.sl.HS1_1 kernelRun0_A.sl.HS2_1 (fun mp r => initA_arg11 arg11 mp r 0) (fun mp r => initA_arg12 arg12 mp r 0) (fun mp r d => initA_arg13 arg13 mp r d) 1 r
  rw [show 256 * (i 2).val = 256 * ((i 2).val - 1) by omega]
  refine Eq.trans ?_ ((left.2.1).trans (Proof.Online.run_none (w := fun _ => 1) (by omega)).2)
  obtain rfl : d = 0 := Subsingleton.elim _ _
  unfold kernelRun0_A.sl.v100 View.readCov
  unfold kernelRun0_A.sl.HS1_1_1
  simp only [View.readAt_eq_ld]
  rw [View.read_writes_cons_put _ _ _ _ _ rfl]
  pointwise []
  erw [put_other']
  try rfl

include hq in
/-- What the first tile after the loop loads of the running weighted sum, for map 1. -/
theorem Av109_eq (r : Fin 256) (d : Fin 128) :
    kernelRun0_A.sl.v109 (F := Ideal) c i arg3 harg3 arg4 harg4 arg5 harg5 arg6 harg6 arg7 harg7 arg8 harg8 arg9 harg9 arg10 harg10 arg11 harg11 arg12 harg12 arg13 harg13 x0 x1 x2 x3 x4 (ix3 0 r d) = Online.num (sc x0 x1 x2 x4 (head i) 1 r (i 2).val) (value x3 d) (256 * (i 2).val) := by
  have left := left_eq c i arg3 harg3 arg4 harg4 arg5 harg5 arg6 harg6 arg7 harg7 arg8 harg8 arg9 harg9 arg10 harg10 arg11 harg11 arg12 harg12 arg13 harg13 x0 x1 x2 x3 (kernelRun0_A.sl.v23 i) kernelRun0_A.sl.HS0_1 kernelRun0_A.sl.HS1_1 kernelRun0_A.sl.HS2_1 (fun mp r => initA_arg11 arg11 mp r 0) (fun mp r => initA_arg12 arg12 mp r 0) (fun mp r d => initA_arg13 arg13 mp r d) 1 r
  rw [show 256 * (i 2).val = 256 * ((i 2).val - 1) by omega]
  refine Eq.trans ?_ ((left.2.2 d).trans (Proof.Online.run_none (by omega)).1)
  unfold kernelRun0_A.sl.v109 View.readCov
  unfold kernelRun0_A.sl.HS2_1_1
  simp only [View.readAt_eq_ld]
  rw [View.read_writes_cons_put _ _ _ _ _ rfl]
  pointwise []
  erw [put_other']
  try rfl

include hq in
/-- The sum after the tile on the diagonal, for map 0. -/
theorem Av141_eq (r : Fin 256) (d : Fin 1) :
    kernelRun0_A.sl.v141 (F := Ideal) c i arg3 harg3 arg4 harg4 arg5 harg5 arg6 harg6 arg7 harg7 arg8 harg8 arg9 harg9 arg10 harg10 arg11 harg11 arg12 harg12 arg13 harg13 x0 x1 x2 x3 x4 (ix3 0 r d) = Online.den (sc x0 x1 x2 x4 (head i) 0 r (i 2).val) (256 * (i 2).val + 256) := by
  have hw := word2 (i 2)
  have hlt : (i 2).val < 16 := (i 2).isLt
  have hs : ∀ κ : Fin 256, 256 * (i 2).val + κ.val < 4096 := fun κ => by omega
  rw [← Proof.Online.den_add, ← Proof.Online.mx_add]
  obtain rfl : d = 0 := Subsingleton.elim _ _
  rw [← Av46_eq (r := r) (d := 0) (hq := hq) c i arg3 harg3 arg4 harg4 arg5 harg5 arg6 harg6 arg7 harg7 arg8 harg8 arg9 harg9 arg10 harg10 arg11 harg11 arg12 harg12 arg13 harg13 x0 x1 x2 x3 x4, ← Av60_eq (r := r) (d := 0) (hq := hq) c i arg3 harg3 arg4 harg4 arg5 harg5 arg6 harg6 arg7 harg7 arg8 harg8 arg9 harg9 arg10 harg10 arg11 harg11 arg12 harg12 arg13 harg13 x0 x1 x2 x3 x4]
  simp only [sc_diag x0 x1 x2 x4 (head i) 0 r (i 2).val]
  simp only [base, value, hs, dif_pos]
  unfold kernelRun0_A.sl.v141 kernelRun0_A.sl.HS1_2 kernelRun0_A.sl.HS1_1_1 View.readCov
  simp only [View.readAt_eq_ld]
  pointwise []
  rw [View.read_writes_cons_put _ _ _ _ _ rfl]
  rw [View.read_writes_cons_put _ _ _ _ _ rfl]
  erw [put_other, put_low]
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  try unfold k0_off6
  try simp only [View.readAt_eq_ld, harg3.read_unread, harg4.read_unread, harg5.read_unread, harg6.read_unread, harg7.read_unread]
  unfold_payloads
  pointwise []
  simp only [hw, neg_inf, zero_bf, zero_f, half_low, half_high]
  try rfl

include hq in
/-- The weighted sum after the tile on the diagonal, for map 0. -/
theorem Av139_eq (r : Fin 256) (d : Fin 128) :
    kernelRun0_A.sl.v139 (F := Ideal) c i arg3 harg3 arg4 harg4 arg5 harg5 arg6 harg6 arg7 harg7 arg8 harg8 arg9 harg9 arg10 harg10 arg11 harg11 arg12 harg12 arg13 harg13 x0 x1 x2 x3 x4 (ix3 0 r d) = Online.num (sc x0 x1 x2 x4 (head i) 0 r (i 2).val) (value x3 d) (256 * (i 2).val + 256) := by
  have hw := word2 (i 2)
  have hlt : (i 2).val < 16 := (i 2).isLt
  have hs : ∀ κ : Fin 256, 256 * (i 2).val + κ.val < 4096 := fun κ => by omega
  rw [← Proof.Online.num_add, ← Proof.Online.mx_add]
  rw [← Av46_eq (r := r) (d := 0) (hq := hq) c i arg3 harg3 arg4 harg4 arg5 harg5 arg6 harg6 arg7 harg7 arg8 harg8 arg9 harg9 arg10 harg10 arg11 harg11 arg12 harg12 arg13 harg13 x0 x1 x2 x3 x4, ← Av69_eq (r := r) (d := d) (hq := hq) c i arg3 harg3 arg4 harg4 arg5 harg5 arg6 harg6 arg7 harg7 arg8 harg8 arg9 harg9 arg10 harg10 arg11 harg11 arg12 harg12 arg13 harg13 x0 x1 x2 x3 x4]
  simp only [sc_diag x0 x1 x2 x4 (head i) 0 r (i 2).val]
  simp only [base, value, hs, dif_pos]
  unfold kernelRun0_A.sl.v139 kernelRun0_A.sl.HS2_2 kernelRun0_A.sl.HS2_1_1 View.readCov
  simp only [View.readAt_eq_ld]
  pointwise []
  rw [View.read_writes_cons_put _ _ _ _ _ rfl]
  rw [View.read_writes_cons_put _ _ _ _ _ rfl]
  erw [put_other, put_low]
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  try unfold k0_off6
  try simp only [View.readAt_eq_ld, harg3.read_unread, harg4.read_unread, harg5.read_unread, harg6.read_unread, harg7.read_unread]
  unfold_payloads
  pointwise []
  simp only [hw, neg_inf, zero_bf, zero_f, half_low, half_high]
  try rfl

include hq in
/-- The sum after the tile on the diagonal, for map 1. -/
theorem Av147_eq (r : Fin 256) (d : Fin 1) :
    kernelRun0_A.sl.v147 (F := Ideal) c i arg3 harg3 arg4 harg4 arg5 harg5 arg6 harg6 arg7 harg7 arg8 harg8 arg9 harg9 arg10 harg10 arg11 harg11 arg12 harg12 arg13 harg13 x0 x1 x2 x3 x4 (ix3 0 r d) = Online.den (sc x0 x1 x2 x4 (head i) 1 r (i 2).val) (256 * (i 2).val + 256) := by
  have hw := word2 (i 2)
  have hlt : (i 2).val < 16 := (i 2).isLt
  have hs : ∀ κ : Fin 256, 256 * (i 2).val + κ.val < 4096 := fun κ => by omega
  rw [← Proof.Online.den_add, ← Proof.Online.mx_add]
  obtain rfl : d = 0 := Subsingleton.elim _ _
  rw [← Av86_eq (r := r) (d := 0) (hq := hq) c i arg3 harg3 arg4 harg4 arg5 harg5 arg6 harg6 arg7 harg7 arg8 harg8 arg9 harg9 arg10 harg10 arg11 harg11 arg12 harg12 arg13 harg13 x0 x1 x2 x3 x4, ← Av100_eq (r := r) (d := 0) (hq := hq) c i arg3 harg3 arg4 harg4 arg5 harg5 arg6 harg6 arg7 harg7 arg8 harg8 arg9 harg9 arg10 harg10 arg11 harg11 arg12 harg12 arg13 harg13 x0 x1 x2 x3 x4]
  simp only [sc_diag x0 x1 x2 x4 (head i) 1 r (i 2).val]
  simp only [base, value, hs, dif_pos]
  unfold kernelRun0_A.sl.v147 kernelRun0_A.sl.HS1_2 View.readCov
  simp only [View.readAt_eq_ld]
  pointwise []
  rw [View.read_writes_cons_put _ _ _ _ _ rfl]
  erw [put_high]
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  try unfold k0_off6
  try simp only [View.readAt_eq_ld, harg3.read_unread, harg4.read_unread, harg5.read_unread, harg6.read_unread, harg7.read_unread]
  unfold_payloads
  pointwise []
  simp only [hw, neg_inf, zero_bf, zero_f, half_low, half_high]
  try rfl

include hq in
/-- The weighted sum after the tile on the diagonal, for map 1. -/
theorem Av145_eq (r : Fin 256) (d : Fin 128) :
    kernelRun0_A.sl.v145 (F := Ideal) c i arg3 harg3 arg4 harg4 arg5 harg5 arg6 harg6 arg7 harg7 arg8 harg8 arg9 harg9 arg10 harg10 arg11 harg11 arg12 harg12 arg13 harg13 x0 x1 x2 x3 x4 (ix3 0 r d) = Online.num (sc x0 x1 x2 x4 (head i) 1 r (i 2).val) (value x3 d) (256 * (i 2).val + 256) := by
  have hw := word2 (i 2)
  have hlt : (i 2).val < 16 := (i 2).isLt
  have hs : ∀ κ : Fin 256, 256 * (i 2).val + κ.val < 4096 := fun κ => by omega
  rw [← Proof.Online.num_add, ← Proof.Online.mx_add]
  rw [← Av86_eq (r := r) (d := 0) (hq := hq) c i arg3 harg3 arg4 harg4 arg5 harg5 arg6 harg6 arg7 harg7 arg8 harg8 arg9 harg9 arg10 harg10 arg11 harg11 arg12 harg12 arg13 harg13 x0 x1 x2 x3 x4, ← Av109_eq (r := r) (d := d) (hq := hq) c i arg3 harg3 arg4 harg4 arg5 harg5 arg6 harg6 arg7 harg7 arg8 harg8 arg9 harg9 arg10 harg10 arg11 harg11 arg12 harg12 arg13 harg13 x0 x1 x2 x3 x4]
  simp only [sc_diag x0 x1 x2 x4 (head i) 1 r (i 2).val]
  simp only [base, value, hs, dif_pos]
  unfold kernelRun0_A.sl.v145 kernelRun0_A.sl.HS2_2 View.readCov
  simp only [View.readAt_eq_ld]
  pointwise []
  rw [View.read_writes_cons_put _ _ _ _ _ rfl]
  erw [put_high]
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  try unfold k0_off6
  try simp only [View.readAt_eq_ld, harg3.read_unread, harg4.read_unread, harg5.read_unread, harg6.read_unread, harg7.read_unread]
  unfold_payloads
  pointwise []
  simp only [hw, neg_inf, zero_bf, zero_f, half_low, half_high]
  try rfl

end

/-- The initial contents of `arg11`. -/
theorem initB_arg11 (mp : Fin 2) (r : Fin 256) (d : Fin 1) :
    arg11.view.read (Elt Ideal) (arg11.view.writes (Elt Ideal) arg11.view.junk kernelRun0_B.sl.HS0_1) (ix3 mp r d) = (⊥ : EReal) := by
  unfold kernelRun0_B.sl.HS0_1
  erw [View.read_writes_full]
  · unfold_payloads
    pointwise []
    try exact neg_inf

/-- The initial contents of `arg12`. -/
theorem initB_arg12 (mp : Fin 2) (r : Fin 256) (d : Fin 1) :
    arg12.view.read (Elt Ideal) (arg12.view.writes (Elt Ideal) arg12.view.junk kernelRun0_B.sl.HS1_1) (ix3 mp r d) = (0 : EReal) := by
  unfold kernelRun0_B.sl.HS1_1
  erw [View.read_writes_full]
  · unfold_payloads
    pointwise []
    try exact neg_inf

/-- The initial contents of `arg13`. -/
theorem initB_arg13 (mp : Fin 2) (r : Fin 256) (d : Fin 128) :
    arg13.view.read (Elt Ideal) (arg13.view.writes (Elt Ideal) arg13.view.junk kernelRun0_B.sl.HS2_1) (ix3 mp r d) = (0 : EReal) := by
  unfold kernelRun0_B.sl.HS2_1
  erw [View.read_writes_full]
  · unfold_payloads
    pointwise []
    try exact neg_inf

section
variable (x4 : Vec Ideal S1x2x256x256 .f32)
variable (hc0 : cond0_0 i) (hq : 1 ≤ (i 2).val)

/-- What the first tile after the loop loads of the running maximum, for map 0. -/
theorem Bv194_eq (r : Fin 256) (d : Fin 1) :
    kernelRun0_B.sl.v194 (F := Ideal) c i arg3 harg3 arg4 harg4 arg5 harg5 arg6 harg6 arg7 harg7 arg8 harg8 arg9 harg9 arg10 harg10 arg11 harg11 arg12 harg12 arg13 harg13 x0 x1 x2 x3 (ix3 0 r d) = Online.mx (sc x0 x1 x2 x4 (head i) 0 r (i 2).val) (256 * ((i 2).val - 1)) := by
  have left := left_eq c i arg3 harg3 arg4 harg4 arg5 harg5 arg6 harg6 arg7 harg7 arg8 harg8 arg9 harg9 arg10 harg10 arg11 harg11 arg12 harg12 arg13 harg13 x0 x1 x2 x3 (kernelRun0_B.sl.v23 i) kernelRun0_B.sl.HS0_1 kernelRun0_B.sl.HS1_1 kernelRun0_B.sl.HS2_1 (fun mp r => initB_arg11 arg11 mp r 0) (fun mp r => initB_arg12 arg12 mp r 0) (fun mp r d => initB_arg13 arg13 mp r d) 0 r
  refine Eq.trans ?_ ((left.1).trans (Proof.Online.mx_congr (fun κ hκ => sc_far x0 x1 x2 x4 (head i) 0 r (i 2).val κ hκ)))
  obtain rfl : d = 0 := Subsingleton.elim _ _
  unfold kernelRun0_B.sl.v194 View.readCov
  simp only [View.readAt_eq_ld]
  pointwise []
  try rfl

/-- What the first tile after the loop loads of the running sum, for map 0. -/
theorem Bv208_eq (r : Fin 256) (d : Fin 1) :
    kernelRun0_B.sl.v208 (F := Ideal) c i arg3 harg3 arg4 harg4 arg5 harg5 arg6 harg6 arg7 harg7 arg8 harg8 arg9 harg9 arg10 harg10 arg11 harg11 arg12 harg12 arg13 harg13 x0 x1 x2 x3 (ix3 0 r d) = Proof.Online.run (x0 (ix1 (head i))) (base x1 x2 0 r) (fun _ => 1) ((i 2).val - 1) := by
  have left := left_eq c i arg3 harg3 arg4 harg4 arg5 harg5 arg6 harg6 arg7 harg7 arg8 harg8 arg9 harg9 arg10 harg10 arg11 harg11 arg12 harg12 arg13 harg13 x0 x1 x2 x3 (kernelRun0_B.sl.v23 i) kernelRun0_B.sl.HS0_1 kernelRun0_B.sl.HS1_1 kernelRun0_B.sl.HS2_1 (fun mp r => initB_arg11 arg11 mp r 0) (fun mp r => initB_arg12 arg12 mp r 0) (fun mp r d => initB_arg13 arg13 mp r d) 0 r
  refine Eq.trans ?_ left.2.1
  obtain rfl : d = 0 := Subsingleton.elim _ _
  unfold kernelRun0_B.sl.v208 View.readCov
  simp only [View.readAt_eq_ld]
  pointwise []
  try rfl

/-- What the first tile after the loop loads of the running weighted sum, for map 0. -/
theorem Bv217_eq (r : Fin 256) (d : Fin 128) :
    kernelRun0_B.sl.v217 (F := Ideal) c i arg3 harg3 arg4 harg4 arg5 harg5 arg6 harg6 arg7 harg7 arg8 harg8 arg9 harg9 arg10 harg10 arg11 harg11 arg12 harg12 arg13 harg13 x0 x1 x2 x3 (ix3 0 r d) = Proof.Online.run (x0 (ix1 (head i))) (base x1 x2 0 r) (value x3 d) ((i 2).val - 1) := by
  have left := left_eq c i arg3 harg3 arg4 harg4 arg5 harg5 arg6 harg6 arg7 harg7 arg8 harg8 arg9 harg9 arg10 harg10 arg11 harg11 arg12 harg12 arg13 harg13 x0 x1 x2 x3 (kernelRun0_B.sl.v23 i) kernelRun0_B.sl.HS0_1 kernelRun0_B.sl.HS1_1 kernelRun0_B.sl.HS2_1 (fun mp r => initB_arg11 arg11 mp r 0) (fun mp r => initB_arg12 arg12 mp r 0) (fun mp r d => initB_arg13 arg13 mp r d) 0 r
  refine Eq.trans ?_ (left.2.2 d)
  unfold kernelRun0_B.sl.v217 View.readCov
  simp only [View.readAt_eq_ld]
  pointwise []
  try rfl

/-- What the first tile after the loop loads of the running maximum, for map 1. -/
theorem Bv234_eq (r : Fin 256) (d : Fin 1) :
    kernelRun0_B.sl.v234 (F := Ideal) c i arg3 harg3 arg4 harg4 arg5 harg5 arg6 harg6 arg7 harg7 arg8 harg8 arg9 harg9 arg10 harg10 arg11 harg11 arg12 harg12 arg13 harg13 hc0 x0 x1 x2 x3 x4 (ix3 0 r d) = Online.mx (sc x0 x1 x2 x4 (head i) 1 r (i 2).val) (256 * ((i 2).val - 1)) := by
  have left := left_eq c i arg3 harg3 arg4 harg4 arg5 harg5 arg6 harg6 arg7 harg7 arg8 harg8 arg9 harg9 arg10 harg10 arg11 harg11 arg12 harg12 arg13 harg13 x0 x1 x2 x3 (kernelRun0_B.sl.v23 i) kernelRun0_B.sl.HS0_1 kernelRun0_B.sl.HS1_1 kernelRun0_B.sl.HS2_1 (fun mp r => initB_arg11 arg11 mp r 0) (fun mp r => initB_arg12 arg12 mp r 0) (fun mp r d => initB_arg13 arg13 mp r d) 1 r
  refine Eq.trans ?_ ((left.1).trans (Proof.Online.mx_congr (fun κ hκ => sc_far x0 x1 x2 x4 (head i) 1 r (i 2).val κ hκ)))
  obtain rfl : d = 0 := Subsingleton.elim _ _
  unfold kernelRun0_B.sl.v234 View.readCov
  unfold kernelRun0_B.sl.HS0_1_1
  simp only [View.readAt_eq_ld]
  rw [View.read_writes_cons_put _ _ _ _ _ rfl]
  pointwise []
  erw [put_other']
  try rfl

/-- What the first tile after the loop loads of the running sum, for map 1. -/
theorem Bv248_eq (r : Fin 256) (d : Fin 1) :
    kernelRun0_B.sl.v248 (F := Ideal) c i arg3 harg3 arg4 harg4 arg5 harg5 arg6 harg6 arg7 harg7 arg8 harg8 arg9 harg9 arg10 harg10 arg11 harg11 arg12 harg12 arg13 harg13 hc0 x0 x1 x2 x3 x4 (ix3 0 r d) = Proof.Online.run (x0 (ix1 (head i))) (base x1 x2 1 r) (fun _ => 1) ((i 2).val - 1) := by
  have left := left_eq c i arg3 harg3 arg4 harg4 arg5 harg5 arg6 harg6 arg7 harg7 arg8 harg8 arg9 harg9 arg10 harg10 arg11 harg11 arg12 harg12 arg13 harg13 x0 x1 x2 x3 (kernelRun0_B.sl.v23 i) kernelRun0_B.sl.HS0_1 kernelRun0_B.sl.HS1_1 kernelRun0_B.sl.HS2_1 (fun mp r => initB_arg11 arg11 mp r 0) (fun mp r => initB_arg12 arg12 mp r 0) (fun mp r d => initB_arg13 arg13 mp r d) 1 r
  refine Eq.trans ?_ left.2.1
  obtain rfl : d = 0 := Subsingleton.elim _ _
  unfold kernelRun0_B.sl.v248 View.readCov
  unfold kernelRun0_B.sl.HS1_1_1
  simp only [View.readAt_eq_ld]
  rw [View.read_writes_cons_put _ _ _ _ _ rfl]
  pointwise []
  erw [put_other']
  try rfl

/-- What the first tile after the loop loads of the running weighted sum, for map 1. -/
theorem Bv257_eq (r : Fin 256) (d : Fin 128) :
    kernelRun0_B.sl.v257 (F := Ideal) c i arg3 harg3 arg4 harg4 arg5 harg5 arg6 harg6 arg7 harg7 arg8 harg8 arg9 harg9 arg10 harg10 arg11 harg11 arg12 harg12 arg13 harg13 hc0 x0 x1 x2 x3 x4 (ix3 0 r d) = Proof.Online.run (x0 (ix1 (head i))) (base x1 x2 1 r) (value x3 d) ((i 2).val - 1) := by
  have left := left_eq c i arg3 harg3 arg4 harg4 arg5 harg5 arg6 harg6 arg7 harg7 arg8 harg8 arg9 harg9 arg10 harg10 arg11 harg11 arg12 harg12 arg13 harg13 x0 x1 x2 x3 (kernelRun0_B.sl.v23 i) kernelRun0_B.sl.HS0_1 kernelRun0_B.sl.HS1_1 kernelRun0_B.sl.HS2_1 (fun mp r => initB_arg11 arg11 mp r 0) (fun mp r => initB_arg12 arg12 mp r 0) (fun mp r d => initB_arg13 arg13 mp r d) 1 r
  refine Eq.trans ?_ (left.2.2 d)
  unfold kernelRun0_B.sl.v257 View.readCov
  unfold kernelRun0_B.sl.HS2_1_1
  simp only [View.readAt_eq_ld]
  rw [View.read_writes_cons_put _ _ _ _ _ rfl]
  pointwise []
  erw [put_other']
  try rfl

include hq in
/-- The maximum after the tile left of the diagonal, for map 0. -/
theorem Bv46_eq (r : Fin 256) (d : Fin 1) :
    kernelRun0_B.sl.v46 (F := Ideal) c i arg3 harg3 arg4 harg4 arg5 harg5 arg6 harg6 arg7 harg7 arg8 harg8 arg9 harg9 arg10 harg10 arg11 harg11 arg12 harg12 arg13 harg13 hc0 x0 x1 x2 x3 x4 (ix3 0 r d) = Online.mx (sc x0 x1 x2 x4 (head i) 0 r (i 2).val) (256 * (i 2).val) := by
  have hw := word4 (i 2) hq
  have hlt : (i 2).val < 16 := (i 2).isLt
  have hs : ∀ κ : Fin 256, 256 * ((i 2).val - 1) + κ.val < 4096 := fun κ => by omega
  rw [show 256 * (i 2).val = 256 * ((i 2).val - 1) + 256 by omega]
  rw [← Proof.Online.mx_add]
  obtain rfl : d = 0 := Subsingleton.elim _ _
  rw [← Bv194_eq (r := r) (d := 0)  c i arg3 harg3 arg4 harg4 arg5 harg5 arg6 harg6 arg7 harg7 arg8 harg8 arg9 harg9 arg10 harg10 arg11 harg11 arg12 harg12 arg13 harg13 x0 x1 x2 x3 x4]
  simp only [sc_near x0 x1 x2 x4 (head i) 0 r (i 2).val hq]
  simp only [base, value, hs, dif_pos]
  unfold kernelRun0_B.sl.v46 kernelRun0_B.sl.HS0_2 kernelRun0_B.sl.HS0_1_1 View.readCov
  simp only [View.readAt_eq_ld]
  pointwise []
  rw [View.read_writes_cons_put _ _ _ _ _ rfl]
  rw [View.read_writes_cons_put _ _ _ _ _ rfl]
  erw [put_other, put_low]
  try unfold kernelRun0_B.sl.r_10
  try unfold kernelRun0_B.sl.r_9
  try unfold kernelRun0_B.sl.r_8
  try unfold kernelRun0_B.sl.r_7
  try unfold kernelRun0_B.sl.r_6
  try unfold kernelRun0_B.sl.r_5
  try unfold kernelRun0_B.sl.r_4
  try unfold kernelRun0_B.sl.r_3
  try unfold kernelRun0_B.sl.r_2
  try unfold kernelRun0_B.sl.r_1
  try unfold kernelRun0_B.sl.r
  try unfold k0_off5
  try simp only [View.readAt_eq_ld, harg3.read_unread, harg4.read_unread, harg5.read_unread, harg6.read_unread, harg7.read_unread]
  unfold_payloads
  pointwise []
  simp only [hw, neg_inf, zero_bf, zero_f, half_low, half_high]
  try rfl

include hq in
/-- The sum after the tile left of the diagonal, for map 0. -/
theorem Bv60_eq (r : Fin 256) (d : Fin 1) :
    kernelRun0_B.sl.v60 (F := Ideal) c i arg3 harg3 arg4 harg4 arg5 harg5 arg6 harg6 arg7 harg7 arg8 harg8 arg9 harg9 arg10 harg10 arg11 harg11 arg12 harg12 arg13 harg13 hc0 x0 x1 x2 x3 x4 (ix3 0 r d) = Online.den (sc x0 x1 x2 x4 (head i) 0 r (i 2).val) (256 * (i 2).val) := by
  have hw := word4 (i 2) hq
  have hlt : (i 2).val < 16 := (i 2).isLt
  have hs : ∀ κ : Fin 256, 256 * ((i 2).val - 1) + κ.val < 4096 := fun κ => by omega
  rw [show 256 * (i 2).val = 256 * ((i 2).val - 1) + 256 by omega]
  rw [← Proof.Online.den_add_run (c := x0 (ix1 (head i))) (b := base x1 x2 0 r) (h := fun κ hκ => (sc_far x0 x1 x2 x4 (head i) 0 r (i 2).val κ hκ).symm), ← Proof.Online.mx_add]
  obtain rfl : d = 0 := Subsingleton.elim _ _
  rw [← Bv194_eq (r := r) (d := 0)  c i arg3 harg3 arg4 harg4 arg5 harg5 arg6 harg6 arg7 harg7 arg8 harg8 arg9 harg9 arg10 harg10 arg11 harg11 arg12 harg12 arg13 harg13 x0 x1 x2 x3 x4, ← Bv208_eq (r := r) (d := 0)  c i arg3 harg3 arg4 harg4 arg5 harg5 arg6 harg6 arg7 harg7 arg8 harg8 arg9 harg9 arg10 harg10 arg11 harg11 arg12 harg12 arg13 harg13 x0 x1 x2 x3]
  simp only [sc_near x0 x1 x2 x4 (head i) 0 r (i 2).val hq]
  simp only [base, value, hs, dif_pos]
  unfold kernelRun0_B.sl.v60 kernelRun0_B.sl.HS1_2 kernelRun0_B.sl.HS1_1_1 View.readCov
  simp only [View.readAt_eq_ld]
  pointwise []
  rw [View.read_writes_cons_put _ _ _ _ _ rfl]
  rw [View.read_writes_cons_put _ _ _ _ _ rfl]
  erw [put_other, put_low]
  try unfold kernelRun0_B.sl.r_10
  try unfold kernelRun0_B.sl.r_9
  try unfold kernelRun0_B.sl.r_8
  try unfold kernelRun0_B.sl.r_7
  try unfold kernelRun0_B.sl.r_6
  try unfold kernelRun0_B.sl.r_5
  try unfold kernelRun0_B.sl.r_4
  try unfold kernelRun0_B.sl.r_3
  try unfold kernelRun0_B.sl.r_2
  try unfold kernelRun0_B.sl.r_1
  try unfold kernelRun0_B.sl.r
  try unfold k0_off5
  try simp only [View.readAt_eq_ld, harg3.read_unread, harg4.read_unread, harg5.read_unread, harg6.read_unread, harg7.read_unread]
  unfold_payloads
  pointwise []
  simp only [hw, neg_inf, zero_bf, zero_f, half_low, half_high]
  try rfl

include hq in
/-- The weighted sum after the tile left of the diagonal, for map 0. -/
theorem Bv69_eq (r : Fin 256) (d : Fin 128) :
    kernelRun0_B.sl.v69 (F := Ideal) c i arg3 harg3 arg4 harg4 arg5 harg5 arg6 harg6 arg7 harg7 arg8 harg8 arg9 harg9 arg10 harg10 arg11 harg11 arg12 harg12 arg13 harg13 hc0 x0 x1 x2 x3 x4 (ix3 0 r d) = Online.num (sc x0 x1 x2 x4 (head i) 0 r (i 2).val) (value x3 d) (256 * (i 2).val) := by
  have hw := word4 (i 2) hq
  have hlt : (i 2).val < 16 := (i 2).isLt
  have hs : ∀ κ : Fin 256, 256 * ((i 2).val - 1) + κ.val < 4096 := fun κ => by omega
  rw [show 256 * (i 2).val = 256 * ((i 2).val - 1) + 256 by omega]
  rw [← Proof.Online.num_add_run (c := x0 (ix1 (head i))) (b := base x1 x2 0 r) (h := fun κ hκ => (sc_far x0 x1 x2 x4 (head i) 0 r (i 2).val κ hκ).symm), ← Proof.Online.mx_add]
  rw [← Bv194_eq (r := r) (d := 0)  c i arg3 harg3 arg4 harg4 arg5 harg5 arg6 harg6 arg7 harg7 arg8 harg8 arg9 harg9 arg10 harg10 arg11 harg11 arg12 harg12 arg13 harg13 x0 x1 x2 x3 x4, ← Bv217_eq (r := r) (d := d)  c i arg3 harg3 arg4 harg4 arg5 harg5 arg6 harg6 arg7 harg7 arg8 harg8 arg9 harg9 arg10 harg10 arg11 harg11 arg12 harg12 arg13 harg13 x0 x1 x2 x3]
  simp only [sc_near x0 x1 x2 x4 (head i) 0 r (i 2).val hq]
  simp only [base, value, hs, dif_pos]
  unfold kernelRun0_B.sl.v69 kernelRun0_B.sl.HS2_2 kernelRun0_B.sl.HS2_1_1 View.readCov
  simp only [View.readAt_eq_ld]
  pointwise []
  rw [View.read_writes_cons_put _ _ _ _ _ rfl]
  rw [View.read_writes_cons_put _ _ _ _ _ rfl]
  erw [put_other, put_low]
  try unfold kernelRun0_B.sl.r_10
  try unfold kernelRun0_B.sl.r_9
  try unfold kernelRun0_B.sl.r_8
  try unfold kernelRun0_B.sl.r_7
  try unfold kernelRun0_B.sl.r_6
  try unfold kernelRun0_B.sl.r_5
  try unfold kernelRun0_B.sl.r_4
  try unfold kernelRun0_B.sl.r_3
  try unfold kernelRun0_B.sl.r_2
  try unfold kernelRun0_B.sl.r_1
  try unfold kernelRun0_B.sl.r
  try unfold k0_off5
  try simp only [View.readAt_eq_ld, harg3.read_unread, harg4.read_unread, harg5.read_unread, harg6.read_unread, harg7.read_unread]
  unfold_payloads
  pointwise []
  simp only [hw, neg_inf, zero_bf, zero_f, half_low, half_high]
  try rfl

include hq in
/-- The maximum after the tile left of the diagonal, for map 1. -/
theorem Bv86_eq (r : Fin 256) (d : Fin 1) :
    kernelRun0_B.sl.v86 (F := Ideal) c i arg3 harg3 arg4 harg4 arg5 harg5 arg6 harg6 arg7 harg7 arg8 harg8 arg9 harg9 arg10 harg10 arg11 harg11 arg12 harg12 arg13 harg13 hc0 x0 x1 x2 x3 x4 (ix3 0 r d) = Online.mx (sc x0 x1 x2 x4 (head i) 1 r (i 2).val) (256 * (i 2).val) := by
  have hw := word4 (i 2) hq
  have hlt : (i 2).val < 16 := (i 2).isLt
  have hs : ∀ κ : Fin 256, 256 * ((i 2).val - 1) + κ.val < 4096 := fun κ => by omega
  rw [show 256 * (i 2).val = 256 * ((i 2).val - 1) + 256 by omega]
  rw [← Proof.Online.mx_add]
  obtain rfl : d = 0 := Subsingleton.elim _ _
  rw [← Bv234_eq (r := r) (d := 0)  c i arg3 harg3 arg4 harg4 arg5 harg5 arg6 harg6 arg7 harg7 arg8 harg8 arg9 harg9 arg10 harg10 arg11 harg11 arg12 harg12 arg13 harg13 x0 x1 x2 x3 x4 hc0]
  simp only [sc_near x0 x1 x2 x4 (head i) 1 r (i 2).val hq]
  simp only [base, value, hs, dif_pos]
  unfold kernelRun0_B.sl.v86 kernelRun0_B.sl.HS0_3 kernelRun0_B.sl.HS0_2 View.readCov
  simp only [View.readAt_eq_ld]
  pointwise []
  rw [View.read_writes_cons_put _ _ _ _ _ rfl]
  rw [View.read_writes_cons_put _ _ _ _ _ rfl]
  erw [put_other', put_high]
  try unfold kernelRun0_B.sl.r_10
  try unfold kernelRun0_B.sl.r_9
  try unfold kernelRun0_B.sl.r_8
  try unfold kernelRun0_B.sl.r_7
  try unfold kernelRun0_B.sl.r_6
  try unfold kernelRun0_B.sl.r_5
  try unfold kernelRun0_B.sl.r_4
  try unfold kernelRun0_B.sl.r_3
  try unfold kernelRun0_B.sl.r_2
  try unfold kernelRun0_B.sl.r_1
  try unfold kernelRun0_B.sl.r
  try unfold k0_off5
  try simp only [View.readAt_eq_ld, harg3.read_unread, harg4.read_unread, harg5.read_unread, harg6.read_unread, harg7.read_unread]
  unfold_payloads
  pointwise []
  simp only [hw, neg_inf, zero_bf, zero_f, half_low, half_high]
  try rfl

include hq in
/-- The sum after the tile left of the diagonal, for map 1. -/
theorem Bv100_eq (r : Fin 256) (d : Fin 1) :
    kernelRun0_B.sl.v100 (F := Ideal) c i arg3 harg3 arg4 harg4 arg5 harg5 arg6 harg6 arg7 harg7 arg8 harg8 arg9 harg9 arg10 harg10 arg11 harg11 arg12 harg12 arg13 harg13 hc0 x0 x1 x2 x3 x4 (ix3 0 r d) = Online.den (sc x0 x1 x2 x4 (head i) 1 r (i 2).val) (256 * (i 2).val) := by
  have hw := word4 (i 2) hq
  have hlt : (i 2).val < 16 := (i 2).isLt
  have hs : ∀ κ : Fin 256, 256 * ((i 2).val - 1) + κ.val < 4096 := fun κ => by omega
  rw [show 256 * (i 2).val = 256 * ((i 2).val - 1) + 256 by omega]
  rw [← Proof.Online.den_add_run (c := x0 (ix1 (head i))) (b := base x1 x2 1 r) (h := fun κ hκ => (sc_far x0 x1 x2 x4 (head i) 1 r (i 2).val κ hκ).symm), ← Proof.Online.mx_add]
  obtain rfl : d = 0 := Subsingleton.elim _ _
  rw [← Bv234_eq (r := r) (d := 0)  c i arg3 harg3 arg4 harg4 arg5 harg5 arg6 harg6 arg7 harg7 arg8 harg8 arg9 harg9 arg10 harg10 arg11 harg11 arg12 harg12 arg13 harg13 x0 x1 x2 x3 x4 hc0, ← Bv248_eq (r := r) (d := 0)  c i arg3 harg3 arg4 harg4 arg5 harg5 arg6 harg6 arg7 harg7 arg8 harg8 arg9 harg9 arg10 harg10 arg11 harg11 arg12 harg12 arg13 harg13 x0 x1 x2 x3 x4 hc0]
  simp only [sc_near x0 x1 x2 x4 (head i) 1 r (i 2).val hq]
  simp only [base, value, hs, dif_pos]
  unfold kernelRun0_B.sl.v100 kernelRun0_B.sl.HS1_3 kernelRun0_B.sl.HS1_2 View.readCov
  simp only [View.readAt_eq_ld]
  pointwise []
  rw [View.read_writes_cons_put _ _ _ _ _ rfl]
  rw [View.read_writes_cons_put _ _ _ _ _ rfl]
  erw [put_other', put_high]
  try unfold kernelRun0_B.sl.r_10
  try unfold kernelRun0_B.sl.r_9
  try unfold kernelRun0_B.sl.r_8
  try unfold kernelRun0_B.sl.r_7
  try unfold kernelRun0_B.sl.r_6
  try unfold kernelRun0_B.sl.r_5
  try unfold kernelRun0_B.sl.r_4
  try unfold kernelRun0_B.sl.r_3
  try unfold kernelRun0_B.sl.r_2
  try unfold kernelRun0_B.sl.r_1
  try unfold kernelRun0_B.sl.r
  try unfold k0_off5
  try simp only [View.readAt_eq_ld, harg3.read_unread, harg4.read_unread, harg5.read_unread, harg6.read_unread, harg7.read_unread]
  unfold_payloads
  pointwise []
  simp only [hw, neg_inf, zero_bf, zero_f, half_low, half_high]
  try rfl

include hq in
/-- The weighted sum after the tile left of the diagonal, for map 1. -/
theorem Bv109_eq (r : Fin 256) (d : Fin 128) :
    kernelRun0_B.sl.v109 (F := Ideal) c i arg3 harg3 arg4 harg4 arg5 harg5 arg6 harg6 arg7 harg7 arg8 harg8 arg9 harg9 arg10 harg10 arg11 harg11 arg12 harg12 arg13 harg13 hc0 x0 x1 x2 x3 x4 (ix3 0 r d) = Online.num (sc x0 x1 x2 x4 (head i) 1 r (i 2).val) (value x3 d) (256 * (i 2).val) := by
  have hw := word4 (i 2) hq
  have hlt : (i 2).val < 16 := (i 2).isLt
  have hs : ∀ κ : Fin 256, 256 * ((i 2).val - 1) + κ.val < 4096 := fun κ => by omega
  rw [show 256 * (i 2).val = 256 * ((i 2).val - 1) + 256 by omega]
  rw [← Proof.Online.num_add_run (c := x0 (ix1 (head i))) (b := base x1 x2 1 r) (h := fun κ hκ => (sc_far x0 x1 x2 x4 (head i) 1 r (i 2).val κ hκ).symm), ← Proof.Online.mx_add]
  rw [← Bv234_eq (r := r) (d := 0)  c i arg3 harg3 arg4 harg4 arg5 harg5 arg6 harg6 arg7 harg7 arg8 harg8 arg9 harg9 arg10 harg10 arg11 harg11 arg12 harg12 arg13 harg13 x0 x1 x2 x3 x4 hc0, ← Bv257_eq (r := r) (d := d)  c i arg3 harg3 arg4 harg4 arg5 harg5 arg6 harg6 arg7 harg7 arg8 harg8 arg9 harg9 arg10 harg10 arg11 harg11 arg12 harg12 arg13 harg13 x0 x1 x2 x3 x4 hc0]
  simp only [sc_near x0 x1 x2 x4 (head i) 1 r (i 2).val hq]
  simp only [base, value, hs, dif_pos]
  unfold kernelRun0_B.sl.v109 kernelRun0_B.sl.HS2_3 kernelRun0_B.sl.HS2_2 View.readCov
  simp only [View.readAt_eq_ld]
  pointwise []
  rw [View.read_writes_cons_put _ _ _ _ _ rfl]
  rw [View.read_writes_cons_put _ _ _ _ _ rfl]
  erw [put_other', put_high]
  try unfold kernelRun0_B.sl.r_10
  try unfold kernelRun0_B.sl.r_9
  try unfold kernelRun0_B.sl.r_8
  try unfold kernelRun0_B.sl.r_7
  try unfold kernelRun0_B.sl.r_6
  try unfold kernelRun0_B.sl.r_5
  try unfold kernelRun0_B.sl.r_4
  try unfold kernelRun0_B.sl.r_3
  try unfold kernelRun0_B.sl.r_2
  try unfold kernelRun0_B.sl.r_1
  try unfold kernelRun0_B.sl.r
  try unfold k0_off5
  try simp only [View.readAt_eq_ld, harg3.read_unread, harg4.read_unread, harg5.read_unread, harg6.read_unread, harg7.read_unread]
  unfold_payloads
  pointwise []
  simp only [hw, neg_inf, zero_bf, zero_f, half_low, half_high]
  try rfl

include hq in
/-- The sum after the tile on the diagonal, for map 0. -/
theorem Bv141_eq (r : Fin 256) (d : Fin 1) :
    kernelRun0_B.sl.v141 (F := Ideal) c i arg3 harg3 arg4 harg4 arg5 harg5 arg6 harg6 arg7 harg7 arg8 harg8 arg9 harg9 arg10 harg10 arg11 harg11 arg12 harg12 arg13 harg13 hc0 x0 x1 x2 x3 x4 (ix3 0 r d) = Online.den (sc x0 x1 x2 x4 (head i) 0 r (i 2).val) (256 * (i 2).val + 256) := by
  have hw := word2 (i 2)
  have hlt : (i 2).val < 16 := (i 2).isLt
  have hs : ∀ κ : Fin 256, 256 * (i 2).val + κ.val < 4096 := fun κ => by omega
  rw [← Proof.Online.den_add, ← Proof.Online.mx_add]
  obtain rfl : d = 0 := Subsingleton.elim _ _
  rw [← Bv46_eq (r := r) (d := 0) (hq := hq) c i arg3 harg3 arg4 harg4 arg5 harg5 arg6 harg6 arg7 harg7 arg8 harg8 arg9 harg9 arg10 harg10 arg11 harg11 arg12 harg12 arg13 harg13 x0 x1 x2 x3 x4 hc0, ← Bv60_eq (r := r) (d := 0) (hq := hq) c i arg3 harg3 arg4 harg4 arg5 harg5 arg6 harg6 arg7 harg7 arg8 harg8 arg9 harg9 arg10 harg10 arg11 harg11 arg12 harg12 arg13 harg13 x0 x1 x2 x3 x4 hc0]
  simp only [sc_diag x0 x1 x2 x4 (head i) 0 r (i 2).val]
  simp only [base, value, hs, dif_pos]
  unfold kernelRun0_B.sl.v141 kernelRun0_B.sl.HS1_4 kernelRun0_B.sl.HS1_3 View.readCov
  simp only [View.readAt_eq_ld]
  pointwise []
  rw [View.read_writes_cons_put _ _ _ _ _ rfl]
  rw [View.read_writes_cons_put _ _ _ _ _ rfl]
  erw [put_other, put_low]
  try unfold kernelRun0_B.sl.r_20
  try unfold kernelRun0_B.sl.r_19
  try unfold kernelRun0_B.sl.r_18
  try unfold kernelRun0_B.sl.r_17
  try unfold kernelRun0_B.sl.r_16
  try unfold kernelRun0_B.sl.r_15
  try unfold kernelRun0_B.sl.r_14
  try unfold kernelRun0_B.sl.r_13
  try unfold kernelRun0_B.sl.r_12
  try unfold kernelRun0_B.sl.r_11
  try unfold kernelRun0_B.sl.r
  try unfold k0_off6
  try simp only [View.readAt_eq_ld, harg3.read_unread, harg4.read_unread, harg5.read_unread, harg6.read_unread, harg7.read_unread]
  unfold_payloads
  pointwise []
  simp only [hw, neg_inf, zero_bf, zero_f, half_low, half_high]
  try rfl

include hq in
/-- The weighted sum after the tile on the diagonal, for map 0. -/
theorem Bv139_eq (r : Fin 256) (d : Fin 128) :
    kernelRun0_B.sl.v139 (F := Ideal) c i arg3 harg3 arg4 harg4 arg5 harg5 arg6 harg6 arg7 harg7 arg8 harg8 arg9 harg9 arg10 harg10 arg11 harg11 arg12 harg12 arg13 harg13 hc0 x0 x1 x2 x3 x4 (ix3 0 r d) = Online.num (sc x0 x1 x2 x4 (head i) 0 r (i 2).val) (value x3 d) (256 * (i 2).val + 256) := by
  have hw := word2 (i 2)
  have hlt : (i 2).val < 16 := (i 2).isLt
  have hs : ∀ κ : Fin 256, 256 * (i 2).val + κ.val < 4096 := fun κ => by omega
  rw [← Proof.Online.num_add, ← Proof.Online.mx_add]
  rw [← Bv46_eq (r := r) (d := 0) (hq := hq) c i arg3 harg3 arg4 harg4 arg5 harg5 arg6 harg6 arg7 harg7 arg8 harg8 arg9 harg9 arg10 harg10 arg11 harg11 arg12 harg12 arg13 harg13 x0 x1 x2 x3 x4 hc0, ← Bv69_eq (r := r) (d := d) (hq := hq) c i arg3 harg3 arg4 harg4 arg5 harg5 arg6 harg6 arg7 harg7 arg8 harg8 arg9 harg9 arg10 harg10 arg11 harg11 arg12 harg12 arg13 harg13 x0 x1 x2 x3 x4 hc0]
  simp only [sc_diag x0 x1 x2 x4 (head i) 0 r (i 2).val]
  simp only [base, value, hs, dif_pos]
  unfold kernelRun0_B.sl.v139 kernelRun0_B.sl.HS2_4 kernelRun0_B.sl.HS2_3 View.readCov
  simp only [View.readAt_eq_ld]
  pointwise []
  rw [View.read_writes_cons_put _ _ _ _ _ rfl]
  rw [View.read_writes_cons_put _ _ _ _ _ rfl]
  erw [put_other, put_low]
  try unfold kernelRun0_B.sl.r_20
  try unfold kernelRun0_B.sl.r_19
  try unfold kernelRun0_B.sl.r_18
  try unfold kernelRun0_B.sl.r_17
  try unfold kernelRun0_B.sl.r_16
  try unfold kernelRun0_B.sl.r_15
  try unfold kernelRun0_B.sl.r_14
  try unfold kernelRun0_B.sl.r_13
  try unfold kernelRun0_B.sl.r_12
  try unfold kernelRun0_B.sl.r_11
  try unfold kernelRun0_B.sl.r
  try unfold k0_off6
  try simp only [View.readAt_eq_ld, harg3.read_unread, harg4.read_unread, harg5.read_unread, harg6.read_unread, harg7.read_unread]
  unfold_payloads
  pointwise []
  simp only [hw, neg_inf, zero_bf, zero_f, half_low, half_high]
  try rfl

include hq in
/-- The sum after the tile on the diagonal, for map 1. -/
theorem Bv147_eq (r : Fin 256) (d : Fin 1) :
    kernelRun0_B.sl.v147 (F := Ideal) c i arg3 harg3 arg4 harg4 arg5 harg5 arg6 harg6 arg7 harg7 arg8 harg8 arg9 harg9 arg10 harg10 arg11 harg11 arg12 harg12 arg13 harg13 hc0 x0 x1 x2 x3 x4 (ix3 0 r d) = Online.den (sc x0 x1 x2 x4 (head i) 1 r (i 2).val) (256 * (i 2).val + 256) := by
  have hw := word2 (i 2)
  have hlt : (i 2).val < 16 := (i 2).isLt
  have hs : ∀ κ : Fin 256, 256 * (i 2).val + κ.val < 4096 := fun κ => by omega
  rw [← Proof.Online.den_add, ← Proof.Online.mx_add]
  obtain rfl : d = 0 := Subsingleton.elim _ _
  rw [← Bv86_eq (r := r) (d := 0) (hq := hq) c i arg3 harg3 arg4 harg4 arg5 harg5 arg6 harg6 arg7 harg7 arg8 harg8 arg9 harg9 arg10 harg10 arg11 harg11 arg12 harg12 arg13 harg13 x0 x1 x2 x3 x4 hc0, ← Bv100_eq (r := r) (d := 0) (hq := hq) c i arg3 harg3 arg4 harg4 arg5 harg5 arg6 harg6 arg7 harg7 arg8 harg8 arg9 harg9 arg10 harg10 arg11 harg11 arg12 harg12 arg13 harg13 x0 x1 x2 x3 x4 hc0]
  simp only [sc_diag x0 x1 x2 x4 (head i) 1 r (i 2).val]
  simp only [base, value, hs, dif_pos]
  unfold kernelRun0_B.sl.v147 kernelRun0_B.sl.HS1_4 View.readCov
  simp only [View.readAt_eq_ld]
  pointwise []
  rw [View.read_writes_cons_put _ _ _ _ _ rfl]
  erw [put_high]
  try unfold kernelRun0_B.sl.r_20
  try unfold kernelRun0_B.sl.r_19
  try unfold kernelRun0_B.sl.r_18
  try unfold kernelRun0_B.sl.r_17
  try unfold kernelRun0_B.sl.r_16
  try unfold kernelRun0_B.sl.r_15
  try unfold kernelRun0_B.sl.r_14
  try unfold kernelRun0_B.sl.r_13
  try unfold kernelRun0_B.sl.r_12
  try unfold kernelRun0_B.sl.r_11
  try unfold kernelRun0_B.sl.r
  try unfold k0_off6
  try simp only [View.readAt_eq_ld, harg3.read_unread, harg4.read_unread, harg5.read_unread, harg6.read_unread, harg7.read_unread]
  unfold_payloads
  pointwise []
  simp only [hw, neg_inf, zero_bf, zero_f, half_low, half_high]
  try rfl

include hq in
/-- The weighted sum after the tile on the diagonal, for map 1. -/
theorem Bv145_eq (r : Fin 256) (d : Fin 128) :
    kernelRun0_B.sl.v145 (F := Ideal) c i arg3 harg3 arg4 harg4 arg5 harg5 arg6 harg6 arg7 harg7 arg8 harg8 arg9 harg9 arg10 harg10 arg11 harg11 arg12 harg12 arg13 harg13 hc0 x0 x1 x2 x3 x4 (ix3 0 r d) = Online.num (sc x0 x1 x2 x4 (head i) 1 r (i 2).val) (value x3 d) (256 * (i 2).val + 256) := by
  have hw := word2 (i 2)
  have hlt : (i 2).val < 16 := (i 2).isLt
  have hs : ∀ κ : Fin 256, 256 * (i 2).val + κ.val < 4096 := fun κ => by omega
  rw [← Proof.Online.num_add, ← Proof.Online.mx_add]
  rw [← Bv86_eq (r := r) (d := 0) (hq := hq) c i arg3 harg3 arg4 harg4 arg5 harg5 arg6 harg6 arg7 harg7 arg8 harg8 arg9 harg9 arg10 harg10 arg11 harg11 arg12 harg12 arg13 harg13 x0 x1 x2 x3 x4 hc0, ← Bv109_eq (r := r) (d := d) (hq := hq) c i arg3 harg3 arg4 harg4 arg5 harg5 arg6 harg6 arg7 harg7 arg8 harg8 arg9 harg9 arg10 harg10 arg11 harg11 arg12 harg12 arg13 harg13 x0 x1 x2 x3 x4 hc0]
  simp only [sc_diag x0 x1 x2 x4 (head i) 1 r (i 2).val]
  simp only [base, value, hs, dif_pos]
  unfold kernelRun0_B.sl.v145 kernelRun0_B.sl.HS2_4 View.readCov
  simp only [View.readAt_eq_ld]
  pointwise []
  rw [View.read_writes_cons_put _ _ _ _ _ rfl]
  erw [put_high]
  try unfold kernelRun0_B.sl.r_20
  try unfold kernelRun0_B.sl.r_19
  try unfold kernelRun0_B.sl.r_18
  try unfold kernelRun0_B.sl.r_17
  try unfold kernelRun0_B.sl.r_16
  try unfold kernelRun0_B.sl.r_15
  try unfold kernelRun0_B.sl.r_14
  try unfold kernelRun0_B.sl.r_13
  try unfold kernelRun0_B.sl.r_12
  try unfold kernelRun0_B.sl.r_11
  try unfold kernelRun0_B.sl.r
  try unfold k0_off6
  try simp only [View.readAt_eq_ld, harg3.read_unread, harg4.read_unread, harg5.read_unread, harg6.read_unread, harg7.read_unread]
  unfold_payloads
  pointwise []
  simp only [hw, neg_inf, zero_bf, zero_f, half_low, half_high]
  try rfl

end

end Cert.Diff

end
-- ==== Proof.DiffBlock.lean ====
/- One query tile of the differential attention: the block the body leaves, with its sums taken over all the keys. -/
module

public import proofs.«01_k».proof.Proof.DiffOut

@[expose] public section

noncomputable section

namespace Cert.Diff

open Idealize.ShloMosaic Idealize.ShloMosaic.TcCoe Idealize.SL.Sem
open Cert.Kernel6Ideal Cert.Kernel6Ideal.Gen
open Cert.Proof (put_whole Online.mx Online.den Online.num)

set_option maxRecDepth 20000

/-- The weight of the second map. -/
def lam (x5 : Vec Ideal S4x64 .f32) : EReal :=
  Ideal.exp (∑ j : Fin 64, x5 (ix2 0 j) * x5 (ix2 1 j)) - Ideal.exp (∑ j : Fin 64, x5 (ix2 2 j) * x5 (ix2 3 j)) + Ideal.ofBits .f32 1045220557#32

/-- A row of a head normalized: divided by its root mean square, times the gain, times one less the first weight. -/
def rown (o g : Fin 128 → EReal) (d : Fin 128) : EReal :=
  o d * Ideal.rsqrt (Ideal.div (∑ j : Fin 128, o j * o j) (Ideal.ofBits .f32 1124073472#32) + Ideal.ofBits .f32 897988541#32) * g d * Ideal.ofBits .f32 1061997773#32

/-- The difference of the two maps' averages of the values over all the keys. -/
def diff (s0 s1 : ℕ → EReal) (w : Fin 128 → ℕ → EReal) (l : EReal) (d : Fin 128) : EReal :=
  Ideal.div (Online.num s0 (w d) 4096) (Online.den s0 4096) - l * Ideal.div (Online.num s1 (w d) 4096) (Online.den s1 4096)

variable (c : Dev nD) (i : grid0.Coords) (arg3 : Memref sig .tc .smem S4 .f32) (harg3 : arg3.IsWhole) (arg4 : Memref sig .tc .vmem S1x256x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x2x256x256 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x128 .bf16) (harg10 : arg10.IsWhole) (arg11 : Memref sig .tc .vmem S2x256x1 .f32) (harg11 : arg11.IsWhole) (arg12 : Memref sig .tc .vmem S2x256x1 .f32) (harg12 : arg12.IsWhole) (arg13 : Memref sig .tc .vmem S2x256x128 .f32) (harg13 : arg13.IsWhole)
    (x0 : Vec Ideal S4 .f32) (x1 : Vec Ideal S1x256x128 .bf16) (x2 : Vec Ideal S1x4096x128 .bf16) (x3 : Vec Ideal S1x4096x128 .bf16)
     (x4 : Vec Ideal S1x2x256x256 .f32) (x5 : Vec Ideal S4x64 .f32) (x6 : Vec Ideal S1x128 .f32)

/-- THE BLOCK the body leaves in the first query tile. -/
theorem outA_eq (hc0 : ¬cond0_0 i) (hq : (i 2).val = 0) (r : Fin 256) (d : Fin 128) :
    out0_A_7 (F := Ideal) c i arg3 harg3 arg4 harg4 arg5 harg5 arg6 harg6 arg7 harg7 arg8 harg8 arg9 harg9 arg10 harg10 arg11 harg11 arg12 harg12 arg13 harg13 hc0 x0 x1 x2 x3 x4 x5 x6 (ix3 0 r d)
      = rown (diff (sc x0 x1 x2 x4 (head i) 0 r (i 2).val) (sc x0 x1 x2 x4 (head i) 1 r (i 2).val) (value x3) (lam x5)) (fun d => x6 (ix2 0 d)) d := by
  have hlt : (i 2).val < 16 := (i 2).isLt
  have hn : ∀ (mp : Fin 2) (w : ℕ → EReal), Online.num (sc x0 x1 x2 x4 (head i) mp r (i 2).val) w 4096 = Online.num (sc x0 x1 x2 x4 (head i) mp r (i 2).val) w (256 * (i 2).val + 256) :=
    fun mp w => Proof.Online.num_extend _ _ (by omega) (fun κ h _ => sc_right x0 x1 x2 x4 (head i) mp r (i 2).val κ h)
  have hd : ∀ mp : Fin 2, Online.den (sc x0 x1 x2 x4 (head i) mp r (i 2).val) 4096 = Online.den (sc x0 x1 x2 x4 (head i) mp r (i 2).val) (256 * (i 2).val + 256) :=
    fun mp => Proof.Online.den_extend _ (by omega) (fun κ h _ => sc_right x0 x1 x2 x4 (head i) mp r (i 2).val κ h)
  unfold rown diff lam
  simp only [hn, hd]
  simp only [← Av139_eq c i arg3 harg3 arg4 harg4 arg5 harg5 arg6 harg6 arg7 harg7 arg8 harg8 arg9 harg9 arg10 harg10 arg11 harg11 arg12 harg12 arg13 harg13 x0 x1 x2 x3 (x4 := x4)  (hq := hq), ← Av145_eq c i arg3 harg3 arg4 harg4 arg5 harg5 arg6 harg6 arg7 harg7 arg8 harg8 arg9 harg9 arg10 harg10 arg11 harg11 arg12 harg12 arg13 harg13 x0 x1 x2 x3 (x4 := x4)  (hq := hq),
    ← Av141_eq c i arg3 harg3 arg4 harg4 arg5 harg5 arg6 harg6 arg7 harg7 arg8 harg8 arg9 harg9 arg10 harg10 arg11 harg11 arg12 harg12 arg13 harg13 x0 x1 x2 x3 (x4 := x4)  (hq := hq) (d := 0), ← Av147_eq c i arg3 harg3 arg4 harg4 arg5 harg5 arg6 harg6 arg7 harg7 arg8 harg8 arg9 harg9 arg10 harg10 arg11 harg11 arg12 harg12 arg13 harg13 x0 x1 x2 x3 (x4 := x4)  (hq := hq) (d := 0)]
  unfold out0_A_7
  unfold kernelRun0_A
  dsimp only
  rw [View.read_writes_cons_put _ _ _ _ _ rfl]
  erw [put_whole]
  unfold kernelRun0_A.sl.r_13 kernelRun0_A.sl.r_12 kernelRun0_A.sl.r_11
  simp only [View.readAt_eq_ld, harg8.read_unread, harg9.read_unread]
  unfold_payloads
  pointwise []

/-- THE BLOCK the body leaves in the other query tiles. -/
theorem outB_eq (hc0 : cond0_0 i) (hq : 1 ≤ (i 2).val) (r : Fin 256) (d : Fin 128) :
    out0_B_7 (F := Ideal) c i arg3 harg3 arg4 harg4 arg5 harg5 arg6 harg6 arg7 harg7 arg8 harg8 arg9 harg9 arg10 harg10 arg11 harg11 arg12 harg12 arg13 harg13 hc0 x0 x1 x2 x3 x4 x5 x6 (ix3 0 r d)
      = rown (diff (sc x0 x1 x2 x4 (head i) 0 r (i 2).val) (sc x0 x1 x2 x4 (head i) 1 r (i 2).val) (value x3) (lam x5)) (fun d => x6 (ix2 0 d)) d := by
  have hlt : (i 2).val < 16 := (i 2).isLt
  have hn : ∀ (mp : Fin 2) (w : ℕ → EReal), Online.num (sc x0 x1 x2 x4 (head i) mp r (i 2).val) w 4096 = Online.num (sc x0 x1 x2 x4 (head i) mp r (i 2).val) w (256 * (i 2).val + 256) :=
    fun mp w => Proof.Online.num_extend _ _ (by omega) (fun κ h _ => sc_right x0 x1 x2 x4 (head i) mp r (i 2).val κ h)
  have hd : ∀ mp : Fin 2, Online.den (sc x0 x1 x2 x4 (head i) mp r (i 2).val) 4096 = Online.den (sc x0 x1 x2 x4 (head i) mp r (i 2).val) (256 * (i 2).val + 256) :=
    fun mp => Proof.Online.den_extend _ (by omega) (fun κ h _ => sc_right x0 x1 x2 x4 (head i) mp r (i 2).val κ h)
  unfold rown diff lam
  simp only [hn, hd]
  simp only [← Bv139_eq c i arg3 harg3 arg4 harg4 arg5 harg5 arg6 harg6 arg7 harg7 arg8 harg8 arg9 harg9 arg10 harg10 arg11 harg11 arg12 harg12 arg13 harg13 x0 x1 x2 x3 (x4 := x4) (hc0 := hc0) (hq := hq), ← Bv145_eq c i arg3 harg3 arg4 harg4 arg5 harg5 arg6 harg6 arg7 harg7 arg8 harg8 arg9 harg9 arg10 harg10 arg11 harg11 arg12 harg12 arg13 harg13 x0 x1 x2 x3 (x4 := x4) (hc0 := hc0) (hq := hq),
    ← Bv141_eq c i arg3 harg3 arg4 harg4 arg5 harg5 arg6 harg6 arg7 harg7 arg8 harg8 arg9 harg9 arg10 harg10 arg11 harg11 arg12 harg12 arg13 harg13 x0 x1 x2 x3 (x4 := x4) (hc0 := hc0) (hq := hq) (d := 0), ← Bv147_eq c i arg3 harg3 arg4 harg4 arg5 harg5 arg6 harg6 arg7 harg7 arg8 harg8 arg9 harg9 arg10 harg10 arg11 harg11 arg12 harg12 arg13 harg13 x0 x1 x2 x3 (x4 := x4) (hc0 := hc0) (hq := hq) (d := 0)]
  unfold out0_B_7
  unfold kernelRun0_B
  dsimp only
  rw [View.read_writes_cons_put _ _ _ _ _ rfl]
  erw [put_whole]
  unfold kernelRun0_B.sl.r_23 kernelRun0_B.sl.r_22 kernelRun0_B.sl.r_21
  simp only [View.readAt_eq_ld, harg8.read_unread, harg9.read_unread]
  unfold_payloads
  pointwise []

end Cert.Diff

end
-- ==== Proof.DiffRef.lean ====
/- The reference of the differential attention: its scores, its two maps of probabilities, and its result. -/
module

public import proofs.«01_k».proof.Proof.DiffBlock
public import proofs.«01_k».proof.Proof.RefValue
public import proofs.«01_k».proof.Proof.Gen.Reference6Ideal.Read
public import Idealize.ShloMosaic.Lib.ValueIdxRank6

@[expose] public section

noncomputable section

namespace Cert.Diff.Ref

open Idealize.ShloMosaic Idealize.ShloMosaic.TcCoe Idealize.SL.Sem
open Cert.Reference6Ideal Cert.Reference6Ideal.Gen Cert.Reference6Ideal.Read
open Cert.Proof (Online.mx Online.den Online.num)
open Cert.Proof.Ref (chunkWord chunkWord_eq chunk_le coe_sum)

set_option maxRecDepth 20000

/-- The floor division of a position's word by the block, as the reference's steps spell it. -/
def blockWord (w : BitVec 32) : BitVec 32 :=
  Scalar.select
    (IntOp.andi
      (IntOp.cmpi CmpIPredicate.ne (if w = 0 then (0 : BitVec 32) else if BitVec.msb w = true then -1 else 1)
        (if (256#32) = 0 then (0 : BitVec 32) else if BitVec.msb (256#32) = true then -1 else 1))
      (IntOp.cmpi CmpIPredicate.ne (IntOp.remsi ArithUnit.host w 256#32) 0#32))
    (IntOp.subi (IntOp.divsi ArithUnit.host w 256#32) 1#32)
    (IntOp.divsi ArithUnit.host w 256#32)

/-- It is the quotient at every position. -/
theorem blockWord_eq (κ : Fin 4096) : blockWord (BitVec.ofNat 32 κ.val) = BitVec.ofNat 32 (κ.val / 256) := by
  revert κ; decide +kernel

/-- Comparing block numbers as words compares them. -/
theorem block_eq (a b : Fin 16) :
    IntOp.cmpi CmpIPredicate.eq (BitVec.ofNat 32 a.val) (BitVec.ofNat 32 b.val) = if a.val = b.val then 1#1 else 0#1 := by
  revert a b; decide +kernel

/-- So does comparing with the next block's number. -/
theorem block_next (a b : Fin 16) :
    IntOp.cmpi CmpIPredicate.eq (IntOp.addi (BitVec.ofNat 32 a.val) 1#32) (BitVec.ofNat 32 b.val)
      = if a.val + 1 = b.val then 1#1 else 0#1 := by
  revert a b; decide +kernel

/-- The keys' chunk numbers. -/
theorem v20_eq (κ : Fin 4096) : val_main_v20 (F := Ideal) (ix2 0 κ) = BitVec.ofNat 32 (κ.val / 64) := by
  rw [← chunkWord_eq κ]
  have h : val_main_v19 (F := Ideal) (ix2 0 κ) = BitVec.ofNat 32 κ.val := by
    unfold val_main_v19 val_main_v18
    pointwise []
  simp only [val_main_v20_apply, val_main_call0_v13_apply, val_main_call0_v11_apply, val_main_call0_v2_apply,
    val_main_call0_v6_apply, val_main_call0_v10_apply, val_main_call0_v8_apply, h]
  unfold val_main_call0_v3 val_main_call0_v1 val_main_call0_v5 val_main_call0_v9 val_main_call0_v12 val_main_call0_v7
    val_main_call0_v4 val_main_call0_c val_main_call0_c_0 val_main_call0_v0 val_main_c
  pointwise []
  rw [h]
  rfl

/-- The queries' chunk numbers. -/
theorem v22_eq (κ : Fin 4096) : val_main_v22 (F := Ideal) (ix2 κ 0) = BitVec.ofNat 32 (κ.val / 64) := by
  rw [← chunkWord_eq κ]
  have h : val_main_v21 (F := Ideal) (ix2 κ 0) = BitVec.ofNat 32 κ.val := by
    unfold val_main_v21 val_main_v18
    pointwise []
  simp only [val_main_v22_apply, val_main_call1_v13_apply, val_main_call1_v11_apply, val_main_call1_v2_apply,
    val_main_call1_v6_apply, val_main_call1_v10_apply, val_main_call1_v8_apply, h]
  unfold val_main_call1_v3 val_main_call1_v1 val_main_call1_v5 val_main_call1_v9 val_main_call1_v12 val_main_call1_v7
    val_main_call1_v4 val_main_call1_c val_main_call1_c_0 val_main_call1_v0 val_main_c_2
  pointwise []
  rw [h]
  rfl

/-- The mask: a key is seen from the queries of its chunk on. -/
theorem v25_eq (q κ : Fin 4096) :
    val_main_v25 (F := Ideal) (ix2 q κ) = if κ.val / 64 ≤ q.val / 64 then 1#1 else 0#1 := by
  unfold val_main_v25 val_main_v23 val_main_v24
  pointwise []
  rw [v20_eq, v22_eq]
  exact chunk_le ⟨κ.val / 64, by omega⟩ ⟨q.val / 64, by omega⟩

/-- The positions' block numbers. -/
theorem v26_eq (κ : Fin 4096) : val_main_v26 (F := Ideal) (ix1 κ) = BitVec.ofNat 32 (κ.val / 256) := by
  rw [← blockWord_eq κ]
  have h : val_main_v18 (F := Ideal) (ix1 κ) = BitVec.ofNat 32 κ.val := by
    unfold val_main_v18
    pointwise []
  simp only [val_main_v26_apply, val_main_call2_v13_apply, val_main_call2_v11_apply, val_main_call2_v2_apply,
    val_main_call2_v6_apply, val_main_call2_v10_apply, val_main_call2_v8_apply, h]
  unfold val_main_call2_v3 val_main_call2_v1 val_main_call2_v5 val_main_call2_v9 val_main_call2_v12 val_main_call2_v7
    val_main_call2_v4 val_main_call2_c val_main_call2_c_0 val_main_call2_v0 val_main_c_3
  pointwise []
  rw [h]
  rfl

/-- Whether a key is in its query's block. -/
theorem v41_eq (q κ : Fin 4096) :
    val_main_v41 (F := Ideal) (ix2 q κ) = if κ.val / 256 = q.val / 256 then 1#1 else 0#1 := by
  unfold val_main_v41 val_main_v39 val_main_v40 val_main_v37 val_main_v38
  pointwise []
  rw [v26_eq, v26_eq]
  exact block_eq ⟨κ.val / 256, by omega⟩ ⟨q.val / 256, by omega⟩

/-- Whether a key is in the block before its query's. -/
theorem v48_eq (q κ : Fin 4096) :
    val_main_v48 (F := Ideal) (ix2 q κ) = if κ.val / 256 + 1 = q.val / 256 then 1#1 else 0#1 := by
  unfold val_main_v48 val_main_v46 val_main_v47 val_main_v44 val_main_v42 val_main_v43 val_main_c_4 val_main_v45
  pointwise []
  rw [v26_eq, v26_eq]
  exact block_next ⟨κ.val / 256, by omega⟩ ⟨q.val / 256, by omega⟩

variable (x0 : (⟨S4, .f32⟩ : BufTy).Contents (Elt Ideal)) (x1 x2 x3 : (⟨S8x4096x512, .bf16⟩ : BufTy).Contents (Elt Ideal))
variable (x4 : (⟨S4x2x256x256, .f32⟩ : BufTy).Contents (Elt Ideal)) (x5 x6 x7 x8 : (⟨S1x64, .f32⟩ : BufTy).Contents (Elt Ideal))
variable (x9 : (⟨S1x128, .f32⟩ : BufTy).Contents (Elt Ideal))

/-- The bias of the keys in a query's own block. -/
theorem v31_eq (h : Fin 4) (q κ : Fin 4096) :
    val_main_v31 (F := Ideal) x4 (ix3 h q κ)
      = x4 (ix4 h 0 ⟨q.val % 256, Nat.mod_lt _ (by decide)⟩ ⟨κ.val % 256, Nat.mod_lt _ (by decide)⟩) := by
  have hh := h.isLt
  have hq := q.isLt
  have hk := κ.isLt
  unfold val_main_v31
  rw [shapeCast_apply _ _ _ (ix6 0 h ⟨q.val / 256, by omega⟩ ⟨q.val % 256, Nat.mod_lt _ (by decide)⟩ ⟨κ.val / 256, by omega⟩ ⟨κ.val % 256, Nat.mod_lt _ (by decide)⟩)
    (by rw [Shape.rowMajor_val_six, Shape.rowMajor_val_three]
        show (((((0 * 4 + h.val) * 16 + q.val / 256) * 256 + q.val % 256) * 16 + κ.val / 256) * 256 + κ.val % 256) = (h.val * 4096 + q.val) * 4096 + κ.val
        omega), val_main_v30_apply]
  unfold val_main_v29
  rw [shapeCast_apply _ _ _ (ix3 h ⟨q.val % 256, Nat.mod_lt _ (by decide)⟩ ⟨κ.val % 256, Nat.mod_lt _ (by decide)⟩)
    (by rw [Shape.rowMajor_val_six, Shape.rowMajor_val_three]
        show (h.val * 256 + q.val % 256) * 256 + κ.val % 256 = (((((0 * 4 + h.val) * 1 + 0) * 256 + q.val % 256) * 1 + 0) * 256 + κ.val % 256)
        omega)]
  unfold val_main_v28 val_main_v27
  pointwise []

/-- The bias of the keys in the block before a query's. -/
theorem v36_eq (h : Fin 4) (q κ : Fin 4096) :
    val_main_v36 (F := Ideal) x4 (ix3 h q κ)
      = x4 (ix4 h 1 ⟨q.val % 256, Nat.mod_lt _ (by decide)⟩ ⟨κ.val % 256, Nat.mod_lt _ (by decide)⟩) := by
  have hh := h.isLt
  have hq := q.isLt
  have hk := κ.isLt
  unfold val_main_v36
  rw [shapeCast_apply _ _ _ (ix6 0 h ⟨q.val / 256, by omega⟩ ⟨q.val % 256, Nat.mod_lt _ (by decide)⟩ ⟨κ.val / 256, by omega⟩ ⟨κ.val % 256, Nat.mod_lt _ (by decide)⟩)
    (by rw [Shape.rowMajor_val_six, Shape.rowMajor_val_three]
        show (((((0 * 4 + h.val) * 16 + q.val / 256) * 256 + q.val % 256) * 16 + κ.val / 256) * 256 + κ.val % 256) = (h.val * 4096 + q.val) * 4096 + κ.val
        omega), val_main_v35_apply]
  unfold val_main_v34
  rw [shapeCast_apply _ _ _ (ix3 h ⟨q.val % 256, Nat.mod_lt _ (by decide)⟩ ⟨κ.val % 256, Nat.mod_lt _ (by decide)⟩)
    (by rw [Shape.rowMajor_val_six, Shape.rowMajor_val_three]
        show (h.val * 256 + q.val % 256) * 256 + κ.val % 256 = (((((0 * 4 + h.val) * 1 + 0) * 256 + q.val % 256) * 1 + 0) * 256 + κ.val % 256)
        omega)]
  unfold val_main_v33 val_main_v32
  pointwise []

/-- The bias of a query's key in a head. -/
def rel (h : Fin 4) (q κ : ℕ) : EReal :=
  if κ / 256 = q / 256 then x4 (ix4 h 0 ⟨q % 256, Nat.mod_lt _ (by decide)⟩ ⟨κ % 256, Nat.mod_lt _ (by decide)⟩)
  else if κ / 256 + 1 = q / 256 then x4 (ix4 h 1 ⟨q % 256, Nat.mod_lt _ (by decide)⟩ ⟨κ % 256, Nat.mod_lt _ (by decide)⟩)
  else x0 (ix1 h)

/-- The reference's biases. -/
theorem v51_eq (h : Fin 4) (q κ : Fin 4096) : val_main_v51 (F := Ideal) x0 x4 (ix3 h q κ) = rel x0 x4 h q.val κ.val := by
  unfold val_main_v51 val_main_v50 val_main_call4_v0 val_main_call3_v0 val_main_call3_v1 val_main_v49
  pointwise []
  rw [v41_eq, v48_eq, v31_eq, v36_eq]
  unfold rel
  split <;> [rfl; (split <;> rfl)]

/-- The product of a query and a key in one map of a head. -/
def dot (b : Fin 8) (h : Fin 4) (mp : Fin 2) (q κ : Fin 4096) : EReal :=
  ∑ d : Fin 64, x1 (ix3 b q ⟨h.val * 128 + mp.val * 64 + d.val, by omega⟩) * x2 (ix3 b κ ⟨h.val * 128 + mp.val * 64 + d.val, by omega⟩)

/-- The masked score of a batch's query and key in one map of a head. -/
def score (b : Fin 8) (h : Fin 4) (mp : Fin 2) (q : Fin 4096) (κ : ℕ) : EReal :=
  if hκ : κ < 4096 then
    if κ / 64 ≤ q.val / 64 then dot x1 x2 b h mp q ⟨κ, hκ⟩ + rel x0 x4 h q.val κ
    else ⊥
  else ⊥

/-- A key's value in a lane of a head. -/
def value (b : Fin 8) (h : Fin 4) (d : Fin 128) (κ : ℕ) : EReal :=
  if hκ : κ < 4096 then x3 (ix3 b ⟨κ, hκ⟩ ⟨h.val * 128 + d.val, by omega⟩) else 0

/-- The weight of the second map. -/
def weight : EReal :=
  Ideal.exp (∑ j : Fin 64, x5 (ix2 0 j) * x6 (ix2 0 j)) - Ideal.exp (∑ j : Fin 64, x7 (ix2 0 j) * x8 (ix2 0 j)) + Ideal.ofBits .f32 1045220557#32

/-- The reference's products of queries and keys. -/
theorem v52_eq (b : Fin 8) (h : Fin 4) (mp : Fin 2) (q κ : Fin 4096) :
    val_main_v52 (F := Ideal) x1 x2 (ix5 b h mp q κ) = dot x1 x2 b h mp q κ := by
  unfold val_main_v52 val_main_v1 val_main_v0 val_main_v3 val_main_v2
  pointwise []
  rfl

/-- The reference's masked scores. -/
theorem v56_eq (b : Fin 8) (h : Fin 4) (mp : Fin 2) (q κ : Fin 4096) :
    val_main_v56 (F := Ideal) x0 x1 x2 x4 (ix5 b h mp q κ) = score x0 x1 x2 x4 b h mp q κ.val := by
  unfold val_main_v56 val_main_v55 val_main_v54 val_main_v53 val_main_call5_v2 val_main_call5_v1 val_main_call5_v0 val_main_cst_5
  pointwise []
  rw [v25_eq, v52_eq, v51_eq]
  unfold score
  rw [dif_pos κ.isLt]
  split
  · rfl
  · exact Proof.Ref.neg_inf

/-- A maximum over the last of five axes, from minus infinity, is the greatest of the scores the axis lists. -/
theorem reduce_max {n0 n1 n2 n3 n4 : ℕ} (h : (⟨5, ![n0, n1, n2, n3, n4]⟩ : Shape).ReducesTo [4] ⟨4, ![n0, n1, n2, n3]⟩)
    (hu : 0 < (⟨0, ![]⟩ : Shape).numel) (v : FVec Ideal ⟨5, ![n0, n1, n2, n3, n4]⟩ .f32) (c : FVec Ideal ⟨0, ![]⟩ .f32)
    (a : Fin n0) (b : Fin n1) (d : Fin n2) (e : Fin n3) (s : ℕ → EReal) (hv : ∀ k : Fin n4, v (ix5 a b d e k) = s k.val)
    (hc : ∀ i, c i = (⊥ : EReal)) :
    Host.reduce FloatOps.maximumf v c h hu (ix4 a b d e) = Proof.Online.mx s n4 := by
  rw [Host.reduce_eq_fold, Shape.ReducesTo.fold_fiber_r5_a4, hc, ← Proof.Online.mx_fin]
  exact congrArg (fun f => Finset.fold max (⊥ : EReal) f Finset.univ) (funext hv)

/-- The reference's greatest scores before the clamp. -/
theorem v57_eq (b : Fin 8) (h : Fin 4) (mp : Fin 2) (q : Fin 4096) :
    val_main_v57 (F := Ideal) x0 x1 x2 x4 (ix4 b h mp q) = Proof.Online.mx (score x0 x1 x2 x4 b h mp q) 4096 :=
  reduce_max reducesTo_S8x4x2x4096x4096_S8x4x2x4096_d4 h_S_ (val_main_v56 (F := Ideal) x0 x1 x2 x4) (val_main_cst_6 (F := Ideal))
    b h mp q (score x0 x1 x2 x4 b h mp q) (fun κ => v56_eq x0 x1 x2 x4 b h mp q κ) (fun _ => Proof.Ref.neg_inf)

/-- The reference's greatest scores. -/
theorem v59_eq (b : Fin 8) (h : Fin 4) (mp : Fin 2) (q : Fin 4096) :
    val_main_v59 (F := Ideal) x0 x1 x2 x4 (ix4 b h mp q) = Proof.Online.mx (score x0 x1 x2 x4 b h mp q) 4096 := by
  have h58 : val_main_v58 (F := Ideal) (ix4 b h mp q) = (⊥ : EReal) := by
    unfold val_main_v58 val_main_cst_7
    pointwise [Proof.Ref.neg_inf]
  rw [val_main_v59_apply, h58, v57_eq]
  generalize Proof.Online.mx (score x0 x1 x2 x4 b h mp q) 4096 = t
  exact max_eq_right bot_le

/-- The reference's exponentials. -/
theorem v63_eq (b : Fin 8) (h : Fin 4) (mp : Fin 2) (q κ : Fin 4096) :
    val_main_v63 (F := Ideal) x0 x1 x2 x4 (ix5 b h mp q κ)
      = Ideal.exp (score x0 x1 x2 x4 b h mp q κ.val - Proof.Online.mx (score x0 x1 x2 x4 b h mp q) 4096) := by
  unfold val_main_v63 val_main_v62 val_main_v61 val_main_v60
  pointwise []
  rw [v56_eq, v59_eq]

/-- The reference's sums of exponentials. -/
theorem v64_eq (b : Fin 8) (h : Fin 4) (mp : Fin 2) (q : Fin 4096) :
    val_main_v64 (F := Ideal) x0 x1 x2 x4 (ix4 b h mp q) = Proof.Online.den (score x0 x1 x2 x4 b h mp q) 4096 := by
  unfold val_main_v64 val_main_cst_8
  pointwise []
  simp only [v63_eq]
  rw [Proof.Online.den_fin]

/-- The reference's probabilities. -/
theorem v67_eq (b : Fin 8) (h : Fin 4) (mp : Fin 2) (q κ : Fin 4096) :
    val_main_v67 (F := Ideal) x0 x1 x2 x4 (ix5 b h mp q κ)
      = Ideal.div (Ideal.exp (score x0 x1 x2 x4 b h mp q κ.val - Proof.Online.mx (score x0 x1 x2 x4 b h mp q) 4096))
          (Proof.Online.den (score x0 x1 x2 x4 b h mp q) 4096) := by
  unfold val_main_v67 val_main_v66 val_main_v65
  pointwise []
  rw [v63_eq, v64_eq]

/-- A sum over a vector's indices is one over its positions. -/
theorem sum_vec (f : Fin 64 → EReal) : (∑ x : S64.Idx, f (x 0)) = ∑ j : Fin 64, f j :=
  Fintype.sum_equiv
    { toFun := fun x => x 0
      invFun := fun j => ix1 j
      left_inv := fun x => funext fun a => by match a with | ⟨0, _⟩ => rfl
      right_inv := fun _ => rfl } _ _ fun _ => rfl

/-- The reference's weight of the second map. -/
theorem v17_eq (i : S_.Idx) : val_main_v17 (F := Ideal) x5 x6 x7 x8 i = weight x5 x6 x7 x8 := by
  rw [val_main_v17_apply, val_main_v16_apply, val_main_v10_apply, val_main_v15_apply, val_main_v9_apply, val_main_v14_apply]
  unfold val_main_v8 val_main_v6 val_main_v7 val_main_v13 val_main_v11 val_main_v12 val_main_cst val_main_cst_0 val_main_cst_1
  pointwise []
  have h1 := sum_vec fun j => x5 (ix2 0 j) * x6 (ix2 0 j)
  have h2 := sum_vec fun j => x7 (ix2 0 j) * x8 (ix2 0 j)
  unfold weight
  rw [← h1, ← h2]

end Cert.Diff.Ref

end
-- ==== Proof.DiffSum.lean ====
/- The reference of the differential attention on finite arguments: the difference of two averages, normalized. -/
module

public import proofs.«01_k».proof.Proof.DiffRef

@[expose] public section

noncomputable section

namespace Cert.Diff.Ref

open Idealize.ShloMosaic Idealize.ShloMosaic.TcCoe Idealize.SL.Sem
open Cert.Reference6Ideal Cert.Reference6Ideal.Gen Cert.Reference6Ideal.Read
open Cert.Proof.Ref (coe_sum)

set_option maxRecDepth 20000

/-- Neither infinity. -/
abbrev Fin' (x : EReal) : Prop := x ≠ ⊥ ∧ x ≠ ⊤

/-- A finite number is a real number. -/
theorem real_of {x : EReal} (h : Fin' x) : ∃ a : ℝ, x = (a : EReal) := ⟨x.toReal, (EReal.coe_toReal h.2 h.1).symm⟩

/-- A sum of products of finite numbers is a real number. -/
theorem real_dot {n : ℕ} (f g : Fin n → EReal) (hf : ∀ j, Fin' (f j)) (hg : ∀ j, Fin' (g j)) :
    ∃ a : ℝ, ∑ j, f j * g j = (a : EReal) := by
  choose F hF using fun j => real_of (hf j)
  choose G hG using fun j => real_of (hg j)
  refine ⟨∑ j, F j * G j, ?_⟩
  rw [coe_sum]
  exact Finset.sum_congr rfl fun j _ => by rw [hF, hG, EReal.coe_mul]

/-- A finite number over a positive finite number is a real number. -/
theorem real_div {x d : EReal} (hx : Fin' x) (h : 0 < d) (h' : d ≠ ⊤) : ∃ a : ℝ, Ideal.div x d = (a : EReal) := by
  obtain ⟨a, rfl⟩ := real_of hx
  obtain ⟨e, rfl⟩ := real_of ⟨(lt_of_le_of_lt bot_le h).ne', h'⟩
  refine ⟨a * e⁻¹, ?_⟩
  unfold Ideal.div
  rw [if_neg h.ne', ← EReal.coe_inv, EReal.coe_mul]

/-- One score that is not minus infinity and none that is plus infinity. -/
def Good (s : ℕ → EReal) : Prop := (∃ κ, κ < 4096 ∧ s κ ≠ ⊥) ∧ ∀ κ, κ < 4096 → s κ ≠ ⊤

/-- Then the probabilities are real numbers. -/
theorem prob_real (s : ℕ → EReal) (h : Good s) (κ : Fin 4096) :
    ∃ a : ℝ, Ideal.div (Ideal.exp (s κ.val - Proof.Online.mx s 4096)) (Proof.Online.den s 4096) = (a : EReal) := by
  obtain ⟨⟨k, hk, hb⟩, ht⟩ := h
  obtain ⟨hp, hn⟩ := Proof.Online.den_real s hk hb ht
  refine real_div ⟨?_, Proof.Online.exp_ne_top (Proof.Online.sub_ne_top (Proof.Online.le_mx s κ.isLt))⟩ hp hn
  exact (lt_of_lt_of_le EReal.bot_lt_zero (Proof.Online.exp_nonneg _)).ne'

/-- Without, every exponential is zero. -/
theorem exp_bad (s : ℕ → EReal) (h : ¬Good s) {κ : ℕ} (hκ : κ < 4096) : Ideal.exp (s κ - Proof.Online.mx s 4096) = 0 := by
  have e0 : Ideal.exp ⊥ = 0 := rfl
  by_cases ht : ∀ κ, κ < 4096 → s κ ≠ ⊤
  · have hb : s κ = ⊥ := by
      by_contra hn
      exact h ⟨⟨κ, hκ, hn⟩, ht⟩
    rw [hb, EReal.bot_sub, e0]
  · push Not at ht
    obtain ⟨k, hk, e⟩ := ht
    have hm : Proof.Online.mx s 4096 = ⊤ := top_le_iff.mp (e ▸ Proof.Online.le_mx s hk)
    rw [hm, EReal.sub_top, e0]

/-- So is their sum … -/
theorem den_bad (s : ℕ → EReal) (h : ¬Good s) : Proof.Online.den s 4096 = 0 :=
  Finset.sum_eq_zero fun _ hκ => exp_bad s h (Finset.mem_range.mp hκ)

/-- … and the weighted sum. -/
theorem num_bad (s w : ℕ → EReal) (h : ¬Good s) : Proof.Online.num s w 4096 = 0 :=
  Finset.sum_eq_zero fun κ hκ => by rw [exp_bad s h (Finset.mem_range.mp hκ), zero_mul]

/-- Nothing over nothing is minus infinity. -/
theorem div_zero_zero : Ideal.div 0 0 = ⊥ := by
  unfold Ideal.div
  rw [if_pos rfl, if_neg (lt_irrefl _)]

/-- A key's probability. -/
def prob (s : ℕ → EReal) (κ : ℕ) : EReal := Ideal.div (Ideal.exp (s κ - Proof.Online.mx s 4096)) (Proof.Online.den s 4096)

/-- Infinite or zero. -/
def Ends (x : EReal) : Prop := x = ⊥ ∨ x = ⊤ ∨ x = 0

/-- A sum of such numbers is such a number. -/
theorem Ends.add {x y : EReal} (hx : Ends x) (hy : Ends y) : Ends (x + y) := by
  rcases hx with rfl | rfl | rfl <;> rcases hy with rfl | rfl | rfl <;> simp [Ends]

/-- So is a sum over a finite type. -/
theorem Ends.sum {ι : Type} [DecidableEq ι] (K : Finset ι) (f : ι → EReal) (h : ∀ k, Ends (f k)) : Ends (∑ k ∈ K, f k) := by
  induction K using Finset.induction_on with
  | empty => rw [Finset.sum_empty]; exact Or.inr (Or.inr rfl)
  | insert k K hk ih => rw [Finset.sum_insert hk]; exact (h k).add ih

/-- A real number times an infinity is such a number. -/
theorem Ends.mul (a : ℝ) {e : EReal} (he : e = ⊥ ∨ e = ⊤) : Ends ((a : EReal) * e) := by
  rcases lt_trichotomy a 0 with h | rfl | h
  · rcases he with rfl | rfl
    · rw [EReal.coe_mul_bot_of_neg h]; exact Or.inr (Or.inl rfl)
    · rw [EReal.coe_mul_top_of_neg h]; exact Or.inl rfl
  · rw [EReal.coe_zero, zero_mul]; exact Or.inr (Or.inr rfl)
  · rcases he with rfl | rfl
    · rw [EReal.coe_mul_bot_of_pos h]; exact Or.inl rfl
    · rw [EReal.coe_mul_top_of_pos h]; exact Or.inr (Or.inl rfl)

/-- The square of an infinity is plus infinity. -/
theorem Ends.sq {x : EReal} (h : Ends x) : 0 ≤ x * x ∧ (x ≠ 0 → x * x = ⊤) := by
  rcases h with rfl | rfl | rfl <;> simp

/-- A row of infinities and zeros is normalized to zeros. -/
theorem rown_ends (o g : Fin 128 → EReal) (h : ∀ d, Ends (o d)) (d : Fin 128) : rown o g d = 0 := by
  unfold rown
  by_cases hz : o d = 0
  · rw [hz, zero_mul, zero_mul, zero_mul]
  · have hs : ∑ j : Fin 128, o j * o j = ⊤ :=
      top_le_iff.mp ((h d).sq.2 hz ▸ Finset.single_le_sum (f := fun j => o j * o j) (fun j _ => (h j).sq.1) (Finset.mem_univ d))
    have hr : Ideal.rsqrt (Ideal.div (∑ j : Fin 128, o j * o j) (Ideal.ofBits .f32 1124073472#32) + Ideal.ofBits .f32 897988541#32) = 0 := by
      obtain ⟨n, hn, en⟩ : ∃ n : ℝ, 0 < n ∧ Ideal.ofBits .f32 1124073472#32 = (n : EReal) := by
        simp only [Ideal.ofBits, Ideal.ieee]
        simp
        refine ⟨_, ?_, rfl⟩
        norm_num
      obtain ⟨e, ee⟩ : ∃ e : ℝ, Ideal.ofBits .f32 897988541#32 = (e : EReal) := by
        simp only [Ideal.ofBits, Ideal.ieee]
        simp
        exact ⟨_, rfl⟩
      rw [hs, en, ee]
      unfold Ideal.div
      rw [if_neg (EReal.coe_pos.mpr hn).ne', ← EReal.coe_inv, EReal.top_mul_coe_of_pos (inv_pos.mpr hn), EReal.top_add_coe]
      rfl
    rw [hr, mul_zero, zero_mul, zero_mul]

/-- THE DIFFERENCE OF TWO AVERAGES: of finite values, under scores of which one is not minus infinity and none is plus
infinity, it is the sum of the values times the difference of the two probabilities. -/
theorem diff_sum (s0 s1 : ℕ → EReal) (h0 : Good s0) (h1 : Good s1) (w : Fin 128 → ℕ → EReal) (l : EReal) (hl : ∃ a : ℝ, l = (a : EReal))
    (d : Fin 128) (hw : ∀ κ : Fin 4096, Fin' (w d κ.val)) :
    ∑ κ : Fin 4096, w d κ.val * (prob s0 κ.val - l * prob s1 κ.val) = diff s0 s1 w l d := by
  unfold prob
  choose A hA using prob_real s0 h0
  choose B hB using prob_real s1 h1
  choose W hW using fun κ => real_of (hw κ)
  obtain ⟨a, rfl⟩ := hl
  obtain ⟨⟨k0, hk0, hb0⟩, ht0⟩ := h0
  obtain ⟨⟨k1, hk1, hb1⟩, ht1⟩ := h1
  obtain ⟨hp0, hn0⟩ := Proof.Online.den_real s0 hk0 hb0 ht0
  obtain ⟨hp1, hn1⟩ := Proof.Online.den_real s1 hk1 hb1 ht1
  unfold diff
  rw [Proof.Online.num_fin s0, Proof.Online.num_fin s1, Proof.Online.div_sum _ _ hp0 hn0, Proof.Online.div_sum _ _ hp1 hn1]
  simp only [hA, hB, hW, ← EReal.coe_mul, ← EReal.coe_sub, ← coe_sum]
  rw [EReal.coe_eq_coe_iff, Finset.mul_sum, ← Finset.sum_sub_distrib]
  exact Finset.sum_congr rfl fun κ _ => by ring

/-- An average of finite values is a real number, and is the sum of the values times their probabilities. -/
theorem mean_real (s : ℕ → EReal) (h : Good s) (w : ℕ → EReal) (hw : ∀ κ : Fin 4096, Fin' (w κ.val)) :
    ∃ a : ℝ, Ideal.div (Proof.Online.num s w 4096) (Proof.Online.den s 4096) = (a : EReal)
      ∧ ∑ κ : Fin 4096, w κ.val * prob s κ.val = (a : EReal) := by
  choose A hA using prob_real s h
  choose W hW using fun κ => real_of (hw κ)
  have hp : ∀ κ : Fin 4096, prob s κ.val = (A κ : EReal) := hA
  obtain ⟨⟨k0, hk0, hb0⟩, ht0⟩ := h
  obtain ⟨hp0, hn0⟩ := Proof.Online.den_real s hk0 hb0 ht0
  refine ⟨∑ κ, W κ * A κ, ?_, ?_⟩
  · rw [Proof.Online.num_fin s, Proof.Online.div_sum _ _ hp0 hn0]
    simp only [hA, hW, ← EReal.coe_mul, ← coe_sum]
    rw [EReal.coe_eq_coe_iff]
    exact Finset.sum_congr rfl fun κ _ => mul_comm _ _
  · simp only [hp, hW, ← EReal.coe_mul, ← coe_sum]

/-- THE NORMALIZED DIFFERENCE, of finite values and under any scores: where the scores leave no probabilities, both rows
are infinities and zeros, which the norm makes zeros. -/
theorem row_eq (s0 s1 : ℕ → EReal) (w : Fin 128 → ℕ → EReal) (l : EReal) (hl : ∃ a : ℝ, l = (a : EReal))
    (hw : ∀ d (κ : Fin 4096), Fin' (w d κ.val)) (g : Fin 128 → EReal) (d : Fin 128) :
    rown (fun d => ∑ κ : Fin 4096, w d κ.val * (prob s0 κ.val - l * prob s1 κ.val)) g d = rown (diff s0 s1 w l) g d := by
  have ends : ∀ e : EReal, e = ⊥ ∨ e = ⊤ → (∀ κ : Fin 4096, prob s0 κ.val - l * prob s1 κ.val = e) → (∀ d, diff s0 s1 w l d = e) →
      rown (fun d => ∑ κ : Fin 4096, w d κ.val * (prob s0 κ.val - l * prob s1 κ.val)) g d = rown (diff s0 s1 w l) g d := by
    intro e he hp hd
    rw [rown_ends _ g (fun d => Ends.sum _ _ fun κ => ?_) d, rown_ends _ g (fun d => ?_) d]
    · rw [hd]; exact he.imp_right Or.inl
    · obtain ⟨a, ha⟩ := real_of (hw d κ)
      rw [hp, ha]
      exact Ends.mul a he
  by_cases h0 : Good s0
  · by_cases h1 : Good s1
    · rw [funext fun d => diff_sum s0 s1 h0 h1 w l hl d (hw d)]
    · obtain ⟨a, rfl⟩ := hl
      have p1 : ∀ κ : Fin 4096, prob s1 κ.val = ⊥ := fun κ => by
        unfold prob
        rw [exp_bad s1 h1 κ.isLt, den_bad s1 h1, div_zero_zero]
      have m1 : ∀ d, Ideal.div (Proof.Online.num s1 (w d) 4096) (Proof.Online.den s1 4096) = ⊥ := fun d => by
        rw [num_bad s1 _ h1, den_bad s1 h1, div_zero_zero]
      rcases lt_trichotomy a 0 with ha | rfl | ha
      · refine ends ⊥ (Or.inl rfl) (fun κ => ?_) fun d => ?_
        · rw [p1, EReal.coe_mul_bot_of_neg ha, EReal.sub_top]
        · unfold diff
          rw [m1, EReal.coe_mul_bot_of_neg ha, EReal.sub_top]
      · congr 1
        funext d
        obtain ⟨b, e, e'⟩ := mean_real s0 h0 (w d) (hw d)
        unfold diff
        simp only [EReal.coe_zero, zero_mul, sub_zero]
        rw [e, e']
      · refine ends ⊤ (Or.inr rfl) (fun κ => ?_) fun d => ?_
        · obtain ⟨b, e⟩ := prob_real s0 h0 κ
          have e' : prob s0 κ.val = (b : EReal) := e
          rw [p1, EReal.coe_mul_bot_of_pos ha, e', EReal.coe_sub_bot]
        · obtain ⟨b, e, _⟩ := mean_real s0 h0 (w d) (hw d)
          unfold diff
          rw [m1, EReal.coe_mul_bot_of_pos ha, e, EReal.coe_sub_bot]
  · refine ends ⊥ (Or.inl rfl) (fun κ => ?_) fun d => ?_
    · unfold prob
      rw [exp_bad s0 h0 κ.isLt, den_bad s0 h0, div_zero_zero, EReal.bot_sub]
    · unfold diff
      rw [num_bad s0 _ h0, den_bad s0 h0, div_zero_zero, EReal.bot_sub]

variable (x0 : (⟨S4, .f32⟩ : BufTy).Contents (Elt Ideal)) (x1 x2 x3 : (⟨S8x4096x512, .bf16⟩ : BufTy).Contents (Elt Ideal))
variable (x4 : (⟨S4x2x256x256, .f32⟩ : BufTy).Contents (Elt Ideal)) (x5 x6 x7 x8 : (⟨S1x64, .f32⟩ : BufTy).Contents (Elt Ideal))
variable (x9 : (⟨S1x128, .f32⟩ : BufTy).Contents (Elt Ideal))

/-- The reference's first map. -/
theorem v69_eq (b : Fin 8) (h : Fin 4) (q κ : Fin 4096) :
    val_main_v69 (F := Ideal) x0 x1 x2 x4 (ix4 b h q κ) = val_main_v67 (F := Ideal) x0 x1 x2 x4 (ix5 b h 0 q κ) := by
  unfold val_main_v69
  rw [shapeCast_apply _ _ _ (ix5 b h 0 q κ)
    (by rw [Shape.rowMajor_val_five, Shape.rowMajor_val_four]
        show (((b.val * 4 + h.val) * 1 + 0) * 4096 + q.val) * 4096 + κ.val = ((b.val * 4 + h.val) * 4096 + q.val) * 4096 + κ.val
        omega), val_main_v68_apply]
  refine congrArg (val_main_v67 (F := Ideal) x0 x1 x2 x4) (funext fun a => Fin.ext ?_)
  match a with
  | ⟨0, _⟩ => rfl
  | ⟨1, _⟩ => rfl
  | ⟨2, _⟩ => rfl
  | ⟨3, _⟩ => rfl
  | ⟨4, _⟩ => rfl

/-- The reference's second map. -/
theorem v71_eq (b : Fin 8) (h : Fin 4) (q κ : Fin 4096) :
    val_main_v71 (F := Ideal) x0 x1 x2 x4 (ix4 b h q κ) = val_main_v67 (F := Ideal) x0 x1 x2 x4 (ix5 b h 1 q κ) := by
  unfold val_main_v71
  rw [shapeCast_apply _ _ _ (ix5 b h 0 q κ)
    (by rw [Shape.rowMajor_val_five, Shape.rowMajor_val_four]
        show (((b.val * 4 + h.val) * 1 + 0) * 4096 + q.val) * 4096 + κ.val = ((b.val * 4 + h.val) * 4096 + q.val) * 4096 + κ.val
        omega), val_main_v70_apply]
  refine congrArg (val_main_v67 (F := Ideal) x0 x1 x2 x4) (funext fun a => Fin.ext ?_)
  match a with
  | ⟨0, _⟩ => rfl
  | ⟨1, _⟩ => rfl
  | ⟨2, _⟩ => rfl
  | ⟨3, _⟩ => rfl
  | ⟨4, _⟩ => rfl

/-- The difference of the reference's two maps. -/
theorem v74_eq (b : Fin 8) (h : Fin 4) (q κ : Fin 4096) :
    val_main_v74 (F := Ideal) x0 x1 x2 x4 x5 x6 x7 x8 (ix4 b h q κ)
      = prob (score x0 x1 x2 x4 b h 0 q) κ.val - weight x5 x6 x7 x8 * prob (score x0 x1 x2 x4 b h 1 q) κ.val := by
  rw [val_main_v74_apply, val_main_v73_apply, val_main_v72_apply, v69_eq, v71_eq, v67_eq, v67_eq, v17_eq]
  rfl

/-- The finiteness of the arguments that the result's form wants. -/
structure Finite : Prop where
  v : ∀ i, Fin' (x3 i)
  unseen : ∀ h (r κ : Fin 256), ¬κ.val / 64 ≤ r.val / 64 → x4 (ix4 h 0 r κ) = ⊥
  l1 : ∀ i, Fin' (x5 i)
  l2 : ∀ i, Fin' (x6 i)
  l3 : ∀ i, Fin' (x7 i)
  l4 : ∀ i, Fin' (x8 i)

/-- The reference's sum of the values times the difference of the two maps. -/
theorem v76_eq (b : Fin 8) (q : Fin 4096) (h : Fin 4) (d : Fin 128) :
    val_main_v76 (F := Ideal) x0 x1 x2 x3 x4 x5 x6 x7 x8 (ix4 b q h d)
      = ∑ κ : Fin 4096, value x3 b h d κ.val
          * (prob (score x0 x1 x2 x4 b h 0 q) κ.val - weight x5 x6 x7 x8 * prob (score x0 x1 x2 x4 b h 1 q) κ.val) := by
  unfold val_main_v76 val_main_v75 val_main_v5 val_main_v4
  pointwise []
  refine Finset.sum_congr rfl fun κ _ => ?_
  rw [v74_eq]
  unfold value
  rw [dif_pos κ.isLt]

variable {x0 x1 x2 x3 x4 x5 x6 x7 x8} (H : Finite x3 x4 x5 x6 x7 x8)

include H

/-- The weight of the second map is a real number. -/
theorem weight_real : ∃ a : ℝ, weight x5 x6 x7 x8 = (a : EReal) := by
  obtain ⟨a, ha⟩ := real_dot (fun j : Fin 64 => x5 (ix2 0 j)) (fun j => x6 (ix2 0 j)) (fun _ => H.l1 _) (fun _ => H.l2 _)
  obtain ⟨e, he⟩ := real_dot (fun j : Fin 64 => x7 (ix2 0 j)) (fun j => x8 (ix2 0 j)) (fun _ => H.l3 _) (fun _ => H.l4 _)
  have hc : ∃ c : ℝ, Ideal.ofBits .f32 1045220557#32 = (c : EReal) := by
    simp only [Ideal.ofBits, Ideal.ieee]
    simp
    exact ⟨_, rfl⟩
  obtain ⟨c, hc⟩ := hc
  unfold weight
  rw [ha, he, hc]
  exact ⟨Real.exp a - Real.exp e + c, rfl⟩

/-- THE REFERENCE'S RESULT on such arguments: the difference of the two averages, each row of a head normalized. -/
theorem v94_eq (b : Fin 8) (q : Fin 4096) (l : Fin 512) :
    val_main_v94 (F := Ideal) x0 x1 x2 x3 x4 x5 x6 x7 x8 x9 (ix3 b q l)
      = rown (diff (score x0 x1 x2 x4 b ⟨l.val / 128, by omega⟩ 0 q) (score x0 x1 x2 x4 b ⟨l.val / 128, by omega⟩ 1 q)
          (value x3 b ⟨l.val / 128, by omega⟩) (weight x5 x6 x7 x8)) (fun d => x9 (ix2 0 d)) ⟨l.val % 128, Nat.mod_lt _ (by decide)⟩ := by
  rw [← row_eq _ _ (value x3 b ⟨l.val / 128, by omega⟩) _ (weight_real H) (fun d κ => by unfold value; rw [dif_pos κ.isLt]; exact H.v _)]
  unfold rown
  simp only [← v76_eq]
  unfold val_main_v94 val_main_v93 val_main_v92 val_main_v91 val_main_v90 val_main_v89 val_main_v88 val_main_v87 val_main_v86
    val_main_v85 val_main_v84 val_main_v83 val_main_v82 val_main_v81 val_main_v80 val_main_v79 val_main_v78 val_main_v77
    val_main_cst_9 val_main_cst_10 val_main_cst_11 val_main_cst_12
  pointwise []

end Cert.Diff.Ref

end
-- ==== Proof.DiffKernel.lean ====
/- The differential attention's result array, block by block, against its reference's form. -/
module

public import proofs.«01_k».proof.Proof.DiffRef
public import proofs.«01_k».proof.Proof.Gen.Kernel6Ideal.Value
public import Idealize.ShloMosaic.Lib.Pipeline.ValueKit
public import Idealize.ShloMosaic.Lib.Pipeline.Covers

@[expose] public section

noncomputable section

namespace Cert.Diff

open Idealize.ShloMosaic Idealize.ShloMosaic.TcCoe Idealize.SL.Sem
open Cert.Kernel6Ideal Cert.Kernel6Ideal.Gen
open Idealize.ShloMosaic.Pipeline (Dat)

set_option maxRecDepth 20000

/-- The block of window 0 at a grid point. -/
theorem index0 : ∀ t : Fin cfg0.N, win0_0.index t = ![0] :=
  (by decide +kernel : ∀ t : Fin grid0.N, _)

/-- The block of window 5 at a grid point. -/
theorem index5 : ∀ t : Fin cfg0.N, win0_5.index t = ![0, 0] :=
  (by decide +kernel : ∀ t : Fin grid0.N, _)

/-- The block of window 6 at a grid point. -/
theorem index6 : ∀ t : Fin cfg0.N, win0_6.index t = ![0, 0] :=
  (by decide +kernel : ∀ t : Fin grid0.N, _)

/-- The block of window 1 at a grid point. -/
theorem index1 : ∀ t : Fin cfg0.N, win0_1.index t = ![(grid0.coords t 0).val, (grid0.coords t 2).val, (grid0.coords t 1).val] :=
  (by decide +kernel : ∀ t : Fin grid0.N, _)

/-- The block of window 2 at a grid point. -/
theorem index2 : ∀ t : Fin cfg0.N, win0_2.index t = ![(grid0.coords t 0).val, 0, (grid0.coords t 1).val] :=
  (by decide +kernel : ∀ t : Fin grid0.N, _)

/-- The block of window 3 at a grid point. -/
theorem index3 : ∀ t : Fin cfg0.N, win0_3.index t = ![(grid0.coords t 0).val, 0, (grid0.coords t 1).val] :=
  (by decide +kernel : ∀ t : Fin grid0.N, _)

/-- The block of window 4 at a grid point. -/
theorem index4 : ∀ t : Fin cfg0.N, win0_4.index t = ![(grid0.coords t 1).val, 0, 0, 0] :=
  (by decide +kernel : ∀ t : Fin grid0.N, _)

/-- The block of window 7 at a grid point. -/
theorem index7 : ∀ t : Fin cfg0.N, win0_7.index t = ![(grid0.coords t 0).val, (grid0.coords t 2).val, (grid0.coords t 1).val] :=
  (by decide +kernel : ∀ t : Fin grid0.N, _)

/-- The last grid coordinate of a point. -/
theorem last_coord : ∀ t : Fin cfg0.N, (grid0.coords t 2).val = t.val % 16 :=
  (by decide +kernel : ∀ t : Fin grid0.N, _)

/-- The blocks of the output window cover its array. -/
theorem covers7 : win0_7.Covers :=
  win0_7.covers_of_indexMap_surj rfl (by decide) fun β =>
    ⟨fun | 0 => ⟨(β 0).val, (β 0).isLt⟩ | 1 => ⟨(β 2).val, (β 2).isLt⟩ | 2 => ⟨(β 1).val, (β 1).isLt⟩, fun a => by
      have h0 := (β 0).isLt
      have h1 := (β 1).isLt
      have h2 := (β 2).isLt
      fin_cases a
      · exact Nat.mod_eq_of_lt (lt_of_lt_of_le h0 (by decide))
      · exact Nat.mod_eq_of_lt (lt_of_lt_of_le h1 (by decide))
      · exact Nat.mod_eq_of_lt (lt_of_lt_of_le h2 (by decide))⟩

variable (m : (ℓ : Loc nD τ sig) → Buf (Elt Ideal) ℓ)

/-- The far keys' biases. -/
theorem blk0 (c : Dev nD) (t : Fin cfg0.N) (h : Fin 4) :
    iblk m c 0 t (ix1 h) = m ((c.tc : Thread nD τ).loc main_arg0) (ix1 h) := by
  blk_simp [iblk]
  refine congrArg (m ((c.tc : Thread nD τ).loc main_arg0)) ?_
  blk_ext [index0]

/-- The queries a point's block holds. -/
theorem blk1 (c : Dev nD) (t : Fin cfg0.N) (r : Fin 256) (l : Fin 128) (b : Fin 8) (q : Fin 4096) (l' : Fin 512)
    (hb : b.val = (grid0.coords t 0).val) (hq : q.val = 256 * (grid0.coords t 2).val + r.val)
    (hl : l'.val = 128 * (grid0.coords t 1).val + l.val) :
    iblk m c 1 t (ix3 0 r l) = m ((c.tc : Thread nD τ).loc main_arg1) (ix3 b q l') := by
  blk_simp [iblk]
  refine congrArg (m ((c.tc : Thread nD τ).loc main_arg1)) ?_
  blk_ext [index1]

/-- The keys a point's block holds. -/
theorem blk2 (c : Dev nD) (t : Fin cfg0.N) (κ : Fin 4096) (l : Fin 128) (b : Fin 8) (l' : Fin 512)
    (hb : b.val = (grid0.coords t 0).val) (hl : l'.val = 128 * (grid0.coords t 1).val + l.val) :
    iblk m c 2 t (ix3 0 κ l) = m ((c.tc : Thread nD τ).loc main_arg2) (ix3 b κ l') := by
  blk_simp [iblk]
  refine congrArg (m ((c.tc : Thread nD τ).loc main_arg2)) ?_
  blk_ext [index2]

/-- The values a point's block holds. -/
theorem blk3 (c : Dev nD) (t : Fin cfg0.N) (κ : Fin 4096) (l : Fin 128) (b : Fin 8) (l' : Fin 512)
    (hb : b.val = (grid0.coords t 0).val) (hl : l'.val = 128 * (grid0.coords t 1).val + l.val) :
    iblk m c 3 t (ix3 0 κ l) = m ((c.tc : Thread nD τ).loc main_arg3) (ix3 b κ l') := by
  blk_simp [iblk]
  refine congrArg (m ((c.tc : Thread nD τ).loc main_arg3)) ?_
  blk_ext [index3]

/-- The biases a point's block holds. -/
theorem blk4 (c : Dev nD) (t : Fin cfg0.N) (p : Fin 2) (r κ : Fin 256) (h : Fin 4) (hh : h.val = (grid0.coords t 1).val) :
    iblk m c 4 t (ix4 0 p r κ) = m ((c.tc : Thread nD τ).loc main_arg4) (ix4 h p r κ) := by
  blk_simp [iblk]
  refine congrArg (m ((c.tc : Thread nD τ).loc main_arg4)) ?_
  blk_ext [index4]

/-- The host's stacking of four vectors, from the contents before it. -/
theorem stack5 (W : Valuation τ sig (Elt Ideal)) :
    StableHlo.after (List.drop 8 hostOps0) W (Proc.devRef .tc main_v8) = concatenate S4x64 0
      [⟨S1x64, W (Proc.devRef .tc main_v4)⟩, ⟨S1x64, W (Proc.devRef .tc main_v5)⟩, ⟨S1x64, W (Proc.devRef .tc main_v6)⟩,
        ⟨S1x64, W (Proc.devRef .tc main_v7)⟩] concatenates_S1x64_S1x64_S1x64_S1x64_S4x64_d0 := by
  simp only [hostOps0, List.drop_succ_cons, List.drop_zero, StableHlo.after_cons, StableHlo.after_nil]
  rw [StableHlo.unary_result_ne, StableHlo.reshape_result_ne, StableHlo.nary4_result]
  · rfl
  · decide
  · decide

/-- Its operand 0 is the argument, shaped. -/
theorem operand0 (c : Dev nD) :
    StableHlo.after (List.take 8 hostOps0) (fun b => m (c, b)) (Proc.devRef .tc main_v4)
      = broadcastInDim S1x64 ![1] bcast_S64_S1x64_1 (shapeCast S64 (m ((c.tc : Thread nD τ).loc main_arg5)) shapeCasts_S1x64_S64) := by
  simp only [hostOps0, List.take_succ_cons, List.take_zero]
  after_results
  rfl

/-- Its operand 1 is the argument, shaped. -/
theorem operand1 (c : Dev nD) :
    StableHlo.after (List.take 8 hostOps0) (fun b => m (c, b)) (Proc.devRef .tc main_v5)
      = broadcastInDim S1x64 ![1] bcast_S64_S1x64_1 (shapeCast S64 (m ((c.tc : Thread nD τ).loc main_arg6)) shapeCasts_S1x64_S64) := by
  simp only [hostOps0, List.take_succ_cons, List.take_zero]
  after_results
  rfl

/-- Its operand 2 is the argument, shaped. -/
theorem operand2 (c : Dev nD) :
    StableHlo.after (List.take 8 hostOps0) (fun b => m (c, b)) (Proc.devRef .tc main_v6)
      = broadcastInDim S1x64 ![1] bcast_S64_S1x64_1 (shapeCast S64 (m ((c.tc : Thread nD τ).loc main_arg7)) shapeCasts_S1x64_S64) := by
  simp only [hostOps0, List.take_succ_cons, List.take_zero]
  after_results
  rfl

/-- Its operand 3 is the argument, shaped. -/
theorem operand3 (c : Dev nD) :
    StableHlo.after (List.take 8 hostOps0) (fun b => m (c, b)) (Proc.devRef .tc main_v7)
      = broadcastInDim S1x64 ![1] bcast_S64_S1x64_1 (shapeCast S64 (m ((c.tc : Thread nD τ).loc main_arg8)) shapeCasts_S1x64_S64) := by
  simp only [hostOps0, List.take_succ_cons, List.take_zero]
  after_results
  rfl

/-- The four vectors of the weight, as the host stacks them. -/
theorem entry5 (c : Dev nD) :
    V m c main_v8 = concatenate S4x64 0
      [⟨S1x64, broadcastInDim S1x64 ![1] bcast_S64_S1x64_1 (shapeCast S64 (m ((c.tc : Thread nD τ).loc main_arg5)) shapeCasts_S1x64_S64)⟩,
       ⟨S1x64, broadcastInDim S1x64 ![1] bcast_S64_S1x64_1 (shapeCast S64 (m ((c.tc : Thread nD τ).loc main_arg6)) shapeCasts_S1x64_S64)⟩,
       ⟨S1x64, broadcastInDim S1x64 ![1] bcast_S64_S1x64_1 (shapeCast S64 (m ((c.tc : Thread nD τ).loc main_arg7)) shapeCasts_S1x64_S64)⟩,
       ⟨S1x64, broadcastInDim S1x64 ![1] bcast_S64_S1x64_1 (shapeCast S64 (m ((c.tc : Thread nD τ).loc main_arg8)) shapeCasts_S1x64_S64)⟩]
      concatenates_S1x64_S1x64_S1x64_S1x64_S4x64_d0 := by
  have e : V m c main_v8 = StableHlo.after (List.drop 8 hostOps0)
      (StableHlo.after (List.take 8 hostOps0) (fun b => m (c, b))) (Proc.devRef .tc main_v8) := rfl
  rw [e, stack5, operand0, operand1, operand2, operand3]

/-- The gain, as the host shapes it. -/
theorem entry6 (c : Dev nD) :
    V m c main_v10 = broadcastInDim S1x128 ![1] bcast_S128_S1x128_1 (shapeCast S128 (m ((c.tc : Thread nD τ).loc main_arg9)) shapeCasts_S1x128_S128) := by
  entry_read
  rfl

/-- A row of the four vectors a point's block holds. -/
theorem blk5 (c : Dev nD) (t : Fin cfg0.N) (p : Fin 4) (j : Fin 64) : iblk m c 5 t (ix2 p j) = V m c main_v8 (ix2 p j) := by
  blk_simp [iblk]
  refine congrArg (V m c main_v8) ?_
  blk_ext [index5]

/-- The gain a point's block holds. -/
theorem blk6 (c : Dev nD) (t : Fin cfg0.N) (j : Fin 128) :
    iblk m c 6 t (ix2 0 j) = m ((c.tc : Thread nD τ).loc main_arg9) (ix2 0 j) := by
  have e : iblk m c 6 t (ix2 0 j) = V m c main_v10 (ix2 0 j) := by
    blk_simp [iblk]
    refine congrArg (V m c main_v10) ?_
    blk_ext [index6]
  rw [e, entry6]
  pointwise []

/-- The first vector of the weight. -/
theorem lam0 (c : Dev nD) (j : Fin 64) : V m c main_v8 (ix2 0 j) = m ((c.tc : Thread nD τ).loc main_arg5) (ix2 0 j) := by
  rw [entry5]
  pointwise []

/-- The second. -/
theorem lam1 (c : Dev nD) (j : Fin 64) : V m c main_v8 (ix2 1 j) = m ((c.tc : Thread nD τ).loc main_arg6) (ix2 0 j) := by
  rw [entry5]
  pointwise []

/-- The third. -/
theorem lam2 (c : Dev nD) (j : Fin 64) : V m c main_v8 (ix2 2 j) = m ((c.tc : Thread nD τ).loc main_arg7) (ix2 0 j) := by
  rw [entry5]
  pointwise []

/-- The fourth. -/
theorem lam3 (c : Dev nD) (j : Fin 64) : V m c main_v8 (ix2 3 j) = m ((c.tc : Thread nD τ).loc main_arg8) (ix2 0 j) := by
  rw [entry5]
  pointwise []

/-- The product of a query and a key in one map, over the lanes of the map's half. -/
theorem half_sum (mp : Fin 2) (f : Fin 128 → EReal) :
    ∑ d : Fin 128, half mp d (f d) = ∑ d : Fin 64, f ⟨mp.val * 64 + d.val, by omega⟩ := by
  have e : ∑ d : Fin 128, half mp d (f d)
      = ∑ d : Fin 64, half mp (Fin.castAdd 64 d) (f (Fin.castAdd 64 d)) + ∑ d : Fin 64, half mp (Fin.natAdd 64 d) (f (Fin.natAdd 64 d)) :=
    Fin.sum_univ_add (a := 64) (b := 64) (fun d : Fin (64 + 64) => half mp d (f d))
  have hl : ∀ d : Fin 64, (Fin.castAdd 64 d).val < 64 := fun d => d.isLt
  have hr : ∀ d : Fin 64, ¬(Fin.natAdd 64 d).val < 64 := fun d => by rw [Fin.val_natAdd]; omega
  rw [e]
  unfold half
  simp only [hl, hr, if_true, if_false]
  match mp with
  | 0 =>
    simp only [if_true, Finset.sum_const_zero, add_zero]
    exact Finset.sum_congr rfl fun d _ => congrArg f (Fin.ext (by show d.val = 0 * 64 + d.val; omega))
  | 1 =>
    have h10 : ((1 : Fin 2) = 0) = False := by decide
    simp only [h10, if_false, Finset.sum_const_zero, zero_add]
    exact Finset.sum_congr rfl fun d _ => congrArg f (Fin.ext (by show 64 + d.val = 1 * 64 + d.val; omega))

variable (c : Dev nD) (t : Fin cfg0.N)

/-- A point's products of queries and keys are the reference's. -/
theorem base_blk (mp : Fin 2) (r : Fin 256) (b : Fin 8) (h : Fin 4) (q κ : Fin 4096)
    (hb : b.val = (grid0.coords t 0).val) (hh : h.val = (grid0.coords t 1).val) (hq : q.val = 256 * (grid0.coords t 2).val + r.val) :
    base (iblk m c 1 t) (iblk m c 2 t) mp r κ.val
      = Ref.dot (m ((c.tc : Thread nD τ).loc main_arg1)) (m ((c.tc : Thread nD τ).loc main_arg2)) b h mp q κ := by
  unfold base Ref.dot
  rw [dif_pos κ.isLt, half_sum]
  have hm := mp.isLt
  refine Finset.sum_congr rfl fun d _ => ?_
  have e1 := blk1 m c t r ⟨mp.val * 64 + d.val, by omega⟩ b q ⟨h.val * 128 + mp.val * 64 + d.val, by omega⟩ hb hq (by dsimp only; omega)
  have e2 := blk2 m c t κ ⟨mp.val * 64 + d.val, by omega⟩ b ⟨h.val * 128 + mp.val * 64 + d.val, by omega⟩ hb (by dsimp only; omega)
  rw [e1, e2]

/-- The bias of a later chunk's key is minus infinity. -/
def Unseen (x4 : S4x2x256x256.Idx → EReal) : Prop :=
  ∀ h (r κ : Fin 256), ¬κ.val / 64 ≤ r.val / 64 → x4 (ix4 h 0 r κ) = ⊥

/-- A point's scores are the reference's. -/
theorem sc_blk (hu : Unseen (m ((c.tc : Thread nD τ).loc main_arg4))) (mp : Fin 2) (r : Fin 256) (b : Fin 8) (h : Fin 4) (q : Fin 4096)
    (hb : b.val = (grid0.coords t 0).val) (hh : h.val = (grid0.coords t 1).val) (hq : q.val = 256 * (grid0.coords t 2).val + r.val)
    (κ : ℕ) (hκ : κ < 4096) :
    sc (iblk m c 0 t) (iblk m c 1 t) (iblk m c 2 t) (iblk m c 4 t) h mp r (grid0.coords t 2).val κ
      = Ref.score (m ((c.tc : Thread nD τ).loc main_arg0)) (m ((c.tc : Thread nD τ).loc main_arg1))
          (m ((c.tc : Thread nD τ).loc main_arg2)) (m ((c.tc : Thread nD τ).loc main_arg4)) b h mp q κ := by
  have eb := base_blk m c t mp r b h q ⟨κ, hκ⟩ hb hh hq
  have hr := r.isLt
  generalize (grid0.coords t 2).val = z at *
  unfold sc far Ref.score Ref.rel
  rw [dif_pos hκ]
  by_cases h1 : κ < 256 * (z - 1)
  · rw [if_pos h1, if_pos (by omega), if_neg (by omega), if_neg (by omega), blk0]
    exact congrArg (· + _) eb
  · rw [if_neg h1]
    by_cases h2 : κ < 256 * z
    · rw [if_pos h2, if_pos (by omega), if_neg (by omega), if_pos (by omega), blk4 m c t 1 r _ h hh]
      refine congrArg₂ (· + ·) eb (congrArg₂ (fun a e => m ((c.tc : Thread nD τ).loc main_arg4) (ix4 h 1 a e)) (Fin.ext ?_) (Fin.ext ?_))
      · show r.val = q.val % 256; omega
      · show (κ - 256 * (z - 1)) % 256 = κ % 256; omega
    · rw [if_neg h2]
      by_cases h3 : κ < 256 * z + 256
      · rw [if_pos h3, blk4 m c t 0 r _ h hh]
        by_cases h4 : κ / 64 ≤ q.val / 64
        · rw [if_pos h4, if_pos (by omega)]
          refine congrArg₂ (· + ·) eb (congrArg₂ (fun a e => m ((c.tc : Thread nD τ).loc main_arg4) (ix4 h 0 a e)) (Fin.ext ?_) (Fin.ext ?_))
          · show r.val = q.val % 256; omega
          · show (κ - 256 * z) % 256 = κ % 256; omega
        · rw [if_neg h4, hu h r _ (by dsimp only; omega)]
          exact EReal.add_bot _
      · rw [if_neg h3, if_neg (by omega)]

/-- A point's values are the reference's. -/
theorem value_blk (b : Fin 8) (h : Fin 4) (hb : b.val = (grid0.coords t 0).val) (hh : h.val = (grid0.coords t 1).val) (d : Fin 128) :
    value (iblk m c 3 t) d = Ref.value (m ((c.tc : Thread nD τ).loc main_arg3)) b h d := by
  funext κ
  unfold value Ref.value
  by_cases hκ : κ < 4096
  · rw [dif_pos hκ, dif_pos hκ, blk3 m c t ⟨κ, hκ⟩ d b ⟨h.val * 128 + d.val, by omega⟩ hb (by dsimp only; omega)]
  · rw [dif_neg hκ, dif_neg hκ]

/-- A point's weight is the reference's. -/
theorem lam_blk :
    lam (iblk m c 5 t) = Ref.weight (m ((c.tc : Thread nD τ).loc main_arg5)) (m ((c.tc : Thread nD τ).loc main_arg6))
      (m ((c.tc : Thread nD τ).loc main_arg7)) (m ((c.tc : Thread nD τ).loc main_arg8)) := by
  unfold lam Ref.weight
  have h0 := fun j => (blk5 m c t 0 j).trans (lam0 m c j)
  have h1 := fun j => (blk5 m c t 1 j).trans (lam1 m c j)
  have h2 := fun j => (blk5 m c t 2 j).trans (lam2 m c j)
  have h3 := fun j => (blk5 m c t 3 j).trans (lam3 m c j)
  simp only [h0, h1, h2, h3]

/-- The differential attention of the arguments, as one function of the output's index. -/
def attn (x0 : S4.Idx → EReal) (x1 x2 x3 : S8x4096x512.Idx → EReal) (x4 : S4x2x256x256.Idx → EReal) (x5 x6 x7 x8 : S1x64.Idx → EReal)
    (x9 : S1x128.Idx → EReal) (b : Fin 8) (q : Fin 4096) (l : Fin 512) : EReal :=
  rown (diff (Ref.score x0 x1 x2 x4 b ⟨l.val / 128, by omega⟩ 0 q) (Ref.score x0 x1 x2 x4 b ⟨l.val / 128, by omega⟩ 1 q)
      (Ref.value x3 b ⟨l.val / 128, by omega⟩) (Ref.weight x5 x6 x7 x8)) (fun d => x9 (ix2 0 d)) ⟨l.val % 128, Nat.mod_lt _ (by decide)⟩

/-- The row a point's body leaves is the reference's. -/
theorem row_blk (hu : Unseen (m ((c.tc : Thread nD τ).loc main_arg4))) (r : Fin 256) (d : Fin 128) (b : Fin 8) (h : Fin 4) (q : Fin 4096) (l : Fin 512)
    (hb : b.val = (grid0.coords t 0).val) (hh : h.val = (grid0.coords t 1).val) (hq : q.val = 256 * (grid0.coords t 2).val + r.val)
    (hl : l.val = 128 * (grid0.coords t 1).val + d.val) :
    rown (diff (sc (iblk m c 0 t) (iblk m c 1 t) (iblk m c 2 t) (iblk m c 4 t) h 0 r (grid0.coords t 2).val)
        (sc (iblk m c 0 t) (iblk m c 1 t) (iblk m c 2 t) (iblk m c 4 t) h 1 r (grid0.coords t 2).val)
        (value (iblk m c 3 t)) (lam (iblk m c 5 t))) (fun d => iblk m c 6 t (ix2 0 d)) d
      = attn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) b q l := by
  have hd := d.isLt
  have eh : (⟨l.val / 128, by omega⟩ : Fin 4) = h := Fin.ext (by dsimp only; omega)
  have ed : (⟨l.val % 128, Nat.mod_lt _ (by decide)⟩ : Fin 128) = d := Fin.ext (by dsimp only; omega)
  unfold attn
  rw [eh, ed]
  unfold rown diff
  simp only [value_blk m c t b h hb hh, lam_blk, blk6]
  have e0 := sc_blk m c t hu 0 r b h q hb hh hq
  have e1 := sc_blk m c t hu 1 r b h q hb hh hq
  simp only [Proof.Online.den_congr e0, Proof.Online.den_congr e1, Proof.Online.num_congr e0 (fun _ _ => rfl),
    Proof.Online.num_congr e1 (fun _ _ => rfl)]

/-- What a point's body leaves at an element of its block is the attention at that element's place in the array. -/
theorem out_blk (hu : Unseen (m ((c.tc : Thread nD τ).loc main_arg4)))
    (r : Fin 256) (d : Fin 128) (b : Fin 8) (q : Fin 4096) (l : Fin 512)
    (hb : b.val = (grid0.coords t 0).val) (hq : q.val = 256 * (grid0.coords t 2).val + r.val)
    (hl : l.val = 128 * (grid0.coords t 1).val + d.val) :
    outsAt0 m c t.val t.isLt (ix3 0 r d)
      = attn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) b q l := by
  rw [← row_blk m c t hu r d b (head (grid0.coords t)) q l hb rfl hq hl]
  by_cases h0 : 1 ≤ t.val % 16
  · rw [outsAt0_B m c t h0]
    exact outB_eq c (grid0.coords t) _ _ _ _ _ _ _ _ _ _ _ _ _ _ _ _ _ _ _ _ _ _ _ _ _ _ _ _ _ _ (by rw [last_coord]; exact h0) r d
  · rw [outsAt0_A m c t h0]
    exact outA_eq c (grid0.coords t) _ _ _ _ _ _ _ _ _ _ _ _ _ _ _ _ _ _ _ _ _ _ _ _ _ _ _ _ _ _ (by rw [last_coord]; omega) r d

/-- The kernel's result array: the differential attention of its arguments. -/
theorem kernel_value (hu : Unseen (m ((c.tc : Thread nD τ).loc main_arg4))) :
    (dats m 0 c).arrAt 7 cfg0.N
      = fun i : S8x4096x512.Idx => attn (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (i 0) (i 1) (i 2) := by
  refine (dats m 0 c).arrAt_eq_of_covers 7 _ covers7 fun t hf' y => ?_
  blk_simp
  rw [after0_7]
  idx_vars y
  obtain rfl : y0 = 0 := Subsingleton.elim _ _
  refine out_blk m c t hu y1 y2 _ _ _ ?_ ?_ ?_
  · refine (Pipeline.Window.rect_emb_val win0_7 t (ix3 0 y1 y2) 0).trans ?_
    rw [index7]
    show (grid0.coords t 0).val * 1 + 0 = _
    omega
  · refine (Pipeline.Window.rect_emb_val win0_7 t (ix3 0 y1 y2) 1).trans ?_
    rw [index7]
    show (grid0.coords t 2).val * 256 + y1.val = _
    omega
  · refine (Pipeline.Window.rect_emb_val win0_7 t (ix3 0 y1 y2) 2).trans ?_
    rw [index7]
    show (grid0.coords t 1).val * 128 + y2.val = _
    omega

end Cert.Diff

end
-- ==== Proof.DiffPre.lean ====
/- What the differential attention's precondition says of its arguments, element by element. -/
module

public import proofs.«01_k».proof.Proof.DiffSum
public import proofs.«01_k».proof.Proof.RefValue
public import proofs.«01_k».proof.Pre_finite6

@[expose] public section

noncomputable section

namespace Cert.Proof

open Idealize.ShloMosaic Idealize.ShloMosaic.TcCoe

/-- The bit pattern of plus infinity. -/
theorem pos_inf : Ideal.ofBits .f32 2139095040#32 = ⊤ := by simp [Ideal.ofBits, Ideal.ieee]

/-- A comparison that holds is between values in that order. -/
theorem gt_of_one {x y : EReal} (h : (FloatOps.cmpf (F := Ideal) (φ := .f32) .ogt x y) = 1#1) : y < x := by
  by_contra hn
  rw [Ideal.cmpf_def] at h
  simp [Ideal.cmp, hn] at h

/-- A comparison that holds is between values in that order. -/
theorem lt_of_one {x y : EReal} (h : (FloatOps.cmpf (F := Ideal) (φ := .f32) .olt x y) = 1#1) : x < y := by
  by_contra hn
  rw [Ideal.cmpf_def] at h
  simp [Ideal.cmp, hn] at h

/-- An equality that holds is between equal values. -/
theorem eq_of_one {x y : EReal} (h : (FloatOps.cmpf (F := Ideal) (φ := .f32) .oeq x y) = 1#1) : x = y := by
  by_contra hn
  rw [Ideal.cmpf_def] at h
  simp [Ideal.cmp, hn] at h

end Cert.Proof

namespace Cert.Diff.Pre

open Idealize.ShloMosaic Idealize.ShloMosaic.TcCoe
open Cert.Pre_finite6
open Cert.Proof (pos_inf gt_of_one lt_of_one eq_of_one)
open Cert.Proof.Ref (chunkWord chunkWord_eq chunk_le)

set_option maxRecDepth 20000

/-- The side conditions of the precondition's operations. -/
theorem facts : Cert.Pre_finite6.Facts where
  bitsLt_bf16_f32 := by decide
  bcast_S256_S1x256_1 := by decide
  bcast_S_S1x256 := by decide
  bcast_S256_S256x1_0 := by decide
  bcast_S_S256x1 := by decide
  bcast_S1x256_S256x256_0_1 := by decide
  bcast_S256x1_S256x256_0_1 := by decide
  bcast_S_S8x4096x512 := by decide
  slices_S4x2x256x256_S4x1x256x256_0_0_0_0 := by decide
  shapeCasts_S4x1x256x256_S4x256x256 := by decide
  bcast_S_S4x256x256 := by decide
  bcast_S256x256_S1x256x256_1_2 := by decide
  bcast_S1x256x256_S4x256x256_0_1_2 := by decide
  bcast_S_S1x64 := by decide

attribute [local instance] facts

/-- A row of the bias's first half. -/
theorem first_read (x4 : FVec Ideal S4x2x256x256 .f32) (h : Fin 4) (r κ : Fin 256) :
    shapeCast S4x256x256 (extractStridedSlice S4x1x256x256 ![0, 0, 0, 0] x4 Facts.slices_S4x2x256x256_S4x1x256x256_0_0_0_0)
      Facts.shapeCasts_S4x1x256x256_S4x256x256 (ix3 h r κ) = x4 (ix4 h 0 r κ) := by
  rw [shapeCast_apply _ _ _ (ix4 h 0 r κ) (by rw [Shape.rowMajor_val_four, Shape.rowMajor_val_three]
                                              show ((h.val * 1 + 0) * 256 + r.val) * 256 + κ.val = (h.val * 256 + r.val) * 256 + κ.val
                                              omega)]
  pointwise []

/-- The keys' chunk numbers. -/
theorem key_word (κ : Fin 256) :
    fn_floor_divide (F := Ideal) (broadcastInDim S1x256 ![1] Facts.bcast_S256_S1x256_1 (iotaInDim S256 32 0)) (constantI S_ 32 64#32) (ix2 0 κ)
      = BitVec.ofNat 32 (κ.val / 64) := by
  have e : (broadcastInDim S1x256 ![1] Facts.bcast_S256_S1x256_1 (iotaInDim S256 32 0)) (ix2 0 κ) = BitVec.ofNat 32 κ.val := by
    pointwise []
  rw [← chunkWord_eq ⟨κ.val, by omega⟩]
  unfold fn_floor_divide fn_where
  generalize (broadcastInDim S1x256 ![1] Facts.bcast_S256_S1x256_1 (iotaInDim S256 32 0)) = w at e ⊢
  pointwise []
  rw [e]
  rfl

/-- The queries' chunk numbers. -/
theorem query_word (r : Fin 256) :
    fn_floor_divide_0 (F := Ideal) (broadcastInDim S256x1 ![0] Facts.bcast_S256_S256x1_0 (iotaInDim S256 32 0)) (constantI S_ 32 64#32) (ix2 r 0)
      = BitVec.ofNat 32 (r.val / 64) := by
  have e : (broadcastInDim S256x1 ![0] Facts.bcast_S256_S256x1_0 (iotaInDim S256 32 0)) (ix2 r 0) = BitVec.ofNat 32 r.val := by
    pointwise []
  rw [← chunkWord_eq ⟨r.val, by omega⟩]
  unfold fn_floor_divide_0 fn_where_1
  generalize (broadcastInDim S256x1 ![0] Facts.bcast_S256_S256x1_0 (iotaInDim S256 32 0)) = w at e ⊢
  pointwise []
  rw [e]
  rfl

variable (x0 : FVec Ideal S4 .f32) (x1 x2 x3 : FVec Ideal S8x4096x512 .bf16) (x4 : FVec Ideal S4x2x256x256 .f32)
  (x5 x6 x7 x8 : FVec Ideal S1x64 .f32) (x9 : FVec Ideal S1x128 .f32)

/-- The fact about the bias within a block: minus infinity on keys that are not seen. -/
theorem own_read (h : Fin 4) (r κ : Fin 256) :
    (Cert.Pre_finite6.fn (F := Ideal) x0 x1 x2 x3 x4 x5 x6 x7 x8 x9).2.2.1 (ix3 h r κ)
      = (if κ.val / 64 ≤ r.val / 64 then 1#1 else 0#1)
          ||| FloatOps.cmpf (F := Ideal) (φ := .f32) .oeq (x4 (ix4 h 0 r κ)) (Ideal.ofBits .f32 4286578688#32) := by
  rw [← chunk_le ⟨κ.val / 64, by omega⟩ ⟨r.val / 64, by omega⟩, ← key_word κ, ← query_word r, ← first_read x4 h r κ]
  unfold Cert.Pre_finite6.fn fn_part1 fn_part2
  dsimp only
  pointwise []
  rfl

/-- THE PRECONDITION: the values and the vectors of the differential weight are real numbers, and the bias within a block
is minus infinity on keys that are not seen. -/
theorem finite
    (p0 : (Cert.Pre_finite6.fn (F := Ideal) x0 x1 x2 x3 x4 x5 x6 x7 x8 x9).1 = fun _ => 1#1)
    (p1 : (Cert.Pre_finite6.fn (F := Ideal) x0 x1 x2 x3 x4 x5 x6 x7 x8 x9).2.1 = fun _ => 1#1)
    (p2 : (Cert.Pre_finite6.fn (F := Ideal) x0 x1 x2 x3 x4 x5 x6 x7 x8 x9).2.2.1 = fun _ => 1#1)
    (p3 : (Cert.Pre_finite6.fn (F := Ideal) x0 x1 x2 x3 x4 x5 x6 x7 x8 x9).2.2.2.1 = fun _ => 1#1)
    (p4 : (Cert.Pre_finite6.fn (F := Ideal) x0 x1 x2 x3 x4 x5 x6 x7 x8 x9).2.2.2.2.1 = fun _ => 1#1)
    (p5 : (Cert.Pre_finite6.fn (F := Ideal) x0 x1 x2 x3 x4 x5 x6 x7 x8 x9).2.2.2.2.2.1 = fun _ => 1#1)
    (p6 : (Cert.Pre_finite6.fn (F := Ideal) x0 x1 x2 x3 x4 x5 x6 x7 x8 x9).2.2.2.2.2.2.1 = fun _ => 1#1)
    (p7 : (Cert.Pre_finite6.fn (F := Ideal) x0 x1 x2 x3 x4 x5 x6 x7 x8 x9).2.2.2.2.2.2.2.1 = fun _ => 1#1)
    (p8 : (Cert.Pre_finite6.fn (F := Ideal) x0 x1 x2 x3 x4 x5 x6 x7 x8 x9).2.2.2.2.2.2.2.2.1 = fun _ => 1#1)
    (p9 : (Cert.Pre_finite6.fn (F := Ideal) x0 x1 x2 x3 x4 x5 x6 x7 x8 x9).2.2.2.2.2.2.2.2.2.1 = fun _ => 1#1)
    (p10 : (Cert.Pre_finite6.fn (F := Ideal) x0 x1 x2 x3 x4 x5 x6 x7 x8 x9).2.2.2.2.2.2.2.2.2.2 = fun _ => 1#1) :
    Ref.Finite x3 x4 x5 x6 x7 x8 := by
  have g0 : ∀ i, Ideal.ofBits .f32 4286578688#32 < (x3 i : EReal) := fun i => gt_of_one (congrFun p0 i)
  have g1 : ∀ i, (x3 i : EReal) < Ideal.ofBits .f32 2139095040#32 := fun i => lt_of_one (congrFun p1 i)
  have g3 : ∀ i, Ideal.ofBits .f32 4286578688#32 < (x5 i : EReal) := fun i => gt_of_one (congrFun p3 i)
  have g4 : ∀ i, (x5 i : EReal) < Ideal.ofBits .f32 2139095040#32 := fun i => lt_of_one (congrFun p4 i)
  have g5 : ∀ i, Ideal.ofBits .f32 4286578688#32 < (x6 i : EReal) := fun i => gt_of_one (congrFun p5 i)
  have g6 : ∀ i, (x6 i : EReal) < Ideal.ofBits .f32 2139095040#32 := fun i => lt_of_one (congrFun p6 i)
  have g7 : ∀ i, Ideal.ofBits .f32 4286578688#32 < (x7 i : EReal) := fun i => gt_of_one (congrFun p7 i)
  have g8 : ∀ i, (x7 i : EReal) < Ideal.ofBits .f32 2139095040#32 := fun i => lt_of_one (congrFun p8 i)
  have g9 : ∀ i, Ideal.ofBits .f32 4286578688#32 < (x8 i : EReal) := fun i => gt_of_one (congrFun p9 i)
  have g10 : ∀ i, (x8 i : EReal) < Ideal.ofBits .f32 2139095040#32 := fun i => lt_of_one (congrFun p10 i)
  have n2 : ∀ (h : Fin 4) (r κ : Fin 256), ¬κ.val / 64 ≤ r.val / 64 → (x4 (ix4 h 0 r κ) : EReal) = Ideal.ofBits .f32 4286578688#32 := by
    intro h r κ hs
    have e := (own_read x0 x1 x2 x3 x4 x5 x6 x7 x8 x9 h r κ).symm.trans (congrFun p2 (ix3 h r κ))
    rw [if_neg hs, BitVec.zero_or] at e
    exact eq_of_one e
  simp only [Cert.Proof.Ref.neg_inf, pos_inf] at g0 g1 g3 g4 g5 g6 g7 g8 g9 g10 n2
  exact {
    v := fun i => ⟨(g0 i).ne', (g1 i).ne⟩
    unseen := n2
    l1 := fun i => ⟨(g3 i).ne', (g4 i).ne⟩
    l2 := fun i => ⟨(g5 i).ne', (g6 i).ne⟩
    l3 := fun i => ⟨(g7 i).ne', (g8 i).ne⟩
    l4 := fun i => ⟨(g9 i).ne', (g10 i).ne⟩ }

end Cert.Diff.Pre

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.KernelValue
public import proofs.«01_k».proof.Proof.RefValue
public import proofs.«01_k».proof.Proof.OutNorm
public import proofs.«01_k».proof.Proof.OutMix
public import proofs.«01_k».proof.Proof.InProj
public import proofs.«01_k».proof.Proof.MlaKernel
public import proofs.«01_k».proof.Proof.MlaRef
public import proofs.«01_k».proof.Proof.DiffSum
public import proofs.«01_k».proof.Proof.DiffKernel
public import proofs.«01_k».proof.Proof.DiffPre
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The side conditions of the precondition's operations. -/
theorem pre_facts : Cert.Pre_finite.Facts where
  bitsLt_bf16_f32 := by decide
  bcast_S_S8x4096x2048 := by decide

/-- The side conditions of the second precondition's operations. -/
theorem pre_facts5 : Cert.Pre_finite5.Facts where
  bcast_S_S1x1024 := by decide
  bcast_S_S1x1024x1696 := by decide
  bcast_S_S1x384 := by decide
  bcast_S_S1x384x1536 := by decide

attribute [local instance] pre_facts pre_facts5 Diff.Pre.facts

/-- The precondition says that every query and every key is a real number. -/
theorem finite_of_pre (x0 x1 : FVec Ideal Cert.Pre_finite.S8x4096x2048 .bf16) (x2 : FVec Ideal Cert.Pre_finite.S8x4096x1024 .bf16)
    (h0 : (Cert.Pre_finite.fn (F := Ideal) x0 x1 x2).1 = fun _ => 1#1)
    (h1 : (Cert.Pre_finite.fn (F := Ideal) x0 x1 x2).2.1 = fun _ => 1#1)
    (h2 : (Cert.Pre_finite.fn (F := Ideal) x0 x1 x2).2.2.1 = fun _ => 1#1)
    (h3 : (Cert.Pre_finite.fn (F := Ideal) x0 x1 x2).2.2.2 = fun _ => 1#1) :
    (∀ i, (x0 i : EReal) ≠ ⊥ ∧ (x0 i : EReal) ≠ ⊤) ∧ (∀ i, (x1 i : EReal) ≠ ⊥ ∧ (x1 i : EReal) ≠ ⊤) := by
  have a0 : ∀ i, Ideal.ofBits .f32 4286578688#32 < (x0 i : EReal) := fun i => gt_of_one (congrFun h0 i)
  have a1 : ∀ i, (x0 i : EReal) < Ideal.ofBits .f32 2139095040#32 := fun i => lt_of_one (congrFun h1 i)
  have a2 : ∀ i, Ideal.ofBits .f32 4286578688#32 < (x1 i : EReal) := fun i => gt_of_one (congrFun h2 i)
  have a3 : ∀ i, (x1 i : EReal) < Ideal.ofBits .f32 2139095040#32 := fun i => lt_of_one (congrFun h3 i)
  simp only [Ref.neg_inf, pos_inf] at a0 a1 a2 a3
  exact ⟨fun i => ⟨(a0 i).ne', (a1 i).ne⟩, fun i => ⟨(a2 i).ne', (a3 i).ne⟩⟩

/-- The reference's result array, on finite queries and keys, is the attention of its arguments. -/
theorem reference_value (x0 x1 : Cert.KernelIdeal.S8x4096x2048.Idx → EReal) (x2 : Cert.KernelIdeal.S8x4096x1024.Idx → EReal)
    (h0 : ∀ i, x0 i ≠ ⊥ ∧ x0 i ≠ ⊤) (h1 : ∀ i, x1 i ≠ ⊥ ∧ x1 i ≠ ⊤) :
    Cert.ReferenceIdeal.Read.val_main_v32 (F := Ideal) x0 x1 x2
      = fun i : Cert.KernelIdeal.S8x4096x1024.Idx => attn x0 x1 x2 (i 0) (i 1) (i 2) := by
  funext j
  idx_vars j
  exact Ref.v32_eq x0 x1 x2 h0 h1 j0 j1 j2

/-- The reference runs, leaves its arguments as they were, and every counter ends at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m g)

/-- The idealized kernel and the reference end with the same result on finite queries and keys. -/
theorem agree : Cert.algebraic_KernelIdeal_ReferenceIdeal_pre_finite := by
  intro m g m' g' hpre hargs
  refine ⟨fun c => fun i : Cert.KernelIdeal.S8x4096x1024.Idx =>
    attn (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (i 0) (i 1) (i 2), ?_, ?_⟩
  · exact (θ_run Cert.KernelIdeal.defs _ _).mono (fun r h c => ⟨(h c).1.trans (kernel_value m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨p0, p1, p2, p3⟩ := hpre c
    obtain ⟨f0, f1⟩ := finite_of_pre _ _ _ p0 p1 p2 p3
    obtain ⟨e0, e1, e2⟩ := hargs c
    rw [Cert.ReferenceIdeal.Read.val_main_v32_eq, e0, e1, e2]
    exact reference_value _ _ _ f0 f1

/-- The second output projection's reference runs, leaves its arguments as they were, and every counter ends at zero. -/
theorem frame_reference2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
        ∧ r.2.sem = fun _ => 0) :=
  (θ_run Cert.Reference2Ideal.defs _ _).mono
    (fun r h => ⟨fun c => (h c).2, sem_eq_zero_of_no_sems (by decide) r.2⟩)
    (Cert.Reference2Ideal.Value.run (F := Ideal) m g)

/-- The idealized second output projection and its reference end with the same result. -/
theorem agree2 : Cert.algebraic_Kernel2Ideal_Reference2Ideal := by
  intro m g m' g' _ hargs
  refine ⟨fun c => fun i : Cert.Kernel2Ideal.S32768x1024.Idx =>
    OutNorm.result (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (i 0) (i 1), ?_, ?_⟩
  · exact (θ_run Cert.Kernel2Ideal.defs _ _).mono (fun r h c => ⟨(h c).1.trans (OutNorm.kernel_value m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    obtain ⟨e0, e1, e2, e3, e4⟩ := hargs c
    rw [Cert.Reference2Ideal.Read.val_main_v20_eq, e0, e1, e2, e3, e4]
    exact OutNorm.reference_value _ _ _ _ _

/-- The first output projection's reference runs, leaves its arguments as they were, and every counter ends at zero. -/
theorem frame_reference3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
        ∧ r.2.sem = fun _ => 0) :=
  (θ_run Cert.Reference3Ideal.defs _ _).mono
    (fun r h => ⟨fun c => (h c).2, sem_eq_zero_of_no_sems (by decide) r.2⟩)
    (Cert.Reference3Ideal.Value.run (F := Ideal) m g)

/-- The idealized first output projection and its reference end with the same result. -/
theorem agree3 : Cert.algebraic_Kernel3Ideal_Reference3Ideal := by
  intro m g m' g' _ hargs
  refine ⟨fun c => fun i : Cert.Kernel3Ideal.S32768x1024.Idx =>
    OutMix.result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (i 0) (i 1), ?_, ?_⟩
  · exact (θ_run Cert.Kernel3Ideal.defs _ _).mono (fun r h c => ⟨(h c).1.trans (OutMix.kernel_value m c), (h c).2⟩)
      (Cert.Kernel3Ideal.Value.run_blocks (F := Ideal) m g)
  · refine (θ_run Cert.Reference3Ideal.defs _ _).mono (fun r h c => ⟨(h c).1.trans ?_, (h c).2⟩)
      (Cert.Reference3Ideal.Value.run (F := Ideal) m' g')
    obtain ⟨e0, e1, e2, e3, e4⟩ := hargs c
    rw [Cert.Reference3Ideal.Read.val_main_v9_eq, e0, e1, e2, e3, e4]
    exact OutMix.reference_value _ _ _ _ _

/-- The input projection's reference runs, leaves its arguments as they were, and every counter ends at zero. -/
theorem frame_reference4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
        ∧ r.2.sem = fun _ => 0) :=
  (θ_run Cert.Reference4Ideal.defs _ _).mono
    (fun r h => ⟨fun c => (h c).2.2.2.2.2.2.2.2.2.2, sem_eq_zero_of_no_sems (by decide) r.2⟩)
    (Cert.Reference4Ideal.Value.run (F := Ideal) m g)

/-- The idealized input projection and its reference end with the same results. -/
theorem agree4 : Cert.algebraic_Kernel4Ideal_Reference4Ideal := by
  intro m g m' g' _ hargs
  refine ⟨fun c => fun i : Cert.Kernel4Ideal.S32768x512.Idx => InProj.res0 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1),
    fun c => fun i : Cert.Kernel4Ideal.S32768x512.Idx => InProj.res1 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1),
    fun c => fun i : Cert.Kernel4Ideal.S32768x512.Idx => InProj.res2 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1),
    fun c => fun i : Cert.Kernel4Ideal.S32768x512.Idx => InProj.res3 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1),
    fun c => fun i : Cert.Kernel4Ideal.S32768x512.Idx => InProj.res4 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1),
    fun c => fun i : Cert.Kernel4Ideal.S32768x128.Idx => InProj.res5 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1),
    fun c => fun i : Cert.Kernel4Ideal.S32768x128.Idx => InProj.res6 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1),
    fun c => fun i : Cert.Kernel4Ideal.S32768x128.Idx => InProj.res7 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1),
    fun c => fun i : Cert.Kernel4Ideal.S32768x128.Idx => InProj.res8 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1),
    fun c => fun i : Cert.Kernel4Ideal.S32768x1024.Idx => InProj.res9 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1),
    ?_, ?_⟩
  · exact (θ_run Cert.Kernel4Ideal.defs _ _).mono (fun r h c => ⟨(h c).1.trans (InProj.kernel_value0 m c), (h c).2.1.trans (InProj.kernel_value1 m c), (h c).2.2.1.trans (InProj.kernel_value2 m c), (h c).2.2.2.1.trans (InProj.kernel_value3 m c), (h c).2.2.2.2.1.trans (InProj.kernel_value4 m c), (h c).2.2.2.2.2.1.trans (InProj.kernel_value5 m c), (h c).2.2.2.2.2.2.1.trans (InProj.kernel_value6 m c), (h c).2.2.2.2.2.2.2.1.trans (InProj.kernel_value7 m c), (h c).2.2.2.2.2.2.2.2.1.trans (InProj.kernel_value8 m c), (h c).2.2.2.2.2.2.2.2.2.1.trans (InProj.kernel_value9 m c), (h c).2.2.2.2.2.2.2.2.2.2⟩)
      (Cert.Kernel4Ideal.Value.run_blocks (F := Ideal) m g)
  · refine (θ_run Cert.Reference4Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩)
      (Cert.Reference4Ideal.Value.run (F := Ideal) m' g')
    · obtain ⟨e0, e1, e2⟩ := hargs c
      rw [Cert.Reference4Ideal.Read.val_main_v29_eq, e0, e1, e2]
      exact InProj.reference_value0 _ _ _
    · obtain ⟨e0, e1, e2⟩ := hargs c
      rw [Cert.Reference4Ideal.Read.val_main_v30_eq, e0, e1, e2]
      exact InProj.reference_value1 _ _ _
    · obtain ⟨e0, e1, e2⟩ := hargs c
      rw [Cert.Reference4Ideal.Read.val_main_v31_eq, e0, e1, e2]
      exact InProj.reference_value2 _ _ _
    · obtain ⟨e0, e1, e2⟩ := hargs c
      rw [Cert.Reference4Ideal.Read.val_main_v34_eq, e0, e1, e2]
      exact InProj.reference_value3 _ _ _
    · obtain ⟨e0, e1, e2⟩ := hargs c
      rw [Cert.Reference4Ideal.Read.val_main_v35_eq, e0, e1, e2]
      exact InProj.reference_value4 _ _ _
    · obtain ⟨e0, e1, e2⟩ := hargs c
      rw [Cert.Reference4Ideal.Read.val_main_v37_eq, e0, e1, e2]
      exact InProj.reference_value5 _ _ _
    · obtain ⟨e0, e1, e2⟩ := hargs c
      rw [Cert.Reference4Ideal.Read.val_main_v39_eq, e0, e1, e2]
      exact InProj.reference_value6 _ _ _
    · obtain ⟨e0, e1, e2⟩ := hargs c
      rw [Cert.Reference4Ideal.Read.val_main_v41_eq, e0, e1, e2]
      exact InProj.reference_value7 _ _ _
    · obtain ⟨e0, e1, e2⟩ := hargs c
      rw [Cert.Reference4Ideal.Read.val_main_v42_eq, e0, e1, e2]
      exact InProj.reference_value8 _ _ _
    · obtain ⟨e0, e1, e2⟩ := hargs c
      rw [Cert.Reference4Ideal.Read.val_main_v43_eq, e0, e1, e2]
      exact InProj.reference_value9 _ _ _

/-- The second input projection's reference runs, leaves its arguments as they were, and every counter ends at zero. -/
theorem frame_reference5 (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
        ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
        ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
        ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
        ∧ r.2.sem = fun _ => 0) :=
  (θ_run Cert.Reference5Ideal.defs _ _).mono
    (fun r h => ⟨fun c => (h c).2.2.2.2, sem_eq_zero_of_no_sems (by decide) r.2⟩)
    (Cert.Reference5Ideal.Value.run (F := Ideal) m g)

/-- The second precondition says that the gains and weights it names are real numbers. -/
theorem real_of_pre (A : Mla.Args)
    (p0 : (Cert.Pre_finite5.fn (F := Ideal) A.a0 A.a1 A.a2 A.a3 A.a4 A.a5 A.a6).1 = fun _ => 1#1)
    (p1 : (Cert.Pre_finite5.fn (F := Ideal) A.a0 A.a1 A.a2 A.a3 A.a4 A.a5 A.a6).2.1 = fun _ => 1#1)
    (p2 : (Cert.Pre_finite5.fn (F := Ideal) A.a0 A.a1 A.a2 A.a3 A.a4 A.a5 A.a6).2.2.1 = fun _ => 1#1)
    (p3 : (Cert.Pre_finite5.fn (F := Ideal) A.a0 A.a1 A.a2 A.a3 A.a4 A.a5 A.a6).2.2.2.1 = fun _ => 1#1)
    (p4 : (Cert.Pre_finite5.fn (F := Ideal) A.a0 A.a1 A.a2 A.a3 A.a4 A.a5 A.a6).2.2.2.2.1 = fun _ => 1#1)
    (p5 : (Cert.Pre_finite5.fn (F := Ideal) A.a0 A.a1 A.a2 A.a3 A.a4 A.a5 A.a6).2.2.2.2.2.1 = fun _ => 1#1)
    (p6 : (Cert.Pre_finite5.fn (F := Ideal) A.a0 A.a1 A.a2 A.a3 A.a4 A.a5 A.a6).2.2.2.2.2.2.1 = fun _ => 1#1)
    (p7 : (Cert.Pre_finite5.fn (F := Ideal) A.a0 A.a1 A.a2 A.a3 A.a4 A.a5 A.a6).2.2.2.2.2.2.2 = fun _ => 1#1) : A.Real := by
  have a0 : ∀ i, Ideal.ofBits .f32 4286578688#32 < A.a1 i := fun i => gt_of_one (congrFun p0 i)
  have a1 : ∀ i, A.a1 i < Ideal.ofBits .f32 2139095040#32 := fun i => lt_of_one (congrFun p1 i)
  have a2 : ∀ i, Ideal.ofBits .f32 4286578688#32 < A.a2 i := fun i => gt_of_one (congrFun p2 i)
  have a3 : ∀ i, A.a2 i < Ideal.ofBits .f32 2139095040#32 := fun i => lt_of_one (congrFun p3 i)
  have a4 : ∀ i, Ideal.ofBits .f32 4286578688#32 < A.a3 i := fun i => gt_of_one (congrFun p4 i)
  have a5 : ∀ i, A.a3 i < Ideal.ofBits .f32 2139095040#32 := fun i => lt_of_one (congrFun p5 i)
  have a6 : ∀ i, Ideal.ofBits .f32 4286578688#32 < A.a4 i := fun i => gt_of_one (congrFun p6 i)
  have a7 : ∀ i, A.a4 i < Ideal.ofBits .f32 2139095040#32 := fun i => lt_of_one (congrFun p7 i)
  simp only [Ref.neg_inf, pos_inf] at a0 a1 a2 a3 a4 a5 a6 a7
  exact ⟨fun k => ⟨(a0 _).ne', (a1 _).ne⟩, fun k q => ⟨(a2 _).ne', (a3 _).ne⟩, fun k => ⟨(a4 _).ne', (a5 _).ne⟩, fun k q => ⟨(a6 _).ne', (a7 _).ne⟩⟩

/-- The idealized second input projection and its reference end with the same results. -/
theorem agree5 : Cert.algebraic_Kernel5Ideal_Reference5Ideal_pre_finite5 := by
  intro m g m' g' hpre hargs
  have H : ∀ c, (Mla.args m c).Real := fun c => by
    obtain ⟨p0, p1, p2, p3, p4, p5, p6, p7⟩ := hpre c
    exact real_of_pre (Mla.args m c) p0 p1 p2 p3 p4 p5 p6 p7
  refine ⟨fun c => fun i : Cert.Kernel5Ideal.S32768x2048.Idx => Mla.res0 (Mla.args m c) (i 0) (i 1),
    fun c => fun i : Cert.Kernel5Ideal.S32768x2048.Idx => Mla.res1 (Mla.args m c) (i 0) (i 1),
    fun c => fun i : Cert.Kernel5Ideal.S32768x1024.Idx => Mla.res2 (Mla.args m c) (i 0) (i 1),
    fun c => fun i : Cert.Kernel5Ideal.S32768x1024.Idx => Mla.gate (Mla.args m c) (i 0) (i 1),
    ?_, ?_⟩
  · exact (θ_run Cert.Kernel5Ideal.defs _ _).mono (fun r h c => ⟨(h c).1.trans (Mla.kernel_value0 m c (H c)), (h c).2.1.trans (Mla.kernel_value1 m c (H c)), (h c).2.2.1.trans (Mla.kernel_value2 m c), (h c).2.2.2.1.trans (Mla.kernel_value3 m c), (h c).2.2.2.2⟩)
      (Cert.Kernel5Ideal.Value.run_blocks (F := Ideal) m g)
  · refine (θ_run Cert.Reference5Ideal.defs _ _).mono (fun r h c => ⟨(h c).1.trans ?_, (h c).2.1.trans ?_, (h c).2.2.1.trans ?_, (h c).2.2.2.1.trans ?_, (h c).2.2.2.2⟩)
      (Cert.Reference5Ideal.Value.run (F := Ideal) m' g')
    · obtain ⟨e0, e1, e2, e3, e4, e5, e6⟩ := hargs c
      rw [Cert.Reference5Ideal.Read.val_main_v118_eq, e0, e1, e2, e3, e4]
      exact Mla.ref_value0 (Mla.args m c)
    · obtain ⟨e0, e1, e2, e3, e4, e5, e6⟩ := hargs c
      rw [Cert.Reference5Ideal.Read.val_main_v121_eq, e0, e1, e2, e5, e6]
      exact Mla.ref_value1 (Mla.args m c)
    · obtain ⟨e0, e1, e2, e3, e4, e5, e6⟩ := hargs c
      rw [Cert.Reference5Ideal.Read.val_main_v123_eq, e0, e1, e2, e5, e6]
      exact Mla.ref_value2 (Mla.args m c)
    · obtain ⟨e0, e1, e2, e3, e4, e5, e6⟩ := hargs c
      rw [Cert.Reference5Ideal.Read.val_main_v124_eq, e0, e1, e2]
      exact Mla.ref_value3 (Mla.args m c)

/-- The differential attention's reference runs, leaves its arguments as they were, and every counter ends at zero. -/
theorem frame_reference6 (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
        ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
        ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
        ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
        ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
        ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
        ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
        ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
        ∧ r.2.sem = fun _ => 0) :=
  (θ_run Cert.Reference6Ideal.defs _ _).mono
    (fun r h => ⟨fun c => (h c).2, sem_eq_zero_of_no_sems (by decide) r.2⟩)
    (Cert.Reference6Ideal.Value.run (F := Ideal) m g)

/-- The differential attention's reference computes, on such arguments, the differential attention of its arguments. -/
theorem reference_value6 (x0 : Cert.Kernel6Ideal.S4.Idx → EReal) (x1 x2 x3 : Cert.Kernel6Ideal.S8x4096x512.Idx → EReal)
    (x4 : Cert.Kernel6Ideal.S4x2x256x256.Idx → EReal) (x5 x6 x7 x8 : Cert.Kernel6Ideal.S1x64.Idx → EReal)
    (x9 : Cert.Kernel6Ideal.S1x128.Idx → EReal) (H : Diff.Ref.Finite x3 x4 x5 x6 x7 x8) :
    Cert.Reference6Ideal.Read.val_main_v94 (F := Ideal) x0 x1 x2 x3 x4 x5 x6 x7 x8 x9
      = fun i : Cert.Kernel6Ideal.S8x4096x512.Idx => Diff.attn x0 x1 x2 x3 x4 x5 x6 x7 x8 x9 (i 0) (i 1) (i 2) := by
  funext j
  idx_vars j
  exact Diff.Ref.v94_eq _ H j0 j1 j2

/-- The idealized differential attention and its reference end with the same result, on arguments of which the precondition holds. -/
theorem agree6 : Cert.algebraic_Kernel6Ideal_Reference6Ideal_pre_finite6 := by
  intro m g m' g' hpre hargs
  have hF : ∀ c : Dev Cert.Kernel6Ideal.nD, Diff.Ref.Finite (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) := by
    intro c
    obtain ⟨p0, p1, p2, p3, p4, p5, p6, p7, p8, p9, p10⟩ := hpre c
    exact Diff.Pre.finite _ _ _ _ _ _ _ _ _ _ p0 p1 p2 p3 p4 p5 p6 p7 p8 p9 p10
  refine ⟨fun c => fun i : Cert.Kernel6Ideal.S8x4096x512.Idx => Diff.attn (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (i 0) (i 1) (i 2), ?_, ?_⟩
  · exact (θ_run Cert.Kernel6Ideal.defs _ _).mono
      (fun r h c => ⟨(h c).1.trans (Diff.kernel_value m c (hF c).unseen), (h c).2⟩)
      (Cert.Kernel6Ideal.Value.run_blocks (F := Ideal) m g)
  · refine (θ_run Cert.Reference6Ideal.defs _ _).mono (fun r h c => ⟨(h c).1.trans ?_, (h c).2⟩)
      (Cert.Reference6Ideal.Value.run (F := Ideal) m' g')
    obtain ⟨e0, e1, e2, e3, e4, e5, e6, e7, e8, e9⟩ := hargs c
    rw [Cert.Reference6Ideal.Read.val_main_v94_eq]
    refine Eq.trans (b := Cert.Reference6Ideal.Read.val_main_v94 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8)) (m' ((c.tc : Thread Cert.Reference6Ideal.nD Cert.Reference6Ideal.τ).loc Cert.Reference6Ideal.main_arg9))) rfl ?_
    rw [e0, e1, e2, e3, e4, e5, e6, e7, e8, e9]
    exact reference_value6 _ _ _ _ _ _ _ _ _ _ (hF c)

/-- The whole claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, pre_facts, pre_facts5, Diff.Pre.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    fun m g _ => Cert.Kernel2.Gen.frame m g,
    fun m g _ => Cert.Kernel2Ideal.Gen.frame m g,
    fun m g _ => frame_reference2 m g,
    fun m g _ => Cert.Kernel3.Gen.frame m g,
    fun m g _ => Cert.Kernel3Ideal.Gen.frame m g,
    fun m g _ => frame_reference3 m g,
    fun m g _ => Cert.Kernel4.Gen.frame m g,
    fun m g _ => Cert.Kernel4Ideal.Gen.frame m g,
    fun m g _ => frame_reference4 m g,
    fun m g _ => Cert.Kernel5.Gen.frame m g,
    fun m g _ => Cert.Kernel5Ideal.Gen.frame m g,
    fun m g _ => Cert.Kernel5Ideal.Gen.frame m g,
    fun m g _ => frame_reference5 m g,
    fun m g _ => frame_reference5 m g,
    fun m g _ => Cert.Kernel6.Gen.frame m g,
    fun m g _ => Cert.Kernel6Ideal.Gen.frame m g,
    fun m g _ => Cert.Kernel6Ideal.Gen.frame m g,
    fun m g _ => frame_reference6 m g,
    fun m g _ => frame_reference6 m g,
    IdealRules.named_const.statement Cert.KernelIdeal.κ "neg" .f32 0xF149F2CA#32 ⊥ rfl,
    agree,
    trivial, agree2, trivial, agree3, trivial, agree4, trivial, agree5, trivial, agree6⟩

end Cert.Proof

end
